-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v152_0)) (v1 : (c : Dev Cert.Kernel3Ideal.nD) → Buf (Elt Ideal) ((c.tc : Thread Cert.Kernel3Ideal.nD Cert.Kernel3Ideal.τ).loc Cert.Kernel3Ideal.main_v152_1)) (v2 : (c : Dev Cert.Kernel3Ideal.nD) → Buf (Elt Ideal) ((c.tc : Thread Cert.Kernel3Ideal.nD Cert.Kernel3Ideal.τ).loc Cert.Kernel3Ideal.main_v152_2)) (v3 : (c : Dev Cert.Kernel3Ideal.nD) → Buf (Elt Ideal) ((c.tc : Thread Cert.Kernel3Ideal.nD Cert.Kernel3Ideal.τ).loc Cert.Kernel3Ideal.main_v152_3)) (v4 : (c : Dev Cert.Kernel3Ideal.nD) → Buf (Elt Ideal) ((c.tc : Thread Cert.Kernel3Ideal.nD Cert.Kernel3Ideal.τ).loc Cert.Kernel3Ideal.main_v152_4)) (v5 : (c : Dev Cert.Kernel3Ideal.nD) → Buf (Elt Ideal) ((c.tc : Thread Cert.Kernel3Ideal.nD Cert.Kernel3Ideal.τ).loc Cert.Kernel3Ideal.main_v152_5)) (v6 : (c : Dev Cert.Kernel3Ideal.nD) → Buf (Elt Ideal) ((c.tc : Thread Cert.Kernel3Ideal.nD Cert.Kernel3Ideal.τ).loc Cert.Kernel3Ideal.main_v152_6)) (v7 : (c : Dev Cert.Kernel3Ideal.nD) → Buf (Elt Ideal) ((c.tc : Thread Cert.Kernel3Ideal.nD Cert.Kernel3Ideal.τ).loc Cert.Kernel3Ideal.main_v152_7)) (v8 : (c : Dev Cert.Kernel3Ideal.nD) → Buf (Elt Ideal) ((c.tc : Thread Cert.Kernel3Ideal.nD Cert.Kernel3Ideal.τ).loc Cert.Kernel3Ideal.main_v152_9)) (v9 : (c : Dev Cert.Kernel3Ideal.nD) → Buf (Elt Ideal) ((c.tc : Thread Cert.Kernel3Ideal.nD Cert.Kernel3Ideal.τ).loc Cert.Kernel3Ideal.main_v152_10)) (v10 : (c : Dev Cert.Kernel3Ideal.nD) → Buf (Elt Ideal) ((c.tc : Thread Cert.Kernel3Ideal.nD Cert.Kernel3Ideal.τ).loc Cert.Kernel3Ideal.main_v152_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v152_0) = v0 c
          ∧ r.2.mem ((c.tc : Thread Cert.Kernel3Ideal.nD Cert.Kernel3Ideal.τ).loc Cert.Kernel3Ideal.main_v152_1) = v1 c
          ∧ r.2.mem ((c.tc : Thread Cert.Kernel3Ideal.nD Cert.Kernel3Ideal.τ).loc Cert.Kernel3Ideal.main_v152_2) = v2 c
          ∧ r.2.mem ((c.tc : Thread Cert.Kernel3Ideal.nD Cert.Kernel3Ideal.τ).loc Cert.Kernel3Ideal.main_v152_3) = v3 c
          ∧ r.2.mem ((c.tc : Thread Cert.Kernel3Ideal.nD Cert.Kernel3Ideal.τ).loc Cert.Kernel3Ideal.main_v152_4) = v4 c
          ∧ r.2.mem ((c.tc : Thread Cert.Kernel3Ideal.nD Cert.Kernel3Ideal.τ).loc Cert.Kernel3Ideal.main_v152_5) = v5 c
          ∧ r.2.mem ((c.tc : Thread Cert.Kernel3Ideal.nD Cert.Kernel3Ideal.τ).loc Cert.Kernel3Ideal.main_v152_6) = v6 c
          ∧ r.2.mem ((c.tc : Thread Cert.Kernel3Ideal.nD Cert.Kernel3Ideal.τ).loc Cert.Kernel3Ideal.main_v152_7) = v7 c
          ∧ r.2.mem ((c.tc : Thread Cert.Kernel3Ideal.nD Cert.Kernel3Ideal.τ).loc Cert.Kernel3Ideal.main_v152_9) = v8 c
          ∧ r.2.mem ((c.tc : Thread Cert.Kernel3Ideal.nD Cert.Kernel3Ideal.τ).loc Cert.Kernel3Ideal.main_v152_10) = v9 c
          ∧ r.2.mem ((c.tc : Thread Cert.Kernel3Ideal.nD Cert.Kernel3Ideal.τ).loc Cert.Kernel3Ideal.main_v152_11) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_v126) = v1 c
          ∧ r.2.mem ((c.tc : Thread Cert.Reference3Ideal.nD Cert.Reference3Ideal.τ).loc Cert.Reference3Ideal.main_v196) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v231) = v4 c
          ∧ r.2.mem ((c.tc : Thread Cert.Reference3Ideal.nD Cert.Reference3Ideal.τ).loc Cert.Reference3Ideal.main_v238) = v5 c
          ∧ r.2.mem ((c.tc : Thread Cert.Reference3Ideal.nD Cert.Reference3Ideal.τ).loc Cert.Reference3Ideal.main_v239) = v6 c
          ∧ r.2.mem ((c.tc : Thread Cert.Reference3Ideal.nD Cert.Reference3Ideal.τ).loc Cert.Reference3Ideal.main_v162) = v7 c
          ∧ r.2.mem ((c.tc : Thread Cert.Reference3Ideal.nD Cert.Reference3Ideal.τ).loc Cert.Reference3Ideal.main_v246) = v8 c
          ∧ r.2.mem ((c.tc : Thread Cert.Reference3Ideal.nD Cert.Reference3Ideal.τ).loc Cert.Reference3Ideal.main_v249) = v9 c
          ∧ r.2.mem ((c.tc : Thread Cert.Reference3Ideal.nD Cert.Reference3Ideal.τ).loc Cert.Reference3Ideal.main_v252) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S17408x8x64 : Shape := ⟨3, ![17408, 8, 64]⟩
abbrev S17408x8x32 : Shape := ⟨3, ![17408, 8, 32]⟩
abbrev S17408x256 : Shape := ⟨2, ![17408, 256]⟩
abbrev S17408x32 : Shape := ⟨2, ![17408, 32]⟩
abbrev S256x1024 : Shape := ⟨2, ![256, 1024]⟩
abbrev S_ : Shape := ⟨0, ![]⟩

class Facts : Prop where
  bcast_S_S17408x8x64 : S_.BroadcastsInDim S17408x8x64 (![] : Fin 0 → Fin S17408x8x64.rank)
  reducesTo_S17408x8x64_S_d0_1_2 : S17408x8x64.ReducesTo [0, 1, 2] S_
  h_S_ : 0 < S_.numel
  bcast_S_S17408x8x32 : S_.BroadcastsInDim S17408x8x32 (![] : Fin 0 → Fin S17408x8x32.rank)
  reducesTo_S17408x8x32_S_d0_1_2 : S17408x8x32.ReducesTo [0, 1, 2] S_
  bcast_S_S17408x256 : S_.BroadcastsInDim S17408x256 (![] : Fin 0 → Fin S17408x256.rank)
  reducesTo_S17408x256_S_d0_1 : S17408x256.ReducesTo [0, 1] S_
  bcast_S_S17408x32 : S_.BroadcastsInDim S17408x32 (![] : Fin 0 → Fin S17408x32.rank)
  reducesTo_S17408x32_S_d0_1 : S17408x32.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256x1024 .f32) (main_v13 : IVec S_ 1) (main_v16 : IVec S17408x32 1) : IVec S_ 1 :=
  let main_c_5 : IVec S_ 1 := constantI S_ 1 1#1
  let main_v17 : IVec S_ 1 := (fun x v => Host.reduce IntOp.andi x v reducesTo_S17408x32_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  main_v23

def fn {F : FTy → Type} [FloatOps F] (main_arg0 : FVec F S17408x8x64 .f32) (main_arg1 : FVec F S17408x8x32 .f32) (main_arg2 : FVec F S17408x256 .f32) (main_arg3 : FVec F S17408x32 .f32) (main_arg4 : FVec F S256x1024 .f32) : IVec S_ 1 :=
  let main_v0 : FVec F S17408x8x64 .f32 := Host.absf main_arg0
  let main_cst : FVec F S_ .f32 := constant S_ .f32 0x7F800000#32
  let main_v1 : FVec F S17408x8x64 .f32 := broadcastInDim S17408x8x64 ![] bcast_S_S17408x8x64 main_cst
  let main_v2 : IVec S17408x8x64 1 := cmpf .olt main_v0 main_v1
  let main_c : IVec S_ 1 := constantI S_ 1 1#1
  let main_v3 : IVec S_ 1 := (fun x v => Host.reduce IntOp.andi x v reducesTo_S17408x8x64_S_d0_1_2 h_S_) main_v2 main_c
  let main_v4 : FVec F S17408x8x32 .f32 := Host.absf main_arg1
  let main_cst_0 : FVec F S_ .f32 := constant S_ .f32 0x7F800000#32
  let main_v5 : FVec F S17408x8x32 .f32 := broadcastInDim S17408x8x32 ![] bcast_S_S17408x8x32 main_cst_0
  let main_v6 : IVec S17408x8x32 1 := cmpf .olt main_v4 main_v5
  let main_c_1 : IVec S_ 1 := constantI S_ 1 1#1
  let main_v7 : IVec S_ 1 := (fun x v => Host.reduce IntOp.andi x v reducesTo_S17408x8x32_S_d0_1_2 h_S_) main_v6 main_c_1
  let main_v8 : IVec S_ 1 := andi main_v3 main_v7
  let main_v9 : FVec F S17408x256 .f32 := Host.absf main_arg2
  let main_cst_2 : FVec F S_ .f32 := constant S_ .f32 0x7F800000#32
  let main_v10 : FVec F S17408x256 .f32 := broadcastInDim S17408x256 ![] bcast_S_S17408x256 main_cst_2
  let main_v11 : IVec S17408x256 1 := cmpf .olt main_v9 main_v10
  let main_c_3 : IVec S_ 1 := constantI S_ 1 1#1
  let main_v12 : IVec S_ 1 := (fun x v => Host.reduce IntOp.andi x v reducesTo_S17408x256_S_d0_1 h_S_) main_v11 main_c_3
  let main_v13 : IVec S_ 1 := andi main_v8 main_v12
  let main_v14 : FVec F S17408x32 .f32 := Host.absf main_arg3
  let main_cst_4 : FVec F S_ .f32 := constant S_ .f32 0x7F800000#32
  let main_v15 : FVec F S17408x32 .f32 := broadcastInDim S17408x32 ![] bcast_S_S17408x32 main_cst_4
  let main_v16 : IVec S17408x32 1 := cmpf .olt main_v14 main_v15
  fn_part1 (F := F) main_arg4 main_v13 main_v16
-- ==== Pre_finite3.lean ====
abbrev S17408x1024 : Shape := ⟨2, ![17408, 1024]⟩
abbrev S1024 : Shape := ⟨1, ![1024]⟩
abbrev S1024x4896 : Shape := ⟨2, ![1024, 4896]⟩
abbrev S256 : Shape := ⟨1, ![256]⟩
abbrev S256x768 : Shape := ⟨2, ![256, 768]⟩
abbrev S4x128x128 : Shape := ⟨3, ![4, 128, 128]⟩
abbrev S4x128 : Shape := ⟨2, ![4, 128]⟩
abbrev S_ : Shape := ⟨0, ![]⟩

class Facts : Prop where
  bcast_S_S17408x1024 : S_.BroadcastsInDim S17408x1024 (![] : Fin 0 → Fin S17408x1024.rank)
  reducesTo_S17408x1024_S_d0_1 : S17408x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4896 : S_.BroadcastsInDim S1024x4896 (![] : Fin 0 → Fin S1024x4896.rank)
  reducesTo_S1024x4896_S_d0_1 : S1024x4896.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_

variable [Facts]

def fn_part1 {F : FTy → Type} [FloatOps F] (main_arg4 : FVec F S256x768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x768 .f32 := Host.absf main_arg4
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  main_v23

def fn {F : FTy → Type} [FloatOps F] (main_arg0 : FVec F S17408x1024 .f32) (main_arg1 : FVec F S1024 .f32) (main_arg2 : FVec F S1024x4896 .f32) (main_arg3 : FVec F S256 .f32) (main_arg4 : FVec F S256x768 .f32) (main_arg5 : FVec F S256 .f32) (main_arg6 : FVec F S256 .f32) (main_arg7 : FVec F S256 .f32) (main_arg8 : FVec F S4x128x128 .f32) (main_arg9 : FVec F S4x128 .f32) : IVec S_ 1 :=
  let main_v0 : FVec F S17408x1024 .f32 := Host.absf main_arg0
  let main_cst : FVec F S_ .f32 := constant S_ .f32 0x7F800000#32
  let main_v1 : FVec F S17408x1024 .f32 := broadcastInDim S17408x1024 ![] bcast_S_S17408x1024 main_cst
  let main_v2 : IVec S17408x1024 1 := cmpf .olt main_v0 main_v1
  let main_c : IVec S_ 1 := constantI S_ 1 1#1
  let main_v3 : IVec S_ 1 := (fun x v => Host.reduce IntOp.andi x v reducesTo_S17408x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4896 .f32 := Host.absf main_arg2
  let main_cst_2 : FVec F S_ .f32 := constant S_ .f32 0x7F800000#32
  let main_v10 : FVec F S1024x4896 .f32 := broadcastInDim S1024x4896 ![] bcast_S_S1024x4896 main_cst_2
  let main_v11 : IVec S1024x4896 1 := cmpf .olt main_v9 main_v10
  let main_c_3 : IVec S_ 1 := constantI S_ 1 1#1
  let main_v12 : IVec S_ 1 := (fun x v => Host.reduce IntOp.andi x v reducesTo_S1024x4896_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S17408x8x64 : Shape := ⟨3, ![17408, 8, 64]⟩
abbrev S17408x8x32 : Shape := ⟨3, ![17408, 8, 32]⟩
abbrev S17408x256 : Shape := ⟨2, ![17408, 256]⟩
abbrev S17408x32 : Shape := ⟨2, ![17408, 32]⟩
abbrev S256x1024 : Shape := ⟨2, ![256, 1024]⟩
abbrev S_ : Shape := ⟨0, ![]⟩
abbrev S17408x8x96 : Shape := ⟨3, ![17408, 8, 96]⟩
abbrev S17408x8x256 : Shape := ⟨3, ![17408, 8, 256]⟩
abbrev S17408x2048 : Shape := ⟨2, ![17408, 2048]⟩
abbrev S17408x96 : Shape := ⟨2, ![17408, 96]⟩
abbrev S17408x128 : Shape := ⟨2, ![17408, 128]⟩
abbrev S68x256x256 : Shape := ⟨3, ![68, 256, 256]⟩
abbrev S256x8x128 : Shape := ⟨3, ![256, 8, 128]⟩
abbrev S256x8x64 : Shape := ⟨3, ![256, 8, 64]⟩
abbrev S8x64x256 : Shape := ⟨3, ![8, 64, 256]⟩
abbrev S8x128x256 : Shape := ⟨3, ![8, 128, 256]⟩
abbrev S8x256x64 : Shape := ⟨3, ![8, 256, 64]⟩
abbrev S8x256x128 : Shape := ⟨3, ![8, 256, 128]⟩
abbrev S16384x1024 : Shape := ⟨2, ![16384, 1024]⟩
abbrev S256x2048 : Shape := ⟨2, ![256, 2048]⟩
abbrev S4096x256 : Shape := ⟨2, ![4096, 256]⟩
abbrev S4096x128 : Shape := ⟨2, ![4096, 128]⟩
abbrev S16x256x256 : Shape := ⟨3, ![16, 256, 256]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S256x384 : Shape := ⟨2, ![256, 384]⟩
abbrev S2048x384 : Shape := ⟨2, ![2048, 384]⟩
abbrev S1x2048 : Shape := ⟨2, ![1, 2048]⟩
abbrev S2048 : Shape := ⟨1, ![2048]⟩
abbrev S1x256x256 : Shape := ⟨3, ![1, 256, 256]⟩
abbrev S1x256x128 : Shape := ⟨3, ![1, 256, 128]⟩

abbrev nBuf : Space → Nat
  | .hbm => 39
  | .vmem => 13
  | .smem => 0
  | _ => 0

abbrev bufTy : (tb : Table) → Fin (tcTables nBuf tb) → BufTy
  | .hbm, ⟨0, _⟩ => ⟨S17408x8x64, .f32⟩
  | .hbm, ⟨1, _⟩ => ⟨S17408x8x32, .f32⟩
  | .hbm, ⟨2, _⟩ => ⟨S17408x256, .f32⟩
  | .hbm, ⟨3, _⟩ => ⟨S17408x32, .f32⟩
  | .hbm, ⟨4, _⟩ => ⟨S256x1024, .f32⟩
  | .hbm, ⟨5, _⟩ => ⟨S_, .f32⟩
  | .hbm, ⟨6, _⟩ => ⟨S17408x8x64, .f32⟩
  | .hbm, ⟨7, _⟩ => ⟨S17408x8x64, .f32⟩
  | .hbm, ⟨8, _⟩ => ⟨S_, .f32⟩
  | .hbm, ⟨9, _⟩ => ⟨S17408x8x64, .f32⟩
  | .hbm, ⟨10, _⟩ => ⟨S_, .f32⟩
  | .hbm, ⟨11, _⟩ => ⟨S17408x8x32, .f32⟩
  | .hbm, ⟨12, _⟩ => ⟨S17408x8x32, .f32⟩
  | .hbm, ⟨13, _⟩ => ⟨S_, .f32⟩
  | .hbm, ⟨14, _⟩ => ⟨S17408x8x96, .f32⟩
  | .hbm, ⟨15, _⟩ => ⟨S17408x8x256, .f32⟩
  | .hbm, ⟨16, _⟩ => ⟨S17408x2048, .f32⟩
  | .hbm, ⟨17, _⟩ => ⟨S17408x2048, .bf16⟩
  | .hbm, ⟨18, _⟩ => ⟨S_, .f32⟩
  | .hbm, ⟨19, _⟩ => ⟨S17408x96, .f32⟩
  | .hbm, ⟨20, _⟩ => ⟨S17408x128, .f32⟩
  | .hbm, ⟨21, _⟩ => ⟨S17408x128, .bf16⟩
  | .hbm, ⟨22, _⟩ => ⟨S68x256x256, .f32⟩
  | .hbm, ⟨23, _⟩ => ⟨S68x256x256, .f32⟩
  | .hbm, ⟨24, _⟩ => ⟨S68x256x256, .bf16⟩
  | .hbm, ⟨25, _⟩ => ⟨S256x8x128, .f32⟩
  | .hbm, ⟨26, _⟩ => ⟨S256x8x64, .f32⟩
  | .hbm, ⟨27, _⟩ => ⟨S8x64x256, .f32⟩
  | .hbm, ⟨28, _⟩ => ⟨S_, .f32⟩
  | .hbm, ⟨29, _⟩ => ⟨S8x64x256, .f32⟩
  | .hbm, ⟨30, _⟩ => ⟨S8x128x256, .f32⟩
  | .hbm, ⟨31, _⟩ => ⟨S8x128x256, .bf16⟩
  | .hbm, ⟨32, _⟩ => ⟨S_, .f32⟩
  | .hbm, ⟨33, _⟩ => ⟨S8x256x64, .f32⟩
  | .hbm, ⟨34, _⟩ => ⟨S256x8x64, .f32⟩
  | .hbm, ⟨35, _⟩ => ⟨S8x256x64, .f32⟩
  | .hbm, ⟨36, _⟩ => ⟨S8x256x128, .f32⟩
  | .hbm, ⟨37, _⟩ => ⟨S8x256x128, .bf16⟩
  | .hbm, ⟨38, _⟩ => ⟨S16384x1024, .bf16⟩
  | .local _ .vmem, ⟨0, _⟩ => ⟨S256x2048, .bf16⟩
  | .local _ .vmem, ⟨1, _⟩ => ⟨S256x2048, .bf16⟩
  | .local _ .vmem, ⟨2, _⟩ => ⟨S4096x256, .f32⟩
  | .local _ .vmem, ⟨3, _⟩ => ⟨S4096x256, .f32⟩
  | .local _ .vmem, ⟨4, _⟩ => ⟨S4096x128, .bf16⟩
  | .local _ .vmem, ⟨5, _⟩ => ⟨S4096x128, .bf16⟩
  | .local _ .vmem, ⟨6, _⟩ => ⟨S16x256x256, .bf16⟩
  | .local _ .vmem, ⟨7, _⟩ => ⟨S16x256x256, .bf16⟩
  | .local _ .vmem, ⟨8, _⟩ => ⟨S8x128x256, .bf16⟩
  | .local _ .vmem, ⟨9, _⟩ => ⟨S8x256x128, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .f32⟩
  | _, _ => ⟨S17408x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v65 : BitVec 32 := Scalar.muli arg1 c256_i32
  v65
def k0_off1 (i : grid0.Coords) : Fin 2 → Nat :=
  let arg1 : BitVec 32 := BitVec.ofNat 32 (i 1).val
  let c256_i32 : BitVec 32 := 256#32
  let v65 : BitVec 32 := Scalar.muli arg1 c256_i32
  let v66 : BitVec 32 := v65
  let v67 : Index := Scalar.indexCast v66
  let c0_30 : Index := 0#32
  ![v67.toNat, 0]
def k0_off2 (i : grid0.Coords) : Fin 2 → Nat :=
  let arg1 : BitVec 32 := BitVec.ofNat 32 (i 1).val
  let c256_i32 : BitVec 32 := 256#32
  let v65 : BitVec 32 := Scalar.muli arg1 c256_i32
  let v66 : BitVec 32 := v65
  let v70 : Index := Scalar.indexCast v66
  let c0_31 : Index := 0#32
  ![v70.toNat, 0]
def k0_off3 (i : grid0.Coords) : Fin 3 → Nat :=
  let arg1 : BitVec 32 := BitVec.ofNat 32 (i 1).val
  let v111 : Index := Scalar.indexCast arg1
  let c0_42 : Index := 0#32
  let c0_43 : Index := 0#32
  ![v111.toNat, 0, 0]
@[reducible] def k0_t1_loop (i : grid0.Coords) : Scf.Loop 32 :=
  let c0_i32_47 : BitVec 32 := 0#32
  let arg1 : BitVec 32 := BitVec.ofNat 32 (i 1).val
  let v120 : BitVec 32 := Scalar.subi arg1 c0_i32_47
  let c1_i32_48 : BitVec 32 := 1#32
  let v122 : BitVec 32 := Scalar.divsi v120 c1_i32_48
  let v123 : BitVec 32 := Scalar.muli v122 c1_i32_48
  let v124 : BitVec 32 := Scalar.addi c0_i32_47 v123
  let c1_i32_49 : BitVec 32 := 1#32
  ⟨c0_i32_47, v124, c1_i32_49⟩
def k0_mult2 (i : grid0.Coords) (k0_t1 : Fin (k0_t1_loop i).trips) : BitVec 32 :=
  let c0_i32_47 : BitVec 32 := 0#32
  let c1_i32_49 : BitVec 32 := 1#32
  let arg10 : BitVec 32 := Scf.iv c0_i32_47 c1_i32_49 k0_t1
  let c256_i32_94 : BitVec 32 := 256#32
  let v194 : BitVec 32 := Scalar.muli arg10 c256_i32_94
  v194
def k0_off4 (i : grid0.Coords) (k0_t1 : Fin (k0_t1_loop i).trips) : Fin 2 → Nat :=
  let c0_i32_47 : BitVec 32 := 0#32
  let c1_i32_49 : BitVec 32 := 1#32
  let arg10 : BitVec 32 := Scf.iv c0_i32_47 c1_i32_49 k0_t1
  let c256_i32_94 : BitVec 32 := 256#32
  let v194 : BitVec 32 := Scalar.muli arg10 c256_i32_94
  let v195 : BitVec 32 := v194
  let v196 : Index := Scalar.indexCast v195
  let c0_95 : Index := 0#32
  ![v196.toNat, 0]
def k0_off5 (i : grid0.Coords) (k0_t1 : Fin (k0_t1_loop i).trips) : Fin 2 → Nat :=
  let c0_i32_47 : BitVec 32 := 0#32
  let c1_i32_49 : BitVec 32 := 1#32
  let arg10 : BitVec 32 := Scf.iv c0_i32_47 c1_i32_49 k0_t1
  let c256_i32_94 : BitVec 32 := 256#32
  let v194 : BitVec 32 := Scalar.muli arg10 c256_i32_94
  let v195 : BitVec 32 := v194
  let v199 : Index := Scalar.indexCast v195
  let c0_96 : Index := 0#32
  ![v199.toNat, 0]
def k0_off6 (i : grid0.Coords) (k0_t1 : Fin (k0_t1_loop i).trips) : Fin 3 → Nat :=
  let c0_i32_47 : BitVec 32 := 0#32
  let c1_i32_49 : BitVec 32 := 1#32
  let arg10 : BitVec 32 := Scf.iv c0_i32_47 c1_i32_49 k0_t1
  let v219 : Index := Scalar.indexCast arg10
  let c0_102 : Index := 0#32
  let c0_103 : Index := 0#32
  ![v219.toNat, 0, 0]
@[reducible] def k0_t2_loop (i : grid0.Coords) : Scf.Loop 32 :=
  let c0_i32_47 : BitVec 32 := 0#32
  let arg1 : BitVec 32 := BitVec.ofNat 32 (i 1).val
  let v120 : BitVec 32 := Scalar.subi arg1 c0_i32_47
  let c1_i32_48 : BitVec 32 := 1#32
  let v122 : BitVec 32 := Scalar.divsi v120 c1_i32_48
  let v123 : BitVec 32 := Scalar.muli v122 c1_i32_48
  let v124 : BitVec 32 := Scalar.addi c0_i32_47 v123
  let v121 : BitVec 32 := Scalar.addi c0_i32_47 v120
  let c1_i32_50 : BitVec 32 := 1#32
  ⟨v124, v121, c1_i32_50⟩
def k0_mult3 (i : grid0.Coords) (k0_t2 : Fin (k0_t2_loop i).trips) : BitVec 32 :=
  let c0_i32_47 : BitVec 32 := 0#32
  let arg1 : BitVec 32 := BitVec.ofNat 32 (i 1).val
  let v120 : BitVec 32 := Scalar.subi arg1 c0_i32_47
  let c1_i32_48 : BitVec 32 := 1#32
  let v122 : BitVec 32 := Scalar.divsi v120 c1_i32_48
  let v123 : BitVec 32 := Scalar.muli v122 c1_i32_48
  let v124 : BitVec 32 := Scalar.addi c0_i32_47 v123
  let c1_i32_50 : BitVec 32 := 1#32
  let arg10 : BitVec 32 := Scf.iv v124 c1_i32_50 k0_t2
  let c256_i32_94 : BitVec 32 := 256#32
  let v194 : BitVec 32 := Scalar.muli arg10 c256_i32_94
  v194
def k0_off7 (i : grid0.Coords) (k0_t2 : Fin (k0_t2_loop i).trips) : Fin 2 → Nat :=
  let c0_i32_47 : BitVec 32 := 0#32
  let arg1 : BitVec 32 := BitVec.ofNat 32 (i 1).val
  let v120 : BitVec 32 := Scalar.subi arg1 c0_i32_47
  let c1_i32_48 : BitVec 32 := 1#32
  let v122 : BitVec 32 := Scalar.divsi v120 c1_i32_48
  let v123 : BitVec 32 := Scalar.muli v122 c1_i32_48
  let v124 : BitVec 32 := Scalar.addi c0_i32_47 v123
  let c1_i32_50 : BitVec 32 := 1#32
  let arg10 : BitVec 32 := Scf.iv v124 c1_i32_50 k0_t2
  let c256_i32_94 : BitVec 32 := 256#32
  let v194 : BitVec 32 := Scalar.muli arg10 c256_i32_94
  let v195 : BitVec 32 := v194
  let v196 : Index := Scalar.indexCast v195
  let c0_95 : Index := 0#32
  ![v196.toNat, 0]
def k0_off8 (i : grid0.Coords) (k0_t2 : Fin (k0_t2_loop i).trips) : Fin 2 → Nat :=
  let c0_i32_47 : BitVec 32 := 0#32
  let arg1 : BitVec 32 := BitVec.ofNat 32 (i 1).val
  let v120 : BitVec 32 := Scalar.subi arg1 c0_i32_47
  let c1_i32_48 : BitVec 32 := 1#32
  let v122 : BitVec 32 := Scalar.divsi v120 c1_i32_48
  let v123 : BitVec 32 := Scalar.muli v122 c1_i32_48
  let v124 : BitVec 32 := Scalar.addi c0_i32_47 v123
  let c1_i32_50 : BitVec 32 := 1#32
  let arg10 : BitVec 32 := Scf.iv v124 c1_i32_50 k0_t2
  let c256_i32_94 : BitVec 32 := 256#32
  let v194 : BitVec 32 := Scalar.muli arg10 c256_i32_94
  let v195 : BitVec 32 := v194
  let v199 : Index := Scalar.indexCast v195
  let c0_96 : Index := 0#32
  ![v199.toNat, 0]
def k0_off9 (i : grid0.Coords) (k0_t2 : Fin (k0_t2_loop i).trips) : Fin 3 → Nat :=
  let c0_i32_47 : BitVec 32 := 0#32
  let arg1 : BitVec 32 := BitVec.ofNat 32 (i 1).val
  let v120 : BitVec 32 := Scalar.subi arg1 c0_i32_47
  let c1_i32_48 : BitVec 32 := 1#32
  let v122 : BitVec 32 := Scalar.divsi v120 c1_i32_48
  let v123 : BitVec 32 := Scalar.muli v122 c1_i32_48
  let v124 : BitVec 32 := Scalar.addi c0_i32_47 v123
  let c1_i32_50 : BitVec 32 := 1#32
  let arg10 : BitVec 32 := Scf.iv v124 c1_i32_50 k0_t2
  let v219 : Index := Scalar.indexCast arg10
  let c0_102 : Index := 0#32
  let c0_103 : Index := 0#32
  ![v219.toNat, 0, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S17408x8x64 : Shape := ⟨3, ![17408, 8, 64]⟩
abbrev S17408x8x32 : Shape := ⟨3, ![17408, 8, 32]⟩
abbrev S17408x256 : Shape := ⟨2, ![17408, 256]⟩
abbrev S17408x32 : Shape := ⟨2, ![17408, 32]⟩
abbrev S256x1024 : Shape := ⟨2, ![256, 1024]⟩
abbrev S16384x8x64 : Shape := ⟨3, ![16384, 8, 64]⟩
abbrev S4x4096x8x64 : Shape := ⟨4, ![4, 4096, 8, 64]⟩
abbrev S16384x8x32 : Shape := ⟨3, ![16384, 8, 32]⟩
abbrev S4x4096x8x32 : Shape := ⟨4, ![4, 4096, 8, 32]⟩
abbrev S16384x256 : Shape := ⟨2, ![16384, 256]⟩
abbrev S4x4096x256 : Shape := ⟨3, ![4, 4096, 256]⟩
abbrev S16384x32 : Shape := ⟨2, ![16384, 32]⟩
abbrev S4x4096x32 : Shape := ⟨3, ![4, 4096, 32]⟩
abbrev S4x4096x1024 : Shape := ⟨3, ![4, 4096, 1024]⟩
abbrev S4x4096x8x128 : Shape := ⟨4, ![4, 4096, 8, 128]⟩
abbrev S4096 : Shape := ⟨1, ![4096]⟩
abbrev S4x8x4096x4096 : Shape := ⟨4, ![4, 8, 4096, 4096]⟩
abbrev S4x4096x4096x8 : Shape := ⟨4, ![4, 4096, 4096, 8]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S17408x8x64, .f32⟩
  | .hbm, ⟨1, _⟩ => ⟨S17408x8x32, .f32⟩
  | .hbm, ⟨2, _⟩ => ⟨S17408x256, .f32⟩
  | .hbm, ⟨3, _⟩ => ⟨S17408x32, .f32⟩
  | .hbm, ⟨4, _⟩ => ⟨S256x1024, .f32⟩
  | .hbm, ⟨5, _⟩ => ⟨S16384x8x64, .f32⟩
  | .hbm, ⟨6, _⟩ => ⟨S4x4096x8x64, .f32⟩
  | .hbm, ⟨7, _⟩ => ⟨S16384x8x32, .f32⟩
  | .hbm, ⟨8, _⟩ => ⟨S4x4096x8x32, .f32⟩
  | .hbm, ⟨9, _⟩ => ⟨S16384x256, .f32⟩
  | .hbm, ⟨10, _⟩ => ⟨S4x4096x256, .f32⟩
  | .hbm, ⟨11, _⟩ => ⟨S16384x32, .f32⟩
  | .hbm, ⟨12, _⟩ => ⟨S4x4096x32, .f32⟩
  | .hbm, ⟨13, _⟩ => ⟨S4x4096x1024, .f32⟩
  | .hbm, ⟨14, _⟩ => ⟨S4x4096x8x128, .f32⟩
  | .hbm, ⟨15, _⟩ => ⟨S4x4096x8x64, .f32⟩
  | .hbm, ⟨16, _⟩ => ⟨S4x4096x8x64, .f32⟩
  | .hbm, ⟨17, _⟩ => ⟨S4096, .i32⟩
  | .hbm, ⟨18, _⟩ => ⟨S4x8x4096x4096, .f32⟩
  | .hbm, ⟨19, _⟩ => ⟨S4x4096x4096x8, .f32⟩
  | .hbm, ⟨20, _⟩ => ⟨S4x8x4096x4096, .f32⟩
  | .hbm, ⟨21, _⟩ => ⟨S4x8x4096x4096, .f32⟩
  | .hbm, ⟨22, _⟩ => ⟨S_, .f32⟩
  | .hbm, ⟨23, _⟩ => ⟨S4x8x4096x4096, .f32⟩
  | .hbm, ⟨24, _⟩ => ⟨S4x8x4096x4096, .f32⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S4x8x4096x4096, .i1⟩
  | .hbm, ⟨33, _⟩ => ⟨S4x8x4096x4096, .f32⟩
  | .hbm, ⟨34, _⟩ => ⟨S4x8x4096x4096, .f32⟩
  | .hbm, ⟨35, _⟩ => ⟨S_, .f32⟩
  | .hbm, ⟨36, _⟩ => ⟨S4x8x4096, .f32⟩
  | .hbm, ⟨37, _⟩ => ⟨S_, .f32⟩
  | .hbm, ⟨38, _⟩ => ⟨S4x8x4096, .f32⟩
  | .hbm, ⟨39, _⟩ => ⟨S4x8x4096, .f32⟩
  | .hbm, ⟨40, _⟩ => ⟨S4x8x4096x1, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S_, .f32⟩
  | .hbm, ⟨45, _⟩ => ⟨S4x8x4096, .f32⟩
  | .hbm, ⟨46, _⟩ => ⟨S4x8x4096x1, .f32⟩
  | .hbm, ⟨47, _⟩ => ⟨S4x8x4096x4096, .f32⟩
  | .hbm, ⟨48, _⟩ => ⟨S4x8x4096x4096, .f32⟩
  | .hbm, ⟨49, _⟩ => ⟨S4x8x64x4096, .f32⟩
  | .hbm, ⟨50, _⟩ => ⟨S4x4096x8x64, .f32⟩
  | .hbm, ⟨51, _⟩ => ⟨S_, .f32⟩
  | .hbm, ⟨52, _⟩ => ⟨S4x4096x8x64, .f32⟩
  | .hbm, ⟨53, _⟩ => ⟨S4x4096x8x128, .f32⟩
  | .hbm, ⟨54, _⟩ => ⟨S16384x1024, .f32⟩
  | .hbm, ⟨55, _⟩ => ⟨S16384x1024, .bf16⟩
  | _, _ => ⟨S17408x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

def κ : String → Option EReal := fun
  | "mask" => some ⊥
  | _ => none
-- ==== Kernel2.lean ====
abbrev S17408x1024 : Shape := ⟨2, ![17408, 1024]⟩
abbrev S17408x256 : Shape := ⟨2, ![17408, 256]⟩
abbrev S17408x3072 : Shape := ⟨2, ![17408, 3072]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S1024x2048 : Shape := ⟨2, ![1024, 2048]⟩
abbrev S8x64x1024 : Shape := ⟨3, ![8, 64, 1024]⟩
abbrev S_ : Shape := ⟨0, ![]⟩
abbrev S8x128x1024 : Shape := ⟨3, ![8, 128, 1024]⟩
abbrev S1x1024 : Shape := ⟨2, ![1, 1024]⟩
abbrev S1024x17408 : Shape := ⟨2, ![1024, 17408]⟩
abbrev S8x17408x256 : Shape := ⟨3, ![8, 17408, 256]⟩
abbrev S256x256 : Shape := ⟨2, ![256, 256]⟩
abbrev S256x3072 : Shape := ⟨2, ![256, 3072]⟩
abbrev S1024x256 : Shape := ⟨2, ![1024, 256]⟩
abbrev S8x256x256 : Shape := ⟨3, ![8, 256, 256]⟩
abbrev S256 : Shape := ⟨1, ![256]⟩
abbrev S256x1 : Shape := ⟨2, ![256, 1]⟩
abbrev S1x256x256 : Shape := ⟨3, ![1, 256, 256]⟩

abbrev nBuf : Space → Nat
  | .hbm => 25
  | .vmem => 22
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S17408x256, .bf16⟩
  | .hbm, ⟨3, _⟩ => ⟨S17408x256, .bf16⟩
  | .hbm, ⟨4, _⟩ => ⟨S17408x3072, .bf16⟩
  | .hbm, ⟨5, _⟩ => ⟨S512x1024, .f32⟩
  | .hbm, ⟨6, _⟩ => ⟨S256x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S8x64x1024, .f32⟩
  | .hbm, ⟨12, _⟩ => ⟨S_, .f32⟩
  | .hbm, ⟨13, _⟩ => ⟨S8x64x1024, .f32⟩
  | .hbm, ⟨14, _⟩ => ⟨S8x128x1024, .f32⟩
  | .hbm, ⟨15, _⟩ => ⟨S1024x1024, .f32⟩
  | .hbm, ⟨16, _⟩ => ⟨S1024x1024, .bf16⟩
  | .hbm, ⟨17, _⟩ => ⟨S256x1024, .bf16⟩
  | .hbm, ⟨18, _⟩ => ⟨S256x1024, .bf16⟩
  | .hbm, ⟨19, _⟩ => ⟨S1024x1024, .bf16⟩
  | .hbm, ⟨20, _⟩ => ⟨S1x1024, .f32⟩
  | .hbm, ⟨21, _⟩ => ⟨S1024x2048, .bf16⟩
  | .hbm, ⟨22, _⟩ => ⟨S17408x1024, .f32⟩
  | .hbm, ⟨23, _⟩ => ⟨S1024x17408, .bf16⟩
  | .hbm, ⟨24, _⟩ => ⟨S8x17408x256, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x3072, .bf16⟩
  | .local _ .vmem, ⟨9, _⟩ => ⟨S256x3072, .bf16⟩
  | .local _ .vmem, ⟨10, _⟩ => ⟨S1024x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x2048, .bf16⟩
  | .local _ .vmem, ⟨16, _⟩ => ⟨S256x1024, .f32⟩
  | .local _ .vmem, ⟨17, _⟩ => ⟨S256x1024, .f32⟩
  | .local _ .vmem, ⟨18, _⟩ => ⟨S1024x256, .bf16⟩
  | .local _ .vmem, ⟨19, _⟩ => ⟨S1024x256, .bf16⟩
  | .local _ .vmem, ⟨20, _⟩ => ⟨S8x256x256, .f32⟩
  | .local _ .vmem, ⟨21, _⟩ => ⟨S8x256x256, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S17408x1024 : Shape := ⟨2, ![17408, 1024]⟩
abbrev S17408x256 : Shape := ⟨2, ![17408, 256]⟩
abbrev S17408x3072 : Shape := ⟨2, ![17408, 3072]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S1024x2048 : Shape := ⟨2, ![1024, 2048]⟩
abbrev S17408x3x1024 : Shape := ⟨3, ![17408, 3, 1024]⟩
abbrev S17408x8x128 : Shape := ⟨3, ![17408, 8, 128]⟩
abbrev S17408x8x64 : Shape := ⟨3, ![17408, 8, 64]⟩
abbrev S17408x512 : Shape := ⟨2, ![17408, 512]⟩
abbrev S17408x1x1024 : Shape := ⟨3, ![17408, 1, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x2048 : Shape := ⟨2, ![17408, 2048]⟩
abbrev S17408x8x256 : Shape := ⟨3, ![17408, 8, 256]⟩
abbrev S1024x17408 : Shape := ⟨2, ![1024, 17408]⟩
abbrev S8x17408x256 : Shape := ⟨3, ![8, 17408, 256]⟩

abbrev nBuf : Space → Nat
  | .hbm => 56
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .bf16⟩
  | .hbm, ⟨2, _⟩ => ⟨S17408x256, .bf16⟩
  | .hbm, ⟨3, _⟩ => ⟨S17408x256, .bf16⟩
  | .hbm, ⟨4, _⟩ => ⟨S17408x3072, .bf16⟩
  | .hbm, ⟨5, _⟩ => ⟨S512x1024, .f32⟩
  | .hbm, ⟨6, _⟩ => ⟨S256x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S17408x1024, .f32⟩
  | .hbm, ⟨12, _⟩ => ⟨S17408x256, .f32⟩
  | .hbm, ⟨13, _⟩ => ⟨S17408x256, .f32⟩
  | .hbm, ⟨14, _⟩ => ⟨S17408x3072, .f32⟩
  | .hbm, ⟨15, _⟩ => ⟨S17408x3x1024, .f32⟩
  | .hbm, ⟨16, _⟩ => ⟨S17408x8x128, .f32⟩
  | .hbm, ⟨17, _⟩ => ⟨S17408x8x64, .f32⟩
  | .hbm, ⟨18, _⟩ => ⟨S17408x512, .f32⟩
  | .hbm, ⟨19, _⟩ => ⟨S17408x1024, .f32⟩
  | .hbm, ⟨20, _⟩ => ⟨S17408x1x1024, .f32⟩
  | .hbm, ⟨21, _⟩ => ⟨S17408x1024, .f32⟩
  | .hbm, ⟨22, _⟩ => ⟨S17408x1024, .f32⟩
  | .hbm, ⟨23, _⟩ => ⟨S17408x1x1024, .f32⟩
  | .hbm, ⟨24, _⟩ => ⟨S17408x1024, .f32⟩
  | .hbm, ⟨25, _⟩ => ⟨S17408x1024, .f32⟩
  | .hbm, ⟨26, _⟩ => ⟨S17408x1024, .f32⟩
  | .hbm, ⟨27, _⟩ => ⟨S17408x1024, .f32⟩
  | .hbm, ⟨28, _⟩ => ⟨S17408x1x1024, .f32⟩
  | .hbm, ⟨29, _⟩ => ⟨S17408x1024, .f32⟩
  | .hbm, ⟨30, _⟩ => ⟨S17408x1024, .f32⟩
  | .hbm, ⟨31, _⟩ => ⟨S17408x1024, .f32⟩
  | .hbm, ⟨32, _⟩ => ⟨S17408x1024, .f32⟩
  | .hbm, ⟨33, _⟩ => ⟨S17408x1024, .f32⟩
  | .hbm, ⟨34, _⟩ => ⟨S17408x1024, .f32⟩
  | .hbm, ⟨35, _⟩ => ⟨S17408x1024, .f32⟩
  | .hbm, ⟨36, _⟩ => ⟨S_, .f32⟩
  | .hbm, ⟨37, _⟩ => ⟨S17408, .f32⟩
  | .hbm, ⟨38, _⟩ => ⟨S17408x1, .f32⟩
  | .hbm, ⟨39, _⟩ => ⟨S_, .f32⟩
  | .hbm, ⟨40, _⟩ => ⟨S17408x1, .f32⟩
  | .hbm, ⟨41, _⟩ => ⟨S17408x1, .f32⟩
  | .hbm, ⟨42, _⟩ => ⟨S_, .f32⟩
  | .hbm, ⟨43, _⟩ => ⟨S17408x1, .f32⟩
  | .hbm, ⟨44, _⟩ => ⟨S17408x1, .f32⟩
  | .hbm, ⟨45, _⟩ => ⟨S17408x1, .f32⟩
  | .hbm, ⟨46, _⟩ => ⟨S17408x1024, .f32⟩
  | .hbm, ⟨47, _⟩ => ⟨S17408x1024, .f32⟩
  | .hbm, ⟨48, _⟩ => ⟨S1x1024, .f32⟩
  | .hbm, ⟨49, _⟩ => ⟨S17408x1024, .f32⟩
  | .hbm, ⟨50, _⟩ => ⟨S17408x1024, .f32⟩
  | .hbm, ⟨51, _⟩ => ⟨S17408x2048, .f32⟩
  | .hbm, ⟨52, _⟩ => ⟨S17408x8x256, .f32⟩
  | .hbm, ⟨53, _⟩ => ⟨S1024x17408, .f32⟩
  | .hbm, ⟨54, _⟩ => ⟨S1024x17408, .bf16⟩
  | .hbm, ⟨55, _⟩ => ⟨S8x17408x256, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S17408x1024 : Shape := ⟨2, ![17408, 1024]⟩
abbrev S1024 : Shape := ⟨1, ![1024]⟩
abbrev S1024x4896 : Shape := ⟨2, ![1024, 4896]⟩
abbrev S256 : Shape := ⟨1, ![256]⟩
abbrev S256x768 : Shape := ⟨2, ![256, 768]⟩
abbrev S4x128x128 : Shape := ⟨3, ![4, 128, 128]⟩
abbrev S4x128 : Shape := ⟨2, ![4, 128]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S8 : Shape := ⟨1, ![8]⟩
abbrev S_ : Shape := ⟨0, ![]⟩
abbrev S1x8 : Shape := ⟨2, ![1, 8]⟩
abbrev S128x8 : Shape := ⟨2, ![128, 8]⟩
abbrev S17408 : Shape := ⟨1, ![17408]⟩
abbrev S17408x1 : Shape := ⟨2, ![17408, 1]⟩
abbrev S16 : Shape := ⟨1, ![16]⟩
abbrev S1x16 : Shape := ⟨2, ![1, 16]⟩
abbrev S17408x16 : Shape := ⟨2, ![17408, 16]⟩
abbrev S17408x32 : Shape := ⟨2, ![17408, 32]⟩
abbrev S32 : Shape := ⟨1, ![32]⟩
abbrev S1x32 : Shape := ⟨2, ![1, 32]⟩
abbrev S17408x64 : Shape := ⟨2, ![17408, 64]⟩
abbrev S17408x128 : Shape := ⟨2, ![17408, 128]⟩
abbrev S17408x96 : Shape := ⟨2, ![17408, 96]⟩
abbrev S17408x256 : Shape := ⟨2, ![17408, 256]⟩
abbrev S1x17408x1x64 : Shape := ⟨4, ![1, 17408, 1, 64]⟩
abbrev S1x17408x4x64 : Shape := ⟨4, ![1, 17408, 4, 64]⟩
abbrev S17408x512 : Shape := ⟨2, ![17408, 512]⟩
abbrev S1024x256 : Shape := ⟨2, ![1024, 256]⟩
abbrev S1024x32 : Shape := ⟨2, ![1024, 32]⟩
abbrev S1024x3072 : Shape := ⟨2, ![1024, 3072]⟩
abbrev S1024x96 : Shape := ⟨2, ![1024, 96]⟩
abbrev S1024x1x32 : Shape := ⟨3, ![1024, 1, 32]⟩
abbrev S1024x1x16 : Shape := ⟨3, ![1024, 1, 16]⟩
abbrev S1024x4x64 : Shape := ⟨3, ![1024, 4, 64]⟩
abbrev S1024x4x32 : Shape := ⟨3, ![1024, 4, 32]⟩
abbrev S1024x5632 : Shape := ⟨2, ![1024, 5632]⟩
abbrev S256x8x96 : Shape := ⟨3, ![256, 8, 96]⟩
abbrev S256x8x64 : Shape := ⟨3, ![256, 8, 64]⟩
abbrev S256x8x32 : Shape := ⟨3, ![256, 8, 32]⟩
abbrev S256x8x128 : Shape := ⟨3, ![256, 8, 128]⟩
abbrev S256x8x16 : Shape := ⟨3, ![256, 8, 16]⟩
abbrev S256x8x256 : Shape := ⟨3, ![256, 8, 256]⟩
abbrev S256x2048 : Shape := ⟨2, ![256, 2048]⟩
abbrev S4x8x8 : Shape := ⟨3, ![4, 8, 8]⟩
abbrev S16x16 : Shape := ⟨2, ![16, 16]⟩
abbrev S1x16x1x16x1 : Shape := ⟨5, ![1, 16, 1, 16, 1]⟩
abbrev S4x1x8x1x8 : Shape := ⟨5, ![4, 1, 8, 1, 8]⟩
abbrev S4x16x8x16x8 : Shape := ⟨5, ![4, 16, 8, 16, 8]⟩
abbrev S1x4x128x128 : Shape := ⟨4, ![1, 4, 128, 128]⟩
abbrev S2x4x128x128 : Shape := ⟨4, ![2, 4, 128, 128]⟩
abbrev S128x4 : Shape := ⟨2, ![128, 4]⟩
abbrev S128x4x64 : Shape := ⟨3, ![128, 4, 64]⟩
abbrev S128x256 : Shape := ⟨2, ![128, 256]⟩
abbrev S4x8 : Shape := ⟨2, ![4, 8]⟩
abbrev S8x4 : Shape := ⟨2, ![8, 4]⟩
abbrev S8x4x64 : Shape := ⟨3, ![8, 4, 64]⟩
abbrev S8x256 : Shape := ⟨2, ![8, 256]⟩
abbrev S1x8x1x256 : Shape := ⟨4, ![1, 8, 1, 256]⟩
abbrev S16x8x1x256 : Shape := ⟨4, ![16, 8, 1, 256]⟩
abbrev S1x128x256 : Shape := ⟨3, ![1, 128, 256]⟩
abbrev S2x128x256 : Shape := ⟨3, ![2, 128, 256]⟩
abbrev S1x1024 : Shape := ⟨2, ![1, 1024]⟩
abbrev S1x256 : Shape := ⟨2, ![1, 256]⟩
abbrev S17408x2048 : Shape := ⟨2, ![17408, 2048]⟩
abbrev S17408x3072 : Shape := ⟨2, ![17408, 3072]⟩
abbrev S68x256x256 : Shape := ⟨3, ![68, 256, 256]⟩
abbrev S256x1024 : Shape := ⟨2, ![256, 1024]⟩
abbrev S256x256 : Shape := ⟨2, ![256, 256]⟩
abbrev S256x128 : Shape := ⟨2, ![256, 128]⟩
abbrev S256x512 : Shape := ⟨2, ![256, 512]⟩
abbrev S256x32 : Shape := ⟨2, ![256, 32]⟩
abbrev S256x3072 : Shape := ⟨2, ![256, 3072]⟩
abbrev S1x256x256 : Shape := ⟨3, ![1, 256, 256]⟩
abbrev S256x1 : Shape := ⟨2, ![256, 1]⟩
abbrev S1024x128 : Shape := ⟨2, ![1024, 128]⟩
abbrev S128x128 : Shape := ⟨2, ![128, 128]⟩
abbrev S1x1x128x128 : Shape := ⟨4, ![1, 1, 128, 128]⟩
abbrev S1024x1024 : Shape := ⟨2, ![1024, 1024]⟩

abbrev nBuf : Space → Nat
  | .hbm => 195
  | .vmem => 50
  | .smem => 0
  | _ => 0

abbrev hbmTy0_0 (i : Nat) : BufTy := match i % 128 with
  | 0 => ⟨S17408x1024, .f32⟩
  | 1 => ⟨S1024, .f32⟩
  | 2 => ⟨S1024x4896, .f32⟩
  | 3 => ⟨S256, .f32⟩
  | 4 => ⟨S256x768, .f32⟩
  | 5 => ⟨S256, .f32⟩
  | 6 => ⟨S256, .f32⟩
  | 7 => ⟨S256, .f32⟩
  | 8 => ⟨S4x128x128, .f32⟩
  | 9 => ⟨S4x128, .f32⟩
  | 10 => ⟨S4096, .i32⟩
  | 11 => ⟨S1x4096, .i32⟩
  | 12 => ⟨S4x4096, .i32⟩
  | 13 => ⟨S16384, .i32⟩
  | 14 => ⟨S8, .i32⟩
  | 15 => ⟨S_, .i32⟩
  | 16 => ⟨S8, .i32⟩
  | 17 => ⟨S8, .i32⟩
  | 18 => ⟨S1x8, .i32⟩
  | 19 => ⟨S128x8, .i32⟩
  | 20 => ⟨S1024, .i32⟩
  | 21 => ⟨S17408, .i32⟩
  | 22 => ⟨S17408, .f32⟩
  | 23 => ⟨S17408x1, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S1x16, .f32⟩
  | 39 => ⟨S17408x16, .f32⟩
  | 40 => ⟨S17408x16, .f32⟩
  | 41 => ⟨S17408x16, .f32⟩
  | 42 => ⟨S17408x16, .f32⟩
  | 43 => ⟨S17408x32, .f32⟩
  | 44 => ⟨S17408x16, .f32⟩
  | 45 => ⟨S17408x32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S1x32, .f32⟩
  | 61 => ⟨S17408x32, .f32⟩
  | 62 => ⟨S17408x32, .f32⟩
  | 63 => ⟨S17408x32, .f32⟩
  | 64 => ⟨S17408x32, .f32⟩
  | 65 => ⟨S17408x64, .f32⟩
  | 66 => ⟨S17408x32, .f32⟩
  | 67 => ⟨S17408x64, .f32⟩
  | 68 => ⟨S_, .f32⟩
  | 69 => ⟨S17408x128, .f32⟩
  | 70 => ⟨S_, .f32⟩
  | 71 => ⟨S17408x128, .f32⟩
  | 72 => ⟨S_, .f32⟩
  | 73 => ⟨S17408x96, .f32⟩
  | 74 => ⟨S17408x256, .f32⟩
  | 75 => ⟨S_, .f32⟩
  | 76 => ⟨S17408x256, .f32⟩
  | 77 => ⟨S17408x256, .f32⟩
  | 78 => ⟨S17408x256, .f32⟩
  | 79 => ⟨S_, .f32⟩
  | 80 => ⟨S17408x256, .f32⟩
  | 81 => ⟨S17408x256, .f32⟩
  | 82 => ⟨S17408x128, .f32⟩
  | 83 => ⟨S17408x128, .f32⟩
  | 84 => ⟨S1x17408x1x64, .f32⟩
  | 85 => ⟨S1x17408x4x64, .f32⟩
  | 86 => ⟨S17408x256, .f32⟩
  | 87 => ⟨S1x17408x1x64, .f32⟩
  | 88 => ⟨S1x17408x4x64, .f32⟩
  | 89 => ⟨S17408x256, .f32⟩
  | 90 => ⟨S_, .f32⟩
  | 91 => ⟨S17408x256, .f32⟩
  | 92 => ⟨S17408x256, .f32⟩
  | 93 => ⟨S17408x512, .f32⟩
  | 94 => ⟨S_, .f32⟩
  | 95 => ⟨S17408x256, .f32⟩
  | 96 => ⟨S17408x256, .f32⟩
  | 97 => ⟨S17408x512, .f32⟩
  | 98 => ⟨S1024x256, .f32⟩
  | 99 => ⟨S1024x256, .f32⟩
  | 100 => ⟨S1024x32, .f32⟩
  | 101 => ⟨S1024x256, .f32⟩
  | 102 => ⟨S1024x256, .f32⟩
  | 103 => ⟨S1024x256, .f32⟩
  | 104 => ⟨S1024x256, .f32⟩
  | 105 => ⟨S1024x256, .f32⟩
  | 106 => ⟨S1024x3072, .f32⟩
  | 107 => ⟨S_, .f32⟩
  | 108 => ⟨S1024x96, .f32⟩
  | 109 => ⟨S1024x1x32, .f32⟩
  | 110 => ⟨S1024x1x16, .f32⟩
  | 111 => ⟨S1024x1x16, .f32⟩
  | 112 => ⟨S1024x1x16, .f32⟩
  | 113 => ⟨S1024x1x32, .f32⟩
  | 114 => ⟨S1024x32, .f32⟩
  | 115 => ⟨S1024x4x64, .f32⟩
  | 116 => ⟨S1024x4x32, .f32⟩
  | 117 => ⟨S1024x4x32, .f32⟩
  | 118 => ⟨S1024x4x32, .f32⟩
  | 119 => ⟨S1024x4x64, .f32⟩
  | 120 => ⟨S1024x256, .f32⟩
  | 121 => ⟨S1024x4x64, .f32⟩
  | 122 => ⟨S1024x4x32, .f32⟩
  | 123 => ⟨S1024x4x32, .f32⟩
  | 124 => ⟨S1024x4x32, .f32⟩
  | 125 => ⟨S1024x4x64, .f32⟩
  | 126 => ⟨S1024x256, .f32⟩
  | 127 => ⟨S1024x5632, .f32⟩
  | _ => ⟨S17408x1024, .f32⟩

abbrev hbmTy0_1 (i : Nat) : BufTy := match i % 128 with
  | 0 => ⟨S1024x5632, .bf16⟩
  | 1 => ⟨S256x8x96, .f32⟩
  | 2 => ⟨S256x8x64, .f32⟩
  | 3 => ⟨S256x8x32, .f32⟩
  | 4 => ⟨S_, .f32⟩
  | 5 => ⟨S256x8x64, .f32⟩
  | 6 => ⟨S_, .f32⟩
  | 7 => ⟨S256x8x96, .f32⟩
  | 8 => ⟨S_, .f32⟩
  | 9 => ⟨S256x8x128, .f32⟩
  | 10 => ⟨S256x8x16, .f32⟩
  | 11 => ⟨S256x8x16, .f32⟩
  | 12 => ⟨S256x8x16, .f32⟩
  | 13 => ⟨S256x8x32, .f32⟩
  | 14 => ⟨S256x8x256, .f32⟩
  | 15 => ⟨S256x2048, .f32⟩
  | 16 => ⟨S256x8x256, .f32⟩
  | 17 => ⟨S256x2048, .f32⟩
  | 18 => ⟨S256x2048, .bf16⟩
  | 19 => ⟨S256x2048, .bf16⟩
  | 20 => ⟨S4x8x8, .f32⟩
  | 21 => ⟨S16x16, .i32⟩
  | 22 => ⟨S16x16, .i32⟩
  | 23 => ⟨S_, .i32⟩
  | 24 => ⟨S16x16, .i32⟩
  | 25 => ⟨S16x16, .i32⟩
  | 26 => ⟨S16x16, .i1⟩
  | 27 => ⟨S16x16, .f32⟩
  | 28 => ⟨S1x16x1x16x1, .f32⟩
  | 29 => ⟨S4x1x8x1x8, .f32⟩
  | 30 => ⟨S4x16x8x16x8, .f32⟩
  | 31 => ⟨S4x16x8x16x8, .f32⟩
  | 32 => ⟨S4x16x8x16x8, .f32⟩
  | 33 => ⟨S4x128x128, .f32⟩
  | 34 => ⟨S1x4x128x128, .f32⟩
  | 35 => ⟨S1x4x128x128, .f32⟩
  | 36 => ⟨S2x4x128x128, .f32⟩
  | 37 => ⟨S128x4, .f32⟩
  | 38 => ⟨S128x4x64, .f32⟩
  | 39 => ⟨S128x256, .f32⟩
  | 40 => ⟨S4x8, .f32⟩
  | 41 => ⟨S8x4, .f32⟩
  | 42 => ⟨S8x4x64, .f32⟩
  | 43 => ⟨S8x256, .f32⟩
  | 44 => ⟨S1x8x1x256, .f32⟩
  | 45 => ⟨S16x8x1x256, .f32⟩
  | 46 => ⟨S128x256, .f32⟩
  | 47 => ⟨S1x128x256, .f32⟩
  | 48 => ⟨S1x128x256, .f32⟩
  | 49 => ⟨S2x128x256, .f32⟩
  | 50 => ⟨S1x1024, .f32⟩
  | 51 => ⟨S1x256, .f32⟩
  | 52 => ⟨S1x256, .f32⟩
  | 53 => ⟨S1x256, .f32⟩
  | 54 => ⟨S1x256, .f32⟩
  | 55 => ⟨S17408x256, .f32⟩
  | 56 => ⟨S17408x32, .f32⟩
  | 57 => ⟨S17408x256, .f32⟩
  | 58 => ⟨S17408x256, .f32⟩
  | 59 => ⟨S17408x256, .f32⟩
  | 60 => ⟨S17408x2048, .bf16⟩
  | 61 => ⟨S17408x128, .bf16⟩
  | 62 => ⟨S17408x256, .f32⟩
  | 63 => ⟨S17408x256, .bf16⟩
  | 64 => ⟨S17408x3072, .bf16⟩
  | 65 => ⟨S68x256x256, .bf16⟩
  | 66 => ⟨S68x256x256, .bf16⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S1x256, .f32⟩
  | .local _ .vmem, ⟨5, _⟩ => ⟨S256x2048, .bf16⟩
  | .local _ .vmem, ⟨6, _⟩ => ⟨S256x2048, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x4x128x128, .f32⟩
  | .local _ .vmem, ⟨11, _⟩ => ⟨S1x4x128x128, .f32⟩
  | .local _ .vmem, ⟨12, _⟩ => ⟨S1x128x256, .f32⟩
  | .local _ .vmem, ⟨13, _⟩ => ⟨S1x128x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x256, .f32⟩
  | .local _ .vmem, ⟨27, _⟩ => ⟨S256x256, .f32⟩
  | .local _ .vmem, ⟨28, _⟩ => ⟨S256x32, .f32⟩
  | .local _ .vmem, ⟨29, _⟩ => ⟨S256x32, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x2048, .bf16⟩
  | .local _ .vmem, ⟨37, _⟩ => ⟨S256x2048, .bf16⟩
  | .local _ .vmem, ⟨38, _⟩ => ⟨S256x128, .bf16⟩
  | .local _ .vmem, ⟨39, _⟩ => ⟨S256x128, .bf16⟩
  | .local _ .vmem, ⟨40, _⟩ => ⟨S256x256, .f32⟩
  | .local _ .vmem, ⟨41, _⟩ => ⟨S256x256, .f32⟩
  | .local _ .vmem, ⟨42, _⟩ => ⟨S256x256, .bf16⟩
  | .local _ .vmem, ⟨43, _⟩ => ⟨S256x256, .bf16⟩
  | .local _ .vmem, ⟨44, _⟩ => ⟨S256x3072, .bf16⟩
  | .local _ .vmem, ⟨45, _⟩ => ⟨S256x3072, .bf16⟩
  | .local _ .vmem, ⟨46, _⟩ => ⟨S1x256x256, .bf16⟩
  | .local _ .vmem, ⟨47, _⟩ => ⟨S1x256x256, .bf16⟩
  | .local _ .vmem, ⟨48, _⟩ => ⟨S1x256x256, .bf16⟩
  | .local _ .vmem, ⟨49, _⟩ => ⟨S1x256x256, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_14 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_15 : Ref sig .tc := ⟨.hbm, 132, rfl⟩
abbrev main_v105 : Ref sig .tc := ⟨.hbm, 133, rfl⟩
abbrev main_cst_16 : Ref sig .tc := ⟨.hbm, 134, rfl⟩
abbrev main_v106 : Ref sig .tc := ⟨.hbm, 135, rfl⟩
abbrev main_cst_17 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_c_18 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152_0 : Ref sig .tc := ⟨.hbm, 183, rfl⟩
abbrev main_v152_1 : Ref sig .tc := ⟨.hbm, 184, rfl⟩
abbrev main_v152_2 : Ref sig .tc := ⟨.hbm, 185, rfl⟩
abbrev main_v152_3 : Ref sig .tc := ⟨.hbm, 186, rfl⟩
abbrev main_v152_4 : Ref sig .tc := ⟨.hbm, 187, rfl⟩
abbrev main_v152_5 : Ref sig .tc := ⟨.hbm, 188, rfl⟩
abbrev main_v152_6 : Ref sig .tc := ⟨.hbm, 189, rfl⟩
abbrev main_v152_7 : Ref sig .tc := ⟨.hbm, 190, rfl⟩
abbrev main_v152_8 : Ref sig .tc := ⟨.hbm, 191, rfl⟩
abbrev main_v152_9 : Ref sig .tc := ⟨.hbm, 192, rfl⟩
abbrev main_v152_10 : Ref sig .tc := ⟨.hbm, 193, rfl⟩
abbrev main_v152_11 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_stg27_0 : Ref sig .tc := ⟨.vmem, 46, rfl⟩
abbrev cc0_stg27_1 : Ref sig .tc := ⟨.vmem, 47, rfl⟩
abbrev cc0_stg28_0 : Ref sig .tc := ⟨.vmem, 48, rfl⟩
abbrev cc0_stg28_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43
abbrev cc0_sem26_0 : DmaSem sig := 44
abbrev cc0_sem26_1 : DmaSem sig := 45
abbrev cc0_sem27_0 : DmaSem sig := 46
abbrev cc0_sem27_1 : DmaSem sig := 47
abbrev cc0_sem28_0 : DmaSem sig := 48
abbrev cc0_sem28_1 : DmaSem sig := 49

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c64_i32 : BitVec 32 := 64#32
  let v0 : BitVec 1 := Scalar.cmpi .sge arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_10 (i : grid0.Coords) : Fin 3 → Nat :=
  let arg0 : BitVec 32 := BitVec.ofNat 32 (i 0).val
  let c64_i32 : BitVec 32 := 64#32
  let v0 : BitVec 1 := Scalar.cmpi .sge arg0 c64_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x3072 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x256x256 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x256x256 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== Reference3Ideal.lean ====
abbrev S17408x1024 : Shape := ⟨2, ![17408, 1024]⟩
abbrev S1024 : Shape := ⟨1, ![1024]⟩
abbrev S1024x4896 : Shape := ⟨2, ![1024, 4896]⟩
abbrev S256 : Shape := ⟨1, ![256]⟩
abbrev S256x768 : Shape := ⟨2, ![256, 768]⟩
abbrev S4x128x128 : Shape := ⟨3, ![4, 128, 128]⟩
abbrev S4x128 : Shape := ⟨2, ![4, 128]⟩
abbrev S4096 : Shape := ⟨1, ![4096]⟩
abbrev S4x4096 : Shape := ⟨2, ![4, 4096]⟩
abbrev S16384 : Shape := ⟨1, ![16384]⟩
abbrev S8 : Shape := ⟨1, ![8]⟩
abbrev S_ : Shape := ⟨0, ![]⟩
abbrev S128x8 : Shape := ⟨2, ![128, 8]⟩
abbrev S17408 : Shape := ⟨1, ![17408]⟩
abbrev S17408x1 : Shape := ⟨2, ![17408, 1]⟩
abbrev S1x1024 : Shape := ⟨2, ![1, 1024]⟩
abbrev S17408x4896 : Shape := ⟨2, ![17408, 4896]⟩
abbrev S17408x256 : Shape := ⟨2, ![17408, 256]⟩
abbrev S17408x32 : Shape := ⟨2, ![17408, 32]⟩
abbrev S17408x3072 : Shape := ⟨2, ![17408, 3072]⟩
abbrev S1x256 : Shape := ⟨2, ![1, 256]⟩
abbrev S17408x768 : Shape := ⟨2, ![17408, 768]⟩
abbrev S17408x8x96 : Shape := ⟨3, ![17408, 8, 96]⟩
abbrev S17408x8x64 : Shape := ⟨3, ![17408, 8, 64]⟩
abbrev S17408x8x32 : Shape := ⟨3, ![17408, 8, 32]⟩
abbrev S16 : Shape := ⟨1, ![16]⟩
abbrev S1x16 : Shape := ⟨2, ![1, 16]⟩
abbrev S17408x16 : Shape := ⟨2, ![17408, 16]⟩
abbrev S17408x1x16 : Shape := ⟨3, ![17408, 1, 16]⟩
abbrev S17408x8x16 : Shape := ⟨3, ![17408, 8, 16]⟩
abbrev S17408x1x32 : Shape := ⟨3, ![17408, 1, 32]⟩
abbrev S17408x4x64 : Shape := ⟨3, ![17408, 4, 64]⟩
abbrev S32 : Shape := ⟨1, ![32]⟩
abbrev S1x32 : Shape := ⟨2, ![1, 32]⟩
abbrev S17408x4x32 : Shape := ⟨3, ![17408, 4, 32]⟩
abbrev S17408x8x256 : Shape := ⟨3, ![17408, 8, 256]⟩
abbrev S17408x2048 : Shape := ⟨2, ![17408, 2048]⟩
abbrev S17408x96 : Shape := ⟨2, ![17408, 96]⟩
abbrev S17408x128 : Shape := ⟨2, ![17408, 128]⟩
abbrev S68x256x256 : Shape := ⟨3, ![68, 256, 256]⟩

abbrev nBuf : Space → Nat
  | .hbm => 306
  | .vmem => 0
  | .smem => 0
  | _ => 0

abbrev hbmTy0_0 (i : Nat) : BufTy := match i % 128 with
  | 0 => ⟨S17408x1024, .f32⟩
  | 1 => ⟨S1024, .f32⟩
  | 2 => ⟨S1024x4896, .f32⟩
  | 3 => ⟨S256, .f32⟩
  | 4 => ⟨S256x768, .f32⟩
  | 5 => ⟨S256, .f32⟩
  | 6 => ⟨S256, .f32⟩
  | 7 => ⟨S256, .f32⟩
  | 8 => ⟨S4x128x128, .f32⟩
  | 9 => ⟨S4x128, .f32⟩
  | 10 => ⟨S4096, .i32⟩
  | 11 => ⟨S4x4096, .i32⟩
  | 12 => ⟨S16384, .i32⟩
  | 13 => ⟨S8, .i32⟩
  | 14 => ⟨S_, .i32⟩
  | 15 => ⟨S8, .i32⟩
  | 16 => ⟨S8, .i32⟩
  | 17 => ⟨S128x8, .i32⟩
  | 18 => ⟨S1024, .i32⟩
  | 19 => ⟨S17408, .i32⟩
  | 20 => ⟨S17408x1024, .f32⟩
  | 21 => ⟨S_, .f32⟩
  | 22 => ⟨S17408, .f32⟩
  | 23 => ⟨S17408x1, .f32⟩
  | 24 => ⟨S_, .f32⟩
  | 25 => ⟨S17408x1, .f32⟩
  | 26 => ⟨S17408x1, .f32⟩
  | 27 => ⟨S_, .f32⟩
  | 28 => ⟨S17408x1, .f32⟩
  | 29 => ⟨S17408x1, .f32⟩
  | 30 => ⟨S17408x1, .f32⟩
  | 31 => ⟨S17408x1024, .f32⟩
  | 32 => ⟨S17408x1024, .f32⟩
  | 33 => ⟨S1x1024, .f32⟩
  | 34 => ⟨S17408x1024, .f32⟩
  | 35 => ⟨S17408x1024, .f32⟩
  | 36 => ⟨S17408x4896, .f32⟩
  | 37 => ⟨S17408x256, .f32⟩
  | 38 => ⟨S17408x256, .f32⟩
  | 39 => ⟨S17408x32, .f32⟩
  | 40 => ⟨S17408x256, .f32⟩
  | 41 => ⟨S17408x256, .f32⟩
  | 42 => ⟨S17408x256, .f32⟩
  | 43 => ⟨S17408x256, .f32⟩
  | 44 => ⟨S17408x3072, .f32⟩
  | 45 => ⟨S17408x256, .f32⟩
  | 46 => ⟨S_, .f32⟩
  | 47 => ⟨S17408, .f32⟩
  | 48 => ⟨S17408x1, .f32⟩
  | 49 => ⟨S_, .f32⟩
  | 50 => ⟨S17408x1, .f32⟩
  | 51 => ⟨S17408x1, .f32⟩
  | 52 => ⟨S_, .f32⟩
  | 53 => ⟨S17408x1, .f32⟩
  | 54 => ⟨S17408x1, .f32⟩
  | 55 => ⟨S17408x1, .f32⟩
  | 56 => ⟨S17408x256, .f32⟩
  | 57 => ⟨S17408x256, .f32⟩
  | 58 => ⟨S1x256, .f32⟩
  | 59 => ⟨S17408x256, .f32⟩
  | 60 => ⟨S17408x256, .f32⟩
  | 61 => ⟨S17408x768, .f32⟩
  | 62 => ⟨S17408x8x96, .f32⟩
  | 63 => ⟨S17408x8x64, .f32⟩
  | 64 => ⟨S_, .f32⟩
  | 65 => ⟨S17408x8x64, .f32⟩
  | 66 => ⟨S17408x8x64, .f32⟩
  | 67 => ⟨S17408x8x32, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S17408, .f32⟩
  | 83 => ⟨S17408x1, .f32⟩
  | 84 => ⟨S1x16, .f32⟩
  | 85 => ⟨S17408x16, .f32⟩
  | 86 => ⟨S17408x16, .f32⟩
  | 87 => ⟨S17408x16, .f32⟩
  | 88 => ⟨S17408x1x16, .f32⟩
  | 89 => ⟨S17408x1x16, .f32⟩
  | 90 => ⟨S17408x1x16, .f32⟩
  | 91 => ⟨S17408x8x16, .f32⟩
  | 92 => ⟨S17408x8x16, .f32⟩
  | 93 => ⟨S17408x8x16, .f32⟩
  | 94 => ⟨S17408x8x16, .f32⟩
  | 95 => ⟨S17408x8x16, .f32⟩
  | 96 => ⟨S17408x8x16, .f32⟩
  | 97 => ⟨S17408x8x16, .f32⟩
  | 98 => ⟨S17408x8x16, .f32⟩
  | 99 => ⟨S17408x8x16, .f32⟩
  | 100 => ⟨S17408x8x16, .f32⟩
  | 101 => ⟨S17408x8x16, .f32⟩
  | 102 => ⟨S17408x8x16, .f32⟩
  | 103 => ⟨S17408x8x32, .f32⟩
  | 104 => ⟨S_, .f32⟩
  | 105 => ⟨S17408x8x32, .f32⟩
  | 106 => ⟨S17408x8x32, .f32⟩
  | 107 => ⟨S17408x256, .f32⟩
  | 108 => ⟨S_, .f32⟩
  | 109 => ⟨S17408, .f32⟩
  | 110 => ⟨S17408x1, .f32⟩
  | 111 => ⟨S_, .f32⟩
  | 112 => ⟨S17408x1, .f32⟩
  | 113 => ⟨S17408x1, .f32⟩
  | 114 => ⟨S_, .f32⟩
  | 115 => ⟨S17408x1, .f32⟩
  | 116 => ⟨S17408x1, .f32⟩
  | 117 => ⟨S17408x1, .f32⟩
  | 118 => ⟨S17408x256, .f32⟩
  | 119 => ⟨S17408x256, .f32⟩
  | 120 => ⟨S1x256, .f32⟩
  | 121 => ⟨S17408x256, .f32⟩
  | 122 => ⟨S17408x256, .f32⟩
  | 123 => ⟨S17408x1x32, .f32⟩
  | 124 => ⟨S16, .f32⟩
  | 125 => ⟨S_, .f32⟩
  | 126 => ⟨S16, .f32⟩
  | 127 => ⟨S16, .f32⟩
  | _ => ⟨S17408x1024, .f32⟩

abbrev hbmTy0_1 (i : Nat) : BufTy := match i % 128 with
  | 0 => ⟨S_, .f32⟩
  | 1 => ⟨S16, .f32⟩
  | 2 => ⟨S16, .f32⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S17408, .f32⟩
  | 11 => ⟨S17408x1, .f32⟩
  | 12 => ⟨S1x16, .f32⟩
  | 13 => ⟨S17408x16, .f32⟩
  | 14 => ⟨S17408x16, .f32⟩
  | 15 => ⟨S17408x16, .f32⟩
  | 16 => ⟨S17408x1x16, .f32⟩
  | 17 => ⟨S17408x1x16, .f32⟩
  | 18 => ⟨S17408x1x16, .f32⟩
  | 19 => ⟨S17408x1x16, .f32⟩
  | 20 => ⟨S17408x1x16, .f32⟩
  | 21 => ⟨S17408x1x16, .f32⟩
  | 22 => ⟨S17408x1x16, .f32⟩
  | 23 => ⟨S17408x1x16, .f32⟩
  | 24 => ⟨S17408x1x16, .f32⟩
  | 25 => ⟨S17408x1x16, .f32⟩
  | 26 => ⟨S17408x1x16, .f32⟩
  | 27 => ⟨S17408x1x32, .f32⟩
  | 28 => ⟨S17408x32, .f32⟩
  | 29 => ⟨S17408x4x64, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S17408, .f32⟩
  | 45 => ⟨S17408x1, .f32⟩
  | 46 => ⟨S1x32, .f32⟩
  | 47 => ⟨S17408x32, .f32⟩
  | 48 => ⟨S17408x32, .f32⟩
  | 49 => ⟨S17408x32, .f32⟩
  | 50 => ⟨S17408x1x32, .f32⟩
  | 51 => ⟨S17408x1x32, .f32⟩
  | 52 => ⟨S17408x1x32, .f32⟩
  | 53 => ⟨S17408x4x32, .f32⟩
  | 54 => ⟨S17408x4x32, .f32⟩
  | 55 => ⟨S17408x4x32, .f32⟩
  | 56 => ⟨S17408x4x32, .f32⟩
  | 57 => ⟨S17408x4x32, .f32⟩
  | 58 => ⟨S17408x4x32, .f32⟩
  | 59 => ⟨S17408x4x32, .f32⟩
  | 60 => ⟨S17408x4x32, .f32⟩
  | 61 => ⟨S17408x4x32, .f32⟩
  | 62 => ⟨S17408x4x32, .f32⟩
  | 63 => ⟨S17408x4x32, .f32⟩
  | 64 => ⟨S17408x4x32, .f32⟩
  | 65 => ⟨S17408x4x64, .f32⟩
  | 66 => ⟨S17408x256, .f32⟩
  | 67 => ⟨S_, .f32⟩
  | 68 => ⟨S17408x256, .f32⟩
  | 69 => ⟨S17408x256, .f32⟩
  | 70 => ⟨S17408x4x64, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S17408, .f32⟩
  | 86 => ⟨S17408x1, .f32⟩
  | 87 => ⟨S1x32, .f32⟩
  | 88 => ⟨S17408x32, .f32⟩
  | 89 => ⟨S17408x32, .f32⟩
  | 90 => ⟨S17408x32, .f32⟩
  | 91 => ⟨S17408x1x32, .f32⟩
  | 92 => ⟨S17408x1x32, .f32⟩
  | 93 => ⟨S17408x1x32, .f32⟩
  | 94 => ⟨S17408x4x32, .f32⟩
  | 95 => ⟨S17408x4x32, .f32⟩
  | 96 => ⟨S17408x4x32, .f32⟩
  | 97 => ⟨S17408x4x32, .f32⟩
  | 98 => ⟨S17408x4x32, .f32⟩
  | 99 => ⟨S17408x4x32, .f32⟩
  | 100 => ⟨S17408x4x32, .f32⟩
  | 101 => ⟨S17408x4x32, .f32⟩
  | 102 => ⟨S17408x4x32, .f32⟩
  | 103 => ⟨S17408x4x32, .f32⟩
  | 104 => ⟨S17408x4x32, .f32⟩
  | 105 => ⟨S17408x4x32, .f32⟩
  | 106 => ⟨S17408x4x64, .f32⟩
  | 107 => ⟨S17408x256, .f32⟩
  | 108 => ⟨S17408x256, .f32⟩
  | 109 => ⟨S17408x256, .f32⟩
  | 110 => ⟨S_, .f32⟩
  | 111 => ⟨S17408x256, .f32⟩
  | 112 => ⟨S17408x256, .f32⟩
  | 113 => ⟨S17408x256, .f32⟩
  | 114 => ⟨S_, .f32⟩
  | 115 => ⟨S17408x256, .f32⟩
  | 116 => ⟨S17408x256, .f32⟩
  | 117 => ⟨S17408x256, .f32⟩
  | 118 => ⟨S_, .f32⟩
  | 119 => ⟨S17408x256, .f32⟩
  | 120 => ⟨S17408x256, .f32⟩
  | 121 => ⟨S_, .f32⟩
  | 122 => ⟨S17408x256, .f32⟩
  | 123 => ⟨S17408x256, .f32⟩
  | 124 => ⟨S17408x256, .f32⟩
  | 125 => ⟨S_, .f32⟩
  | 126 => ⟨S17408, .f32⟩
  | 127 => ⟨S17408x1, .f32⟩
  | _ => ⟨S17408x1024, .f32⟩

abbrev hbmTy0_2 (i : Nat) : BufTy := match i % 128 with
  | 0 => ⟨S_, .f32⟩
  | 1 => ⟨S17408x1, .f32⟩
  | 2 => ⟨S17408x1, .f32⟩
  | 3 => ⟨S17408x256, .f32⟩
  | 4 => ⟨S17408x256, .f32⟩
  | 5 => ⟨S17408x256, .f32⟩
  | 6 => ⟨S_, .f32⟩
  | 7 => ⟨S17408, .f32⟩
  | 8 => ⟨S17408x1, .f32⟩
  | 9 => ⟨S_, .f32⟩
  | 10 => ⟨S17408x1, .f32⟩
  | 11 => ⟨S17408x1, .f32⟩
  | 12 => ⟨S_, .f32⟩
  | 13 => ⟨S17408x1, .f32⟩
  | 14 => ⟨S17408x1, .f32⟩
  | 15 => ⟨S17408x1, .f32⟩
  | 16 => ⟨S17408x256, .f32⟩
  | 17 => ⟨S17408x256, .f32⟩
  | 18 => ⟨S1x256, .f32⟩
  | 19 => ⟨S17408x256, .f32⟩
  | 20 => ⟨S17408x256, .f32⟩
  | 21 => ⟨S1x256, .f32⟩
  | 22 => ⟨S17408x256, .f32⟩
  | 23 => ⟨S17408x256, .f32⟩
  | 24 => ⟨S_, .f32⟩
  | 25 => ⟨S17408x8x64, .f32⟩
  | 26 => ⟨S_, .f32⟩
  | 27 => ⟨S17408x8x96, .f32⟩
  | 28 => ⟨S17408x8x256, .f32⟩
  | 29 => ⟨S17408x2048, .f32⟩
  | 30 => ⟨S_, .f32⟩
  | 31 => ⟨S17408x96, .f32⟩
  | 32 => ⟨S17408x128, .f32⟩
  | 33 => ⟨S17408x2048, .bf16⟩
  | 34 => ⟨S17408x128, .bf16⟩
  | 35 => ⟨S17408x3072, .f32⟩
  | 36 => ⟨S17408x3072, .f32⟩
  | 37 => ⟨S_, .f32⟩
  | 38 => ⟨S17408x3072, .f32⟩
  | 39 => ⟨S17408x3072, .f32⟩
  | 40 => ⟨S_, .f32⟩
  | 41 => ⟨S17408x3072, .f32⟩
  | 42 => ⟨S17408x3072, .f32⟩
  | 43 => ⟨S17408x3072, .bf16⟩
  | 44 => ⟨S68x256x256, .f32⟩
  | 45 => ⟨S68x256x256, .f32⟩
  | 46 => ⟨S68x256x256, .bf16⟩
  | 47 => ⟨S68x256x256, .f32⟩
  | 48 => ⟨S68x256x256, .f32⟩
  | 49 => ⟨S68x256x256, .bf16⟩
  | _ => ⟨S17408x1024, .f32⟩

abbrev hbmTy (i : Nat) : BufTy := match i / 128 with
  | 0 => hbmTy0_0 i
  | 1 => hbmTy0_1 i
  | 2 => hbmTy0_2 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_11 : Ref sig .tc := ⟨.hbm, 108, rfl⟩
abbrev main_v85 : Ref sig .tc := ⟨.hbm, 109, rfl⟩
abbrev main_v86 : Ref sig .tc := ⟨.hbm, 110, rfl⟩
abbrev main_cst_12 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_14 : Ref sig .tc := ⟨.hbm, 125, rfl⟩
abbrev main_v99 : Ref sig .tc := ⟨.hbm, 126, rfl⟩
abbrev main_v100 : Ref sig .tc := ⟨.hbm, 127, rfl⟩
abbrev main_cst_15 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_16 : Ref sig .tc := ⟨.hbm, 132, rfl⟩
abbrev main_v104 : Ref sig .tc := ⟨.hbm, 133, rfl⟩
abbrev main_v105 : Ref sig .tc := ⟨.hbm, 134, rfl⟩
abbrev main_cst_17 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_18 : Ref sig .tc := ⟨.hbm, 159, rfl⟩
abbrev main_v129 : Ref sig .tc := ⟨.hbm, 160, rfl⟩
abbrev main_v130 : Ref sig .tc := ⟨.hbm, 161, rfl⟩
abbrev main_cst_19 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_20 : Ref sig .tc := ⟨.hbm, 166, rfl⟩
abbrev main_v134 : Ref sig .tc := ⟨.hbm, 167, rfl⟩
abbrev main_v135 : Ref sig .tc := ⟨.hbm, 168, rfl⟩
abbrev main_cst_21 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_22 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_cst_23 : Ref sig .tc := ⟨.hbm, 200, rfl⟩
abbrev main_v165 : Ref sig .tc := ⟨.hbm, 201, rfl⟩
abbrev main_v166 : Ref sig .tc := ⟨.hbm, 202, rfl⟩
abbrev main_cst_24 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_cst_25 : Ref sig .tc := ⟨.hbm, 207, rfl⟩
abbrev main_v170 : Ref sig .tc := ⟨.hbm, 208, rfl⟩
abbrev main_v171 : Ref sig .tc := ⟨.hbm, 209, rfl⟩
abbrev main_cst_26 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_cst_27 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_cst_28 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_cst_29 : Ref sig .tc := ⟨.hbm, 246, rfl⟩
abbrev main_v205 : Ref sig .tc := ⟨.hbm, 247, rfl⟩
abbrev main_v206 : Ref sig .tc := ⟨.hbm, 248, rfl⟩
abbrev main_cst_30 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_cst_31 : Ref sig .tc := ⟨.hbm, 253, rfl⟩
abbrev main_v210 : Ref sig .tc := ⟨.hbm, 254, rfl⟩
abbrev main_v211 : Ref sig .tc := ⟨.hbm, 255, rfl⟩
abbrev main_cst_32 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_cst_33 : Ref sig .tc := ⟨.hbm, 262, rfl⟩
abbrev main_v217 : Ref sig .tc := ⟨.hbm, 263, rfl⟩
abbrev main_v218 : Ref sig .tc := ⟨.hbm, 264, rfl⟩
abbrev main_cst_34 : Ref sig .tc := ⟨.hbm, 265, rfl⟩
abbrev main_v219 : Ref sig .tc := ⟨.hbm, 266, rfl⟩
abbrev main_v220 : Ref sig .tc := ⟨.hbm, 267, rfl⟩
abbrev main_cst_35 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_cst_36 : Ref sig .tc := ⟨.hbm, 280, rfl⟩
abbrev main_v232 : Ref sig .tc := ⟨.hbm, 281, rfl⟩
abbrev main_cst_37 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_cst_38 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_cst_39 : Ref sig .tc := ⟨.hbm, 293, rfl⟩
abbrev main_v242 : Ref sig .tc := ⟨.hbm, 294, rfl⟩
abbrev main_v243 : Ref sig .tc := ⟨.hbm, 295, rfl⟩
abbrev main_cst_40 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩

abbrev nD : Nat := 1
abbrev τ : Topo := Topo.v7x

variable {F : FTy → Type} [FloatOps F]
-- ==== Proof.MlaFinite.lean ====
module

public import proofs.«01_k».proof.Proof.Gen.Pre_finite
public import Idealize.ShloMosaic.Lib.ReduceAll
public import Idealize.ShloMosaic.Lib.Pointwise
public import Idealize.ShloMosaic.PureOps.Ideal.Laws

/-!
The precondition read back: every element of every argument is a real.
-/

@[expose] public section

set_option maxRecDepth 16384

noncomputable section

open Idealize.ShloMosaic Idealize.ShloMosaic.Tactic

namespace Cert.Pre_finite.Read

open Cert.Pre_finite Cert.Pre_finite.Gen

/-- An extended real whose magnitude compares below infinity is a real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    x = (x.toReal : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  rw [max_lt_iff] at hlt
  refine (EReal.coe_toReal hlt.1.ne ?_).symm
  rintro rfl
  simp at hlt

/-- The precondition, argument by argument and element by element. -/
theorem reals (a0 : FVec Ideal S17408x8x64 .f32) (a1 : FVec Ideal S17408x8x32 .f32) (a2 : FVec Ideal S17408x256 .f32) (a3 : FVec Ideal S17408x32 .f32)
    (a4 : FVec Ideal S256x1024 .f32) (h : fn (F := Ideal) a0 a1 a2 a3 a4 = fun _ => 1#1) :
    (∀ i, a0 i = ((a0 i).toReal : EReal)) ∧ (∀ i, a1 i = ((a1 i).toReal : EReal)) ∧ (∀ i, a2 i = ((a2 i).toReal : EReal))
      ∧ (∀ i, a3 i = ((a3 i).toReal : EReal)) ∧ (∀ i, a4 i = ((a4 i).toReal : EReal)) := by
  haveI : Subsingleton S_.Idx := ⟨fun a b => funext fun k => k.elim0⟩
  have h0 := congrFun h (fun k => k.elim0)
  dsimp only [fn, fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i)⟩

end Cert.Pre_finite.Read

end
-- ==== Proof.MlaLoop.lean ====
module

public import proofs.«01_k».proof.Proof.Gen.KernelIdeal.Value
public import Idealize.ShloMosaic.Lib.Pipeline.ValueKit
public import Idealize.ShloMosaic.Lib.Pointwise
public import Idealize.ShloMosaic.Lib.VecWindow

/-!
The body of the attention kernel as a recursion over key tiles: what the counted loop holds after `n` tiles, by
induction, and what one grid point leaves in its block of the result.
-/

@[expose] public section

set_option maxRecDepth 16384

noncomputable section

open Idealize.ShloMosaic Idealize.ShloMosaic.TcCoe Idealize.ShloMosaic.Tactic Idealize.SL.Sem

namespace Cert.KernelIdeal.Mla

open Cert.KernelIdeal Cert.KernelIdeal.Gen

variable {F : FTy → Type} [FloatOps F] [Named F]

/-- The loop over the tiles left of the diagonal makes as many trips as the query tile's number. -/
theorem trips1 : ∀ i : grid0.Coords, (k0_t1_loop i).trips = (i 1).val := by decide +kernel
/-- The remainder loop makes no trip. -/
theorem trips2 : ∀ i : grid0.Coords, (k0_t2_loop i).trips = 0 := by decide +kernel

/-- Both offsets of a whole two-axis block are zero. -/
theorem hz2 : (![0, 0] : Fin 2 → Nat) = fun _ => 0 := funext fun a => by fin_cases a <;> rfl

/-- Any property of (maximum, denominator, accumulator) that one tile's step keeps holds after every number of trips. -/
theorem loop_inv (c : Dev nD) (i : grid0.Coords) (arg2 : Memref sig .tc .vmem S256x2048 .bf16) (harg2 : arg2.IsWhole) (arg3 : Memref sig .tc .vmem S4096x256 .f32) (harg3 : arg3.IsWhole) (arg4 : Memref sig .tc .vmem S4096x128 .bf16) (harg4 : arg4.IsWhole) (arg5 : Memref sig .tc .vmem S16x256x256 .bf16) (harg5 : arg5.IsWhole) (arg6 : Memref sig .tc .vmem S8x128x256 .bf16) (harg6 : arg6.IsWhole) (arg7 : Memref sig .tc .vmem S8x256x128 .bf16) (harg7 : arg7.IsWhole) (arg8 : Memref sig .tc .vmem S256x1024 .bf16) (harg8 : arg8.IsWhole)
    (arg9 : Memref sig .tc .vmem S256x2048 .f32) (harg9 : arg9.IsWhole)
    (arg1 : BitVec 32) (v58 : FVec F S2048x384 .bf16) (v98 : FVec F S1x2048 .f32) (v107 : FVec F S1x2048 .f32) (v116 : FVec F S256x2048 .f32) (v117 : Vec F S256x2048 .f32)
    (x1 : Vec F S4096x256 .f32) (x2 : Vec F S4096x128 .bf16) (x3 : Vec F S16x256x256 .bf16)
    (L0 : List (View.Piece (Elt F) S256x2048 .f32)) (init : FVec F S1x2048 .f32 × FVec F S1x2048 .f32)
    (P : ℕ → FVec F S1x2048 .f32 → FVec F S1x2048 .f32 → Vec F S256x2048 .f32 → Prop)
    (h0 : P 0 init.1 init.2 (arg9.view.read (Elt F) (arg9.view.writes (Elt F) arg9.view.junk L0)))
    (hs : ∀ (k : Fin (k0_t1_loop i).trips) (m l : FVec F S1x2048 .f32) (a : Vec F S256x2048 .f32) (i4) (i5) (i6), P k.val m l a →
      P (k.val + 1)
        (k0_pay22 v58 m (View.ld x1 (Rect.unit (k0_off4 i k) ![256, 256] i4)) (View.ld x2 (Rect.unit (k0_off5 i k) ![256, 128] i5)))
        (k0_pay25 v58 m l (View.ld x1 (Rect.unit (k0_off4 i k) ![256, 256] i4)) (View.ld x2 (Rect.unit (k0_off5 i k) ![256, 128] i5)))
        (k0_pay26 v58 m (View.ld x1 (Rect.unit (k0_off4 i k) ![256, 256] i4)) (View.ld x2 (Rect.unit (k0_off5 i k) ![256, 128] i5)) a
          (View.ld x3 (Rect.unit (k0_off6 i k) ![1, 256, 256] i6)))) :
    ∀ n, n ≤ (k0_t1_loop i).trips →
      P n (st_k0_t1 Variants.none c none i arg2 harg2 arg3 harg3 arg4 harg4 arg5 harg5 arg6 harg6 arg7 harg7 arg8 harg8 arg9 harg9 arg1 v58 v98 v107 v116 v117 (harg3.unread x1) (harg4.unread x2) (harg5.unread x3) (arg9.view.writes (Elt F) arg9.view.junk L0) init n).1.1
        (st_k0_t1 Variants.none c none i arg2 harg2 arg3 harg3 arg4 harg4 arg5 harg5 arg6 harg6 arg7 harg7 arg8 harg8 arg9 harg9 arg1 v58 v98 v107 v116 v117 (harg3.unread x1) (harg4.unread x2) (harg5.unread x3) (arg9.view.writes (Elt F) arg9.view.junk L0) init n).1.2
        (arg9.view.read (Elt F) (arg9.view.writes (Elt F) arg9.view.junk
          ((st_k0_t1 Variants.none c none i arg2 harg2 arg3 harg3 arg4 harg4 arg5 harg5 arg6 harg6 arg7 harg7 arg8 harg8 arg9 harg9 arg1 v58 v98 v107 v116 v117 (harg3.unread x1) (harg4.unread x2) (harg5.unread x3) (arg9.view.writes (Elt F) arg9.view.junk L0) init n).2 ++ L0))) := by
  intro n
  induction n with
  | zero => intro _; exact h0
  | succ n ih =>
    intro hn
    have ih' := ih (by omega)
    have e := st_k0_t1_succ Variants.none c none i arg2 harg2 arg3 harg3 arg4 harg4 arg5 harg5 arg6 harg6 arg7 harg7 arg8 harg8 arg9 harg9 arg1 v58 v98 v107 v116 v117 (harg3.unread x1) (harg4.unread x2) (harg5.unread x3) (arg9.view.writes (Elt F) arg9.view.junk L0) init ⟨n, hn⟩
    simp only at e
    rw [e]
    generalize st_k0_t1 Variants.none c none i arg2 harg2 arg3 harg3 arg4 harg4 arg5 harg5 arg6 harg6 arg7 harg7 arg8 harg8 arg9 harg9 arg1 v58 v98 v107 v116 v117 (harg3.unread x1) (harg4.unread x2) (harg5.unread x3) (arg9.view.writes (Elt F) arg9.view.junk L0) init n = s at ih' ⊢
    obtain ⟨⟨m, l⟩, L⟩ := s
    unfold tripR_k0_t1 tripL_k0_t1 trip_k0_t1
    dsimp only
    simp only [View.readAt_eq_ld, harg3.read_unread, harg4.read_unread, harg5.read_unread, List.cons_append, List.nil_append, ← View.writes_append]
    rw [View.ld_unit_zero (S := S256x2048) hz2]
    have hw := fun w => View.read_writes_full arg9.view arg9.view.junk (off := ![0, 0]) inb_S256x2048_S256x2048_0_0 w (L ++ L0)
    exact (congrArg (P (n + 1) _ _) (hw _)).mpr (hs ⟨n, hn⟩ m l _ _ _ _ ih')

/-- The stacked queries of the eight heads: one row per head and query, the latent part first, the rotary part after. -/
def stack (x0 : Vec F S256x2048 .bf16) (x4 : Vec F S8x128x256 .bf16) : FVec F S2048x384 .bf16 :=
  k0_pay9 (k0_pay2 x0) (k0_pay3 x0 (View.ld x4 (Rect.unit ![0, 0, 0] ![1, 128, 256] inb_S8x128x256_S1x128x256_0_0_0)))
    (k0_pay4 x0 (View.ld x4 (Rect.unit ![1, 0, 0] ![1, 128, 256] inb_S8x128x256_S1x128x256_1_0_0)))
    (k0_pay5 x0 (View.ld x4 (Rect.unit ![2, 0, 0] ![1, 128, 256] inb_S8x128x256_S1x128x256_2_0_0)))
    (k0_pay6 x0 (View.ld x4 (Rect.unit ![3, 0, 0] ![1, 128, 256] inb_S8x128x256_S1x128x256_3_0_0)))
    (k0_pay7 x0 (View.ld x4 (Rect.unit ![4, 0, 0] ![1, 128, 256] inb_S8x128x256_S1x128x256_4_0_0))) (k0_pay8 x0)
    (View.ld x4 (Rect.unit ![5, 0, 0] ![1, 128, 256] inb_S8x128x256_S1x128x256_5_0_0))
    (View.ld x4 (Rect.unit ![6, 0, 0] ![1, 128, 256] inb_S8x128x256_S1x128x256_6_0_0))
    (View.ld x4 (Rect.unit ![7, 0, 0] ![1, 128, 256] inb_S8x128x256_S1x128x256_7_0_0))

/-- The eight stores of one grid point into its block of the result, one per head, last first. -/
def stores (l : FVec F S1x2048 .f32) (a : Vec F S256x2048 .f32) (x5 : Vec F S8x256x128 .bf16) : List (View.Piece (Elt F) S256x1024 .bf16) :=
  [⟨Rect.unit ![0, 896] ![256, 128] inb_S256x1024_S256x128_0_896, k0_pay1 (k0_pay33 l a) (View.ld x5 (Rect.unit ![7, 0, 0] ![1, 256, 128] inb_S8x256x128_S1x256x128_7_0_0))⟩,
    ⟨Rect.unit ![0, 768] ![256, 128] inb_S256x1024_S256x128_0_768, k0_pay40 (k0_pay33 l a) (View.ld x5 (Rect.unit ![6, 0, 0] ![1, 256, 128] inb_S8x256x128_S1x256x128_6_0_0))⟩,
    ⟨Rect.unit ![0, 640] ![256, 128] inb_S256x1024_S256x128_0_640, k0_pay39 (k0_pay33 l a) (View.ld x5 (Rect.unit ![5, 0, 0] ![1, 256, 128] inb_S8x256x128_S1x256x128_5_0_0))⟩,
    ⟨Rect.unit ![0, 512] ![256, 128] inb_S256x1024_S256x128_0_512, k0_pay38 (k0_pay33 l a) (View.ld x5 (Rect.unit ![4, 0, 0] ![1, 256, 128] inb_S8x256x128_S1x256x128_4_0_0))⟩,
    ⟨Rect.unit ![0, 384] ![256, 128] inb_S256x1024_S256x128_0_384, k0_pay37 (k0_pay33 l a) (View.ld x5 (Rect.unit ![3, 0, 0] ![1, 256, 128] inb_S8x256x128_S1x256x128_3_0_0))⟩,
    ⟨Rect.unit ![0, 256] ![256, 128] inb_S256x1024_S256x128_0_256, k0_pay36 l a (View.ld x5 (Rect.unit ![2, 0, 0] ![1, 256, 128] inb_S8x256x128_S1x256x128_2_0_0))⟩,
    ⟨Rect.unit ![0, 128] ![256, 128] inb_S256x1024_S256x128_0_128, k0_pay35 l a (View.ld x5 (Rect.unit ![1, 0, 0] ![1, 256, 128] inb_S8x256x128_S1x256x128_1_0_0))⟩,
    ⟨Rect.unit ![0, 0] ![256, 128] inb_S256x1024_S256x128_0_0, k0_pay34 l a (View.ld x5 (Rect.unit ![0, 0, 0] ![1, 256, 128] inb_S8x256x128_S1x256x128_0_0_0))⟩]

/-- What one grid point leaves in its block: the eight stores, made of a denominator and an accumulator that have
    every property the diagonal tile establishes and the tiles left of it keep. -/
theorem out_inv (c : Dev nD) (i : grid0.Coords) (arg2 : Memref sig .tc .vmem S256x2048 .bf16) (harg2 : arg2.IsWhole) (arg3 : Memref sig .tc .vmem S4096x256 .f32) (harg3 : arg3.IsWhole) (arg4 : Memref sig .tc .vmem S4096x128 .bf16) (harg4 : arg4.IsWhole) (arg5 : Memref sig .tc .vmem S16x256x256 .bf16) (harg5 : arg5.IsWhole) (arg6 : Memref sig .tc .vmem S8x128x256 .bf16) (harg6 : arg6.IsWhole) (arg7 : Memref sig .tc .vmem S8x256x128 .bf16) (harg7 : arg7.IsWhole) (arg8 : Memref sig .tc .vmem S256x1024 .bf16) (harg8 : arg8.IsWhole)
    (arg9 : Memref sig .tc .vmem S256x2048 .f32) (harg9 : arg9.IsWhole)
    (x0 : Vec F S256x2048 .bf16) (x1 : Vec F S4096x256 .f32) (x2 : Vec F S4096x128 .bf16) (x3 : Vec F S16x256x256 .bf16) (x4 : Vec F S8x128x256 .bf16) (x5 : Vec F S8x256x128 .bf16)
    (P : ℕ → FVec F S1x2048 .f32 → FVec F S1x2048 .f32 → Vec F S256x2048 .f32 → Prop)
    (h0 : ∀ (i1) (i2) (i3), P 0
      (k0_pay15 (stack x0 x4) k0_pay11 (k0_pay13 (View.ld x1 (Rect.unit (k0_off1 i) ![256, 256] i1)) (View.ld x2 (Rect.unit (k0_off2 i) ![256, 128] i2))) (constant S256x2048 .f32 0#32))
      (k0_pay18 (stack x0 x4) k0_pay11 k0_pay12 (k0_pay13 (View.ld x1 (Rect.unit (k0_off1 i) ![256, 256] i1)) (View.ld x2 (Rect.unit (k0_off2 i) ![256, 128] i2))) (constant S256x2048 .f32 0#32))
      (k0_pay20 (k0_pay19 (stack x0 x4) k0_pay11 (k0_pay13 (View.ld x1 (Rect.unit (k0_off1 i) ![256, 256] i1)) (View.ld x2 (Rect.unit (k0_off2 i) ![256, 128] i2))) (constant S256x2048 .f32 0#32) k0_pay10
        (View.ld x3 (Rect.unit (k0_off3 i) ![1, 256, 256] i3)))))
    (hs : ∀ (k : Fin (k0_t1_loop i).trips) (m l : FVec F S1x2048 .f32) (a : Vec F S256x2048 .f32) (i4) (i5) (i6), P k.val m l a →
      P (k.val + 1)
        (k0_pay22 (stack x0 x4) m (View.ld x1 (Rect.unit (k0_off4 i k) ![256, 256] i4)) (View.ld x2 (Rect.unit (k0_off5 i k) ![256, 128] i5)))
        (k0_pay25 (stack x0 x4) m l (View.ld x1 (Rect.unit (k0_off4 i k) ![256, 256] i4)) (View.ld x2 (Rect.unit (k0_off5 i k) ![256, 128] i5)))
        (k0_pay26 (stack x0 x4) m (View.ld x1 (Rect.unit (k0_off4 i k) ![256, 256] i4)) (View.ld x2 (Rect.unit (k0_off5 i k) ![256, 128] i5)) a
          (View.ld x3 (Rect.unit (k0_off6 i k) ![1, 256, 256] i6)))) :
    ∃ m l a, P (i 1).val m l a ∧
      out0_A_6 c i arg2 harg2 arg3 harg3 arg4 harg4 arg5 harg5 arg6 harg6 arg7 harg7 arg8 harg8 arg9 harg9 x0 x1 x2 x3 x4 x5 = View.canon (stores l a x5) := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.v108, kernelRun0_A.sl.v127, kernelRun0_A.sl.HS0_1, kernelRun0_A.sl.HS0_2, kernelRun0_A.sl.cst_32]
  have e1 : Scf.trips (k0_t1_loop i).lb (k0_t1_loop i).ub (k0_t1_loop i).st = (i 1).val := trips1 i
  have e2 : Scf.trips (k0_t2_loop i).lb (k0_t2_loop i).ub (k0_t2_loop i).st = 0 := trips2 i
  simp only [e1, e2, st_k0_t2.eq_1, List.nil_append, View.readCov, View.readAt_eq_ld, harg2.read_unread, harg3.read_unread, harg4.read_unread,
    harg5.read_unread, harg6.read_unread, harg7.read_unread, View.ld_unit_zero (S := S256x2048) hz2]
  have hw := fun w L => View.read_writes_full arg9.view (Val := Elt F) arg9.view.junk (off := ![0, 0]) inb_S256x2048_S256x2048_0_0 w L
  have hz : View.read (Elt F) arg9.view (arg9.view.writes (Elt F) arg9.view.junk
      [⟨Rect.unit ![0, 0] ![256, 2048] inb_S256x2048_S256x2048_0_0, k0_pay10⟩]) = k0_pay10 (F := F) := hw _ _
  simp only [hz]
  refine ⟨?m, ?l, ?a, ?inv, ?eq⟩
  case eq => rfl
  case inv =>
    refine loop_inv c i arg2 harg2 arg3 harg3 arg4 harg4 arg5 harg5 arg6 harg6 arg7 harg7 arg8 harg8 arg9 harg9 (BitVec.ofNat 32 (i 1).val) (stack x0 x4) _ _ _ _ x1 x2 x3 _ _ P ?_ hs (i 1).val (le_of_eq (trips1 i).symm)
    exact (congrArg (P 0 _ _) (hw _ _)).mpr (h0 _ _ _)

end Cert.KernelIdeal.Mla

end
-- ==== Proof.MlaMask.lean ====
module

public import proofs.«01_k».proof.Proof.Gen.KernelIdeal.Value
public import Idealize.ShloMosaic.Lib.Pipeline.ValueKit
public import Idealize.ShloMosaic.Lib.Pointwise

/-!
The diagonal tile's masked scores of the attention kernel, at an index.
-/

@[expose] public section

set_option maxRecDepth 16384

noncomputable section

open Idealize.ShloMosaic Idealize.ShloMosaic.TcCoe Idealize.ShloMosaic.Tactic Idealize.SL.Sem

namespace Cert.KernelIdeal.Mla

open Cert.KernelIdeal Cert.KernelIdeal.Gen

/-- The mask's value is minus infinity. -/
theorem mask_at : Named.named (F := Ideal) κ "mask" (φ := .f32) 4048155338#32 = (⊥ : EReal) := by
  rfl

/-- The query number a lane of the stacked scores belongs to, as the kernel's integer words compute it. -/
theorem lane_word : ∀ n : Fin 2048, (Scalar.select
          (IntOp.andi
            (IntOp.xori
              (IntOp.cmpi CmpIPredicate.slt
                (IntOp.remsi ArithUnit.vector (BitVec.ofNat 32 ↑n)
                  (Scalar.select (Scalar.cmpi CmpIPredicate.eq 256#32 0#32) 1#32 256#32))
                0#32)
              (Scalar.cmpi CmpIPredicate.slt (Scalar.select (Scalar.cmpi CmpIPredicate.eq 256#32 0#32) 1#32 256#32)
                0#32))
            (IntOp.cmpi CmpIPredicate.ne
              (IntOp.remsi ArithUnit.vector (BitVec.ofNat 32 ↑n)
                (Scalar.select (Scalar.cmpi CmpIPredicate.eq 256#32 0#32) 1#32 256#32))
              0#32))
          (IntOp.addi
            (IntOp.remsi ArithUnit.vector (BitVec.ofNat 32 ↑n)
              (Scalar.select (Scalar.cmpi CmpIPredicate.eq 256#32 0#32) 1#32 256#32))
            (Scalar.select (Scalar.cmpi CmpIPredicate.eq 256#32 0#32) 1#32 256#32))
          (IntOp.remsi ArithUnit.vector (BitVec.ofNat 32 ↑n)
            (Scalar.select (Scalar.cmpi CmpIPredicate.eq 256#32 0#32) 1#32 256#32))) = BitVec.ofNat 32 (n.val % 256) := by
  decide +kernel

/-- Choosing by the comparison of two small words is choosing by the comparison of the numbers. -/
theorem le_word (k r : ℕ) (hk : k < 256) (hr : r < 256) (x y : EReal) :
   Scalar.select (IntOp.cmpi CmpIPredicate.sle (BitVec.ofNat 32 k) (BitVec.ofNat 32 r)) x y = if k ≤ r then x else y := by
  have h : ∀ k r : Fin 256, IntOp.cmpi CmpIPredicate.sle (BitVec.ofNat 32 k) (BitVec.ofNat 32 r) = if k.val ≤ r.val then 1#1 else 0#1 := by decide +kernel
  have := h ⟨k, hk⟩ ⟨r, hr⟩
  simp only at this
  rw [this]
  split <;> rfl

/-- The diagonal tile's scores: the key's product with the query, and minus infinity where the key comes after the query. -/
theorem scores_diag (Q : FVec Ideal S2048x384 .bf16) (lat : Vec Ideal S256x256 .f32) (kpe : Vec Ideal S256x128 .bf16) (k : Fin 256) (n : Fin 2048) :
    k0_pay14 Q (k0_pay13 lat kpe) (constant S256x2048 .f32 0#32) (ix2 k n)
      = if k.val ≤ n.val % 256 then (∑ x : Fin 256, lat (ix2 k x) * Q (ix2 n ⟨x, by omega⟩) + ∑ x : Fin 128, kpe (ix2 k x) * Q (ix2 n ⟨256 + x, by omega⟩)) else (⊥ : EReal) := by
  pointwise [k0_pay14, k0_pay13]
  rw [lane_word, mask_at]
  exact le_word _ _ k.isLt (Nat.mod_lt _ (by norm_num)) _ _

end Cert.KernelIdeal.Mla

end
-- ==== Proof.MlaTile.lean ====
module

public import proofs.«01_k».proof.Proof.Gen.KernelIdeal.Value
public import Idealize.ShloMosaic.Lib.Pipeline.ValueKit
public import Idealize.ShloMosaic.Lib.Pointwise
public import proofs.«01_k».proof.Proof.MlaLoop
public import proofs.«01_k».proof.Proof.MlaMask

/-!
The kernel's arithmetic at an index: stacked queries, one tile's step, and the eight stores.
-/

@[expose] public section

set_option maxRecDepth 16384

noncomputable section

open Idealize.ShloMosaic Idealize.ShloMosaic.TcCoe Idealize.ShloMosaic.Tactic Idealize.SL.Sem

namespace Cert.KernelIdeal.Mla

open Cert.KernelIdeal Cert.KernelIdeal.Gen

/-- The word of minus infinity. -/
theorem neg_inf : Ideal.ofBits FTy.f32 4286578688#32 = (⊥ : EReal) := by
  simp [Ideal.ofBits, Ideal.ieee]

/-- Eight tiles of 256 rows above one another: row `n` is row `n % 256` of tile `n / 256`. -/
theorem cat8 (p0 p1 p2 p3 p4 p5 p6 p7 : FVec Ideal S256x384 .bf16) (G : Fin 8 → Fin 256 → Fin 384 → EReal)
    (h0 : ∀ r x, p0 (ix2 r x) = G 0 r x) (h1 : ∀ r x, p1 (ix2 r x) = G 1 r x) (h2 : ∀ r x, p2 (ix2 r x) = G 2 r x) (h3 : ∀ r x, p3 (ix2 r x) = G 3 r x) (h4 : ∀ r x, p4 (ix2 r x) = G 4 r x) (h5 : ∀ r x, p5 (ix2 r x) = G 5 r x) (h6 : ∀ r x, p6 (ix2 r x) = G 6 r x) (h7 : ∀ r x, p7 (ix2 r x) = G 7 r x)
    (n : Fin 2048) (x : Fin 384) :
    concatenate S2048x384 0 [⟨S256x384, p0⟩, ⟨S256x384, p1⟩, ⟨S256x384, p2⟩, ⟨S256x384, p3⟩, ⟨S256x384, p4⟩, ⟨S256x384, p5⟩, ⟨S256x384, p6⟩, ⟨S256x384, p7⟩] concatenates_S256x384_S256x384_S256x384_S256x384_S256x384_S256x384_S256x384_S256x384_S2048x384_d0 (ix2 n x)
      = G ⟨n.val / 256, by omega⟩ ⟨n.val % 256, by omega⟩ x := by
  pointwise []
  simp only [h0, h1, h2, h3, h4, h5, h6, h7]
  have hn := n.isLt
  split_ifs
  all_goals (congr 1 <;> (apply Fin.ext; simp only []; omega))

/-- One row of the stacked queries of a head: the query's latent part, then its rotary part. -/
def headRow (x0 : Vec Ideal S256x2048 .bf16) (x4 : Vec Ideal S8x128x256 .bf16) (h : Fin 8) (r : Fin 256) (x : Fin 384) : EReal :=
  if hx : x.val < 256 then
    ∑ d : Fin 128, x0 (ix2 r ⟨h.val * 256 + d, by omega⟩) * x4 (ix3 h d ⟨x, hx⟩)
  else x0 (ix2 r ⟨h.val * 256 + (x.val - 128), by omega⟩)

/-- The stacked queries at an index. -/
theorem stack_at (x0 : Vec Ideal S256x2048 .bf16) (x4 : Vec Ideal S8x128x256 .bf16) (n : Fin 2048) (x : Fin 384) :
    stack x0 x4 (ix2 n x) = headRow x0 x4 ⟨n.val / 256, by omega⟩ ⟨n.val % 256, by omega⟩ x := by
  unfold stack k0_pay9
  refine cat8 _ _ _ _ _ _ _ _ (headRow x0 x4) ?_ ?_ ?_ ?_ ?_ ?_ ?_ ?_ n x
  · intro r x
    pointwise [k0_pay3, k0_pay2, headRow]
    by_cases hx : x.val < 256
    · simp only [dif_pos hx]
    · simp only [dif_neg hx]
      exact congrArg (fun i => x0 (ix2 r i)) (Fin.ext (by simp only []; omega))
  · intro r x
    pointwise [k0_pay4, k0_pay2, headRow]
    by_cases hx : x.val < 256
    · simp only [dif_pos hx]
    · simp only [dif_neg hx]
      exact congrArg (fun i => x0 (ix2 r i)) (Fin.ext (by simp only []; omega))
  · intro r x
    pointwise [k0_pay5, k0_pay2, headRow]
    by_cases hx : x.val < 256
    · simp only [dif_pos hx]
    · simp only [dif_neg hx]
      exact congrArg (fun i => x0 (ix2 r i)) (Fin.ext (by simp only []; omega))
  · intro r x
    pointwise [k0_pay6, k0_pay2, headRow]
    by_cases hx : x.val < 256
    · simp only [dif_pos hx]
    · simp only [dif_neg hx]
      exact congrArg (fun i => x0 (ix2 r i)) (Fin.ext (by simp only []; omega))
  · intro r x
    pointwise [k0_pay7, k0_pay8, k0_pay2, headRow]
    by_cases hx : x.val < 256
    · simp only [dif_pos hx]
    · simp only [dif_neg hx]
      exact congrArg (fun i => x0 (ix2 r i)) (Fin.ext (by simp only []; omega))
  · intro r x
    pointwise [k0_pay2, headRow]
    by_cases hx : x.val < 256
    · simp only [dif_pos hx]
    · simp only [dif_neg hx]
      exact congrArg (fun i => x0 (ix2 r i)) (Fin.ext (by simp only []; omega))
  · intro r x
    pointwise [k0_pay2, headRow]
    by_cases hx : x.val < 256
    · simp only [dif_pos hx]
    · simp only [dif_neg hx]
      exact congrArg (fun i => x0 (ix2 r i)) (Fin.ext (by simp only []; omega))
  · intro r x
    pointwise [k0_pay2, headRow]
    by_cases hx : x.val < 256
    · simp only [dif_pos hx]
    · simp only [dif_neg hx]
      exact congrArg (fun i => x0 (ix2 r i)) (Fin.ext (by simp only []; omega))

/-- One element of what the eight stores leave: the row's quotients of its head times that head's value weights. -/
theorem stores_at (l : FVec Ideal S1x2048 .f32) (a : Vec Ideal S256x2048 .f32) (x5 : Vec Ideal S8x256x128 .bf16) (y : S256x1024.Idx)
    (h : Fin 8) (r : Fin 256) (e : Fin 128) (n : Fin 2048) (hr : (y 0 : ℕ) = r) (he : (y 1 : ℕ) = h.val * 128 + e) (hn : n.val = h.val * 256 + r) :
    View.canon (stores l a x5) y
      = (∑ d : Fin 256, Ideal.div (a (ix2 d n)) (l (ix2 0 n)) * x5 (ix3 h d e) : EReal) := by
  unfold stores
  canon_tiles x hh
  all_goals (
    obtain ⟨h, hh⟩ := h
    obtain ⟨r, hrr⟩ := r
    obtain ⟨e, hee⟩ := e
    obtain ⟨n, hnn⟩ := n
    simp only at hr he hn)
  case piece0 =>
    obtain rfl : h = 7 := by omega
    rw [show (⟨n, hnn⟩ : Fin 2048) = ⟨1792 + (x 0).val, by omega⟩ from Fin.ext (by simp only []; omega),
      show (⟨e, hee⟩ : Fin 128) = x 1 from Fin.ext (by simp only []; omega)]
    pointwise [k0_pay1, k0_pay33]
  case piece1 =>
    obtain rfl : h = 6 := by omega
    rw [show (⟨n, hnn⟩ : Fin 2048) = ⟨1536 + (x 0).val, by omega⟩ from Fin.ext (by simp only []; omega),
      show (⟨e, hee⟩ : Fin 128) = x 1 from Fin.ext (by simp only []; omega)]
    pointwise [k0_pay40, k0_pay33]
  case piece2 =>
    obtain rfl : h = 5 := by omega
    rw [show (⟨n, hnn⟩ : Fin 2048) = ⟨1280 + (x 0).val, by omega⟩ from Fin.ext (by simp only []; omega),
      show (⟨e, hee⟩ : Fin 128) = x 1 from Fin.ext (by simp only []; omega)]
    pointwise [k0_pay39, k0_pay33]
  case piece3 =>
    obtain rfl : h = 4 := by omega
    rw [show (⟨n, hnn⟩ : Fin 2048) = ⟨1024 + (x 0).val, by omega⟩ from Fin.ext (by simp only []; omega),
      show (⟨e, hee⟩ : Fin 128) = x 1 from Fin.ext (by simp only []; omega)]
    pointwise [k0_pay38, k0_pay33]
  case piece4 =>
    obtain rfl : h = 3 := by omega
    rw [show (⟨n, hnn⟩ : Fin 2048) = ⟨768 + (x 0).val, by omega⟩ from Fin.ext (by simp only []; omega),
      show (⟨e, hee⟩ : Fin 128) = x 1 from Fin.ext (by simp only []; omega)]
    pointwise [k0_pay37, k0_pay33]
  case piece5 =>
    obtain rfl : h = 2 := by omega
    rw [show (⟨n, hnn⟩ : Fin 2048) = ⟨512 + (x 0).val, by omega⟩ from Fin.ext (by simp only []; omega),
      show (⟨e, hee⟩ : Fin 128) = x 1 from Fin.ext (by simp only []; omega)]
    pointwise [k0_pay36, k0_pay33]
  case piece6 =>
    obtain rfl : h = 1 := by omega
    rw [show (⟨n, hnn⟩ : Fin 2048) = ⟨256 + (x 0).val, by omega⟩ from Fin.ext (by simp only []; omega),
      show (⟨e, hee⟩ : Fin 128) = x 1 from Fin.ext (by simp only []; omega)]
    pointwise [k0_pay35, k0_pay33]
  case piece7 =>
    obtain rfl : h = 0 := by omega
    rw [show (⟨n, hnn⟩ : Fin 2048) = ⟨(x 0).val, by omega⟩ from Fin.ext (by simp only []; omega),
      show (⟨e, hee⟩ : Fin 128) = x 1 from Fin.ext (by simp only []; omega)]
    pointwise [k0_pay34, k0_pay33]

section
variable (Q : FVec Ideal S2048x384 .bf16) (m l : FVec Ideal S1x2048 .f32) (a : Vec Ideal S256x2048 .f32)
  (lat : Vec Ideal S256x256 .f32) (kpe : Vec Ideal S256x128 .bf16) (w : Vec Ideal S1x256x256 .bf16) (n : Fin 2048)

/-- A tile's scores left of the diagonal: the latent part's product and the rotary part's. -/
theorem scores_at (k : Fin 256) : k0_pay21 Q lat kpe (ix2 k n)
      = (∑ x : Fin 256, lat (ix2 k x) * Q (ix2 n ⟨x, by omega⟩) + ∑ x : Fin 128, kpe (ix2 k x) * Q (ix2 n ⟨256 + x, by omega⟩) : EReal) := by
  pointwise [k0_pay21]

/-- The new maximum of a tile left of the diagonal. -/
theorem next_m : k0_pay22 Q m lat kpe (ix2 0 n)
    = max (m (ix2 0 n)) (Finset.fold max ⊥ (fun k : Fin 256 => k0_pay21 Q lat kpe (ix2 k n)) Finset.univ) := by
  pointwise [k0_pay22]
  rw [neg_inf]

/-- The new denominator of a tile left of the diagonal. -/
theorem next_l : k0_pay25 Q m l lat kpe (ix2 0 n)
    = Ideal.exp (m (ix2 0 n) - k0_pay22 Q m lat kpe (ix2 0 n)) * l (ix2 0 n)
      + ∑ k : Fin 256, Ideal.exp (k0_pay21 Q lat kpe (ix2 k n) - k0_pay22 Q m lat kpe (ix2 0 n)) := by
  pointwise [k0_pay25, k0_pay23, k0_pay24]

/-- The new accumulator of a tile left of the diagonal. -/
theorem next_a (d : Fin 256) : k0_pay26 Q m lat kpe a w (ix2 d n)
    = Ideal.exp (m (ix2 0 n) - k0_pay22 Q m lat kpe (ix2 0 n)) * a (ix2 d n)
      + ∑ k : Fin 256, w (ix3 0 d k) * Ideal.exp (k0_pay21 Q lat kpe (ix2 k n) - k0_pay22 Q m lat kpe (ix2 0 n)) := by
  pointwise [k0_pay26, k0_pay23, k0_pay24]

/-- The first maximum, of the diagonal tile. -/
theorem first_m (K : FVec Ideal S256x384 .bf16) (z : FVec Ideal S256x2048 .f32) : k0_pay15 Q k0_pay11 K z (ix2 0 n)
    = max ⊥ (Finset.fold max ⊥ (fun k : Fin 256 => k0_pay14 Q K z (ix2 k n)) Finset.univ) := by
  pointwise [k0_pay15, k0_pay11]
  rw [neg_inf, mask_at]

/-- The first denominator, of the diagonal tile. -/
theorem first_l (K : FVec Ideal S256x384 .bf16) (z : FVec Ideal S256x2048 .f32) : k0_pay18 Q k0_pay11 k0_pay12 K z (ix2 0 n)
    = Ideal.exp (⊥ - k0_pay15 Q k0_pay11 K z (ix2 0 n)) * 0
      + ∑ k : Fin 256, Ideal.exp (k0_pay14 Q K z (ix2 k n) - k0_pay15 Q k0_pay11 K z (ix2 0 n)) := by
  pointwise [k0_pay18, k0_pay16, k0_pay17, k0_pay11, k0_pay12]
  simp only [mask_at]

/-- The first accumulator, of the diagonal tile. -/
theorem first_a (K : FVec Ideal S256x384 .bf16) (z : FVec Ideal S256x2048 .f32) (d : Fin 256) :
    k0_pay20 (k0_pay19 Q k0_pay11 K z (k0_pay10 (F := Ideal)) w) (ix2 d n)
    = Ideal.exp (⊥ - k0_pay15 Q k0_pay11 K z (ix2 0 n)) * 0
      + ∑ k : Fin 256, w (ix3 0 d k) * Ideal.exp (k0_pay14 Q K z (ix2 k n) - k0_pay15 Q k0_pay11 K z (ix2 0 n)) := by
  pointwise [k0_pay20, k0_pay19, k0_pay16, k0_pay17, k0_pay11, k0_pay10]
  simp only [mask_at]

end

end Cert.KernelIdeal.Mla

end
-- ==== Proof.MlaColumn.lean ====
module

public import Idealize.ShloMosaic.Lib.Pointwise
public import Mathlib.Algebra.BigOperators.Group.Finset.Basic

/-!
The softmax kept over tiles, for one query: a running maximum, a running denominator and a running accumulator, all
scaled by the exponential of the maximum.  Scores are reals, or minus infinity where the mask drops the key.
-/

@[expose] public section

noncomputable section

open Idealize.ShloMosaic

namespace Cert.MlaColumn

/-- A finite sum of reals is the same sum among the extended reals. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The maximum of a start that is not `⊤` and of masked real scores is a real, once one of them is. -/
theorem max_real {N : ℕ} (p : Fin N → Prop) [DecidablePred p] (s : Fin N → ℝ) (m : EReal) (hm : m ≠ ⊤)
    (hne : m ≠ ⊥ ∨ ∃ k, p k) :
    ∃ M : ℝ, max m (Finset.fold max ⊥ (fun k => if p k then (s k : EReal) else ⊥) Finset.univ) = (M : EReal) := by
  have htop : max m (Finset.fold max ⊥ (fun k => if p k then (s k : EReal) else ⊥) Finset.univ) < ⊤ := by
    rw [max_lt_iff, Finset.fold_max_lt]
    refine ⟨lt_of_le_of_ne le_top hm, bot_lt_top, fun k _ => ?_⟩
    split
    · exact EReal.coe_lt_top _
    · exact bot_lt_top
  have hbot : ⊥ < max m (Finset.fold max ⊥ (fun k => if p k then (s k : EReal) else ⊥) Finset.univ) := by
    rw [lt_max_iff, Finset.lt_fold_max]
    rcases hne with h | ⟨k, hk⟩
    · exact Or.inl (bot_lt_iff_ne_bot.2 h)
    · refine Or.inr (Or.inr ⟨k, Finset.mem_univ _, ?_⟩)
      rw [if_pos hk]
      exact EReal.bot_lt_coe _
  exact ⟨_, (EReal.coe_toReal htop.ne hbot.ne').symm⟩

/-- The exponential of a masked score under a real shift: the shift's exponential times the score's, or zero. -/
theorem exp_masked {p : Prop} [Decidable p] (s M : ℝ) :
    Ideal.exp ((if p then (s : EReal) else ⊥) - (M : EReal)) = ((Real.exp (-M) * (if p then Real.exp s else 0) : ℝ) : EReal) := by
  split
  · rw [← EReal.coe_sub, Ideal.exp_coe, ← Real.exp_add]
    congr 2
    ring
  · rw [EReal.bot_sub, Ideal.exp_bot, mul_zero, EReal.coe_zero]

/-- What is held for one query after some keys: `L` is the sum of the kept keys' exponentials and `A d` the sum of their
    weighted values; the three held numbers are a real `M` and these two scaled by `exp (-M)`. -/
def Held {D : ℕ} (L : ℝ) (A : Fin D → ℝ) (m l : EReal) (a : Fin D → EReal) : Prop :=
  ∃ M : ℝ, m = (M : EReal) ∧ l = ((Real.exp (-M) * L : ℝ) : EReal) ∧ ∀ d, a d = ((Real.exp (-M) * A d : ℝ) : EReal)

/-- The first tile: from nothing held. -/
theorem held_first {N D : ℕ} (p : Fin N → Prop) [DecidablePred p] (hp : ∃ k, p k) (s : Fin N → ℝ) (v : Fin D → Fin N → ℝ)
    (σ : Fin N → EReal) (hσ : ∀ k, σ k = if p k then (s k : EReal) else ⊥) (m' : EReal) (hm' : m' = max ⊥ (Finset.fold max ⊥ σ Finset.univ)) :
    Held (∑ k, if p k then Real.exp (s k) else 0) (fun d => ∑ k, v d k * (if p k then Real.exp (s k) else 0))
      m' (Ideal.exp (⊥ - m') * 0 + ∑ k, Ideal.exp (σ k - m'))
      (fun d => Ideal.exp (⊥ - m') * 0 + ∑ k, (v d k : EReal) * Ideal.exp (σ k - m')) := by
  obtain rfl : σ = fun k => if p k then (s k : EReal) else ⊥ := funext hσ
  obtain ⟨M, hM⟩ := max_real p s ⊥ bot_ne_top (Or.inr hp)
  rw [hM] at hm'
  subst hm'
  refine ⟨M, rfl, ?_, fun d => ?_⟩
  · simp only [mul_zero, zero_add, exp_masked]
    rw [← coe_sum, Finset.mul_sum]
  · simp only [mul_zero, zero_add, exp_masked, ← EReal.coe_mul]
    rw [← coe_sum, Finset.mul_sum]
    congr 1
    exact Finset.sum_congr rfl fun k _ => by ring

/-- A further tile: what is held after it. -/
theorem held_next {N D : ℕ} (p : Fin N → Prop) [DecidablePred p] (s : Fin N → ℝ) (v : Fin D → Fin N → ℝ)
    (σ : Fin N → EReal) (hσ : ∀ k, σ k = if p k then (s k : EReal) else ⊥) (L : ℝ) (A : Fin D → ℝ) (m l : EReal) (a : Fin D → EReal)
    (h : Held L A m l a) (m' : EReal) (hm' : m' = max m (Finset.fold max ⊥ σ Finset.univ)) :
    Held (L + ∑ k, if p k then Real.exp (s k) else 0) (fun d => A d + ∑ k, v d k * (if p k then Real.exp (s k) else 0))
      m' (Ideal.exp (m - m') * l + ∑ k, Ideal.exp (σ k - m'))
      (fun d => Ideal.exp (m - m') * a d + ∑ k, (v d k : EReal) * Ideal.exp (σ k - m')) := by
  obtain rfl : σ = fun k => if p k then (s k : EReal) else ⊥ := funext hσ
  obtain ⟨M₀, rfl, rfl, ha⟩ := h
  obtain ⟨M, hM⟩ := max_real p s (M₀ : EReal) (EReal.coe_ne_top _) (Or.inl (EReal.coe_ne_bot _))
  rw [hM] at hm'
  subst hm'
  have hs : Real.exp (M₀ - M) * Real.exp (-M₀) = Real.exp (-M) := by rw [← Real.exp_add]; congr 1; ring
  refine ⟨M, rfl, ?_, fun d => ?_⟩
  · simp only [exp_masked]
    rw [← coe_sum, ← EReal.coe_sub, Ideal.exp_coe, ← EReal.coe_mul, ← EReal.coe_add, ← Finset.mul_sum, ← mul_assoc, hs, mul_add]
  · simp only [exp_masked, ha d, ← EReal.coe_mul]
    rw [← coe_sum, ← EReal.coe_sub, Ideal.exp_coe, ← EReal.coe_mul, ← EReal.coe_add, ← mul_assoc, hs, mul_add, Finset.mul_sum]
    congr 2
    exact Finset.sum_congr rfl fun k _ => by ring

/-- The quotient at the end no longer depends on the maximum. -/
theorem held_div {D : ℕ} (L : ℝ) (hL : 0 < L) (A : Fin D → ℝ) (m l : EReal) (a : Fin D → EReal) (h : Held L A m l a) (d : Fin D) :
    Ideal.div (a d) l = ((A d / L : ℝ) : EReal) := by
  obtain ⟨M, rfl, rfl, ha⟩ := h
  have hM := Real.exp_pos (-M)
  rw [ha d, Ideal.div_coe (by positivity), ← EReal.coe_mul]
  congr 1
  field_simp

end Cert.MlaColumn

end
-- ==== Proof.MlaBlock.lean ====
module

public import proofs.«01_k».proof.Proof.Gen.KernelIdeal.Value
public import Idealize.ShloMosaic.Lib.Pipeline.ValueKit
public import Idealize.ShloMosaic.Lib.Pointwise
public import proofs.«01_k».proof.Proof.MlaTile
public import proofs.«01_k».proof.Proof.MlaColumn

/-!
One grid point's block of the attention's result, over the reals.
-/

@[expose] public section

set_option maxRecDepth 16384

noncomputable section

open Idealize.ShloMosaic Idealize.ShloMosaic.TcCoe Idealize.ShloMosaic.Tactic Idealize.SL.Sem

namespace Cert.KernelIdeal.Mla

open Cert.KernelIdeal Cert.KernelIdeal.Gen

open Cert.MlaColumn

/-- Key `k` of key tile `j`. -/
def key (j k : ℕ) : Fin 4096 := ⟨(j * 256 + k) % 4096, Nat.mod_lt _ (by norm_num)⟩

/-- The diagonal tile's latent rows start at the query tile's first row. -/
theorem off1 : ∀ i : grid0.Coords, k0_off1 i = ![(i 1).val * 256, 0] := by decide +kernel
/-- So do its rotary rows. -/
theorem off2 : ∀ i : grid0.Coords, k0_off2 i = ![(i 1).val * 256, 0] := by decide +kernel
/-- Its transposed latent tile is the query tile's own. -/
theorem off3 : ∀ i : grid0.Coords, k0_off3 i = ![(i 1).val, 0, 0] := by decide +kernel
/-- Trip `k`'s latent rows start at row `256 k`. -/
theorem off4 : ∀ i : grid0.Coords, ∀ k : Fin (k0_t1_loop i).trips, k0_off4 i k = ![k.val * 256, 0] := by decide +kernel
/-- So do its rotary rows. -/
theorem off5 : ∀ i : grid0.Coords, ∀ k : Fin (k0_t1_loop i).trips, k0_off5 i k = ![k.val * 256, 0] := by decide +kernel
/-- Its transposed latent tile is number `k`. -/
theorem off6 : ∀ i : grid0.Coords, ∀ k : Fin (k0_t1_loop i).trips, k0_off6 i k = ![k.val, 0, 0] := by decide +kernel

/-- Row `k` of key tile `j` among the latents. -/
theorem ld_lat (x1 : Vec Ideal S4096x256 .f32) (off) (j : ℕ) (h : off = ![j * 256, 0]) (inb) (k x : Fin 256) :
    View.ld x1 (Rect.unit off ![256, 256] inb) (ix2 k x) = x1 (ix2 (key j k) x) := by
  subst h
  have hb : j * 256 + 256 ≤ 4096 := inb 0
  have e : key j k = ⟨j * 256 + k.val, by omega⟩ := Fin.ext (Nat.mod_eq_of_lt (by omega))
  rw [e]
  pointwise []

/-- Row `k` of key tile `j` among the rotary keys. -/
theorem ld_rot (x2 : Vec Ideal S4096x128 .bf16) (off) (j : ℕ) (h : off = ![j * 256, 0]) (inb) (k : Fin 256) (x : Fin 128) :
    View.ld x2 (Rect.unit off ![256, 128] inb) (ix2 k x) = x2 (ix2 (key j k) x) := by
  subst h
  have hb : j * 256 + 256 ≤ 4096 := inb 0
  have e : key j k = ⟨j * 256 + k.val, by omega⟩ := Fin.ext (Nat.mod_eq_of_lt (by omega))
  rw [e]
  pointwise []

/-- Column `k` of transposed latent tile `j`. -/
theorem ld_val (x3 : Vec Ideal S16x256x256 .bf16) (off) (j : Fin 16) (h : off = ![j.val, 0, 0]) (inb) (d k : Fin 256) :
    View.ld x3 (Rect.unit off ![1, 256, 256] inb) (ix3 0 d k) = x3 (ix3 j d k) := by
  subst h
  pointwise []

/-- The score of a key for row `n` of the stacked queries. -/
def score (C : Fin 4096 → Fin 256 → ℝ) (K : Fin 4096 → Fin 128 → ℝ) (Q : Fin 2048 → Fin 384 → ℝ) (n : Fin 2048) (t : Fin 4096) : ℝ :=
  ∑ x : Fin 256, C t x * Q n ⟨x, by omega⟩ + ∑ x : Fin 128, K t x * Q n ⟨256 + x, by omega⟩

/-- The weighted exponentials of the keys seen after the diagonal tile `i` and the tiles `0 … c-1`. -/
def seen (w : Fin 4096 → ℝ) (s : Fin 4096 → ℝ) (n : Fin 2048) (i c : ℕ) : ℝ :=
  (∑ k : Fin 256, w (key i k) * (if k.val ≤ n.val % 256 then Real.exp (s (key i k)) else 0))
    + ∑ j ∈ Finset.range c, ∑ k : Fin 256, w (key j k) * Real.exp (s (key j k))

/-- The denominator is positive: the diagonal tile's first key is always seen. -/
theorem seen_pos (s : Fin 4096 → ℝ) (n : Fin 2048) (i c : ℕ) : 0 < seen (fun _ => 1) s n i c := by
  unfold seen
  refine add_pos_of_pos_of_nonneg (Finset.sum_pos' (fun k _ => ?_) ⟨0, Finset.mem_univ _, ?_⟩)
    (Finset.sum_nonneg fun j _ => Finset.sum_nonneg fun k _ => ?_)
  · split
    · rw [one_mul]; exact (Real.exp_pos _).le
    · rw [mul_zero]
  · show 0 < (1 : ℝ) * (if 0 ≤ n.val % 256 then Real.exp (s (key i 0)) else 0)
    rw [if_pos (Nat.zero_le _), one_mul]
    exact Real.exp_pos _
  · rw [one_mul]; exact (Real.exp_pos _).le

/-- One grid point's block of the result: per row and head, the seen keys' latents averaged by the exponentials of their
    scores, times the head's value weights. -/
theorem block (c : Dev nD) (i : grid0.Coords) (arg2 : Memref sig .tc .vmem S256x2048 .bf16) (harg2 : arg2.IsWhole) (arg3 : Memref sig .tc .vmem S4096x256 .f32) (harg3 : arg3.IsWhole) (arg4 : Memref sig .tc .vmem S4096x128 .bf16) (harg4 : arg4.IsWhole) (arg5 : Memref sig .tc .vmem S16x256x256 .bf16) (harg5 : arg5.IsWhole) (arg6 : Memref sig .tc .vmem S8x128x256 .bf16) (harg6 : arg6.IsWhole) (arg7 : Memref sig .tc .vmem S8x256x128 .bf16) (harg7 : arg7.IsWhole) (arg8 : Memref sig .tc .vmem S256x1024 .bf16) (harg8 : arg8.IsWhole)
    (arg9 : Memref sig .tc .vmem S256x2048 .f32) (harg9 : arg9.IsWhole)
    (x0 : Vec Ideal S256x2048 .bf16) (x1 : Vec Ideal S4096x256 .f32) (x2 : Vec Ideal S4096x128 .bf16) (x3 : Vec Ideal S16x256x256 .bf16) (x4 : Vec Ideal S8x128x256 .bf16) (x5 : Vec Ideal S8x256x128 .bf16)
    (C : Fin 4096 → Fin 256 → ℝ) (K : Fin 4096 → Fin 128 → ℝ) (Q : Fin 2048 → Fin 384 → ℝ) (W : Fin 8 → Fin 256 → Fin 128 → ℝ)
    (hQ : ∀ n x, stack x0 x4 (ix2 n x) = (Q n x : EReal)) (h1 : ∀ t x, x1 (ix2 t x) = (C t x : EReal)) (h2 : ∀ t x, x2 (ix2 t x) = (K t x : EReal))
    (h3 : ∀ (j : Fin 16) (d k : Fin 256), x3 (ix3 j d k) = (C (key j k) d : EReal)) (h5 : ∀ h d e, x5 (ix3 h d e) = (W h d e : EReal))
    (y : S256x1024.Idx) (h : Fin 8) (r : Fin 256) (e : Fin 128) (n : Fin 2048) (hr : (y 0 : ℕ) = r) (he : (y 1 : ℕ) = h.val * 128 + e) (hn : n.val = h.val * 256 + r) :
    out0_A_6 c i arg2 harg2 arg3 harg3 arg4 harg4 arg5 harg5 arg6 harg6 arg7 harg7 arg8 harg8 arg9 harg9 x0 x1 x2 x3 x4 x5 y
      = ((∑ d : Fin 256, seen (fun t => C t d) (score C K Q n) n (i 1).val (i 1).val / seen (fun _ => 1) (score C K Q n) n (i 1).val (i 1).val * W h d e : ℝ) : EReal) := by
  have hi : (i 1).val < 16 := (i 1).isLt
  have hsc : ∀ (lat : Vec Ideal S256x256 .f32) (rot : Vec Ideal S256x128 .bf16) (j : ℕ) (k : Fin 256) (n : Fin 2048)
      (_ : ∀ k x, lat (ix2 k x) = x1 (ix2 (key j k) x)) (_ : ∀ k x, rot (ix2 k x) = x2 (ix2 (key j k) x)),
      (∑ x : Fin 256, lat (ix2 k x) * stack x0 x4 (ix2 n ⟨x, by omega⟩) + ∑ x : Fin 128, rot (ix2 k x) * stack x0 x4 (ix2 n ⟨256 + x, by omega⟩) : EReal)
        = (score C K Q n (key j k) : EReal) := by
    intro lat rot j k n hl hk
    simp only [hl, hk, hQ, h1, h2, ← EReal.coe_mul]
    rw [← coe_sum, ← coe_sum, ← EReal.coe_add]
    rfl
  have hall : ∃ (m l : FVec Ideal S1x2048 .f32) (a : Vec Ideal S256x2048 .f32), (∀ n : Fin 2048, Held (seen (fun _ => 1) (score C K Q n) n (i 1).val (i 1).val) (fun d : Fin 256 => seen (fun t => C t d) (score C K Q n) n (i 1).val (i 1).val)
      (m (ix2 0 n)) (l (ix2 0 n)) (fun d => a (ix2 d n))) ∧ out0_A_6 c i arg2 harg2 arg3 harg3 arg4 harg4 arg5 harg5 arg6 harg6 arg7 harg7 arg8 harg8 arg9 harg9 x0 x1 x2 x3 x4 x5 = View.canon (stores l a x5) := by
    refine out_inv (F := Ideal) c i arg2 harg2 arg3 harg3 arg4 harg4 arg5 harg5 arg6 harg6 arg7 harg7 arg8 harg8 arg9 harg9 x0 x1 x2 x3 x4 x5
      (fun q m l a => ∀ n : Fin 2048, Held (seen (fun _ => 1) (score C K Q n) n (i 1).val q) (fun d : Fin 256 => seen (fun t => C t d) (score C K Q n) n (i 1).val q)
      (m (ix2 0 n)) (l (ix2 0 n)) (fun d => a (ix2 d n))) ?first ?next
    case first =>
      intro i1 i2 i3 n
      have hh := held_first (fun k : Fin 256 => k.val ≤ n.val % 256) ⟨0, Nat.zero_le _⟩ (fun k => score C K Q n (key (i 1).val k)) (fun d k => C (key (i 1).val k) d)
        _ (fun k => (scores_diag (stack x0 x4) (View.ld x1 (Rect.unit (k0_off1 i) ![256, 256] i1)) (View.ld x2 (Rect.unit (k0_off2 i) ![256, 128] i2)) k n).trans
          (by rw [hsc _ _ (i 1).val k n (ld_lat x1 _ _ (off1 i) i1) (ld_rot x2 _ _ (off2 i) i2)])) _ (first_m _ n _ _)
      simp only [first_l, first_a]
      simp only [seen, one_mul, Finset.range_zero, Finset.sum_empty, add_zero]
      simp only [ld_val x3 _ ⟨(i 1).val, hi⟩ (off3 i) i3, h3]
      exact hh
    case next =>
      intro k m l a i4 i5 i6 ih n
      have hk : k.val < 16 := lt_trans (lt_of_lt_of_eq k.isLt (trips1 i)) hi
      have hh := held_next (fun _ : Fin 256 => True) (fun t => score C K Q n (key k.val t)) (fun d t => C (key k.val t) d)
        _ (fun t => (scores_at (stack x0 x4) (View.ld x1 (Rect.unit (k0_off4 i k) ![256, 256] i4)) (View.ld x2 (Rect.unit (k0_off5 i k) ![256, 128] i5)) n t).trans
          (by rw [hsc _ _ k.val t n (ld_lat x1 _ _ (off4 i k) i4) (ld_rot x2 _ _ (off5 i k) i5), if_pos trivial])) _ _ _ _ _ (ih n) _ (next_m _ _ _ _ n)
      simp only [next_l, next_a]
      simp only [if_true] at hh
      simp only [ld_val x3 _ ⟨k.val, hk⟩ (off6 i k) i6, h3]
      simp only [seen, one_mul, Finset.sum_range_succ, ← add_assoc] at hh ⊢
      exact hh
  obtain ⟨m, l, a, hP, ho⟩ := hall
  rw [ho, stores_at l a x5 y h r e n hr he hn]
  simp only [held_div _ (seen_pos _ n _ _) _ _ _ _ (hP n), h5, ← EReal.coe_mul]
  rw [← coe_sum]

end Cert.KernelIdeal.Mla

end
-- ==== Proof.MlaWindows.lean ====
module

public import proofs.«01_k».proof.Proof.Gen.KernelIdeal.Value
public import Idealize.ShloMosaic.Lib.Pipeline.ValueKit
public import Idealize.ShloMosaic.Lib.Pointwise

/-!
What a grid point's blocks hold, in terms of the call's arguments.
-/

@[expose] public section

set_option maxRecDepth 16384

noncomputable section

open Idealize.ShloMosaic Idealize.ShloMosaic.TcCoe Idealize.ShloMosaic.Tactic Idealize.SL.Sem

namespace Cert.KernelIdeal.Mla

open Cert.KernelIdeal Cert.KernelIdeal.Gen

variable (m : (ℓ : Loc nD τ sig) → Buf (Elt Ideal) ℓ)
/-- Every window's block index, as the grid's two coordinates. -/
theorem idx : ∀ t : Fin cfg0.N, win0_0.index t = ![(grid0.coords t 0).val * 16 + (grid0.coords t 1).val, 0] ∧ win0_1.index t = ![(grid0.coords t 0).val, 0]
    ∧ win0_2.index t = ![(grid0.coords t 0).val, 0] ∧ win0_3.index t = ![(grid0.coords t 0).val, 0, 0] ∧ win0_4.index t = ![0, 0, 0] ∧ win0_5.index t = ![0, 0, 0]
    ∧ win0_6.index t = ![(grid0.coords t 0).val * 16 + (grid0.coords t 1).val, 0] ∧ (grid0.coords t 0).val < 4 ∧ (grid0.coords t 1).val < 16 :=
  (by decide +kernel : ∀ t : Fin grid0.N, _)

/-- Four pieces side by side along a head's lanes, the heads side by side in one row. -/
theorem packed_at (p : FVec Ideal S17408x8x64 .f32) (p' : FVec Ideal S17408x8x64 .f32) (q : FVec Ideal S17408x8x32 .f32) (q' : FVec Ideal S17408x8x96 .f32)
    (T : Fin 17408) (h : Fin 8) (z : Fin 256) :
    truncf .bf16 (shapeCast S17408x2048 (concatenate S17408x8x256 2 [⟨S17408x8x64, p⟩, ⟨S17408x8x64, p'⟩, ⟨S17408x8x32, q⟩, ⟨S17408x8x96, q'⟩] concatenates_S17408x8x64_S17408x8x64_S17408x8x32_S17408x8x96_S17408x8x256_d2) shapeCasts_S17408x8x256_S17408x2048) bitsLt_bf16_f32 (ix2 T ⟨h.val * 256 + z.val, by omega⟩)
      = if h0 : z.val < 64 then p (ix3 T h ⟨z.val, h0⟩) else if h1 : z.val < 128 then p' (ix3 T h ⟨z.val - 64, by omega⟩)
        else if h2 : z.val < 160 then q (ix3 T h ⟨z.val - 128, by omega⟩) else q' (ix3 T h ⟨z.val - 160, by omega⟩) := by
  have e0 : (h.val * 256 + z.val) / 256 = h.val := by omega
  have e1 : (h.val * 256 + z.val) % 256 = z.val := by omega
  pointwise []
  by_cases h0 : z.val < 64
  · simp only [dif_pos h0]
  · by_cases h1 : z.val < 128
    · simp only [dif_neg h0, dif_pos h1, dif_pos (show z.val - 64 < 64 by omega)]
    · by_cases h2 : z.val < 160
      · simp only [dif_neg h0, dif_neg h1, dif_pos h2, dif_neg (show ¬ z.val - 64 < 64 by omega), dif_pos (show z.val - 64 - 64 < 32 by omega)]
        exact congrArg q (congrArg (ix3 T h) (Fin.ext (by show z.val - 64 - 64 = z.val - 128; omega)))
      · simp only [dif_neg h0, dif_neg h1, dif_neg h2, dif_neg (show ¬ z.val - 64 < 64 by omega), dif_neg (show ¬ z.val - 64 - 64 < 32 by omega)]
        exact congrArg q' (congrArg (ix3 T h) (Fin.ext (by show z.val - 64 - 64 - 32 = z.val - 160; omega)))

/-- The queries' scaling. -/
theorem scaled_at (a : FVec Ideal S17408x8x64 .f32) (j : S17408x8x64.Idx) :
    mulf a (broadcastInDim S17408x8x64 ![] bcast_S_S17408x8x64 (constant S_ FTy.f32 0x3DD105EC#32)) j = a j * Ideal.ofBits .f32 0x3DD105EC#32 := by
  pointwise []

/-- The rotary queries' scaling. -/
theorem scaled_rot_at (a : FVec Ideal S17408x8x32 .f32) (j : S17408x8x32.Idx) :
    mulf a (broadcastInDim S17408x8x32 ![] bcast_S_S17408x8x32 (constant S_ FTy.f32 0x3DD105EC#32)) j = a j * Ideal.ofBits .f32 0x3DD105EC#32 := by
  pointwise []

/-- The padding after the queries. -/
theorem zeros_at (j : S17408x8x64.Idx) :
    (broadcastInDim S17408x8x64 ![] bcast_S_S17408x8x64 (constant (F := Ideal) S_ FTy.f32 0#32)) j = (0 : EReal) := by
  pointwise []

/-- The padding after the rotary queries. -/
theorem zeros_rot_at (j : S17408x8x96.Idx) :
    (broadcastInDim S17408x8x96 ![] bcast_S_S17408x8x96 (constant (F := Ideal) S_ FTy.f32 0#32)) j = (0 : EReal) := by
  pointwise []

set_option maxHeartbeats 1000000 in
/-- The packed queries at region entry: 64 scaled lanes, 64 zeros, 32 scaled rotary lanes, 96 zeros per head. -/
theorem v8_at (c : Dev nD) (T : Fin 17408) (h : Fin 8) (z : Fin 256) :
    (show FVec Ideal S17408x2048 .bf16 from V m c main_v8) (ix2 T ⟨h.val * 256 + z.val, by omega⟩)
      = if h0 : z.val < 64 then (show FVec Ideal S17408x8x64 .f32 from m ((c : Thread nD τ).loc main_arg0)) (ix3 T h ⟨z.val, h0⟩) * Ideal.ofBits .f32 0x3DD105EC#32
        else if h1 : z.val < 128 then 0
        else if h2 : z.val < 160 then (show FVec Ideal S17408x8x32 .f32 from m ((c : Thread nD τ).loc main_arg1)) (ix3 T h ⟨z.val - 128, by omega⟩) * Ideal.ofBits .f32 0x3DD105EC#32 else 0 := by
  show V m c main_v8 (ix2 T _) = _
  unfold V
  simp only [StableHlo.after_cons, StableHlo.after_nil]
  after_results_steps
  refine (packed_at _ _ _ _ T h z).trans ?_
  by_cases h0 : z.val < 64
  · simp only [dif_pos h0]
    exact (dif_pos h0).trans (scaled_at _ _)
  · by_cases h1 : z.val < 128
    · simp only [dif_neg h0, dif_pos h1]
      exact ((dif_neg h0).trans (dif_pos h1)).trans (zeros_at (ix3 T h ⟨z.val - 64, by omega⟩))
    · by_cases h2 : z.val < 160
      · simp only [dif_neg h0, dif_neg h1, dif_pos h2]
        exact ((dif_neg h0).trans ((dif_neg h1).trans (dif_pos h2))).trans (scaled_rot_at _ _)
      · simp only [dif_neg h0, dif_neg h1, dif_neg h2]
        exact ((dif_neg h0).trans ((dif_neg h1).trans (dif_neg h2))).trans (zeros_rot_at (ix3 T h ⟨z.val - 160, by omega⟩))

/-- A grid point's latents: its batch's rows. -/
theorem x1_at (c : Dev nD) (t : Fin cfg0.N) (k : Fin 4096) (x : Fin 256) (T : Fin 17408) (hT : T.val = (grid0.coords t 0).val * 4096 + k.val) :
    (show FVec Ideal S4096x256 .f32 from X0_1 m c t) (ix2 k x) = (show FVec Ideal S17408x256 .f32 from m ((c : Thread nD τ).loc main_arg2)) (ix2 T x) := by
  show X0_1 m c t (ix2 k x) = _
  unfold X0_1 Pipeline.Window.fill
  rw [dif_pos (moved0_1 t _)]
  blk_ext [iblk, V, idx t]

/-- A grid point's queries: its query tile's rows of the packed queries. -/
theorem x0_at (c : Dev nD) (t : Fin cfg0.N) (r : Fin 256) (x : Fin 2048) (T : Fin 17408) (hT : T.val = ((grid0.coords t 0).val * 16 + (grid0.coords t 1).val) * 256 + r.val) :
    (show FVec Ideal S256x2048 .bf16 from iblk m c 0 t) (ix2 r x) = (show FVec Ideal S17408x2048 .bf16 from V m c main_v8) (ix2 T x) := by
  show iblk m c 0 t (ix2 r x) = V m c main_v8 (ix2 T x)
  unfold iblk
  refine congrArg (V m c main_v8) ?_
  blk_ext [idx t]

/-- A grid point's transposed latents, tile by tile. -/
theorem x3_at (c : Dev nD) (t : Fin cfg0.N) (j : Fin 16) (d k : Fin 256) (T : Fin 17408) (hT : T.val = (grid0.coords t 0).val * 4096 + j.val * 256 + k.val) :
    (show FVec Ideal S16x256x256 .bf16 from X0_3 m c t) (ix3 j d k) = (show FVec Ideal S17408x256 .f32 from m ((c : Thread nD τ).loc main_arg2)) (ix2 T d) := by
  show X0_3 m c t (ix3 j d k) = _
  unfold X0_3 Pipeline.Window.fill
  rw [dif_pos (moved0_3 t _)]
  blk_simp [iblk, idx t]
  entry_read
  pointwise []
  blk_point [idx t]

/-- The padded rotary keys at region entry. -/
theorem v11_at (c : Dev nD) (T : Fin 17408) (d : Fin 128) :
    (show FVec Ideal S17408x128 .bf16 from V m c main_v11) (ix2 T d) = if h : d.val < 32 then (show FVec Ideal S17408x32 .f32 from m ((c : Thread nD τ).loc main_arg3)) (ix2 T ⟨d, h⟩) else 0 := by
  show V m c main_v11 (ix2 T d) = _
  entry_read
  pointwise []

/-- A grid point's rotary keys. -/
theorem x2_at (c : Dev nD) (t : Fin cfg0.N) (k : Fin 4096) (d : Fin 128) (T : Fin 17408) (hT : T.val = (grid0.coords t 0).val * 4096 + k.val) :
    (show FVec Ideal S4096x128 .bf16 from X0_2 m c t) (ix2 k d)
      = if h : d.val < 32 then (show FVec Ideal S17408x32 .f32 from m ((c : Thread nD τ).loc main_arg3)) (ix2 T ⟨d, h⟩) else 0 := by
  refine Eq.trans ?_ (v11_at m c T d)
  show X0_2 m c t (ix2 k d) = _
  unfold X0_2 Pipeline.Window.fill
  rw [dif_pos (moved0_2 t _)]
  blk_ext [iblk, idx t]

/-- The padded key weights at region entry. -/
theorem v20_at (c : Dev nD) (h : Fin 8) (d : Fin 128) (x : Fin 256) :
    (show FVec Ideal S8x128x256 .bf16 from V m c main_v20) (ix3 h d x)
      = if hd : d.val < 64 then (show FVec Ideal S256x1024 .f32 from m ((c : Thread nD τ).loc main_arg4)) (ix2 x ⟨h.val * 128 + d.val, by omega⟩) else 0 := by
  show V m c main_v20 (ix3 h d x) = _
  entry_read
  pointwise []

/-- A grid point's key weights. -/
theorem x4_at (c : Dev nD) (t : Fin cfg0.N) (h : Fin 8) (d : Fin 128) (x : Fin 256) :
    (show FVec Ideal S8x128x256 .bf16 from iblk m c 4 t) (ix3 h d x)
      = if hd : d.val < 64 then (show FVec Ideal S256x1024 .f32 from m ((c : Thread nD τ).loc main_arg4)) (ix2 x ⟨h.val * 128 + d.val, by omega⟩) else 0 := by
  refine Eq.trans ?_ (v20_at m c h d x)
  show iblk m c 4 t (ix3 h d x) = _
  blk_ext [iblk, idx t]

/-- The padded value weights at region entry. -/
theorem v25_at (c : Dev nD) (h : Fin 8) (d : Fin 256) (e : Fin 128) :
    (show FVec Ideal S8x256x128 .bf16 from V m c main_v25) (ix3 h d e)
      = if e.val < 64 then 0 else (show FVec Ideal S256x1024 .f32 from m ((c : Thread nD τ).loc main_arg4)) (ix2 d ⟨h.val * 128 + e.val, by omega⟩) := by
  show V m c main_v25 (ix3 h d e) = _
  entry_read
  pointwise []
  by_cases he : e.val < 64
  · simp only [dif_pos he, if_pos he]
  · simp only [dif_neg he, if_neg he]
    blk_ext

/-- A grid point's value weights. -/
theorem x5_at (c : Dev nD) (t : Fin cfg0.N) (h : Fin 8) (d : Fin 256) (e : Fin 128) :
    (show FVec Ideal S8x256x128 .bf16 from iblk m c 5 t) (ix3 h d e)
      = if e.val < 64 then 0 else (show FVec Ideal S256x1024 .f32 from m ((c : Thread nD τ).loc main_arg4)) (ix2 d ⟨h.val * 128 + e.val, by omega⟩) := by
  refine Eq.trans ?_ (v25_at m c h d e)
  show iblk m c 5 t (ix3 h d e) = _
  blk_ext [iblk, idx t]

end Cert.KernelIdeal.Mla

end
-- ==== Proof.MlaMath.lean ====
module

public import proofs.«01_k».proof.Proof.MlaBlock
public import Idealize.ShloMosaic.Lib.Pointwise

/-!
The causal latent attention over the reals, and the two equations that connect the kernel's form of it (the key weights
moved over to the queries, the value weights applied after the averaging, the keys taken tile by tile) to the plain one.
-/

@[expose] public section

noncomputable section

open Cert.KernelIdeal.Mla Idealize.ShloMosaic

namespace Cert.MlaMath

/-- Token `t` of sequence `b`. -/
def tok (b : Fin 4) (t : Fin 4096) : Fin 17408 := ⟨b.val * 4096 + t.val, by omega⟩

variable (Qn : Fin 17408 → Fin 8 → Fin 64 → ℝ) (Qp : Fin 17408 → Fin 8 → Fin 32 → ℝ) (Cl : Fin 17408 → Fin 256 → ℝ)
  (Kp : Fin 17408 → Fin 32 → ℝ) (Wt : Fin 256 → Fin 1024 → ℝ) (σ : ℝ)

/-- A column of the up-projected latent of one token. -/
def up (b : Fin 4) (t : Fin 4096) (col : Fin 1024) : ℝ := ∑ x : Fin 256, Cl (tok b t) x * Wt x col

/-- Head `h`'s scaled score of key `t` for query `q`. -/
def sc (b : Fin 4) (q : Fin 4096) (h : Fin 8) (t : Fin 4096) : ℝ :=
  (∑ z : Fin 64, Qn (tok b q) h z * up Cl Wt b t ⟨h.val * 128 + z.val, by omega⟩ + ∑ r : Fin 32, Kp (tok b t) r * Qp (tok b q) h r) * σ

/-- A key's unnormalised weight: zero after the query. -/
def weight (s : Fin 4096 → ℝ) (q t : Fin 4096) : ℝ := if t.val ≤ q.val then Real.exp (s t) else 0

/-- Lane `e` of head `h` of the attention's result. -/
def attn (b : Fin 4) (q : Fin 4096) (h : Fin 8) (e : Fin 64) : ℝ :=
  ∑ t : Fin 4096, up Cl Wt b t ⟨h.val * 128 + (64 + e.val), by omega⟩
    * (weight (sc Qn Qp Cl Kp Wt σ b q h) q t / ∑ t', weight (sc Qn Qp Cl Kp Wt σ b q h) q t')

/-- The tiles up to the diagonal hold exactly the keys up to the query. -/
theorem seen_eq (w s : Fin 4096 → ℝ) (n : Fin 2048) (q : Fin 4096) (i : ℕ) (hi : i < 16) (hq : q.val = i * 256 + n.val % 256) :
    seen w s n i i = ∑ t : Fin 4096, w t * weight s q t := by
  have hkey : ∀ j (_ : j < 16) (k : Fin 256), (key j k).val = j * 256 + k.val := fun j hj k => Nat.mod_eq_of_lt (by omega)
  rw [show (∑ t : Fin 4096, w t * weight s q t) = ∑ j : Fin 16, ∑ k : Fin 256, w (key j k) * weight s q (key j k) from by
    rw [Fin.sum_univ_tiles 16 256 (by norm_num)]
    refine Finset.sum_congr rfl fun j _ => Finset.sum_congr rfl fun k _ => ?_
    have e : ∀ h, (⟨j.val * 256 + k.val, h⟩ : Fin 4096) = key j k := fun h => Fin.ext (hkey j j.isLt k).symm
    simp only [e]]
  rw [← Finset.sum_range (fun j => ∑ k : Fin 256, w (key j k) * weight s q (key j k))]
  rw [← Finset.sum_subset (Finset.range_subset_range.2 (show i + 1 ≤ 16 by omega)) ?_]
  · rw [Finset.sum_range_succ, add_comm]
    unfold seen weight
    congr 1
    · refine Finset.sum_congr rfl fun k _ => ?_
      rw [hkey i hi k]
      congr 1
      exact if_congr (by omega) rfl rfl
    · refine Finset.sum_congr rfl fun j hj => Finset.sum_congr rfl fun k _ => ?_
      have hj := Finset.mem_range.1 hj
      rw [if_pos (by rw [hkey j (by omega) k]; omega)]
  · intro j hj hj'
    have h1 := Finset.mem_range.1 hj
    have h2 : i + 1 ≤ j := by simpa using hj'
    refine Finset.sum_eq_zero fun k _ => ?_
    unfold weight
    rw [if_neg (by rw [hkey j h1 k]; omega), mul_zero]

/-- Averaging the latents and applying the value weights is averaging the values. -/
theorem averaged (C : Fin 4096 → Fin 256 → ℝ) (w : Fin 4096 → ℝ) (L : ℝ) (V : Fin 256 → ℝ) :
    ∑ d : Fin 256, (∑ t : Fin 4096, C t d * w t) / L * V d = ∑ t : Fin 4096, (∑ d : Fin 256, C t d * V d) * (w t / L) := by
  simp only [Finset.sum_div, Finset.sum_mul]
  rw [Finset.sum_comm]
  exact Finset.sum_congr rfl fun t _ => Finset.sum_congr rfl fun d _ => by ring

/-- Sums over padded lanes. -/
theorem sum_pad (M N : ℕ) (h : M ≤ N) (f : Fin M → ℝ) :
    (∑ z : Fin N, if hz : z.val < M then f ⟨z.val, hz⟩ else 0) = ∑ z : Fin M, f z := by
  obtain ⟨k, rfl⟩ := Nat.exists_eq_add_of_le h
  rw [Fin.sum_univ_add]
  simp

/-- The kernel's score of a key — the latent against the query moved through the key weights, the padded rotary key
    against the padded rotary query — is the plain one. -/
theorem moved (q : Fin 64 → ℝ) (p : Fin 32 → ℝ) (c : Fin 256 → ℝ) (k : Fin 32 → ℝ) (w : Fin 256 → Fin 64 → ℝ) :
    (∑ x : Fin 256, c x * ∑ z : Fin 64, q z * σ * w x z) + ∑ r : Fin 32, k r * (p r * σ)
      = (∑ z : Fin 64, q z * ∑ x : Fin 256, c x * w x z + ∑ r : Fin 32, k r * p r) * σ := by
  rw [add_mul, Finset.sum_mul, Finset.sum_mul]
  congr 1
  · simp only [Finset.mul_sum, Finset.sum_mul]
    rw [Finset.sum_comm]
    exact Finset.sum_congr rfl fun z _ => Finset.sum_congr rfl fun x _ => by ring
  · exact Finset.sum_congr rfl fun r _ => by ring

end Cert.MlaMath

end
-- ==== Proof.MlaValue.lean ====
module

public import proofs.«01_k».proof.Proof.Gen.KernelIdeal.Value
public import Idealize.ShloMosaic.Lib.Pipeline.ValueKit
public import Idealize.ShloMosaic.Lib.Pointwise
public import proofs.«01_k».proof.Proof.MlaBlock
public import proofs.«01_k».proof.Proof.MlaWindows
public import proofs.«01_k».proof.Proof.MlaMath

/-!
The kernel's result array, in terms of the call's arguments.
-/

@[expose] public section

set_option maxRecDepth 16384

noncomputable section

open Idealize.ShloMosaic Idealize.ShloMosaic.TcCoe Idealize.ShloMosaic.Tactic Idealize.SL.Sem

namespace Cert.KernelIdeal.Mla

open Cert.KernelIdeal Cert.KernelIdeal.Gen

open Cert.MlaColumn Cert.MlaMath

/-- The scale of the scores, the real its word denotes. -/
def scale : ℝ := (Ideal.ofBits .f32 0x3DD105EC#32).toReal

/-- The scale's word denotes a real. -/
theorem scale_real : Ideal.ofBits .f32 0x3DD105EC#32 = (scale : EReal) := by
  unfold scale
  rw [EReal.coe_toReal]
  · simp [Ideal.ofBits, Ideal.ieee, -EReal.coe_mul]
  · simp [Ideal.ofBits, Ideal.ieee, -EReal.coe_mul]

variable (m : (ℓ : Loc nD τ sig) → Buf (Elt Ideal) ℓ) (c : Dev nD)
  (Qn : Fin 17408 → Fin 8 → Fin 64 → ℝ) (Qp : Fin 17408 → Fin 8 → Fin 32 → ℝ) (Cl : Fin 17408 → Fin 256 → ℝ)
  (Kp : Fin 17408 → Fin 32 → ℝ) (Wt : Fin 256 → Fin 1024 → ℝ)

/-- The arguments hold these reals. -/
structure Holds : Prop where
  /-- the queries -/
  qn : ∀ T h z, (show FVec Ideal S17408x8x64 .f32 from m ((c : Thread nD τ).loc main_arg0)) (ix3 T h z) = (Qn T h z : EReal)
  /-- the rotary queries -/
  qp : ∀ T h z, (show FVec Ideal S17408x8x32 .f32 from m ((c : Thread nD τ).loc main_arg1)) (ix3 T h z) = (Qp T h z : EReal)
  /-- the latents -/
  cl : ∀ T x, (show FVec Ideal S17408x256 .f32 from m ((c : Thread nD τ).loc main_arg2)) (ix2 T x) = (Cl T x : EReal)
  /-- the rotary keys -/
  kp : ∀ T r, (show FVec Ideal S17408x32 .f32 from m ((c : Thread nD τ).loc main_arg3)) (ix2 T r) = (Kp T r : EReal)
  /-- the weights -/
  wt : ∀ x j, (show FVec Ideal S256x1024 .f32 from m ((c : Thread nD τ).loc main_arg4)) (ix2 x j) = (Wt x j : EReal)

/-- One row of the stacked queries: the query moved through the key weights, then the padded rotary query. -/
def rowR (T : Fin 17408) (h : Fin 8) (x : Fin 384) : ℝ :=
  if hx : x.val < 256 then ∑ z : Fin 64, Qn T h z * scale * Wt ⟨x.val, hx⟩ ⟨h.val * 128 + z.val, by omega⟩
  else if hr : x.val - 256 < 32 then Qp T h ⟨x.val - 256, hr⟩ * scale else 0

/-- The rotary keys, padded. -/
def rotR (T : Fin 17408) (x : Fin 128) : ℝ := if h : x.val < 32 then Kp T ⟨x.val, h⟩ else 0

/-- The value weights of a head, after 64 zeros. -/
def valR (h : Fin 8) (d : Fin 256) (e : Fin 128) : ℝ := if e.val < 64 then 0 else Wt d ⟨h.val * 128 + e.val, by omega⟩

/-- The stacked queries of a grid point. -/
theorem row_real (hm : Holds m c Qn Qp Cl Kp Wt) (t : Fin cfg0.N) (h : Fin 8) (r : Fin 256) (x : Fin 384) (T : Fin 17408)
    (hT : T.val = ((grid0.coords t 0).val * 16 + (grid0.coords t 1).val) * 256 + r.val) :
    headRow (iblk m c 0 t) (iblk m c 4 t) h r x = (rowR Qn Qp Wt T h x : EReal) := by
  have hq : ∀ z : Fin 256, (show FVec Ideal S256x2048 .bf16 from iblk m c 0 t) (ix2 r ⟨h.val * 256 + z.val, by omega⟩) = _ :=
    fun z => (x0_at m c t r _ T hT).trans (v8_at m c T h z)
  unfold headRow rowR
  by_cases hx : x.val < 256
  · rw [dif_pos hx, dif_pos hx, ← sum_pad 64 128 (by norm_num), coe_sum]
    refine Finset.sum_congr rfl fun d _ => ?_
    rw [show (iblk m c 4 t : FVec Ideal S8x128x256 .bf16) (ix3 h d ⟨x.val, hx⟩) = _ from x4_at m c t h d ⟨x.val, hx⟩]
    by_cases hd : d.val < 64
    · rw [dif_pos hd, dif_pos hd, hm.wt]
      refine (congrArg (· * _) ((hq ⟨d.val, by omega⟩).trans (dif_pos hd))).trans ?_
      rw [hm.qn, scale_real, EReal.coe_mul, EReal.coe_mul]
    · rw [dif_neg hd, dif_neg hd, mul_zero, EReal.coe_zero]
  · rw [dif_neg hx, dif_neg hx]
    have e : (⟨h.val * 256 + (x.val - 128), by omega⟩ : Fin 2048) = ⟨h.val * 256 + (⟨x.val - 128, by omega⟩ : Fin 256).val, by omega⟩ := rfl
    refine (hq ⟨x.val - 128, by omega⟩).trans ?_
    rw [dif_neg (show ¬ x.val - 128 < 64 by omega), dif_neg (show ¬ x.val - 128 < 128 by omega)]
    by_cases hr : x.val - 256 < 32
    · rw [dif_pos hr, dif_pos (show x.val - 128 < 160 by omega), hm.qp, scale_real, EReal.coe_mul]
      have e : (⟨x.val - 128 - 128, by omega⟩ : Fin 32) = ⟨x.val - 256, hr⟩ := Fin.ext (by show x.val - 128 - 128 = x.val - 256; omega)
      rw [e]
    · rw [dif_neg hr, dif_neg (show ¬ x.val - 128 < 160 by omega), EReal.coe_zero]

/-- The kernel's score is the plain one. -/
theorem score_eq (b : Fin 4) (q : Fin 4096) (h : Fin 8) (Q : Fin 2048 → Fin 384 → ℝ) (n : Fin 2048)
    (hQ : ∀ x, Q n x = rowR Qn Qp Wt (tok b q) h x) :
    score (fun t x => Cl (tok b t) x) (fun t x => rotR Kp (tok b t) x) Q n = sc Qn Qp Cl Kp Wt scale b q h := by
  funext t
  unfold score sc up
  rw [← moved scale (fun z => Qn (tok b q) h z) (fun r => Qp (tok b q) h r) (fun x => Cl (tok b t) x) (fun r => Kp (tok b t) r)
    (fun x z => Wt x ⟨h.val * 128 + z.val, by omega⟩)]
  congr 1
  · refine Finset.sum_congr rfl fun x _ => ?_
    rw [hQ, rowR, dif_pos x.isLt]
  · rw [← sum_pad 32 128 (by norm_num)]
    refine Finset.sum_congr rfl fun x _ => ?_
    rw [hQ, rowR, dif_neg (show ¬ 256 + x.val < 256 by omega)]
    unfold rotR
    by_cases hx : x.val < 32
    · simp only [Nat.add_sub_cancel_left, dif_pos hx]
    · simp only [dif_neg hx, zero_mul]

/-- The result of the call at one index: each head's 64 attention lanes after 64 zeros. -/
def outR (j : S16384x1024.Idx) : ℝ :=
  if he : (j 1).val % 128 < 64 then 0
  else attn Qn Qp Cl Kp Wt scale ⟨(j 0).val / 4096, by have := (j 0).isLt; change (j 0).val < 16384 at this; omega⟩ ⟨(j 0).val % 4096, by omega⟩
    ⟨(j 1).val / 128, by have := (j 1).isLt; change (j 1).val < 1024 at this; omega⟩ ⟨(j 1).val % 128 - 64, by omega⟩

/-- `outR` at coordinates. -/
theorem outR_at (j : S16384x1024.Idx) (b : Fin 4) (q : Fin 4096) (h : Fin 8) (e : Fin 128) (h0 : (j 0).val = b.val * 4096 + q.val) (h1 : (j 1).val = h.val * 128 + e.val) :
    outR Qn Qp Cl Kp Wt j = if he : e.val < 64 then 0 else attn Qn Qp Cl Kp Wt scale b q h ⟨e.val - 64, by omega⟩ := by
  have eb : (j 0).val / 4096 = b.val := by omega
  have eq : (j 0).val % 4096 = q.val := by omega
  have eh : (j 1).val / 128 = h.val := by omega
  have ee : (j 1).val % 128 = e.val := by omega
  unfold outR
  simp only [eb, eq, eh, ee]

/-- What a grid point leaves in its block of the result. -/
theorem point (hm : Holds m c Qn Qp Cl Kp Wt) (t : Fin cfg0.N) (y : S256x1024.Idx) (j : S16384x1024.Idx)
    (h0 : (j 0).val = ((grid0.coords t 0).val * 16 + (grid0.coords t 1).val) * 256 + (y 0).val) (h1 : (j 1).val = (y 1).val) :
    outsAt0 m c t y = (outR Qn Qp Cl Kp Wt j : EReal) := by
  have hb : (grid0.coords t 0).val < 4 := (idx t).2.2.2.2.2.2.2.1
  have hi : (grid0.coords t 1).val < 16 := (idx t).2.2.2.2.2.2.2.2
  have hy0 : (y 0).val < 256 := (y 0).isLt
  have hy1 : (y 1).val < 1024 := (y 1).isLt
  obtain ⟨b, hbv⟩ : ∃ b : Fin 4, b.val = (grid0.coords t 0).val := ⟨⟨_, hb⟩, rfl⟩
  obtain ⟨q, hqv⟩ : ∃ q : Fin 4096, q.val = (grid0.coords t 1).val * 256 + (y 0).val := ⟨⟨_, by omega⟩, rfl⟩
  obtain ⟨h, hhv⟩ : ∃ h : Fin 8, h.val = (y 1).val / 128 := ⟨⟨_, by omega⟩, rfl⟩
  obtain ⟨e, hev⟩ : ∃ e : Fin 128, e.val = (y 1).val % 128 := ⟨⟨_, by omega⟩, rfl⟩
  obtain ⟨n, hnv⟩ : ∃ n : Fin 2048, n.val = h.val * 256 + (y 0).val := ⟨⟨_, by omega⟩, rfl⟩
  rw [outR_at Qn Qp Cl Kp Wt j b q h e (by omega) (by omega)]
  have hrow : ∀ r : Fin 256, ((grid0.coords t 0).val * 16 + (grid0.coords t 1).val) * 256 + r.val < 17408 := fun r => by omega
  obtain ⟨Q, hQ⟩ : ∃ Q : Fin 2048 → Fin 384 → ℝ, Q = fun n x =>
      rowR Qn Qp Wt ⟨((grid0.coords t 0).val * 16 + (grid0.coords t 1).val) * 256 + n.val % 256, hrow ⟨n.val % 256, by omega⟩⟩ ⟨n.val / 256, by omega⟩ x := ⟨_, rfl⟩
  have hkey : ∀ (j : Fin 16) (k : Fin 256), (key j k).val = j.val * 256 + k.val := fun j k => Nat.mod_eq_of_lt (by omega)
  unfold outsAt0
  rw [block c (grid0.coords t) _ _ _ _ _ _ _ _ _ _ _ _ _ _ _ _ (iblk m c 0 t) (X0_1 m c t) (X0_2 m c t) (X0_3 m c t) (iblk m c 4 t) (iblk m c 5 t)
    (fun k x => Cl (tok b k) x) (fun k x => rotR Kp (tok b k) x) Q (valR Wt) ?_ ?_ ?_ ?_ ?_ y h ⟨(y 0).val, hy0⟩ e n rfl (by omega) hnv]
  · rw [score_eq Qn Qp Cl Kp Wt b q h Q n fun x => ?_]
    · simp only [seen_eq _ _ n q _ hi (show q.val = (grid0.coords t 1).val * 256 + n.val % 256 by omega), one_mul]
      rw [averaged]
      by_cases he : e.val < 64
      · rw [dif_pos he]
        simp only [valR, if_pos he, mul_zero, Finset.sum_const_zero, zero_mul]
      · rw [dif_neg he]
        simp only [valR, if_neg he, attn, up]
        have e' : h.val * 128 + (64 + (e.val - 64)) = h.val * 128 + e.val := by omega
        simp only [e']
    · have eT : (⟨((grid0.coords t 0).val * 16 + (grid0.coords t 1).val) * 256 + n.val % 256, hrow ⟨n.val % 256, by omega⟩⟩ : Fin 17408) = tok b q :=
        Fin.ext (by show ((grid0.coords t 0).val * 16 + (grid0.coords t 1).val) * 256 + n.val % 256 = b.val * 4096 + q.val; omega)
      have eh : (⟨n.val / 256, by omega⟩ : Fin 8) = h := Fin.ext (by show n.val / 256 = h.val; omega)
      exact (congrFun (congrFun hQ n) x).trans (congrArg₂ (fun T h => rowR Qn Qp Wt T h x) eT eh)
  · intro n x
    rw [stack_at, hQ]
    exact row_real m c Qn Qp Cl Kp Wt hm t _ _ x _ rfl
  · intro k x
    exact (x1_at m c t k x (tok b k) (by rw [← hbv]; rfl)).trans (hm.cl _ _)
  · intro k x
    refine (x2_at m c t k x (tok b k) (by rw [← hbv]; rfl)).trans ?_
    unfold rotR
    by_cases hx : x.val < 32
    · rw [dif_pos hx, dif_pos hx, hm.kp]
    · rw [dif_neg hx, dif_neg hx, EReal.coe_zero]
  · intro j d k
    exact (x3_at m c t j d k (tok b (key j k)) (by show b.val * 4096 + (key j k).val = _; rw [hkey, hbv]; omega)).trans (hm.cl _ _)
  · intro h d e
    refine (x5_at m c t h d e).trans ?_
    unfold valR
    by_cases he : e.val < 64
    · rw [if_pos he, if_pos he, EReal.coe_zero]
    · rw [if_neg he, if_neg he, hm.wt]

/-- The kernel's result array. -/
theorem final (hm : Holds m c Qn Qp Cl Kp Wt) : (dats m 0 c).arrAt 6 cfg0.N = fun j => (outR Qn Qp Cl Kp Wt j : EReal) := by
  refine (dats m 0 c).arrAt_eq_of_covers 6 _ (by decide +kernel) fun t _ y => ?_
  blk_simp
  rw [after0_6]
  refine point m c Qn Qp Cl Kp Wt hm t y _ ?_ ?_
  · blk_simp [idx t]
  · blk_simp [idx t]

end Cert.KernelIdeal.Mla

end
-- ==== Proof.MlaReference.lean ====
module

public import proofs.«01_k».proof.Proof.Gen.ReferenceIdeal.Run
public import proofs.«01_k».proof.Proof.MlaMath
public import proofs.«01_k».proof.Proof.MlaColumn
public import Idealize.ShloMosaic.Lib.Pointwise

/-!
The reference's result, in terms of its arguments.
-/

@[expose] public section

set_option maxRecDepth 16384

noncomputable section

open Idealize.ShloMosaic Idealize.ShloMosaic.TcCoe Idealize.ShloMosaic.Tactic Idealize.SL.Sem

namespace Cert.ReferenceIdeal.Mla

open Cert.ReferenceIdeal Cert.ReferenceIdeal.Gen Cert.MlaMath Cert.MlaColumn

/-- The up-projected latents, per head. -/
def kv (cl : FVec Ideal S17408x256 .f32) (wt : FVec Ideal S256x1024 .f32) : FVec Ideal S4x4096x8x128 .f32 :=
  shapeCast _ (Host.dotGeneral dot_S4x4096x256_S256x1024_S4x4096x1024_2_0_01_1_n_n none (shapeCast _ (extractStridedSlice S16384x256 ![0, 0] cl slices_S17408x256_S16384x256_0_0) shapeCasts_S16384x256_S4x4096x256) wt) shapeCasts_S4x4096x1024_S4x4096x8x128

/-- The masked scores. -/
def scores (qn : FVec Ideal S17408x8x64 .f32) (qp : FVec Ideal S17408x8x32 .f32) (cl : FVec Ideal S17408x256 .f32) (kp : FVec Ideal S17408x32 .f32) (wt : FVec Ideal S256x1024 .f32) : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (addf (Host.dotGeneral dot_S4x4096x8x64_S4x4096x8x64_S4x8x4096x4096_3_3_1_1_02_02 none (shapeCast _ (extractStridedSlice S16384x8x64 ![0, 0, 0] qn slices_S17408x8x64_S16384x8x64_0_0_0) shapeCasts_S16384x8x64_S4x4096x8x64) (extractStridedSlice S4x4096x8x64 ![0, 0, 0, 0] (kv cl wt) slices_S4x4096x8x128_S4x4096x8x64_0_0_0_0)) (transpose S4x8x4096x4096 [0, 3, 2, 1] (Host.dotGeneral dot_S4x4096x32_S4x4096x8x32_S4x4096x4096x8_2_3_1_12_0_0 none (shapeCast _ (extractStridedSlice S16384x32 ![0, 0] kp slices_S17408x32_S16384x32_0_0) shapeCasts_S16384x32_S4x4096x32) (shapeCast _ (extractStridedSlice S16384x8x32 ![0, 0, 0] qp slices_S17408x8x32_S16384x8x32_0_0_0) shapeCasts_S16384x8x32_S4x4096x8x32)) transposes_S4x4096x4096x8_S4x8x4096x4096_0_3_2_1)) (broadcastInDim S4x8x4096x4096 ![] bcast_S_S4x8x4096x4096 (constant S_ .f32 0x3DD105EC#32))) (broadcastInDim S4x8x4096x4096 ![] bcast_S_S4x8x4096x4096 (id (constant S_ .f32 0xFF800000#32)))

/-- Each query's largest score. -/
def top (s : FVec Ideal S4x8x4096x4096 .f32) : FVec Ideal S4x8x4096 .f32 :=
  maximumf (broadcastInDim S4x8x4096 ![] bcast_S_S4x8x4096 (constant S_ .f32 0xFF800000#32)) (Host.reduce FloatOps.maximumf s (constant S_ .f32 0xFF800000#32) reducesTo_S4x8x4096x4096_S4x8x4096_d3 h_S_)

/-- The exponentials of the scores less the largest. -/
def expd (s : FVec Ideal S4x8x4096x4096 .f32) (u : FVec Ideal S4x8x4096 .f32) : FVec Ideal S4x8x4096x4096 .f32 :=
  Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 u)))

/-- The exponentials over their sum. -/
def soft (e : FVec Ideal S4x8x4096x4096 .f32) : FVec Ideal S4x8x4096x4096 .f32 :=
  Host.divf e (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd e (constant S_ .f32 0x00000000#32) reducesTo_S4x8x4096x4096_S4x8x4096_d3 h_S_)))

/-- The values averaged, after 64 zeros per head. -/
def result (v : FVec Ideal S4x4096x8x128 .f32) (p : FVec Ideal S4x8x4096x4096 .f32) : FVec Ideal S16384x1024 .bf16 :=
  truncf .bf16 (shapeCast _ (concatenate S4x4096x8x128 3 [⟨S4x4096x8x64, (broadcastInDim S4x4096x8x64 ![] bcast_S_S4x4096x8x64 (constant S_ .f32 0x00000000#32))⟩, ⟨S4x4096x8x64, (transpose S4x4096x8x64 [0, 3, 1, 2] (Host.dotGeneral dot_S4x4096x8x64_S4x8x4096x4096_S4x8x64x4096_1_3_3_2_02_01 none (extractStridedSlice S4x4096x8x64 ![0, 0, 0, 64] v slices_S4x4096x8x128_S4x4096x8x64_0_0_0_64) p) transposes_S4x8x64x4096_S4x4096x8x64_0_3_1_2)⟩] concatenates_S4x4096x8x64_S4x4096x8x64_S4x4096x8x128_d3) shapeCasts_S4x4096x8x128_S16384x1024) bitsLt_bf16_f32

/-- The reference's result, by its parts. -/
theorem res_eq (m : (ℓ : Loc nD τ sig) → Buf (Elt Ideal) ℓ) (c : Dev nD) (qn : FVec Ideal S17408x8x64 .f32) (qp : FVec Ideal S17408x8x32 .f32) (cl : FVec Ideal S17408x256 .f32)
    (kp : FVec Ideal S17408x32 .f32) (wt : FVec Ideal S256x1024 .f32)
    (h0 : m ((c.tc : Thread nD τ).loc main_arg0) = qn) (h1 : m ((c.tc : Thread nD τ).loc main_arg1) = qp) (h2 : m ((c.tc : Thread nD τ).loc main_arg2) = cl)
    (h3 : m ((c.tc : Thread nD τ).loc main_arg3) = kp) (h4 : m ((c.tc : Thread nD τ).loc main_arg4) = wt) :
    Cert.ReferenceIdeal.Value.res_main_v41 m c = result (kv cl wt) (soft (expd (scores qn qp cl kp wt) (top (scores qn qp cl kp wt)))) := by
  subst h0 h1 h2 h3 h4
  rfl

/-- The up-projected latents at an index. -/
theorem kv_at (cl : FVec Ideal S17408x256 .f32) (wt : FVec Ideal S256x1024 .f32) (b : Fin 4) (t : Fin 4096) (h : Fin 8) (z : Fin 128) :
    kv cl wt (ix4 b t h z) = ∑ x : Fin 256, cl (ix2 (tok b t) x) * wt (ix2 x ⟨h.val * 128 + z.val, by omega⟩) := by
  pointwise [kv]
  rfl

/-- The comparison of two positions below 4096, as words. -/
theorem le_bit (t q : Fin 4096) : IntOp.cmpi .sle (BitVec.ofNat 32 t.val) (BitVec.ofNat 32 q.val) = 1#1 ↔ t.val ≤ q.val := by
  rw [IntOp.cmpi_sle, BitVec.toInt_ofNat', BitVec.toInt_ofNat']
  rw [Int.bmod_eq_of_le (by omega) (by omega), Int.bmod_eq_of_le (by omega) (by omega)]
  omega

/-- A bit that is not one is zero. -/
theorem eq_zero_of_ne_one {x : BitVec 1} (h : x ≠ 1#1) : x = 0#1 := by
  revert x
  decide

/-- The masked scores at an index. -/
theorem scores_at (qn : FVec Ideal S17408x8x64 .f32) (qp : FVec Ideal S17408x8x32 .f32) (cl : FVec Ideal S17408x256 .f32) (kp : FVec Ideal S17408x32 .f32) (wt : FVec Ideal S256x1024 .f32) (b : Fin 4) (h : Fin 8) (q t : Fin 4096) :
    scores qn qp cl kp wt (ix4 b h q t) = if t.val ≤ q.val then (∑ z : Fin 64, qn (ix3 (tok b q) h z) * kv cl wt (ix4 b t h ⟨z.val, by omega⟩)
      + ∑ r : Fin 32, kp (ix2 (tok b t) r) * qp (ix3 (tok b q) h r)) * Ideal.ofBits .f32 0x3DD105EC#32 else ⊥ := by
  have hid : id (constant (F := Ideal) S_ FTy.f32 0xFF800000#32) ix0 = (⊥ : EReal) := by
    show Ideal.ofBits FTy.f32 0xFF800000#32 = ⊥
    simp [Ideal.ofBits, Ideal.ieee]
  pointwise [scores]
  rw [hid]
  by_cases hqt : t.val ≤ q.val
  · rw [if_pos hqt, (le_bit t q).2 hqt]
    rfl
  · rw [if_neg hqt, eq_zero_of_ne_one fun e => hqt ((le_bit t q).1 e)]
    rfl

/-- Two folds of the maximum over the same terms. -/
theorem fold_eq (f g : Fin 4096 → EReal) (h : ∀ t, f t = g t) :
    Finset.fold (FloatOps.maximumf (F := Ideal) (φ := .f32)) (⊥ : EReal) f Finset.univ = Finset.fold max (⊥ : EReal) g Finset.univ := by
  rw [show f = g from funext h]
  rfl

/-- The largest of a row from minus infinity. -/
theorem reduce_at (s : FVec Ideal S4x8x4096x4096 .f32) (b : Fin 4) (h : Fin 8) (q : Fin 4096) :
    Host.reduce FloatOps.maximumf s (constant S_ .f32 0xFF800000#32) reducesTo_S4x8x4096x4096_S4x8x4096_d3 h_S_ (ix3 b h q) = Finset.fold max ⊥ (fun t : Fin 4096 => s (ix4 b h q t)) Finset.univ := by
  have hr : S4x8x4096x4096.Reduces [3] S4x8x4096 := by decide
  have hl : ∀ t : Fin 4096, Shape.Reduces.lift hr (ix3 b h q) t = ix4 b h q t := by
    intro t
    funext a
    match a with
    | ⟨0, _⟩ => rfl
    | ⟨1, _⟩ => rfl
    | ⟨2, _⟩ => rfl
    | ⟨3, _⟩ => rfl
  have hc : constant (F := Ideal) S_ .f32 0xFF800000#32 (Shape.Idx.first h_S_) = (⊥ : EReal) := by
    show Ideal.ofBits FTy.f32 0xFF800000#32 = ⊥
    simp [Ideal.ofBits, Ideal.ieee]
  rw [Host.reduce_eq_fold_single (FloatOps.maximumf (F := Ideal) (φ := .f32)) s _ _ hr, hc]
  have hg : ∀ t, (s ∘ Shape.Reduces.lift hr (ix3 b h q)) t = s (ix4 b h q t) := fun t => congrArg s (hl t)
  exact fold_eq _ _ hg

/-- The largest score at an index. -/
theorem top_at (s : FVec Ideal S4x8x4096x4096 .f32) (b : Fin 4) (h : Fin 8) (q : Fin 4096) :
    top s (ix3 b h q) = max ⊥ (Finset.fold max ⊥ (fun t : Fin 4096 => s (ix4 b h q t)) Finset.univ) := by
  have hbot : Ideal.ofBits FTy.f32 0xFF800000#32 = (⊥ : EReal) := by simp [Ideal.ofBits, Ideal.ieee]
  have hmax : ∀ R : FVec Ideal S4x8x4096 .f32, maximumf (broadcastInDim S4x8x4096 ![] bcast_S_S4x8x4096 (constant S_ .f32 0xFF800000#32)) R (ix3 b h q) = max ⊥ (R (ix3 b h q)) := by
    intro R
    rw [← hbot]
    rfl
  unfold top
  rw [hmax, reduce_at]

/-- The exponentials at an index. -/
theorem expd_at (s : FVec Ideal S4x8x4096x4096 .f32) (u : FVec Ideal S4x8x4096 .f32) (b : Fin 4) (h : Fin 8) (q t : Fin 4096) :
    expd s u (ix4 b h q t) = Ideal.exp (s (ix4 b h q t) - u (ix3 b h q)) := by
  pointwise [expd]

/-- The weights at an index. -/
theorem soft_at (e : FVec Ideal S4x8x4096x4096 .f32) (b : Fin 4) (h : Fin 8) (q t : Fin 4096) :
    soft e (ix4 b h q t) = Ideal.div (e (ix4 b h q t)) (∑ t' : Fin 4096, e (ix4 b h q t')) := by
  pointwise [soft]

/-- The result at an index. -/
theorem result_at (v : FVec Ideal S4x4096x8x128 .f32) (p : FVec Ideal S4x8x4096x4096 .f32) (j : S16384x1024.Idx) (b : Fin 4) (q : Fin 4096) (h : Fin 8) (e : Fin 128)
    (h0 : (j 0).val = b.val * 4096 + q.val) (h1 : (j 1).val = h.val * 128 + e.val) :
    result v p j = if he : e.val < 64 then 0 else ∑ t : Fin 4096, v (ix4 b t h ⟨64 + (e.val - 64), by omega⟩) * p (ix4 b h q t) := by
  obtain ⟨Q, hQ⟩ : ∃ Q : Fin 16384, Q.val = b.val * 4096 + q.val := ⟨⟨_, by omega⟩, rfl⟩
  obtain ⟨C, hC⟩ : ∃ C : Fin 1024, C.val = h.val * 128 + e.val := ⟨⟨_, by omega⟩, rfl⟩
  have ej : j = ix2 Q C := by
    funext a
    match a with
    | ⟨0, _⟩ => exact Fin.ext (h0.trans hQ.symm)
    | ⟨1, _⟩ => exact Fin.ext (h1.trans hC.symm)
  rw [ej]
  have e0 : (⟨Q.val / 4096, by omega⟩ : Fin 4) = b := Fin.ext (by show Q.val / 4096 = b.val; omega)
  have e1 : (⟨Q.val % 4096, by omega⟩ : Fin 4096) = q := Fin.ext (by show Q.val % 4096 = q.val; omega)
  have e2 : (⟨C.val / 128, by omega⟩ : Fin 8) = h := Fin.ext (by show C.val / 128 = h.val; omega)
  have e3 : C.val % 128 = e.val := by omega
  pointwise [result]
  simp only [e0, e1, e2, e3]

/-- The reference's result over the reals: each head's 64 attention lanes after 64 zeros. -/
theorem reference_at (qn : FVec Ideal S17408x8x64 .f32) (qp : FVec Ideal S17408x8x32 .f32) (cl : FVec Ideal S17408x256 .f32) (kp : FVec Ideal S17408x32 .f32) (wt : FVec Ideal S256x1024 .f32) (Qn : Fin 17408 → Fin 8 → Fin 64 → ℝ) (Qp : Fin 17408 → Fin 8 → Fin 32 → ℝ) (Cl : Fin 17408 → Fin 256 → ℝ)
    (Kp : Fin 17408 → Fin 32 → ℝ) (Wt : Fin 256 → Fin 1024 → ℝ) (σ : ℝ)
    (hqn : ∀ T h z, qn (ix3 T h z) = (Qn T h z : EReal)) (hqp : ∀ T h z, qp (ix3 T h z) = (Qp T h z : EReal)) (hcl : ∀ T x, cl (ix2 T x) = (Cl T x : EReal))
    (hkp : ∀ T x, kp (ix2 T x) = (Kp T x : EReal)) (hwt : ∀ x j, wt (ix2 x j) = (Wt x j : EReal)) (hσ : Ideal.ofBits .f32 0x3DD105EC#32 = (σ : EReal))
    (j : S16384x1024.Idx) (b : Fin 4) (q : Fin 4096) (h : Fin 8) (e : Fin 128) (h0 : (j 0).val = b.val * 4096 + q.val) (h1 : (j 1).val = h.val * 128 + e.val) :
    result (kv cl wt) (soft (expd (scores qn qp cl kp wt) (top (scores qn qp cl kp wt)))) j
      = ((if he : e.val < 64 then 0 else attn Qn Qp Cl Kp Wt σ b q h ⟨e.val - 64, by omega⟩ : ℝ) : EReal) := by
  have hkv : ∀ t (z : Fin 128), kv cl wt (ix4 b t h z) = (up Cl Wt b t ⟨h.val * 128 + z.val, by omega⟩ : EReal) := by
    intro t z
    rw [kv_at]
    simp only [hcl, hwt, ← EReal.coe_mul]
    rw [← coe_sum]
    rfl
  have hsc : ∀ t, scores qn qp cl kp wt (ix4 b h q t) = if t.val ≤ q.val then (sc Qn Qp Cl Kp Wt σ b q h t : EReal) else ⊥ := by
    intro t
    rw [scores_at]
    simp only [hkv, hqn, hqp, hkp, hσ, ← EReal.coe_mul]
    rw [← coe_sum, ← coe_sum, ← EReal.coe_add, ← EReal.coe_mul]
    rfl
  obtain ⟨M, hM⟩ := max_real (fun t : Fin 4096 => t.val ≤ q.val) (sc Qn Qp Cl Kp Wt σ b q h) ⊥ bot_ne_top (Or.inr ⟨q, le_rfl⟩)
  have htop : top (scores qn qp cl kp wt) (ix3 b h q) = (M : EReal) := by
    rw [top_at]
    simp only [hsc]
    exact hM
  have hex : ∀ t, expd (scores qn qp cl kp wt) (top (scores qn qp cl kp wt)) (ix4 b h q t) = ((Real.exp (-M) * weight (sc Qn Qp Cl Kp Wt σ b q h) q t : ℝ) : EReal) := by
    intro t
    rw [expd_at, hsc, htop]
    exact exp_masked _ _
  have hpos : 0 < ∑ t, weight (sc Qn Qp Cl Kp Wt σ b q h) q t := by
    refine Finset.sum_pos' (fun t _ => ?_) ⟨q, Finset.mem_univ _, ?_⟩
    · unfold weight
      split
      · exact (Real.exp_pos _).le
      · exact le_rfl
    · unfold weight
      rw [if_pos le_rfl]
      exact Real.exp_pos _
  have hsf : ∀ t, soft (expd (scores qn qp cl kp wt) (top (scores qn qp cl kp wt))) (ix4 b h q t)
      = ((weight (sc Qn Qp Cl Kp Wt σ b q h) q t / ∑ t', weight (sc Qn Qp Cl Kp Wt σ b q h) q t' : ℝ) : EReal) := by
    intro t
    rw [soft_at]
    simp only [hex]
    rw [← coe_sum, ← Finset.mul_sum, Ideal.div_coe (mul_pos (Real.exp_pos _) hpos).ne', ← EReal.coe_mul]
    have h1 := (Real.exp_pos (-M)).ne'
    have h2 := hpos.ne'
    refine congrArg (fun x : ℝ => (x : EReal)) ?_
    generalize (∑ t', weight (sc Qn Qp Cl Kp Wt σ b q h) q t') = S at h2 ⊢
    field_simp
  rw [result_at _ _ j b q h e h0 h1]
  by_cases he : e.val < 64
  · rw [dif_pos he, dif_pos he, EReal.coe_zero]
  · rw [dif_neg he, dif_neg he]
    simp only [hkv, hsf, ← EReal.coe_mul]
    rw [← coe_sum]
    rfl

end Cert.ReferenceIdeal.Mla

end
-- ==== Proof.MlaClaims.lean ====
module

public import proofs.«01_k».proof.Defs
public import proofs.«01_k».proof.Proof.Gen.Kernel.Frame
public import proofs.«01_k».proof.Proof.Gen.KernelIdeal.Value
public import proofs.«01_k».proof.Proof.MlaFinite
public import proofs.«01_k».proof.Proof.MlaValue
public import proofs.«01_k».proof.Proof.MlaReference
public import Idealize.ShloMosaic.Lib.Quiescent

/-!
The claims about the prompt's latent attention.
-/

@[expose] public section

set_option maxRecDepth 16384

noncomputable section

open Idealize.ShloMosaic Idealize.ShloMosaic.TcCoe Idealize.SL.Sem

namespace Cert.Proof.MlaClaims

open Cert.MlaMath

/-- The kernel runs. -/
theorem frame_p : Cert.quiescent_Kernel := fun m ρ _ => Cert.Kernel.Gen.frame m ρ

/-- The idealized kernel runs. -/
theorem frame_pi : Cert.quiescent_KernelIdeal := fun m ρ _ => Cert.KernelIdeal.Gen.frame m ρ

/-- The idealized kernel runs on finite arguments. -/
theorem frame_pi_finite : Cert.quiescent_KernelIdeal_pre_finite := fun m ρ _ => Cert.KernelIdeal.Gen.frame m ρ

/-- The reference runs. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference runs on finite arguments. -/
theorem frame_ri_finite : Cert.quiescent_ReferenceIdeal_pre_finite := fun m ρ _ => frame_ri m ρ trivial

/-- The one named constant: the mask's word is written as the bottom. -/
theorem preserves : Cert.preserves_Kernel_KernelIdeal :=
  IdealRules.named_const.statement Cert.KernelIdeal.κ "mask" .f32 0xF149F2CA#32 ⊥ rfl

/-- The kernel and the reference end with equal results. -/
theorem algebraic : Cert.algebraic_KernelIdeal_ReferenceIdeal_pre_finite := by
  intro m ρ m' ρ' hpre hagree
  have hreal := fun c => Cert.Pre_finite.Read.reals _ _ _ _ _ (hpre c)
  refine ⟨fun c => Cert.KernelIdeal.Gen.dats m 0 c |>.arrAt 6 Cert.KernelIdeal.cfg0.N, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨r0, r1, r2, r3, r4⟩ := hreal c
  obtain ⟨a0, a1, a2, a3, a4⟩ := hagree c
  rw [Cert.ReferenceIdeal.Mla.res_eq m' c _ _ _ _ _ a0 a1 a2 a3 a4]
  refine Eq.trans ?_ (Cert.KernelIdeal.Mla.final m c (fun T h z => _) (fun T h z => _) (fun T x => _) (fun T x => _) (fun x j => _)
    ⟨fun T h z => r0 (ix3 T h z), fun T h z => r1 (ix3 T h z), fun T x => r2 (ix2 T x), fun T x => r3 (ix2 T x), fun x j => r4 (ix2 x j)⟩).symm
  funext j
  have hj0 : (j 0).val < 16384 := (j 0).isLt
  have hj1 : (j 1).val < 1024 := (j 1).isLt
  obtain ⟨b, hb⟩ : ∃ b : Fin 4, b.val = (j 0).val / 4096 := ⟨⟨_, by omega⟩, rfl⟩
  obtain ⟨q, hq⟩ : ∃ q : Fin 4096, q.val = (j 0).val % 4096 := ⟨⟨_, by omega⟩, rfl⟩
  obtain ⟨h, hh⟩ : ∃ h : Fin 8, h.val = (j 1).val / 128 := ⟨⟨_, by omega⟩, rfl⟩
  obtain ⟨e, he⟩ : ∃ e : Fin 128, e.val = (j 1).val % 128 := ⟨⟨_, by omega⟩, rfl⟩
  have h0 : (j 0).val = b.val * 4096 + q.val := by omega
  have h1 : (j 1).val = h.val * 128 + e.val := by omega
  rw [Cert.KernelIdeal.Mla.outR_at _ _ _ _ _ j b q h e h0 h1]
  exact Cert.ReferenceIdeal.Mla.reference_at _ _ _ _ _ _ _ _ _ _ _ (fun T h z => r0 (ix3 T h z)) (fun T h z => r1 (ix3 T h z))
    (fun T x => r2 (ix2 T x)) (fun T x => r3 (ix2 T x)) (fun x j => r4 (ix2 x j)) Cert.KernelIdeal.Mla.scale_real j b q h e h0 h1

end Cert.Proof.MlaClaims

end
-- ==== Proof.MergeMath.lean ====
module

public import Idealize.ShloMosaic.Lib.Pointwise

/-!
The merge of the branches, the norm after it and the experts' queries, one row at a time, over the extended reals.
-/

@[expose] public section

noncomputable section

open Idealize.ShloMosaic

namespace Cert.MergeMath

/-- A sum over eight groups of 128 whose first 64 terms vanish is the sum over the eight groups' last 64. -/
theorem sum_upper (f : Fin 1024 → EReal) (g : Fin 512 → EReal)
    (h0 : ∀ p : Fin 1024, p.val % 128 < 64 → f p = 0)
    (h1 : ∀ s : Fin 512, f ⟨s.val / 64 * 128 + (64 + s.val % 64), by omega⟩ = g s) :
    ∑ p, f p = ∑ s, g s := by
  let e : Fin 512 ↪ Fin 1024 := ⟨fun s => ⟨s.val / 64 * 128 + (64 + s.val % 64), by omega⟩, fun s t hst => by
    have := congrArg Fin.val hst
    simp only at this
    exact Fin.ext (by omega)⟩
  have hg : ∑ s, g s = ∑ p ∈ Finset.univ.map e, f p := by
    rw [Finset.sum_map]
    exact Finset.sum_congr rfl fun s _ => (h1 s).symm
  rw [hg]
  refine (Finset.sum_subset (Finset.subset_univ _) fun p _ hp => ?_).symm
  refine h0 p ?_
  by_contra hlt
  refine hp (Finset.mem_map.2 ⟨⟨p.val / 128 * 64 + (p.val % 128 - 64), by omega⟩, Finset.mem_univ _, Fin.ext ?_⟩)
  show (p.val / 128 * 64 + (p.val % 128 - 64)) / 64 * 128 + (64 + (p.val / 128 * 64 + (p.val % 128 - 64)) % 64) = p.val
  omega

variable (x a : Fin 1024 → EReal) (b c : Fin 256 → EReal) (g : Fin 3072 → EReal) (wa : Fin 512 → Fin 1024 → EReal)
  (wb wc : Fin 256 → Fin 1024 → EReal) (wo : Fin 1024 → Fin 1024 → EReal) (gf : Fin 1024 → EReal) (wq : Fin 1024 → Fin 2048 → EReal)

/-- The three branches, projected, gated and added. -/
def gated (k : Fin 1024) : EReal :=
  g ⟨k.val, by omega⟩ * ∑ s : Fin 512, a ⟨s.val / 64 * 128 + (64 + s.val % 64), by omega⟩ * wa s k
    + g ⟨1024 + k.val, by omega⟩ * ∑ s : Fin 256, b s * wb s k + g ⟨2048 + k.val, by omega⟩ * ∑ s : Fin 256, c s * wc s k

/-- The new row: the old one plus the merged branches, projected. -/
def next (j : Fin 1024) : EReal := x j + ∑ k : Fin 1024, gated a b c g wa wb wc k * wo k j

/-- A row over the root of its mean square, times the gain. -/
def rmsRow (u gf : Fin 1024 → EReal) (j : Fin 1024) : EReal :=
  u j * Ideal.rsqrt (Ideal.div (∑ k : Fin 1024, u k * u k) (Ideal.ofBits .f32 0x44800000#32) + Ideal.ofBits .f32 0x358637BD#32) * gf j

/-- The row the experts' queries come from. -/
def normed : Fin 1024 → EReal := rmsRow (next x a b c g wa wb wc wo) gf

/-- The experts' queries. -/
def query (j : Fin 2048) : EReal := ∑ k : Fin 1024, normed x a b c g wa wb wc wo gf k * wq k j

end Cert.MergeMath

end
-- ==== Proof.MergeTile.lean ====
module

public import proofs.«01_k».proof.Proof.Gen.Kernel2Ideal.Value
public import Idealize.ShloMosaic.Lib.Pipeline.ValueKit
public import Idealize.ShloMosaic.Lib.Pointwise
public import proofs.«01_k».proof.Proof.MergeMath

/-!
The merge kernel's arithmetic at an index, and what a grid point's blocks hold.
-/

@[expose] public section

set_option maxRecDepth 16384

noncomputable section

open Idealize.ShloMosaic Idealize.ShloMosaic.TcCoe Idealize.ShloMosaic.Tactic Idealize.SL.Sem

namespace Cert.Kernel2Ideal.Merge

open Cert.Kernel2Ideal Cert.Kernel2Ideal.Gen Cert.MergeMath

/-- The new row of a tile. -/
theorem next_at (v0 v2 : Vec Ideal S256x1024 .bf16) (v3 : Vec Ideal S1024x1024 .bf16) (v7 : Vec Ideal S256x1024 .bf16) (v9 : Vec Ideal S256x256 .bf16)
    (v10 v15 : Vec Ideal S256x1024 .bf16) (v17 : Vec Ideal S256x256 .bf16) (v18 : Vec Ideal S256x1024 .bf16) (v23 : Vec Ideal S256x1024 .f32)
    (v25 : Vec Ideal S1024x1024 .bf16) (r : Fin 256) (j : Fin 1024) :
    k0_pay2 v0 v2 v3 v7 v9 v10 v15 v17 v18 v23 v25 (ix2 r j)
      = (v23 (ix2 r j) + ∑ k : Fin 1024, (v0 (ix2 r k) * ∑ p : Fin 1024, v2 (ix2 r p) * v3 (ix2 p k)
          + v7 (ix2 r k) * ∑ s : Fin 256, v9 (ix2 r s) * v10 (ix2 s k) + v15 (ix2 r k) * ∑ s : Fin 256, v17 (ix2 r s) * v18 (ix2 s k)) * v25 (ix2 k j) : EReal) := by
  pointwise [k0_pay2]

/-- The normed row of a tile. -/
theorem norm_at (v : FVec Ideal S256x1024 .f32) (w : Vec Ideal S1x1024 .f32) (r : Fin 256) (j : Fin 1024) :
    k0_pay3 v w (ix2 r j) = rmsRow (fun k => v (ix2 r k)) (fun k => w (ix2 0 k)) j := by
  pointwise [k0_pay3]
  rfl

/-- The eight stores of the experts' queries, one per head. -/
def heads (v : FVec Ideal S256x1024 .f32) (w : Vec Ideal S1x1024 .f32) (x10 : Vec Ideal S1024x2048 .bf16) : Vec Ideal S8x256x256 .f32 :=
  View.canon [⟨r0_23, k0_pay1 (k0_pay4 v w) (View.ld x10 r0_22)⟩, ⟨r0_21, k0_pay13 (k0_pay4 v w) (View.ld x10 r0_20)⟩,
    ⟨r0_19, k0_pay12 (k0_pay4 v w) (View.ld x10 r0_18)⟩, ⟨r0_17, k0_pay11 (k0_pay4 v w) (View.ld x10 r0_16)⟩,
    ⟨r0_15, k0_pay10 (k0_pay4 v w) (View.ld x10 r0_14)⟩, ⟨r0_13, k0_pay9 (k0_pay8 v w (View.ld x10 r0_12))⟩,
    ⟨r0_11, k0_pay7 v w (View.ld x10 r0_10)⟩, ⟨r0_9, k0_pay6 v w (View.ld x10 r0_8)⟩]

/-- One element of what the eight stores leave. -/
theorem heads_at (v : FVec Ideal S256x1024 .f32) (w : Vec Ideal S1x1024 .f32) (x10 : Vec Ideal S1024x2048 .bf16) (y : S8x256x256.Idx)
    (r : Fin 256) (j : Fin 2048) (hr : (y 1 : ℕ) = r) (hj : j.val = (y 0 : ℕ) * 256 + (y 2 : ℕ)) :
    heads v w x10 y = (∑ k : Fin 1024, k0_pay3 v w (ix2 r k) * x10 (ix2 k j) : EReal) := by
  unfold heads
  canon_tiles x hh
  all_goals (
    obtain ⟨r, hrr⟩ := r
    obtain ⟨j, hjj⟩ := j
    simp only at hr hj)
  case piece0 =>
    obtain rfl : r = (x 1).val := by omega
    rw [show (⟨j, hjj⟩ : Fin 2048) = ⟨1792 + (x 2).val, by omega⟩ from Fin.ext (by simp only []; omega)]
    pointwise [k0_pay1, k0_pay4]
  case piece1 =>
    obtain rfl : r = (x 1).val := by omega
    rw [show (⟨j, hjj⟩ : Fin 2048) = ⟨1536 + (x 2).val, by omega⟩ from Fin.ext (by simp only []; omega)]
    pointwise [k0_pay13, k0_pay4]
  case piece2 =>
    obtain rfl : r = (x 1).val := by omega
    rw [show (⟨j, hjj⟩ : Fin 2048) = ⟨1280 + (x 2).val, by omega⟩ from Fin.ext (by simp only []; omega)]
    pointwise [k0_pay12, k0_pay4]
  case piece3 =>
    obtain rfl : r = (x 1).val := by omega
    rw [show (⟨j, hjj⟩ : Fin 2048) = ⟨1024 + (x 2).val, by omega⟩ from Fin.ext (by simp only []; omega)]
    pointwise [k0_pay11, k0_pay4]
  case piece4 =>
    obtain rfl : r = (x 1).val := by omega
    rw [show (⟨j, hjj⟩ : Fin 2048) = ⟨768 + (x 2).val, by omega⟩ from Fin.ext (by simp only []; omega)]
    pointwise [k0_pay10, k0_pay4]
  case piece5 =>
    obtain rfl : r = (x 1).val := by omega
    rw [show (⟨j, hjj⟩ : Fin 2048) = ⟨512 + (x 2).val, by omega⟩ from Fin.ext (by simp only []; omega)]
    pointwise [k0_pay9, k0_pay8, k0_pay4]
  case piece6 =>
    obtain rfl : r = (x 1).val := by omega
    rw [show (⟨j, hjj⟩ : Fin 2048) = ⟨256 + (x 2).val, by omega⟩ from Fin.ext (by simp only []; omega)]
    pointwise [k0_pay7, k0_pay4]
  case piece7 =>
    obtain rfl : r = (x 1).val := by omega
    rw [show (⟨j, hjj⟩ : Fin 2048) = ⟨(x 2).val, by omega⟩ from Fin.ext (by simp only []; omega)]
    pointwise [k0_pay6, k0_pay4]

end Cert.Kernel2Ideal.Merge

end
-- ==== Proof.MergeWindows.lean ====
module

public import proofs.«01_k».proof.Proof.Gen.Kernel2Ideal.Value
public import Idealize.ShloMosaic.Lib.Pipeline.ValueKit
public import Idealize.ShloMosaic.Lib.Pointwise

/-!
What a grid point's blocks of the merge hold, in terms of the call's arguments.
-/

@[expose] public section

set_option maxRecDepth 16384

noncomputable section

open Idealize.ShloMosaic Idealize.ShloMosaic.TcCoe Idealize.ShloMosaic.Tactic Idealize.SL.Sem

namespace Cert.Kernel2Ideal.Merge

open Cert.Kernel2Ideal Cert.Kernel2Ideal.Gen

variable (m : (ℓ : Loc nD τ sig) → Buf (Elt Ideal) ℓ) (c : Dev nD) (t : Fin cfg0.N)

/-- The blocks of the windows that move with the grid's one coordinate. -/
theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_11.index t = ![t.val, 0] ∧ win0_12.index t = ![0, t.val]
    ∧ win0_13.index t = ![0, t.val, 0] ∧ t.val < 68 :=
  (by decide +kernel : ∀ t : Fin grid0.N, _)

/-- The blocks of the windows that hold a whole weight. -/
theorem idx_whole : ∀ t : Fin cfg0.N, win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

/-- A grid point's rows of x. -/
theorem x0_at (r : Fin 256) (j : Fin 1024) (T : Fin 17408) (hT : T.val = t.val * 256 + r.val) :
    (show FVec Ideal S256x1024 .f32 from iblk m c 0 t) (ix2 r j) = (show FVec Ideal S17408x1024 .f32 from m ((c : Thread nD τ).loc main_arg0)) (ix2 T j) := by
  show iblk m c 0 t (ix2 r j) = _
  blk_ext [iblk, V, idx_rows t]

/-- A grid point's rows of the latent branch. -/
theorem x1_at (r : Fin 256) (j : Fin 1024) (T : Fin 17408) (hT : T.val = t.val * 256 + r.val) :
    (show FVec Ideal S256x1024 .bf16 from iblk m c 1 t) (ix2 r j) = (show FVec Ideal S17408x1024 .bf16 from m ((c : Thread nD τ).loc main_arg1)) (ix2 T j) := by
  show iblk m c 1 t (ix2 r j) = _
  blk_ext [iblk, V, idx_rows t]

/-- A grid point's rows of the block branch. -/
theorem x2_at (r : Fin 256) (j : Fin 256) (T : Fin 17408) (hT : T.val = t.val * 256 + r.val) :
    (show FVec Ideal S256x256 .bf16 from iblk m c 2 t) (ix2 r j) = (show FVec Ideal S17408x256 .bf16 from m ((c : Thread nD τ).loc main_arg2)) (ix2 T j) := by
  show iblk m c 2 t (ix2 r j) = _
  blk_ext [iblk, V, idx_rows t]

/-- A grid point's rows of the mixing branch. -/
theorem x3_at (r : Fin 256) (j : Fin 256) (T : Fin 17408) (hT : T.val = t.val * 256 + r.val) :
    (show FVec Ideal S256x256 .bf16 from iblk m c 3 t) (ix2 r j) = (show FVec Ideal S17408x256 .bf16 from m ((c : Thread nD τ).loc main_arg3)) (ix2 T j) := by
  show iblk m c 3 t (ix2 r j) = _
  blk_ext [iblk, V, idx_rows t]

/-- A grid point's rows of the gates. -/
theorem x4_at (r : Fin 256) (j : Fin 3072) (T : Fin 17408) (hT : T.val = t.val * 256 + r.val) :
    (show FVec Ideal S256x3072 .bf16 from iblk m c 4 t) (ix2 r j) = (show FVec Ideal S17408x3072 .bf16 from m ((c : Thread nD τ).loc main_arg4)) (ix2 T j) := by
  show iblk m c 4 t (ix2 r j) = _
  blk_ext [iblk, V, idx_rows t]

/-- The padded weights of the latent branch at region entry: each head's 64 rows after 64 zero rows. -/
theorem v4_at (p k : Fin 1024) :
    (show FVec Ideal S1024x1024 .bf16 from V m c main_v4) (ix2 p k)
      = if h : p.val % 128 < 64 then 0 else (show FVec Ideal S512x1024 .f32 from m ((c : Thread nD τ).loc main_arg5)) (ix2 ⟨p.val / 128 * 64 + (p.val % 128 - 64), by omega⟩ k) := by
  show V m c main_v4 (ix2 p k) = _
  entry_read
  pointwise []

/-- The latent branch's weights in a grid point's block. -/
theorem x5_at (p k : Fin 1024) :
    (show FVec Ideal S1024x1024 .bf16 from iblk m c 5 t) (ix2 p k) = (show FVec Ideal S1024x1024 .bf16 from V m c main_v4) (ix2 p k) := by
  show iblk m c 5 t (ix2 p k) = V m c main_v4 (ix2 p k)
  unfold iblk
  refine congrArg (V m c main_v4) ?_
  blk_ext [idx_whole t]

/-- The block branch's weights. -/
theorem x6_at (p : Fin 256) (k : Fin 1024) :
    (show FVec Ideal S256x1024 .bf16 from iblk m c 6 t) (ix2 p k) = (show FVec Ideal S256x1024 .f32 from m ((c : Thread nD τ).loc main_arg6)) (ix2 p k) := by
  show iblk m c 6 t (ix2 p k) = _
  blk_simp [iblk, idx_whole t]
  entry_read
  pointwise []
  blk_point [idx_whole t]

/-- The mixing branch's weights. -/
theorem x7_at (p : Fin 256) (k : Fin 1024) :
    (show FVec Ideal S256x1024 .bf16 from iblk m c 7 t) (ix2 p k) = (show FVec Ideal S256x1024 .f32 from m ((c : Thread nD τ).loc main_arg7)) (ix2 p k) := by
  show iblk m c 7 t (ix2 p k) = _
  blk_simp [iblk, idx_whole t]
  entry_read
  pointwise []
  blk_point [idx_whole t]

/-- The output weights. -/
theorem x8_at (p : Fin 1024) (k : Fin 1024) :
    (show FVec Ideal S1024x1024 .bf16 from iblk m c 8 t) (ix2 p k) = (show FVec Ideal S1024x1024 .f32 from m ((c : Thread nD τ).loc main_arg8)) (ix2 p k) := by
  show iblk m c 8 t (ix2 p k) = _
  blk_simp [iblk, idx_whole t]
  entry_read
  pointwise []
  blk_point [idx_whole t]

/-- The gain. -/
theorem x9_at (k : Fin 1024) :
    (show FVec Ideal S1x1024 .f32 from iblk m c 9 t) (ix2 0 k) = (show FVec Ideal S1024 .f32 from m ((c : Thread nD τ).loc main_arg9)) (ix1 k) := by
  show iblk m c 9 t (ix2 0 k) = _
  blk_simp [iblk, idx_whole t]
  entry_read
  pointwise []
  blk_point [idx_whole t]

/-- The experts' query weights. -/
theorem x10_at (p : Fin 1024) (k : Fin 2048) :
    (show FVec Ideal S1024x2048 .bf16 from iblk m c 10 t) (ix2 p k) = (show FVec Ideal S1024x2048 .f32 from m ((c : Thread nD τ).loc main_arg10)) (ix2 p k) := by
  show iblk m c 10 t (ix2 p k) = _
  blk_simp [iblk, idx_whole t]
  entry_read
  pointwise []
  blk_point [idx_whole t]

end Cert.Kernel2Ideal.Merge

end
-- ==== Proof.MergeValue.lean ====
module

public import proofs.«01_k».proof.Proof.Gen.Kernel2Ideal.Value
public import Idealize.ShloMosaic.Lib.Pipeline.ValueKit
public import Idealize.ShloMosaic.Lib.Pointwise
public import proofs.«01_k».proof.Proof.MergeTile
public import proofs.«01_k».proof.Proof.MergeWindows

/-!
The merge kernel's three result arrays, in terms of the call's arguments.
-/

@[expose] public section

set_option maxRecDepth 16384

noncomputable section

open Idealize.ShloMosaic Idealize.ShloMosaic.TcCoe Idealize.ShloMosaic.Tactic Idealize.SL.Sem

namespace Cert.Kernel2Ideal.Merge

open Cert.Kernel2Ideal Cert.Kernel2Ideal.Gen Cert.MergeMath

/-- The new row of a tile, from the whole blocks. -/
theorem tile_next (x0 : Vec Ideal S256x1024 .f32) (x1 : Vec Ideal S256x1024 .bf16) (x2 x3 : Vec Ideal S256x256 .bf16) (x4 : Vec Ideal S256x3072 .bf16)
    (x5 : Vec Ideal S1024x1024 .bf16) (x6 x7 : Vec Ideal S256x1024 .bf16) (x8 : Vec Ideal S1024x1024 .bf16) (x9 : Vec Ideal S1x1024 .f32)
    (x10 : Vec Ideal S1024x2048 .bf16) (r : Fin 256) (j : Fin 1024) :
    k0_pay14 x0 x1 x2 x3 x4 x5 x6 x7 x8 x9 x10 (ix2 r j)
      = (x0 (ix2 r j) + ∑ k : Fin 1024, (x4 (ix2 r ⟨k.val, by omega⟩) * ∑ p : Fin 1024, x1 (ix2 r p) * x5 (ix2 p k)
          + x4 (ix2 r ⟨1024 + k.val, by omega⟩) * ∑ s : Fin 256, x2 (ix2 r s) * x6 (ix2 s k)
          + x4 (ix2 r ⟨2048 + k.val, by omega⟩) * ∑ s : Fin 256, x3 (ix2 r s) * x7 (ix2 s k)) * x8 (ix2 k j) : EReal) := by
  unfold k0_pay14
  rw [next_at]
  pointwise []

/-- The new row is what the window of the first result holds. -/
theorem out_next (x0 : Vec Ideal S256x1024 .f32) (x1 : Vec Ideal S256x1024 .bf16) (x2 x3 : Vec Ideal S256x256 .bf16) (x4 : Vec Ideal S256x3072 .bf16)
    (x5 : Vec Ideal S1024x1024 .bf16) (x6 x7 : Vec Ideal S256x1024 .bf16) (x8 : Vec Ideal S1024x1024 .bf16) (x9 : Vec Ideal S1x1024 .f32)
    (x10 : Vec Ideal S1024x2048 .bf16) (y : S256x1024.Idx) :
    out0_11 x0 x1 x2 x3 x4 x5 x6 x7 x8 x9 x10 y = k0_pay14 x0 x1 x2 x3 x4 x5 x6 x7 x8 x9 x10 y := by
  unfold out0_11 k0_pay14
  canon_tiles x hh
  case piece0 => exact congrArg _ (funext fun i => Fin.ext (by fin_cases i <;> simp_all))

/-- The normed rows, transposed, are what the window of the second result holds. -/
theorem out_norm (x0 : Vec Ideal S256x1024 .f32) (x1 : Vec Ideal S256x1024 .bf16) (x2 x3 : Vec Ideal S256x256 .bf16) (x4 : Vec Ideal S256x3072 .bf16)
    (x5 : Vec Ideal S1024x1024 .bf16) (x6 x7 : Vec Ideal S256x1024 .bf16) (x8 : Vec Ideal S1024x1024 .bf16) (x9 : Vec Ideal S1x1024 .f32)
    (x10 : Vec Ideal S1024x2048 .bf16) (y : S1024x256.Idx) :
    out0_12 x0 x1 x2 x3 x4 x5 x6 x7 x8 x9 x10 y = k0_pay3 (k0_pay14 x0 x1 x2 x3 x4 x5 x6 x7 x8 x9 x10) (View.ld x9 r0_6) (ix2 (y 1) (y 0)) := by
  unfold out0_12
  generalize k0_pay14 x0 x1 x2 x3 x4 x5 x6 x7 x8 x9 x10 = v
  canon_tiles x hh
  case piece0 =>
    pointwise [k0_pay5]
    exact congrArg₂ (fun a b => k0_pay3 v (View.ld x9 r0_6) (ix2 a b)) (Fin.ext hh1.symm) (Fin.ext hh0.symm)

variable (m : (ℓ : Loc nD τ sig) → Buf (Elt Ideal) ℓ) (c : Dev nD)

/-- The new row, from the arguments. -/
def nextRow (T : Fin 17408) : Fin 1024 → EReal :=
  next (fun j => (show FVec Ideal S17408x1024 .f32 from m ((c : Thread nD τ).loc main_arg0)) (ix2 T j))
    (fun j => (show FVec Ideal S17408x1024 .bf16 from m ((c : Thread nD τ).loc main_arg1)) (ix2 T j))
    (fun j => (show FVec Ideal S17408x256 .bf16 from m ((c : Thread nD τ).loc main_arg2)) (ix2 T j))
    (fun j => (show FVec Ideal S17408x256 .bf16 from m ((c : Thread nD τ).loc main_arg3)) (ix2 T j))
    (fun j => (show FVec Ideal S17408x3072 .bf16 from m ((c : Thread nD τ).loc main_arg4)) (ix2 T j))
    (fun s j => (show FVec Ideal S512x1024 .f32 from m ((c : Thread nD τ).loc main_arg5)) (ix2 s j))
    (fun s j => (show FVec Ideal S256x1024 .f32 from m ((c : Thread nD τ).loc main_arg6)) (ix2 s j))
    (fun s j => (show FVec Ideal S256x1024 .f32 from m ((c : Thread nD τ).loc main_arg7)) (ix2 s j))
    (fun s j => (show FVec Ideal S1024x1024 .f32 from m ((c : Thread nD τ).loc main_arg8)) (ix2 s j))

/-- The normed row, from the arguments. -/
def normRow (T : Fin 17408) : Fin 1024 → EReal :=
  rmsRow (nextRow m c T) (fun k => (show FVec Ideal S1024 .f32 from m ((c : Thread nD τ).loc main_arg9)) (ix1 k))

/-- The experts' queries of a row, from the arguments. -/
def queryRow (T : Fin 17408) (j : Fin 2048) : EReal :=
  ∑ k : Fin 1024, normRow m c T k * (show FVec Ideal S1024x2048 .f32 from m ((c : Thread nD τ).loc main_arg10)) (ix2 k j)

variable (t : Fin cfg0.N)

/-- A grid point's new rows. -/
abbrev pointNext : FVec Ideal S256x1024 .f32 :=
  k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- A grid point's new rows, from the arguments. -/
theorem point_next (r : Fin 256) (j : Fin 1024) (T : Fin 17408) (hT : T.val = t.val * 256 + r.val) :
    pointNext m c t (ix2 r j) = nextRow m c T j := by
  unfold pointNext
  rw [tile_next]
  unfold nextRow next gated
  refine congrArg₂ (· + ·) (x0_at m c t r j T hT) (Finset.sum_congr rfl fun k _ => congrArg₂ (· * ·) ?_ (x8_at m c t k j))
  refine congrArg₂ (· + ·) (congrArg₂ (· + ·) (congrArg₂ (· * ·) (x4_at m c t r _ T hT) ?_)
    (congrArg₂ (· * ·) (x4_at m c t r _ T hT) (Finset.sum_congr rfl fun s _ => congrArg₂ (· * ·) (x2_at m c t r s T hT) (x6_at m c t s k))))
    (congrArg₂ (· * ·) (x4_at m c t r _ T hT) (Finset.sum_congr rfl fun s _ => congrArg₂ (· * ·) (x3_at m c t r s T hT) (x7_at m c t s k)))
  refine sum_upper _ _ (fun p hp => ?_) fun s => ?_
  · refine (congrArg₂ (· * ·) rfl ((x5_at m c t p k).trans ((v4_at m c p k).trans (dif_pos hp)))).trans (mul_zero _)
  · refine congrArg₂ (· * ·) (x1_at m c t r _ T hT) ((x5_at m c t _ k).trans ((v4_at m c _ k).trans ((dif_neg ?_).trans ?_)))
    · show ¬ (s.val / 64 * 128 + (64 + s.val % 64)) % 128 < 64
      omega
    · refine congrArg (fun i => (show FVec Ideal S512x1024 .f32 from m ((c : Thread nD τ).loc main_arg5)) (ix2 i k)) (Fin.ext ?_)
      show (s.val / 64 * 128 + (64 + s.val % 64)) / 128 * 64 + ((s.val / 64 * 128 + (64 + s.val % 64)) % 128 - 64) = s.val
      omega

/-- A grid point's normed rows, from the arguments. -/
theorem point_norm (r : Fin 256) (j : Fin 1024) (T : Fin 17408) (hT : T.val = t.val * 256 + r.val) :
    k0_pay3 (pointNext m c t) (View.ld (iblk m c 9 t) r0_6) (ix2 r j) = normRow m c T j := by
  rw [norm_at]
  unfold normRow
  refine congrArg₂ (fun u g => rmsRow u g j) (funext fun k => point_next m c t r k T hT) (funext fun k => ?_)
  refine Eq.trans ?_ (x9_at m c t k)
  show View.ld (iblk m c 9 t) r0_6 (ix2 0 k) = iblk m c 9 t (ix2 0 k)
  generalize iblk m c 9 t = x9
  pointwise []

/-- The first result array. -/
theorem final_next : (dats m 0 c).arrAt 11 cfg0.N = fun j : S17408x1024.Idx => nextRow m c (j 0) (j 1) := by
  refine (dats m 0 c).arrAt_eq_of_covers 11 _ (by decide +kernel) fun t _ y => ?_
  blk_simp
  rw [after0_11, out_next]
  have hy : y = ix2 (y 0) (y 1) := funext fun i => by fin_cases i <;> rfl
  rw [hy]
  have key : ∀ (T : Fin 17408) (j : Fin 1024), T.val = t.val * 256 + (y 0).val → j.val = (y 1).val →
      pointNext m c t (ix2 (y 0) (y 1)) = nextRow m c T j := by
    intro T j hT hj
    rw [show j = y 1 from Fin.ext hj]
    exact point_next m c t (y 0) (y 1) T hT
  refine key _ _ ?_ ?_
  · blk_simp [idx_rows t]
  · blk_simp [idx_rows t]

/-- The second result array. -/
theorem final_norm : (dats m 0 c).arrAt 12 cfg0.N = fun j : S1024x17408.Idx => normRow m c (j 1) (j 0) := by
  refine (dats m 0 c).arrAt_eq_of_covers 12 _ (by decide +kernel) fun t _ y => ?_
  blk_simp
  rw [after0_12, out_norm]
  have key : ∀ (T : Fin 17408) (j : Fin 1024), T.val = t.val * 256 + (y 1).val → j.val = (y 0).val →
      k0_pay3 (pointNext m c t) (View.ld (iblk m c 9 t) r0_6) (ix2 (y 1) (y 0)) = normRow m c T j := by
    intro T j hT hj
    rw [show j = y 0 from Fin.ext hj]
    exact point_norm m c t (y 1) (y 0) T hT
  refine key _ _ ?_ ?_
  · blk_simp [idx_rows t]
  · blk_simp [idx_rows t]

/-- The third result array. -/
theorem final_query : (dats m 0 c).arrAt 13 cfg0.N = fun j : S8x17408x256.Idx => queryRow m c (j 1) ⟨(j 0).val * 256 + (j 2).val, by
    have h0 : (j 0).val < 8 := (j 0).isLt
    have h2 : (j 2).val < 256 := (j 2).isLt
    omega⟩ := by
  refine (dats m 0 c).arrAt_eq_of_covers 13 _ (by decide +kernel) fun t _ y => ?_
  blk_simp
  rw [after0_13]
  have h0 : (y 0).val < 8 := (y 0).isLt
  have h1 : (y 1).val < 256 := (y 1).isLt
  have h2 : (y 2).val < 256 := (y 2).isLt
  have ht : t.val < 68 := (idx_rows t).2.2.2.2.2.2.2.2
  refine (heads_at (pointNext m c t) (View.ld (iblk m c 9 t) r0_6) (iblk m c 10 t) y (y 1) ⟨(y 0).val * 256 + (y 2).val, by omega⟩ rfl rfl).trans ?_
  have key : ∀ T : Fin 17408, T.val = t.val * 256 + (y 1).val → ∀ n : Fin 2048, n.val = (y 0).val * 256 + (y 2).val →
      (∑ k : Fin 1024, k0_pay3 (pointNext m c t) (View.ld (iblk m c 9 t) r0_6) (ix2 (y 1) k) * (show FVec Ideal S1024x2048 .bf16 from iblk m c 10 t) (ix2 k ⟨(y 0).val * 256 + (y 2).val, by omega⟩) : EReal)
        = queryRow m c T n := by
    intro T hT n hn
    rw [show n = ⟨(y 0).val * 256 + (y 2).val, by omega⟩ from Fin.ext hn]
    unfold queryRow
    exact Finset.sum_congr rfl fun k _ => congrArg₂ (· * ·) (point_norm m c t (y 1) k T hT) (x10_at m c t k _)
  refine key _ ?_ _ ?_
  · blk_simp [idx_rows t]
  · blk_simp [idx_rows t]

end Cert.Kernel2Ideal.Merge

end
-- ==== Proof.MergeReference.lean ====
module

public import proofs.«01_k».proof.Proof.Gen.Reference2Ideal.Run
public import proofs.«01_k».proof.Proof.MergeMath
public import Idealize.ShloMosaic.Lib.Pointwise

/-!
The merge's reference, in terms of its arguments.
-/

@[expose] public section

set_option maxRecDepth 16384

noncomputable section

open Idealize.ShloMosaic Idealize.ShloMosaic.TcCoe Idealize.ShloMosaic.Tactic Idealize.SL.Sem

namespace Cert.Reference2Ideal.Merge

open Cert.Reference2Ideal Cert.Reference2Ideal.Gen Cert.MergeMath

variable (x : FVec Ideal S17408x1024 .f32) (a : FVec Ideal S17408x1024 .bf16) (b c : FVec Ideal S17408x256 .bf16) (g : FVec Ideal S17408x3072 .bf16)
  (wa : FVec Ideal S512x1024 .f32) (wb wc : FVec Ideal S256x1024 .f32) (wo : FVec Ideal S1024x1024 .f32) (gf : FVec Ideal S1024 .f32) (wq : FVec Ideal S1024x2048 .f32)

/-- The gates, three rows of 1024 per token. -/
def gates : FVec Ideal S17408x3x1024 .f32 :=
  shapeCast _ (extf .f32 g bitsLt_bf16_f32) shapeCasts_S17408x3072_S17408x3x1024

/-- The branches, projected, gated and added. -/
def mixed : FVec Ideal S17408x1024 .f32 :=
  addf (addf (mulf (shapeCast _ (extractStridedSlice S17408x1x1024 ![0, 0, 0] (gates g) slices_S17408x3x1024_S17408x1x1024_0_0_0) shapeCasts_S17408x1x1024_S17408x1024)
      (Host.dotGeneral dot_S17408x512_S512x1024_S17408x1024_1_0_0_1_n_n none (shapeCast _ (extractStridedSlice S17408x8x64 ![0, 0, 64] (shapeCast _ (extf .f32 a bitsLt_bf16_f32) shapeCasts_S17408x1024_S17408x8x128) slices_S17408x8x128_S17408x8x64_0_0_64) shapeCasts_S17408x8x64_S17408x512) wa))
    (mulf (shapeCast _ (extractStridedSlice S17408x1x1024 ![0, 1, 0] (gates g) slices_S17408x3x1024_S17408x1x1024_0_1_0) shapeCasts_S17408x1x1024_S17408x1024)
      (Host.dotGeneral dot_S17408x256_S256x1024_S17408x1024_1_0_0_1_n_n none (extf .f32 b bitsLt_bf16_f32) wb)))
    (mulf (shapeCast _ (extractStridedSlice S17408x1x1024 ![0, 2, 0] (gates g) slices_S17408x3x1024_S17408x1x1024_0_2_0) shapeCasts_S17408x1x1024_S17408x1024)
      (Host.dotGeneral dot_S17408x256_S256x1024_S17408x1024_1_0_0_1_n_n none (extf .f32 c bitsLt_bf16_f32) wc))

/-- The new rows. -/
def fresh (u : FVec Ideal S17408x1024 .f32) : FVec Ideal S17408x1024 .f32 :=
  addf x (Host.dotGeneral dot_S17408x1024_S1024x1024_S17408x1024_1_0_0_1_n_n none u wo)

/-- Rows over the root of their mean square, times the gain. -/
def scaled (u : FVec Ideal S17408x1024 .f32) : FVec Ideal S17408x1024 .f32 :=
  mulf (mulf u (broadcastInDim S17408x1024 ![0, 1] bcast_S17408x1_S17408x1024_0_1 (Host.rsqrt (addf (Host.divf (broadcastInDim S17408x1 ![0] bcast_S17408_S17408x1_0
      (Host.reduceAdd (mulf u u) (constant S_ .f32 0x00000000#32) reducesTo_S17408x1024_S17408_d1 h_S_)) (broadcastInDim S17408x1 ![] bcast_S_S17408x1 (constant S_ .f32 0x44800000#32)))
      (broadcastInDim S17408x1 ![] bcast_S_S17408x1 (constant S_ .f32 0x358637BD#32))))))
    (broadcastInDim S17408x1024 ![0, 1] bcast_S1x1024_S17408x1024_0_1 (broadcastInDim S1x1024 ![1] bcast_S1024_S1x1024_1 gf))

/-- The normed rows, transposed. -/
def turned (u : FVec Ideal S17408x1024 .f32) : FVec Ideal S1024x17408 .bf16 :=
  truncf .bf16 (transpose S1024x17408 [1, 0] u transposes_S17408x1024_S1024x17408_1_0) bitsLt_bf16_f32

/-- The experts' queries, head by head. -/
def queries (u : FVec Ideal S17408x1024 .f32) : FVec Ideal S8x17408x256 .f32 :=
  transpose S8x17408x256 [1, 0, 2] (shapeCast _ (Host.dotGeneral dot_S17408x1024_S1024x2048_S17408x2048_1_0_0_1_n_n none u wq) shapeCasts_S17408x2048_S17408x8x256) transposes_S17408x8x256_S8x17408x256_1_0_2

/-- The sum of the gated branches at an index. -/
theorem mixed_at (T : Fin 17408) (k : Fin 1024) : mixed a b c g wa wb wc (ix2 T k)
    = gated (fun j => a (ix2 T j)) (fun j => b (ix2 T j)) (fun j => c (ix2 T j)) (fun j => g (ix2 T j)) (fun s j => wa (ix2 s j)) (fun s j => wb (ix2 s j)) (fun s j => wc (ix2 s j)) k := by
  pointwise [mixed, gates, gated]

/-- The new rows at an index. -/
theorem fresh_at (T : Fin 17408) (j : Fin 1024) : fresh x wo (mixed a b c g wa wb wc) (ix2 T j)
    = next (fun j => x (ix2 T j)) (fun j => a (ix2 T j)) (fun j => b (ix2 T j)) (fun j => c (ix2 T j)) (fun j => g (ix2 T j)) (fun s j => wa (ix2 s j)) (fun s j => wb (ix2 s j)) (fun s j => wc (ix2 s j)) (fun s j => wo (ix2 s j)) j := by
  pointwise [fresh, next]
  simp only [mixed_at]

/-- The normed rows at an index. -/
theorem scaled_at (u : FVec Ideal S17408x1024 .f32) (T : Fin 17408) (j : Fin 1024) : scaled gf u (ix2 T j) = rmsRow (fun k => u (ix2 T k)) (fun k => gf (ix1 k)) j := by
  pointwise [scaled, rmsRow]

/-- The transposed rows at an index. -/
theorem turned_at (u : FVec Ideal S17408x1024 .f32) (T : Fin 17408) (j : Fin 1024) : turned u (ix2 j T) = u (ix2 T j) := by
  pointwise [turned]

/-- The queries at an index. -/
theorem queries_at (u : FVec Ideal S17408x1024 .f32) (h : Fin 8) (T : Fin 17408) (z : Fin 256) :
    queries wq u (ix3 h T z) = ∑ k : Fin 1024, u (ix2 T k) * wq (ix2 k ⟨h.val * 256 + z.val, by omega⟩) := by
  pointwise [queries]

section
variable (m : (ℓ : Loc nD τ sig) → Buf (Elt Ideal) ℓ) (d : Dev nD)
include x a b c g wa wb wc wo gf wq

/-- The second and the third result, by their parts. -/
theorem res_eq
    (h0 : m ((d.tc : Thread nD τ).loc main_arg0) = x)
    (h1 : m ((d.tc : Thread nD τ).loc main_arg1) = a)
    (h2 : m ((d.tc : Thread nD τ).loc main_arg2) = b)
    (h3 : m ((d.tc : Thread nD τ).loc main_arg3) = c)
    (h4 : m ((d.tc : Thread nD τ).loc main_arg4) = g)
    (h5 : m ((d.tc : Thread nD τ).loc main_arg5) = wa)
    (h6 : m ((d.tc : Thread nD τ).loc main_arg6) = wb)
    (h7 : m ((d.tc : Thread nD τ).loc main_arg7) = wc)
    (h8 : m ((d.tc : Thread nD τ).loc main_arg8) = wo)
    (h9 : m ((d.tc : Thread nD τ).loc main_arg9) = gf)
    (h10 : m ((d.tc : Thread nD τ).loc main_arg10) = wq) :
    Cert.Reference2Ideal.Value.res_main_v40 m d = turned (scaled gf (fresh x wo (mixed a b c g wa wb wc)))
      ∧ Cert.Reference2Ideal.Value.res_main_v41 m d = queries wq (scaled gf (fresh x wo (mixed a b c g wa wb wc))) := by
  subst h0 h1 h2 h3 h4 h5 h6 h7 h8 h9 h10
  exact ⟨rfl, rfl⟩

end

end Cert.Reference2Ideal.Merge

end
-- ==== Proof.MergeClaims.lean ====
module

public import proofs.«01_k».proof.Defs
public import proofs.«01_k».proof.Proof.Gen.Kernel2.Frame
public import proofs.«01_k».proof.Proof.Gen.Kernel2Ideal.Value
public import proofs.«01_k».proof.Proof.MergeValue
public import proofs.«01_k».proof.Proof.MergeReference
public import Idealize.ShloMosaic.Lib.Quiescent

/-!
The claims about the merge.
-/

@[expose] public section

set_option maxRecDepth 16384

noncomputable section

open Idealize.ShloMosaic Idealize.ShloMosaic.TcCoe Idealize.SL.Sem

namespace Cert.Proof.MergeClaims

open Cert.MergeMath Cert.Reference2Ideal.Merge

/-- The kernel runs. -/
theorem frame_p : Cert.quiescent_Kernel2 := fun m ρ _ => Cert.Kernel2.Gen.frame m ρ

/-- The idealized kernel runs. -/
theorem frame_pi : Cert.quiescent_Kernel2Ideal := fun m ρ _ => Cert.Kernel2Ideal.Gen.frame m ρ

/-- The reference runs. -/
theorem frame_ri : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- Nothing was rewritten. -/
theorem preserves : Cert.preserves_Kernel2_Kernel2Ideal := trivial

/-- The kernel and the reference end with equal results. -/
theorem algebraic : Cert.algebraic_Kernel2Ideal_Reference2Ideal := by
  intro m ρ m' ρ' hpre hagree
  refine ⟨fun c => (Cert.Kernel2Ideal.Gen.dats m 0 c).arrAt 11 Cert.Kernel2Ideal.cfg0.N, fun c => (Cert.Kernel2Ideal.Gen.dats m 0 c).arrAt 12 Cert.Kernel2Ideal.cfg0.N,
    fun c => (Cert.Kernel2Ideal.Gen.dats m 0 c).arrAt 13 Cert.Kernel2Ideal.cfg0.N, Cert.Kernel2Ideal.Value.run_blocks (F := Ideal) m ρ, ?_⟩
  refine (θ_run Cert.Reference2Ideal.defs _ _).mono (fun _ h c => ⟨(h c).1.trans ?_, (h c).2.1.trans ?_, (h c).2.2.1.trans ?_, (h c).2.2.2⟩) (Cert.Reference2Ideal.Value.run (F := Ideal) m' ρ')
  all_goals obtain ⟨a0, a1, a2, a3, a4, a5, a6, a7, a8, a9, a10⟩ := hagree c
  · rw [a0, a1, a2, a3, a4, a5, a6, a7, a8]
    refine Eq.trans ?_ (Cert.Kernel2Ideal.Merge.final_next m c).symm
    funext j
    obtain ⟨T, k, rfl⟩ : ∃ (T : Fin 17408) (k : Fin 1024), j = ix2 T k := ⟨j 0, j 1, funext fun i => by fin_cases i <;> rfl⟩
    exact fresh_at _ _ _ _ _ _ _ _ _ T k
  · refine (res_eq _ _ _ _ _ _ _ _ _ _ _ m' c a0 a1 a2 a3 a4 a5 a6 a7 a8 a9 a10).1.trans (Eq.trans ?_ (Cert.Kernel2Ideal.Merge.final_norm m c).symm)
    funext j
    obtain ⟨k, T, rfl⟩ : ∃ (k : Fin 1024) (T : Fin 17408), j = ix2 k T := ⟨j 0, j 1, funext fun i => by fin_cases i <;> rfl⟩
    refine (turned_at _ T k).trans ((scaled_at _ _ T k).trans ?_)
    exact congrArg (fun u => rmsRow u _ k) (funext fun k => fresh_at _ _ _ _ _ _ _ _ _ T k)
  · refine (res_eq _ _ _ _ _ _ _ _ _ _ _ m' c a0 a1 a2 a3 a4 a5 a6 a7 a8 a9 a10).2.trans (Eq.trans ?_ (Cert.Kernel2Ideal.Merge.final_query m c).symm)
    funext j
    obtain ⟨h, T, z, rfl⟩ : ∃ (h : Fin 8) (T : Fin 17408) (z : Fin 256), j = ix3 h T z := ⟨j 0, j 1, j 2, funext fun i => by fin_cases i <;> rfl⟩
    refine (queries_at _ _ h T z).trans (Finset.sum_congr rfl fun k _ => congrArg (· * _) ((scaled_at _ _ T k).trans ?_))
    exact congrArg (fun u => rmsRow u _ k) (funext fun k => fresh_at _ _ _ _ _ _ _ _ _ T k)

end Cert.Proof.MergeClaims

end
-- ==== Proof.ProjFrameIdeal.lean ====
/- The projections' frame, the kernel read over the extended reals: the arrays when the grid starts, what the body leaves in
   each of its twelve output windows, the body's triple, and the run. It follows the generated module
   `Gen/Kernel3Ideal/Frame.lean` of this call; `sound_body` and `body_obligation` are given larger limits here. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1740000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x5632 := Rect.unit (s := S1024x5632) ![0, 0] S1024x256.size inb_S1024x5632_S1024x256_0_0
abbrev r0_3 : Rect S1x256 := Rect.unit (s := S1x256) ![0, 0] S1x256.size inb_S1x256_S1x256_0_0
abbrev r0_4 : Rect S256x256 := Rect.unit (s := S256x256) ![0, 0] S256x256.size inb_S256x256_S256x256_0_0
abbrev r0_5 : Rect S256x2048 := Rect.unit (s := S256x2048) ![0, 0] S256x256.size inb_S256x2048_S256x256_0_0
abbrev r0_6 : Rect S256x2048 := Rect.unit (s := S256x2048) ![0, 256] S256x256.size inb_S256x2048_S256x256_0_256
abbrev r0_7 : Rect S256x2048 := Rect.unit (s := S256x2048) ![0, 512] S256x256.size inb_S256x2048_S256x256_0_512
abbrev r0_8 : Rect S256x2048 := Rect.unit (s := S256x2048) ![0, 768] S256x256.size inb_S256x2048_S256x256_0_768
abbrev r0_9 : Rect S256x2048 := Rect.unit (s := S256x2048) ![0, 1024] S256x256.size inb_S256x2048_S256x256_0_1024
abbrev r0_10 : Rect S256x2048 := Rect.unit (s := S256x2048) ![0, 1280] S256x256.size inb_S256x2048_S256x256_0_1280
abbrev r0_11 : Rect S256x2048 := Rect.unit (s := S256x2048) ![0, 1536] S256x256.size inb_S256x2048_S256x256_0_1536
abbrev r0_12 : Rect S256x2048 := Rect.unit (s := S256x2048) ![0, 1792] S256x256.size inb_S256x2048_S256x256_0_1792
abbrev r0_13 : Rect S1024x5632 := Rect.unit (s := S1024x5632) ![0, 256] S1024x256.size inb_S1024x5632_S1024x256_0_256
abbrev r0_14 : Rect S1x256x256 := Rect.unit (s := S1x256x256) ![0, 0, 0] S1x256x256.size inb_S1x256x256_S1x256x256_0_0_0
abbrev r0_15 : Rect S1024x5632 := Rect.unit (s := S1024x5632) ![0, 512] S1024x128.size inb_S1024x5632_S1024x128_0_512
abbrev r0_16 : Rect S256x128 := Rect.unit (s := S256x128) ![0, 0] S256x128.size inb_S256x128_S256x128_0_0
abbrev r0_17 : Rect S1024x5632 := Rect.unit (s := S1024x5632) ![0, 640] S1024x128.size inb_S1024x5632_S1024x128_0_640
abbrev r0_18 : Rect S256x32 := Rect.unit (s := S256x32) ![0, 0] S256x32.size inb_S256x32_S256x32_0_0
abbrev r0_19 : Rect S256x512 := Rect.unit (s := S256x512) ![0, 0] S256x512.size inb_S256x512_S256x512_0_0
abbrev r0_20 : Rect S1024x5632 := Rect.unit (s := S1024x5632) ![0, 768] S1024x256.size inb_S1024x5632_S1024x256_0_768
abbrev r0_21 : Rect S1024x5632 := Rect.unit (s := S1024x5632) ![0, 1024] S1024x256.size inb_S1024x5632_S1024x256_0_1024
abbrev r0_22 : Rect S1024x5632 := Rect.unit (s := S1024x5632) ![0, 1280] S1024x256.size inb_S1024x5632_S1024x256_0_1280
abbrev r0_23 : Rect S1024x5632 := Rect.unit (s := S1024x5632) ![0, 1536] S1024x256.size inb_S1024x5632_S1024x256_0_1536
abbrev r0_24 : Rect S1024x5632 := Rect.unit (s := S1024x5632) ![0, 1792] S1024x256.size inb_S1024x5632_S1024x256_0_1792
abbrev r0_25 : Rect S1024x5632 := Rect.unit (s := S1024x5632) ![0, 2048] S1024x256.size inb_S1024x5632_S1024x256_0_2048
abbrev r0_26 : Rect S1024x5632 := Rect.unit (s := S1024x5632) ![0, 2304] S1024x256.size inb_S1024x5632_S1024x256_0_2304
abbrev r0_27 : Rect S1x128x256 := Rect.unit (s := S1x128x256) ![0, 0, 0] S1x128x256.size inb_S1x128x256_S1x128x256_0_0_0
abbrev r0_28 : Rect S1x4x128x128 := Rect.unit (s := S1x4x128x128) ![0, 0, 0, 0] S1x1x128x128.size inb_S1x4x128x128_S1x1x128x128_0_0_0_0
abbrev r0_29 : Rect S1x4x128x128 := Rect.unit (s := S1x4x128x128) ![0, 1, 0, 0] S1x1x128x128.size inb_S1x4x128x128_S1x1x128x128_0_1_0_0
abbrev r0_30 : Rect S1x4x128x128 := Rect.unit (s := S1x4x128x128) ![0, 2, 0, 0] S1x1x128x128.size inb_S1x4x128x128_S1x1x128x128_0_2_0_0
abbrev r0_31 : Rect S1x4x128x128 := Rect.unit (s := S1x4x128x128) ![0, 3, 0, 0] S1x1x128x128.size inb_S1x4x128x128_S1x1x128x128_0_3_0_0
abbrev r0_32 : Rect S256x256 := Rect.unit (s := S256x256) ![0, 0] S128x256.size inb_S256x256_S128x256_0_0
abbrev r0_33 : Rect S256x256 := Rect.unit (s := S256x256) ![128, 0] S128x256.size inb_S256x256_S128x256_128_0
abbrev r0_34 : Rect S1024x5632 := Rect.unit (s := S1024x5632) ![0, 2560] S1024x1024.size inb_S1024x5632_S1024x1024_0_2560
abbrev r0_35 : Rect S256x3072 := Rect.unit (s := S256x3072) ![0, 0] S256x1024.size inb_S256x3072_S256x1024_0_0
abbrev r0_36 : Rect S1024x5632 := Rect.unit (s := S1024x5632) ![0, 3584] S1024x1024.size inb_S1024x5632_S1024x1024_0_3584
abbrev r0_37 : Rect S256x3072 := Rect.unit (s := S256x3072) ![0, 1024] S256x1024.size inb_S256x3072_S256x1024_0_1024
abbrev r0_38 : Rect S1024x5632 := Rect.unit (s := S1024x5632) ![0, 4608] S1024x1024.size inb_S1024x5632_S1024x1024_0_4608
abbrev r0_39 : Rect S256x3072 := Rect.unit (s := S256x3072) ![0, 2048] S256x1024.size inb_S256x3072_S256x1024_0_2048

/-! ## What the body leaves in each output window's buffer -/

/-! ### Values of the body that the stores' payloads, spelt out, would write more than once

    Each is a vector the body binds (often a part call's result), stated over the input windows' blocks and
    numbered on from the skeleton's payload functions (`k0_pay47` …, after `k0_pay46`), so that
    `out0_W` and the values after it name it instead of spelling it out (`unfold_out out0_W` opens a canon
    with them, `unfold_payloads` opens them with the payloads); the comment after each is the printed function's
    name for the value (a count appended where that name is bound again). -/

def k0_pay47 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x1024 .bf16 :=
  k0_pay5 (View.ld x0 r0_0) (View.ld x1 r0_1) -- `v15`
def k0_pay48 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x256 .bf16 :=
  k0_pay6 (View.ld x0 r0_0) (View.ld x1 r0_1) (View.ld x2 r0_2) (View.ld x3 r0_3) -- `v33`
def k0_pay49 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x256 .f32 :=
  k0_pay7 (View.ld x11 r0_4) -- `v35`
def k0_pay50 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x256 .f32 :=
  k0_pay8 (View.ld x12 r0_4) -- `v37`
def k0_pay51 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x256 .f32 :=
  k0_pay17 (k0_pay47 x0 x1 x2 x3 x4 x5 x6 x7 x8 x9 x10 x11 x12 x13 x14 x15 x16) (View.ld x2 r0_13) -- `v128`
def k0_pay52 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S1x256 .f32 :=
  k0_pay18 (View.ld x6 r0_3) -- `v130`
def k0_pay53 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x256 .f32 :=
  k0_pay19 (k0_pay47 x0 x1 x2 x3 x4 x5 x6 x7 x8 x9 x10 x11 x12 x13 x14 x15 x16) (View.ld x2 r0_13) -- `v139`
def k0_pay54 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x512 .f32 :=
  k0_pay25 (View.ld x15 r0_19) -- `v167`
def k0_pay55 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x512 .f32 :=
  k0_pay26 (View.ld x16 r0_19) -- `v169`
def k0_pay56 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x256 .f32 :=
  k0_pay31 (k0_pay47 x0 x1 x2 x3 x4 x5 x6 x7 x8 x9 x10 x11 x12 x13 x14 x15 x16) (View.ld x2 r0_25) -- `v218`
def k0_pay57 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x256 .f32 :=
  k0_pay32 (k0_pay47 x0 x1 x2 x3 x4 x5 x6 x7 x8 x9 x10 x11 x12 x13 x14 x15 x16) (View.ld x2 r0_26) -- `v240`
def k0_pay58 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x1 .f32 :=
  k0_pay33 (k0_pay47 x0 x1 x2 x3 x4 x5 x6 x7 x8 x9 x10 x11 x12 x13 x14 x15 x16) (View.ld x2 r0_26) -- `v245`
def k0_pay59 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : IVec S128x128 32 :=
  iota .tc S128x128 32 [0] iota_S128x128_d0_w32 -- `v260`
def k0_pay60 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : IVec S128x128 32 :=
  iota .tc S128x128 32 [1] iota_S128x128_d1_w32 -- `v261`
def k0_pay61 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S256x256 .f32 :=
  k0_pay34 (k0_pay57 x0 x1 x2 x3 x4 x5 x6 x7 x8 x9 x10 x11 x12 x13 x14 x15 x16) (k0_pay58 x0 x1 x2 x3 x4 x5 x6 x7 x8 x9 x10 x11 x12 x13 x14 x15 x16) (Scalar.ofBits .f32 0x358637BD#32) (View.ld x7 r0_3) (View.ld x8 r0_3) -- `v258`
def k0_pay62 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : IVec S128x256 32 :=
  k0_pay35 -- `v286`
def k0_pay63 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S128x256 .f32 :=
  k0_pay36 (k0_pay57 x0 x1 x2 x3 x4 x5 x6 x7 x8 x9 x10 x11 x12 x13 x14 x15 x16) (k0_pay58 x0 x1 x2 x3 x4 x5 x6 x7 x8 x9 x10 x11 x12 x13 x14 x15 x16) (Scalar.ofBits .f32 0x358637BD#32) (View.ld x7 r0_3) (View.ld x8 r0_3) -- `v287`
def k0_pay64 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : FVec F S128x256 .f32 :=
  k0_pay41 (k0_pay61 x0 x1 x2 x3 x4 x5 x6 x7 x8 x9 x10 x11 x12 x13 x14 x15 x16) -- `v346`

/-- Window 17's staging buffer after the body, from the input windows' blocks: its 1 store as pieces, LAST
    FIRST (Lib/Pipeline/FrameBody.lean `View.canon`; the payloads are the skeleton's and the values stated above). -/
def out0_17 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x256 .f32 :=
  View.canon [⟨r0_4, k0_pay20 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16)⟩]

/-- Its stores tile the buffer (checked by evaluation), so they cover it. -/
theorem cover0_17 (p0 : Vec F S256x256 .f32) (y : S256x256.Idx) :
    ∃ pc ∈ ([⟨r0_4, p0⟩] : List (View.Piece (Elt F) S256x256 .f32)), y ∈ pc.1.set :=
  View.cover_of_tiled [⟨r0_4, p0⟩] S256x256.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x32 .f32 :=
  View.canon [⟨r0_18, k0_pay24 (k0_pay47 x0 x1 x2 x3 x4 x5 x6 x7 x8 x9 x10 x11 x12 x13 x14 x15 x16) (View.ld x2 r0_15) (View.ld x13 r0_16) (View.ld x2 r0_17) (View.ld x14 r0_16)⟩]

/-- Its stores tile the buffer (checked by evaluation), so they cover it. -/
theorem cover0_18 (p0 : Vec F S256x32 .f32) (y : S256x32.Idx) :
    ∃ pc ∈ ([⟨r0_18, p0⟩] : List (View.Piece (Elt F) S256x32 .f32)), y ∈ pc.1.set :=
  View.cover_of_tiled [⟨r0_18, p0⟩] S256x32.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x256 .f32 :=
  View.canon [⟨r0_4, k0_pay28 (k0_pay47 x0 x1 x2 x3 x4 x5 x6 x7 x8 x9 x10 x11 x12 x13 x14 x15 x16) (k0_pay54 x0 x1 x2 x3 x4 x5 x6 x7 x8 x9 x10 x11 x12 x13 x14 x15 x16) (k0_pay55 x0 x1 x2 x3 x4 x5 x6 x7 x8 x9 x10 x11 x12 x13 x14 x15 x16) (View.ld x2 r0_22) (View.ld x2 r0_23)⟩]

/-- Its stores tile the buffer (checked by evaluation), so they cover it. -/
theorem cover0_19 (p0 : Vec F S256x256 .f32) (y : S256x256.Idx) :
    ∃ pc ∈ ([⟨r0_4, p0⟩] : List (View.Piece (Elt F) S256x256 .f32)), y ∈ pc.1.set :=
  View.cover_of_tiled [⟨r0_4, p0⟩] S256x256.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x256 .f32 :=
  View.canon [⟨r0_4, k0_pay29 (k0_pay47 x0 x1 x2 x3 x4 x5 x6 x7 x8 x9 x10 x11 x12 x13 x14 x15 x16) (View.ld x2 r0_24)⟩]

/-- Its stores tile the buffer (checked by evaluation), so they cover it. -/
theorem cover0_20 (p0 : Vec F S256x256 .f32) (y : S256x256.Idx) :
    ∃ pc ∈ ([⟨r0_4, p0⟩] : List (View.Piece (Elt F) S256x256 .f32)), y ∈ pc.1.set :=
  View.cover_of_tiled [⟨r0_4, p0⟩] S256x256.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x256 .f32 :=
  View.canon [⟨r0_4, k0_pay34 (k0_pay57 x0 x1 x2 x3 x4 x5 x6 x7 x8 x9 x10 x11 x12 x13 x14 x15 x16) (k0_pay58 x0 x1 x2 x3 x4 x5 x6 x7 x8 x9 x10 x11 x12 x13 x14 x15 x16) (Scalar.ofBits .f32 0x358637BD#32) (View.ld x7 r0_3) (View.ld x8 r0_3)⟩]

/-- Its stores tile the buffer (checked by evaluation), so they cover it. -/
theorem cover0_21 (p0 : Vec F S256x256 .f32) (y : S256x256.Idx) :
    ∃ pc ∈ ([⟨r0_4, p0⟩] : List (View.Piece (Elt F) S256x256 .f32)), y ∈ pc.1.set :=
  View.cover_of_tiled [⟨r0_4, p0⟩] S256x256.size (by rfl) y

/-- Window 22's staging buffer after the body, from the input windows' blocks: its 8 stores as pieces, LAST
    FIRST (Lib/Pipeline/FrameBody.lean `View.canon`; the payloads are the skeleton's and the values stated above). -/
def out0_22 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x2048 .bf16 :=
  View.canon [⟨r0_12, k0_pay16 (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x4 r0_12) (View.ld x5 r0_12)⟩,
    ⟨r0_11, k0_pay15 (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x4 r0_11) (View.ld x5 r0_11)⟩,
    ⟨r0_10, k0_pay14 (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x4 r0_10) (View.ld x5 r0_10)⟩,
    ⟨r0_9, k0_pay13 (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x4 r0_9) (View.ld x5 r0_9)⟩,
    ⟨r0_8, k0_pay12 (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x4 r0_8) (View.ld x5 r0_8)⟩,
    ⟨r0_7, k0_pay11 (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x4 r0_7) (View.ld x5 r0_7)⟩,
    ⟨r0_6, k0_pay10 (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x4 r0_6) (View.ld x5 r0_6)⟩,
    ⟨r0_5, k0_pay9 (k0_pay48 x0 x1 x2 x3 x4 x5 x6 x7 x8 x9 x10 x11 x12 x13 x14 x15 x16) (k0_pay49 x0 x1 x2 x3 x4 x5 x6 x7 x8 x9 x10 x11 x12 x13 x14 x15 x16) (k0_pay50 x0 x1 x2 x3 x4 x5 x6 x7 x8 x9 x10 x11 x12 x13 x14 x15 x16) (View.ld x4 r0_5) (View.ld x5 r0_5)⟩]

/-- Its stores tile the buffer (checked by evaluation), so they cover it. -/
theorem cover0_22 (p0 : Vec F S256x256 .bf16) (p1 : Vec F S256x256 .bf16) (p2 : Vec F S256x256 .bf16) (p3 : Vec F S256x256 .bf16) (p4 : Vec F S256x256 .bf16) (p5 : Vec F S256x256 .bf16) (p6 : Vec F S256x256 .bf16) (p7 : Vec F S256x256 .bf16) (y : S256x2048.Idx) :
    ∃ pc ∈ ([⟨r0_12, p0⟩, ⟨r0_11, p1⟩, ⟨r0_10, p2⟩, ⟨r0_9, p3⟩, ⟨r0_8, p4⟩, ⟨r0_7, p5⟩, ⟨r0_6, p6⟩, ⟨r0_5, p7⟩] : List (View.Piece (Elt F) S256x2048 .bf16)), y ∈ pc.1.set :=
  View.cover_of_tiled [⟨r0_12, p0⟩, ⟨r0_11, p1⟩, ⟨r0_10, p2⟩, ⟨r0_9, p3⟩, ⟨r0_8, p4⟩, ⟨r0_7, p5⟩, ⟨r0_6, p6⟩, ⟨r0_5, p7⟩] S256x256.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x128 .bf16 :=
  View.canon [⟨r0_16, k0_pay23 (k0_pay47 x0 x1 x2 x3 x4 x5 x6 x7 x8 x9 x10 x11 x12 x13 x14 x15 x16) (View.ld x2 r0_15) (View.ld x13 r0_16) (View.ld x2 r0_17) (View.ld x14 r0_16)⟩]

/-- Its stores tile the buffer (checked by evaluation), so they cover it. -/
theorem cover0_23 (p0 : Vec F S256x128 .bf16) (y : S256x128.Idx) :
    ∃ pc ∈ ([⟨r0_16, p0⟩] : List (View.Piece (Elt F) S256x128 .bf16)), y ∈ pc.1.set :=
  View.cover_of_tiled [⟨r0_16, p0⟩] S256x128.size (by rfl) y

/-- Window 24's staging buffer after the body, from the input windows' blocks: its 1 store as pieces, LAST
    FIRST (Lib/Pipeline/FrameBody.lean `View.canon`; the payloads are the skeleton's and the values stated above). -/
def out0_24 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x256 .f32 :=
  View.canon [⟨r0_4, k0_pay27 (k0_pay47 x0 x1 x2 x3 x4 x5 x6 x7 x8 x9 x10 x11 x12 x13 x14 x15 x16) (k0_pay54 x0 x1 x2 x3 x4 x5 x6 x7 x8 x9 x10 x11 x12 x13 x14 x15 x16) (k0_pay55 x0 x1 x2 x3 x4 x5 x6 x7 x8 x9 x10 x11 x12 x13 x14 x15 x16) (View.ld x2 r0_20) (View.ld x2 r0_21)⟩]

/-- Its stores tile the buffer (checked by evaluation), so they cover it. -/
theorem cover0_24 (p0 : Vec F S256x256 .f32) (y : S256x256.Idx) :
    ∃ pc ∈ ([⟨r0_4, p0⟩] : List (View.Piece (Elt F) S256x256 .f32)), y ∈ pc.1.set :=
  View.cover_of_tiled [⟨r0_4, p0⟩] S256x256.size (by rfl) y

/-- Window 25's staging buffer after the body, from the input windows' blocks: its 2 stores as pieces, LAST
    FIRST (Lib/Pipeline/FrameBody.lean `View.canon`; the payloads are the skeleton's and the values stated above). -/
def out0_25 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x256 .bf16 :=
  View.canon [⟨r0_33, k0_pay1 (k0_pay56 x0 x1 x2 x3 x4 x5 x6 x7 x8 x9 x10 x11 x12 x13 x14 x15 x16) (k0_pay44 (k0_pay59 x0 x1 x2 x3 x4 x5 x6 x7 x8 x9 x10 x11 x12 x13 x14 x15 x16) (k0_pay60 x0 x1 x2 x3 x4 x5 x6 x7 x8 x9 x10 x11 x12 x13 x14 x15 x16) (k0_pay62 x0 x1 x2 x3 x4 x5 x6 x7 x8 x9 x10 x11 x12 x13 x14 x15 x16) (k0_pay64 x0 x1 x2 x3 x4 x5 x6 x7 x8 x9 x10 x11 x12 x13 x14 x15 x16) (k0_pay42 (k0_pay61 x0 x1 x2 x3 x4 x5 x6 x7 x8 x9 x10 x11 x12 x13 x14 x15 x16) (k0_pay59 x0 x1 x2 x3 x4 x5 x6 x7 x8 x9 x10 x11 x12 x13 x14 x15 x16) (k0_pay60 x0 x1 x2 x3 x4 x5 x6 x7 x8 x9 x10 x11 x12 x13 x14 x15 x16) (k0_pay62 x0 x1 x2 x3 x4 x5 x6 x7 x8 x9 x10 x11 x12 x13 x14 x15 x16) (View.ld x10 r0_27) (View.ld x9 r0_28)) (k0_pay43 (k0_pay59 x0 x1 x2 x3 x4 x5 x6 x7 x8 x9 x10 x11 x12 x13 x14 x15 x16) (k0_pay60 x0 x1 x2 x3 x4 x5 x6 x7 x8 x9 x10 x11 x12 x13 x14 x15 x16)) (View.ld x9 r0_29) (View.ld x9 r0_30)) (k0_pay45 (k0_pay59 x0 x1 x2 x3 x4 x5 x6 x7 x8 x9 x10 x11 x12 x13 x14 x15 x16) (k0_pay60 x0 x1 x2 x3 x4 x5 x6 x7 x8 x9 x10 x11 x12 x13 x14 x15 x16) (View.ld x9 r0_31)) (k0_pay46 (k0_pay62 x0 x1 x2 x3 x4 x5 x6 x7 x8 x9 x10 x11 x12 x13 x14 x15 x16) (k0_pay64 x0 x1 x2 x3 x4 x5 x6 x7 x8 x9 x10 x11 x12 x13 x14 x15 x16)) (constant S128x256 .f32 0x00000000#32)⟩,
    ⟨r0_32, k0_pay40 (k0_pay56 x0 x1 x2 x3 x4 x5 x6 x7 x8 x9 x10 x11 x12 x13 x14 x15 x16) (k0_pay59 x0 x1 x2 x3 x4 x5 x6 x7 x8 x9 x10 x11 x12 x13 x14 x15 x16) (k0_pay60 x0 x1 x2 x3 x4 x5 x6 x7 x8 x9 x10 x11 x12 x13 x14 x15 x16) (k0_pay62 x0 x1 x2 x3 x4 x5 x6 x7 x8 x9 x10 x11 x12 x13 x14 x15 x16) (k0_pay63 x0 x1 x2 x3 x4 x5 x6 x7 x8 x9 x10 x11 x12 x13 x14 x15 x16) (k0_pay37 (k0_pay59 x0 x1 x2 x3 x4 x5 x6 x7 x8 x9 x10 x11 x12 x13 x14 x15 x16) (k0_pay60 x0 x1 x2 x3 x4 x5 x6 x7 x8 x9 x10 x11 x12 x13 x14 x15 x16) (k0_pay62 x0 x1 x2 x3 x4 x5 x6 x7 x8 x9 x10 x11 x12 x13 x14 x15 x16) (k0_pay63 x0 x1 x2 x3 x4 x5 x6 x7 x8 x9 x10 x11 x12 x13 x14 x15 x16) (View.ld x10 r0_27) (View.ld x9 r0_28) (View.ld x9 r0_29)) (k0_pay38 (k0_pay59 x0 x1 x2 x3 x4 x5 x6 x7 x8 x9 x10 x11 x12 x13 x14 x15 x16) (k0_pay60 x0 x1 x2 x3 x4 x5 x6 x7 x8 x9 x10 x11 x12 x13 x14 x15 x16) (View.ld x9 r0_30)) (k0_pay39 (k0_pay62 x0 x1 x2 x3 x4 x5 x6 x7 x8 x9 x10 x11 x12 x13 x14 x15 x16) (k0_pay63 x0 x1 x2 x3 x4 x5 x6 x7 x8 x9 x10 x11 x12 x13 x14 x15 x16)) (View.ld x9 r0_31)⟩]

/-- Its stores tile the buffer (checked by evaluation), so they cover it. -/
theorem cover0_25 (p0 : Vec F S128x256 .bf16) (p1 : Vec F S128x256 .bf16) (y : S256x256.Idx) :
    ∃ pc ∈ ([⟨r0_33, p0⟩, ⟨r0_32, p1⟩] : List (View.Piece (Elt F) S256x256 .bf16)), y ∈ pc.1.set :=
  View.cover_of_tiled [⟨r0_33, p0⟩, ⟨r0_32, p1⟩] S128x256.size (by rfl) y

/-- Window 26's staging buffer after the body, from the input windows' blocks: its 3 stores as pieces, LAST
    FIRST (Lib/Pipeline/FrameBody.lean `View.canon`; the payloads are the skeleton's and the values stated above). -/
def out0_26 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S256x3072 .bf16 :=
  View.canon [⟨r0_39, k0_pay4 (k0_pay47 x0 x1 x2 x3 x4 x5 x6 x7 x8 x9 x10 x11 x12 x13 x14 x15 x16) (View.ld x2 r0_38)⟩,
    ⟨r0_37, k0_pay3 (k0_pay47 x0 x1 x2 x3 x4 x5 x6 x7 x8 x9 x10 x11 x12 x13 x14 x15 x16) (View.ld x2 r0_36)⟩,
    ⟨r0_35, k0_pay2 (k0_pay47 x0 x1 x2 x3 x4 x5 x6 x7 x8 x9 x10 x11 x12 x13 x14 x15 x16) (View.ld x2 r0_34)⟩]

/-- Its stores tile the buffer (checked by evaluation), so they cover it. -/
theorem cover0_26 (p0 : Vec F S256x1024 .bf16) (p1 : Vec F S256x1024 .bf16) (p2 : Vec F S256x1024 .bf16) (y : S256x3072.Idx) :
    ∃ pc ∈ ([⟨r0_39, p0⟩, ⟨r0_37, p1⟩, ⟨r0_35, p2⟩] : List (View.Piece (Elt F) S256x3072 .bf16)), y ∈ pc.1.set :=
  View.cover_of_tiled [⟨r0_39, p0⟩, ⟨r0_37, p1⟩, ⟨r0_35, p2⟩] S256x1024.size (by rfl) y

/-- Window 27's staging buffer after the body, from the input windows' blocks: its 1 store as pieces, LAST
    FIRST (Lib/Pipeline/FrameBody.lean `View.canon`; the payloads are the skeleton's and the values stated above). -/
def out0_27 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S1x256x256 .bf16 :=
  View.canon [⟨r0_14, k0_pay21 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16)⟩]

/-- Its stores tile the buffer (checked by evaluation), so they cover it. -/
theorem cover0_27 (p0 : Vec F S1x256x256 .bf16) (y : S1x256x256.Idx) :
    ∃ pc ∈ ([⟨r0_14, p0⟩] : List (View.Piece (Elt F) S1x256x256 .bf16)), y ∈ pc.1.set :=
  View.cover_of_tiled [⟨r0_14, p0⟩] S1x256x256.size (by rfl) y

/-- Window 28's staging buffer after the body, from the input windows' blocks: its 1 store as pieces, LAST
    FIRST (Lib/Pipeline/FrameBody.lean `View.canon`; the payloads are the skeleton's and the values stated above). -/
def out0_28 (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) : Vec F S1x256x256 .bf16 :=
  View.canon [⟨r0_14, k0_pay30 (k0_pay47 x0 x1 x2 x3 x4 x5 x6 x7 x8 x9 x10 x11 x12 x13 x14 x15 x16) (View.ld x2 r0_24)⟩]

/-- Its stores tile the buffer (checked by evaluation), so they cover it. -/
theorem cover0_28 (p0 : Vec F S1x256x256 .bf16) (y : S1x256x256.Idx) :
    ∃ pc ∈ ([⟨r0_14, p0⟩] : List (View.Piece (Elt F) S1x256x256 .bf16)), y ∈ pc.1.set :=
  View.cover_of_tiled [⟨r0_14, p0⟩] S1x256x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S1x256 .f32) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4x128x128 .f32) (harg10 : arg10.IsWhole) (arg11 : Memref sig .tc .vmem S1x128x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x256 .f32) (harg18 : arg18.IsWhole) (arg19 : Memref sig .tc .vmem S256x32 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x2048 .bf16) (harg23 : arg23.IsWhole) (arg24 : Memref sig .tc .vmem S256x128 .bf16) (harg24 : arg24.IsWhole) (arg25 : Memref sig .tc .vmem S256x256 .f32) (harg25 : arg25.IsWhole) (arg26 : Memref sig .tc .vmem S256x256 .bf16) (harg26 : arg26.IsWhole) (arg27 : Memref sig .tc .vmem S256x3072 .bf16) (harg27 : arg27.IsWhole) (arg28 : Memref sig .tc .vmem S1x256x256 .bf16) (harg28 : arg28.IsWhole) (arg29 : Memref sig .tc .vmem S1x256x256 .bf16) (harg29 : arg29.IsWhole)
    (x0 : Vec F S256x1024 .f32) (x1 : Vec F S1x1024 .f32) (x2 : Vec F S1024x5632 .bf16) (x3 : Vec F S1x256 .f32) (x4 : Vec F S256x2048 .bf16) (x5 : Vec F S256x2048 .bf16) (x6 : Vec F S1x256 .f32) (x7 : Vec F S1x256 .f32) (x8 : Vec F S1x256 .f32) (x9 : Vec F S1x4x128x128 .f32) (x10 : Vec F S1x128x256 .f32) (x11 : Vec F S256x256 .f32) (x12 : Vec F S256x256 .f32) (x13 : Vec F S256x128 .f32) (x14 : Vec F S256x128 .f32) (x15 : Vec F S256x512 .f32) (x16 : Vec F S256x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16) ∗ owns (c : Thread nD τ) arg21 fullShare (out0_20 x0 x1 x2 x3 x4 x5 x6 x7 x8 x9 x10 x11 x12 x13 x14 x15 x16) ∗ owns (c : Thread nD τ) arg22 fullShare (out0_21 x0 x1 x2 x3 x4 x5 x6 x7 x8 x9 x10 x11 x12 x13 x14 x15 x16) ∗ owns (c : Thread nD τ) arg23 fullShare (out0_22 x0 x1 x2 x3 x4 x5 x6 x7 x8 x9 x10 x11 x12 x13 x14 x15 x16) ∗ owns (c : Thread nD τ) arg24 fullShare (out0_23 x0 x1 x2 x3 x4 x5 x6 x7 x8 x9 x10 x11 x12 x13 x14 x15 x16) ∗ owns (c : Thread nD τ) arg25 fullShare (out0_24 x0 x1 x2 x3 x4 x5 x6 x7 x8 x9 x10 x11 x12 x13 x14 x15 x16) ∗ owns (c : Thread nD τ) arg26 fullShare (out0_25 x0 x1 x2 x3 x4 x5 x6 x7 x8 x9 x10 x11 x12 x13 x14 x15 x16) ∗ owns (c : Thread nD τ) arg27 fullShare (out0_26 x0 x1 x2 x3 x4 x5 x6 x7 x8 x9 x10 x11 x12 x13 x14 x15 x16) ∗ owns (c : Thread nD τ) arg28 fullShare (out0_27 x0 x1 x2 x3 x4 x5 x6 x7 x8 x9 x10 x11 x12 x13 x14 x15 x16) ∗ owns (c : Thread nD τ) arg29 fullShare (out0_28 x0 x1 x2 x3 x4 x5 x6 x7 x8 x9 x10 x11 x12 x13 x14 x15 x16)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _ _ _ _ _ _ _ _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _ _)).trans ?_
    rfl
  isplitl [H26]
  · iexists _; isplitr
    swap; · iexact H26
    ipureintro
    refine (View.read_writes_eq_canon _ _ _ (cover0_26 _ _ _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 29, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 20000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel3Ideal.Gen

end
-- ==== Proof.ProjHost.lean ====
module

public import proofs.«01_k».proof.Proof.ProjFrameIdeal
public import Idealize.ShloMosaic.Lib.Pipeline.ValueKit
public import Idealize.ShloMosaic.Lib.StableHlo.RunRead

/-!
  What the host code in front of the projections' call leaves in a buffer, one operation at a time.

  The list `written` names the buffers in the order in which they are written; `hX` is what the buffer `main_X` holds when
  the call starts, as a tensor.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen

variable (m : (ℓ : Loc nD τ sig) → Buf (Elt Ideal) ℓ) (c : Dev nD)

/-- The buffers that the host code writes, in order. -/
def written : List (Ref sig .tc) :=
   [main_v0, main_v1, main_v2, main_v3, main_v4, main_c, main_v5, main_v6, main_v7, main_v8, main_v9, main_v10, main_v11, main_v12,
    main_v13, main_cst, main_v14, main_v15, main_cst_0, main_v16, main_v17, main_v18, main_cst_1, main_v19, main_v20, main_cst_2,
    main_v21, main_v22, main_v23, main_v24, main_v25, main_v26, main_v27, main_v28, main_v29, main_v30, main_v31, main_cst_3,
    main_v32, main_v33, main_cst_4, main_v34, main_v35, main_v36, main_cst_5, main_v37, main_v38, main_cst_6, main_v39, main_v40,
    main_v41, main_v42, main_v43, main_v44, main_v45, main_v46, main_v47, main_v48, main_cst_7, main_v49, main_cst_8, main_v50,
    main_cst_9, main_v51, main_v52, main_cst_10, main_v53, main_v54, main_v55, main_cst_11, main_v56, main_v57, main_v58, main_v59,
    main_v60, main_v61, main_v62, main_v63, main_v64, main_v65, main_cst_12, main_v66, main_v67, main_v68, main_cst_13, main_v69,
    main_v70, main_v71, main_v72, main_v73, main_v74, main_v75, main_v76, main_v77, main_v78, main_v79, main_v80, main_cst_14,
    main_v81, main_v82, main_v83, main_v84, main_v85, main_v86, main_v87, main_v88, main_v89, main_v90, main_v91, main_v92, main_v93,
    main_v94, main_v95, main_v96, main_v97, main_v98, main_v99, main_v100, main_v101, main_v102, main_v103, main_v104, main_cst_15,
    main_v105, main_cst_16, main_v106, main_cst_17, main_v107, main_v108, main_v109, main_v110, main_v111, main_v112, main_v113,
    main_v114, main_v115, main_v116, main_v117, main_v118, main_v119, main_v120, main_c_18, main_v121, main_v122, main_v123,
    main_v124, main_v125, main_v126, main_v127, main_v128, main_v129, main_v130, main_v131, main_v132, main_v133, main_v134,
    main_v135, main_v136, main_v137, main_v138, main_v139, main_v140, main_v141, main_v142, main_v143, main_v144, main_v145,
    main_v146, main_v147, main_v148, main_v149, main_v150, main_v151]

theorem writes_eq : (hostOps0 : List (HloOp τ sig (Elt Ideal))).map HloOp.writes
    = written.map fun w => {Proc.devRef (τ := τ) .tc w} := rfl

theorem writes_drop (i : ℕ) : ((hostOps0 : List (HloOp τ sig (Elt Ideal))).drop i).map HloOp.writes
    = (written.drop i).map fun w => {Proc.devRef (τ := τ) .tc w} := by
  rw [List.map_drop, writes_eq, List.map_drop]

/-- A buffer holds what the last operation that writes it leaves there. -/
theorem V_at (i : ℕ) {op : HloOp τ sig (Elt Ideal)} {r : Ref sig .tc}
    (h : (hostOps0 : List (HloOp τ sig (Elt Ideal)))[i]? = some op) (hr : r ∉ written.drop (i + 1)) :
    V m c r = op.result (StableHlo.upto hostOps0 (fun b => m (c, b)) i) (Proc.devRef .tc r) := by
  obtain ⟨hi, h⟩ := List.getElem?_eq_some_iff.1 h
  refine StableHlo.after_last_write (written.drop (i + 1)) ?_ (writes_drop (i + 1)) hr _
  rw [List.drop_eq_getElem_cons hi, h]

/-- A buffer that no operation from position `i` on writes holds, before that operation, what it holds at the end. -/
theorem upto_V {i : ℕ} {r : Ref sig .tc} (hr : r ∉ written.drop i) :
    StableHlo.upto hostOps0 (fun b => m (c, b)) i (Proc.devRef .tc r) = V m c r := by
  have h : V m c r = StableHlo.after ((hostOps0 : List (HloOp τ sig (Elt Ideal))).drop i)
      (StableHlo.upto hostOps0 (fun b => m (c, b)) i) (Proc.devRef .tc r) := by
    have e := StableHlo.after_append ((hostOps0 : List (HloOp τ sig (Elt Ideal))).take i) (hostOps0.drop i) (fun b => m (c, b))
    rw [List.take_append_drop] at e
    exact congrFun e _
  rw [h]
  exact (StableHlo.after_unwritten (written.drop i) (writes_drop i) hr _).symm

def harg0 : FVec Ideal S17408x1024 .f32 := V m c main_arg0
def harg1 : FVec Ideal S1024 .f32 := V m c main_arg1
def harg2 : FVec Ideal S1024x4896 .f32 := V m c main_arg2
def harg3 : FVec Ideal S256 .f32 := V m c main_arg3
def harg4 : FVec Ideal S256x768 .f32 := V m c main_arg4
def harg5 : FVec Ideal S256 .f32 := V m c main_arg5
def harg6 : FVec Ideal S256 .f32 := V m c main_arg6
def harg7 : FVec Ideal S256 .f32 := V m c main_arg7
def harg8 : FVec Ideal S4x128x128 .f32 := V m c main_arg8
def harg9 : FVec Ideal S4x128 .f32 := V m c main_arg9

def hv0 : IVec S4096 32 := V m c main_v0
def hv1 : IVec S1x4096 32 := V m c main_v1
def hv2 : IVec S4x4096 32 := V m c main_v2
def hv3 : IVec S16384 32 := V m c main_v3
def hv4 : IVec S8 32 := V m c main_v4
def hc : IVec S_ 32 := V m c main_c
def hv5 : IVec S8 32 := V m c main_v5
def hv6 : IVec S8 32 := V m c main_v6
def hv7 : IVec S1x8 32 := V m c main_v7
def hv8 : IVec S128x8 32 := V m c main_v8
def hv9 : IVec S1024 32 := V m c main_v9
def hv10 : IVec S17408 32 := V m c main_v10
def hv11 : FVec Ideal S17408 .f32 := V m c main_v11
def hv12 : FVec Ideal S17408x1 .f32 := V m c main_v12
def hv13 : FVec Ideal S16 .f32 := V m c main_v13
def hcst : FVec Ideal S_ .f32 := V m c main_cst
def hv14 : FVec Ideal S16 .f32 := V m c main_v14
def hv15 : FVec Ideal S16 .f32 := V m c main_v15
def hcst_0 : FVec Ideal S_ .f32 := V m c main_cst_0
def hv16 : FVec Ideal S16 .f32 := V m c main_v16
def hv17 : FVec Ideal S16 .f32 := V m c main_v17
def hv18 : FVec Ideal S16 .f32 := V m c main_v18
def hcst_1 : FVec Ideal S_ .f32 := V m c main_cst_1
def hv19 : FVec Ideal S16 .f32 := V m c main_v19
def hv20 : FVec Ideal S16 .f32 := V m c main_v20
def hcst_2 : FVec Ideal S_ .f32 := V m c main_cst_2
def hv21 : FVec Ideal S16 .f32 := V m c main_v21
def hv22 : FVec Ideal S16 .f32 := V m c main_v22
def hv23 : FVec Ideal S1x16 .f32 := V m c main_v23
def hv24 : FVec Ideal S17408x16 .f32 := V m c main_v24
def hv25 : FVec Ideal S17408x16 .f32 := V m c main_v25
def hv26 : FVec Ideal S17408x16 .f32 := V m c main_v26
def hv27 : FVec Ideal S17408x16 .f32 := V m c main_v27
def hv28 : FVec Ideal S17408x32 .f32 := V m c main_v28
def hv29 : FVec Ideal S17408x16 .f32 := V m c main_v29
def hv30 : FVec Ideal S17408x32 .f32 := V m c main_v30
def hv31 : FVec Ideal S32 .f32 := V m c main_v31
def hcst_3 : FVec Ideal S_ .f32 := V m c main_cst_3
def hv32 : FVec Ideal S32 .f32 := V m c main_v32
def hv33 : FVec Ideal S32 .f32 := V m c main_v33
def hcst_4 : FVec Ideal S_ .f32 := V m c main_cst_4
def hv34 : FVec Ideal S32 .f32 := V m c main_v34
def hv35 : FVec Ideal S32 .f32 := V m c main_v35
def hv36 : FVec Ideal S32 .f32 := V m c main_v36
def hcst_5 : FVec Ideal S_ .f32 := V m c main_cst_5
def hv37 : FVec Ideal S32 .f32 := V m c main_v37
def hv38 : FVec Ideal S32 .f32 := V m c main_v38
def hcst_6 : FVec Ideal S_ .f32 := V m c main_cst_6
def hv39 : FVec Ideal S32 .f32 := V m c main_v39
def hv40 : FVec Ideal S32 .f32 := V m c main_v40
def hv41 : FVec Ideal S1x32 .f32 := V m c main_v41
def hv42 : FVec Ideal S17408x32 .f32 := V m c main_v42
def hv43 : FVec Ideal S17408x32 .f32 := V m c main_v43
def hv44 : FVec Ideal S17408x32 .f32 := V m c main_v44
def hv45 : FVec Ideal S17408x32 .f32 := V m c main_v45
def hv46 : FVec Ideal S17408x64 .f32 := V m c main_v46
def hv47 : FVec Ideal S17408x32 .f32 := V m c main_v47
def hv48 : FVec Ideal S17408x64 .f32 := V m c main_v48
def hcst_7 : FVec Ideal S_ .f32 := V m c main_cst_7
def hv49 : FVec Ideal S17408x128 .f32 := V m c main_v49
def hcst_8 : FVec Ideal S_ .f32 := V m c main_cst_8
def hv50 : FVec Ideal S17408x128 .f32 := V m c main_v50
def hcst_9 : FVec Ideal S_ .f32 := V m c main_cst_9
def hv51 : FVec Ideal S17408x96 .f32 := V m c main_v51
def hv52 : FVec Ideal S17408x256 .f32 := V m c main_v52
def hcst_10 : FVec Ideal S_ .f32 := V m c main_cst_10
def hv53 : FVec Ideal S17408x256 .f32 := V m c main_v53
def hv54 : FVec Ideal S17408x256 .f32 := V m c main_v54
def hv55 : FVec Ideal S17408x256 .f32 := V m c main_v55
def hcst_11 : FVec Ideal S_ .f32 := V m c main_cst_11
def hv56 : FVec Ideal S17408x256 .f32 := V m c main_v56
def hv57 : FVec Ideal S17408x256 .f32 := V m c main_v57
def hv58 : FVec Ideal S17408x128 .f32 := V m c main_v58
def hv59 : FVec Ideal S17408x128 .f32 := V m c main_v59
def hv60 : FVec Ideal S1x17408x1x64 .f32 := V m c main_v60
def hv61 : FVec Ideal S1x17408x4x64 .f32 := V m c main_v61
def hv62 : FVec Ideal S17408x256 .f32 := V m c main_v62
def hv63 : FVec Ideal S1x17408x1x64 .f32 := V m c main_v63
def hv64 : FVec Ideal S1x17408x4x64 .f32 := V m c main_v64
def hv65 : FVec Ideal S17408x256 .f32 := V m c main_v65
def hcst_12 : FVec Ideal S_ .f32 := V m c main_cst_12
def hv66 : FVec Ideal S17408x256 .f32 := V m c main_v66
def hv67 : FVec Ideal S17408x256 .f32 := V m c main_v67
def hv68 : FVec Ideal S17408x512 .f32 := V m c main_v68
def hcst_13 : FVec Ideal S_ .f32 := V m c main_cst_13
def hv69 : FVec Ideal S17408x256 .f32 := V m c main_v69
def hv70 : FVec Ideal S17408x256 .f32 := V m c main_v70
def hv71 : FVec Ideal S17408x512 .f32 := V m c main_v71
def hv72 : FVec Ideal S1024x256 .f32 := V m c main_v72
def hv73 : FVec Ideal S1024x256 .f32 := V m c main_v73
def hv74 : FVec Ideal S1024x32 .f32 := V m c main_v74
def hv75 : FVec Ideal S1024x256 .f32 := V m c main_v75
def hv76 : FVec Ideal S1024x256 .f32 := V m c main_v76
def hv77 : FVec Ideal S1024x256 .f32 := V m c main_v77
def hv78 : FVec Ideal S1024x256 .f32 := V m c main_v78
def hv79 : FVec Ideal S1024x256 .f32 := V m c main_v79
def hv80 : FVec Ideal S1024x3072 .f32 := V m c main_v80
def hcst_14 : FVec Ideal S_ .f32 := V m c main_cst_14
def hv81 : FVec Ideal S1024x96 .f32 := V m c main_v81
def hv82 : FVec Ideal S1024x1x32 .f32 := V m c main_v82
def hv83 : FVec Ideal S1024x1x16 .f32 := V m c main_v83
def hv84 : FVec Ideal S1024x1x16 .f32 := V m c main_v84
def hv85 : FVec Ideal S1024x1x16 .f32 := V m c main_v85
def hv86 : FVec Ideal S1024x1x32 .f32 := V m c main_v86
def hv87 : FVec Ideal S1024x32 .f32 := V m c main_v87
def hv88 : FVec Ideal S1024x4x64 .f32 := V m c main_v88
def hv89 : FVec Ideal S1024x4x32 .f32 := V m c main_v89
def hv90 : FVec Ideal S1024x4x32 .f32 := V m c main_v90
def hv91 : FVec Ideal S1024x4x32 .f32 := V m c main_v91
def hv92 : FVec Ideal S1024x4x64 .f32 := V m c main_v92
def hv93 : FVec Ideal S1024x256 .f32 := V m c main_v93
def hv94 : FVec Ideal S1024x4x64 .f32 := V m c main_v94
def hv95 : FVec Ideal S1024x4x32 .f32 := V m c main_v95
def hv96 : FVec Ideal S1024x4x32 .f32 := V m c main_v96
def hv97 : FVec Ideal S1024x4x32 .f32 := V m c main_v97
def hv98 : FVec Ideal S1024x4x64 .f32 := V m c main_v98
def hv99 : FVec Ideal S1024x256 .f32 := V m c main_v99
def hv100 : FVec Ideal S1024x5632 .f32 := V m c main_v100
def hv101 : FVec Ideal S1024x5632 .bf16 := V m c main_v101
def hv102 : FVec Ideal S256x8x96 .f32 := V m c main_v102
def hv103 : FVec Ideal S256x8x64 .f32 := V m c main_v103
def hv104 : FVec Ideal S256x8x32 .f32 := V m c main_v104
def hcst_15 : FVec Ideal S_ .f32 := V m c main_cst_15
def hv105 : FVec Ideal S256x8x64 .f32 := V m c main_v105
def hcst_16 : FVec Ideal S_ .f32 := V m c main_cst_16
def hv106 : FVec Ideal S256x8x96 .f32 := V m c main_v106
def hcst_17 : FVec Ideal S_ .f32 := V m c main_cst_17
def hv107 : FVec Ideal S256x8x128 .f32 := V m c main_v107
def hv108 : FVec Ideal S256x8x16 .f32 := V m c main_v108
def hv109 : FVec Ideal S256x8x16 .f32 := V m c main_v109
def hv110 : FVec Ideal S256x8x16 .f32 := V m c main_v110
def hv111 : FVec Ideal S256x8x32 .f32 := V m c main_v111
def hv112 : FVec Ideal S256x8x256 .f32 := V m c main_v112
def hv113 : FVec Ideal S256x2048 .f32 := V m c main_v113
def hv114 : FVec Ideal S256x8x256 .f32 := V m c main_v114
def hv115 : FVec Ideal S256x2048 .f32 := V m c main_v115
def hv116 : FVec Ideal S256x2048 .bf16 := V m c main_v116
def hv117 : FVec Ideal S256x2048 .bf16 := V m c main_v117
def hv118 : FVec Ideal S4x8x8 .f32 := V m c main_v118
def hv119 : IVec S16x16 32 := V m c main_v119
def hv120 : IVec S16x16 32 := V m c main_v120
def hc_18 : IVec S_ 32 := V m c main_c_18
def hv121 : IVec S16x16 32 := V m c main_v121
def hv122 : IVec S16x16 32 := V m c main_v122
def hv123 : IVec S16x16 1 := V m c main_v123
def hv124 : FVec Ideal S16x16 .f32 := V m c main_v124
def hv125 : FVec Ideal S1x16x1x16x1 .f32 := V m c main_v125
def hv126 : FVec Ideal S4x1x8x1x8 .f32 := V m c main_v126
def hv127 : FVec Ideal S4x16x8x16x8 .f32 := V m c main_v127
def hv128 : FVec Ideal S4x16x8x16x8 .f32 := V m c main_v128
def hv129 : FVec Ideal S4x16x8x16x8 .f32 := V m c main_v129
def hv130 : FVec Ideal S4x128x128 .f32 := V m c main_v130
def hv131 : FVec Ideal S1x4x128x128 .f32 := V m c main_v131
def hv132 : FVec Ideal S1x4x128x128 .f32 := V m c main_v132
def hv133 : FVec Ideal S2x4x128x128 .f32 := V m c main_v133
def hv134 : FVec Ideal S128x4 .f32 := V m c main_v134
def hv135 : FVec Ideal S128x4x64 .f32 := V m c main_v135
def hv136 : FVec Ideal S128x256 .f32 := V m c main_v136
def hv137 : FVec Ideal S4x8 .f32 := V m c main_v137
def hv138 : FVec Ideal S8x4 .f32 := V m c main_v138
def hv139 : FVec Ideal S8x4x64 .f32 := V m c main_v139
def hv140 : FVec Ideal S8x256 .f32 := V m c main_v140
def hv141 : FVec Ideal S1x8x1x256 .f32 := V m c main_v141
def hv142 : FVec Ideal S16x8x1x256 .f32 := V m c main_v142
def hv143 : FVec Ideal S128x256 .f32 := V m c main_v143
def hv144 : FVec Ideal S1x128x256 .f32 := V m c main_v144
def hv145 : FVec Ideal S1x128x256 .f32 := V m c main_v145
def hv146 : FVec Ideal S2x128x256 .f32 := V m c main_v146
def hv147 : FVec Ideal S1x1024 .f32 := V m c main_v147
def hv148 : FVec Ideal S1x256 .f32 := V m c main_v148
def hv149 : FVec Ideal S1x256 .f32 := V m c main_v149
def hv150 : FVec Ideal S1x256 .f32 := V m c main_v150
def hv151 : FVec Ideal S1x256 .f32 := V m c main_v151

theorem harg0_eq : harg0 m c = m ((c : Thread nD τ).loc main_arg0) := V_main_arg0 m c
theorem harg1_eq : harg1 m c = m ((c : Thread nD τ).loc main_arg1) := V_main_arg1 m c
theorem harg2_eq : harg2 m c = m ((c : Thread nD τ).loc main_arg2) := V_main_arg2 m c
theorem harg3_eq : harg3 m c = m ((c : Thread nD τ).loc main_arg3) := V_main_arg3 m c
theorem harg4_eq : harg4 m c = m ((c : Thread nD τ).loc main_arg4) := V_main_arg4 m c
theorem harg5_eq : harg5 m c = m ((c : Thread nD τ).loc main_arg5) := V_main_arg5 m c
theorem harg6_eq : harg6 m c = m ((c : Thread nD τ).loc main_arg6) := V_main_arg6 m c
theorem harg7_eq : harg7 m c = m ((c : Thread nD τ).loc main_arg7) := V_main_arg7 m c
theorem harg8_eq : harg8 m c = m ((c : Thread nD τ).loc main_arg8) := V_main_arg8 m c
theorem harg9_eq : harg9 m c = m ((c : Thread nD τ).loc main_arg9) := V_main_arg9 m c

end Cert.Kernel3Ideal.Proj
-- ==== Proof.ProjMath.lean ====
module

public import proofs.«01_k».proof.Proof.MergeMath
public import Idealize.ShloMosaic.Lib.Pointwise
public import Idealize.ShloMosaic.PureOps.Ideal.Laws

/-!
The projections of a token, one row at a time, over the extended reals.
-/

@[expose] public section

noncomputable section

open Idealize.ShloMosaic

namespace Cert.ProjMath

/-- A row of 256 over the root of its mean square, times the gain. -/
def latRow (u g : Fin 256 → EReal) (j : Fin 256) : EReal :=
  u j * Ideal.rsqrt (Ideal.div (∑ k : Fin 256, u k * u k) (Ideal.ofBits .f32 0x43800000#32) + Ideal.ofBits .f32 0x358637BD#32) * g j

/-- The tanh form of the Gaussian error unit. -/
def gelu (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * (x * x))))))

/-- A row less its mean. -/
def centred (u : Fin 256 → EReal) (j : Fin 256) : EReal := u j - Ideal.div (∑ k : Fin 256, u k) (Ideal.ofBits .f32 0x43800000#32)

/-- A row less its mean, over the root of the mean square of what is left, times the gain, plus the bias. -/
def lnRow (u g b : Fin 256 → EReal) (j : Fin 256) : EReal := latRow (centred u) g j + b j

/-- A value that is a real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The sum of reals is the real sum. -/
theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem IsReal.sum {n : ℕ} {f : Fin n → EReal} (h : ∀ k, IsReal (f k)) : IsReal (∑ k, f k) := by
  choose g hg using h
  refine ⟨∑ k, g k, ?_⟩
  rw [coe_sum]
  exact Finset.sum_congr rfl fun k _ => hg k

/-- A sum of products with one factor negated is the negated sum, all factors being reals. -/
theorem sum_mul_neg {n : ℕ} {f g : Fin n → EReal} (hf : ∀ k, IsReal (f k)) (hg : ∀ k, IsReal (g k)) : ∑ k, f k * -g k = -∑ k, f k * g k := by
  choose a ha using hf
  choose b hb using hg
  have h1 : ∀ k, f k * -g k = ((-(a k * b k) : ℝ) : EReal) := fun k => by
    rw [ha, hb, EReal.coe_neg, EReal.coe_mul, mul_neg]
  have h2 : ∀ k, f k * g k = ((a k * b k : ℝ) : EReal) := fun k => by rw [ha, hb, EReal.coe_mul]
  simp only [h1, h2]
  rw [← coe_sum, ← coe_sum, ← EReal.coe_neg, Finset.sum_neg_distrib]

theorem count_real : ∃ r : ℝ, 0 < r ∧ Ideal.ofBits .f32 0x44800000#32 = (r : EReal) := by
  refine ⟨1024, by norm_num, ?_⟩
  simp [Ideal.ofBits, Ideal.ieee, -EReal.coe_mul]
  norm_num

theorem count_real' : ∃ r : ℝ, 0 < r ∧ Ideal.ofBits .f32 0x43800000#32 = (r : EReal) := by
  refine ⟨256, by norm_num, ?_⟩
  simp [Ideal.ofBits, Ideal.ieee, -EReal.coe_mul]
  norm_num

theorem eps_real : ∃ r : ℝ, 0 < r ∧ Ideal.ofBits .f32 0x358637BD#32 = (r : EReal) := by
  refine ⟨8796093 * 2 ^ (-43 : ℤ), by positivity, ?_⟩
  simp [Ideal.ofBits, Ideal.ieee, -EReal.coe_mul]

/-- The reciprocal root of a mean square plus the small constant is a real. -/
theorem rsqrt_real {n : ℕ} {u : Fin n → EReal} (hu : ∀ k, IsReal (u k)) {d e : EReal} (hd : ∃ r : ℝ, 0 < r ∧ d = (r : EReal)) (he : ∃ r : ℝ, 0 < r ∧ e = (r : EReal)) :
    IsReal (Ideal.rsqrt (Ideal.div (∑ k, u k * u k) d + e)) := by
  choose a ha using hu
  obtain ⟨r, hr, rfl⟩ := hd
  obtain ⟨s, hs, rfl⟩ := he
  have h1 : ∑ k, u k * u k = ((∑ k, a k * a k : ℝ) : EReal) := by
    rw [coe_sum]
    exact Finset.sum_congr rfl fun k _ => by rw [ha, EReal.coe_mul]
  have hne : (r : EReal) ≠ 0 := by exact_mod_cast hr.ne'
  have h2 : Ideal.div (∑ k, u k * u k) (r : EReal) + (s : EReal) = (((∑ k, a k * a k) * r⁻¹ + s : ℝ) : EReal) := by
    rw [h1, Ideal.div, if_neg hne, ← EReal.coe_inv, ← EReal.coe_mul, ← EReal.coe_add]
  have hpos : 0 < (∑ k, a k * a k) * r⁻¹ + s := by
    have : 0 ≤ ∑ k, a k * a k := Finset.sum_nonneg fun k _ => mul_self_nonneg _
    positivity
  rw [h2]
  refine ⟨(Real.sqrt ((∑ k, a k * a k) * r⁻¹ + s))⁻¹, ?_⟩
  show (if (∑ k, a k * a k) * r⁻¹ + s < 0 then ⊥ else if (∑ k, a k * a k) * r⁻¹ + s = 0 then ⊤ else (((Real.sqrt ((∑ k, a k * a k) * r⁻¹ + s))⁻¹ : ℝ) : EReal)) = _
  rw [if_neg hpos.not_gt, if_neg hpos.ne']

theorem rmsRow_real {u g : Fin 1024 → EReal} (hu : ∀ k, IsReal (u k)) (hg : ∀ k, IsReal (g k)) (j : Fin 1024) : IsReal (MergeMath.rmsRow u g j) :=
  ((hu j).mul (rsqrt_real hu count_real eps_real)).mul (hg j)

theorem latRow_real {u g : Fin 256 → EReal} (hu : ∀ k, IsReal (u k)) (hg : ∀ k, IsReal (g k)) (j : Fin 256) : IsReal (latRow u g j) :=
  ((hu j).mul (rsqrt_real hu count_real' eps_real)).mul (hg j)

/-- A nonnegative real distributes over a sum. -/
theorem add_mul_scale (a b : EReal) {s : EReal} (hs : ∃ r : ℝ, 0 < r ∧ s = (r : EReal)) : (a + b) * s = a * s + b * s := by
  obtain ⟨r, hr, rfl⟩ := hs
  exact EReal.right_distrib_of_nonneg_of_ne_top (by exact_mod_cast hr.le) (EReal.coe_ne_top r) a b

/-- The scale of the 96 wide queries. -/
theorem scale96 : ∃ r : ℝ, 0 < r ∧ Ideal.ofBits .f32 0x3DD105EC#32 = (r : EReal) := by
  refine ⟨13698540 * 2 ^ (-27 : ℤ), by positivity, ?_⟩
  simp [Ideal.ofBits, Ideal.ieee, -EReal.coe_mul]

/-- The scale of the 64 wide queries. -/
theorem scale64 : ∃ r : ℝ, 0 < r ∧ Ideal.ofBits .f32 0x3E000000#32 = (r : EReal) := by
  refine ⟨8388608 * 2 ^ (-26 : ℤ), by positivity, ?_⟩
  simp [Ideal.ofBits, Ideal.ieee, -EReal.coe_mul]

theorem one_bits : Ideal.ofBits .f32 0x3F800000#32 = 1 := by
  have h : Ideal.ofBits .f32 0x3F800000#32 = ((8388608 * (2 ^ 23)⁻¹ : ℝ) : EReal) := by
    simp [Ideal.ofBits, Ideal.ieee, -EReal.coe_mul]
  rw [h, show (8388608 * (2 ^ 23)⁻¹ : ℝ) = 1 by norm_num, EReal.coe_one]

theorem zero_bits : Ideal.ofBits .f32 0x00000000#32 = 0 := by
  simp [Ideal.ofBits, Ideal.ieee]

end Cert.ProjMath
-- ==== Proof.ProjRun.lean ====
module

public import proofs.«01_k».proof.Proof.ProjHost
public import proofs.«01_k».proof.Proof.ProjMath
public import Idealize.ShloMosaic.Lib.Pipeline.Value

/-!
The run of the projections' kernel, with the arrays it leaves in its claimed results named and its arguments kept.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen Cert.ProjMath

variable (m : (ℓ : Loc nD τ sig) → Buf (Elt Ideal) ℓ) (ρ : Dev nD → PrngReg)

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

set_option maxHeartbeats 1000000 in
theorem run_results : θ_run defs (onTc (τ := τ) (main (F := Ideal))) ⟨m, fun _ => 0, ρ⟩ fun r => ∀ c : Dev nD,
      r.2.mem ((c : Thread nD τ).loc main_v152_0) = (dats m 0 c).arrAt 17 cfg0.N
      ∧ r.2.mem ((c : Thread nD τ).loc main_v152_1) = (dats m 0 c).arrAt 18 cfg0.N
      ∧ r.2.mem ((c : Thread nD τ).loc main_v152_2) = (dats m 0 c).arrAt 19 cfg0.N
      ∧ r.2.mem ((c : Thread nD τ).loc main_v152_3) = (dats m 0 c).arrAt 20 cfg0.N
      ∧ r.2.mem ((c : Thread nD τ).loc main_v152_4) = (dats m 0 c).arrAt 21 cfg0.N
      ∧ r.2.mem ((c : Thread nD τ).loc main_v152_5) = (dats m 0 c).arrAt 22 cfg0.N
      ∧ r.2.mem ((c : Thread nD τ).loc main_v152_6) = (dats m 0 c).arrAt 23 cfg0.N
      ∧ r.2.mem ((c : Thread nD τ).loc main_v152_7) = (dats m 0 c).arrAt 24 cfg0.N
      ∧ r.2.mem ((c : Thread nD τ).loc main_v152_9) = (dats m 0 c).arrAt 26 cfg0.N
      ∧ r.2.mem ((c : Thread nD τ).loc main_v152_10) = (dats m 0 c).arrAt 27 cfg0.N
      ∧ r.2.mem ((c : Thread nD τ).loc main_v152_11) = (dats m 0 c).arrAt 28 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1 17, (h c).1 18, (h c).1 19, (h c).1 20, (h c).1 21, (h c).1 22, (h c).1 23, (h c).1 24, (h c).1 26, (h c).1 27, (h c).1 28, kept0 m r h c, kept1 m r h c, kept2 m r h c, kept3 m r h c, kept4 m r h c, kept5 m r h c, kept6 m r h c, kept7 m r h c, kept8 m r h c, kept9 m r h c⟩) (run_main m ρ)

end Cert.Kernel3Ideal.Proj

end
-- ==== Proof.ProjTile.lean ====
module

public import proofs.«01_k».proof.Proof.ProjFrameIdeal
public import proofs.«01_k».proof.Proof.ProjMath
public import Idealize.ShloMosaic.Lib.Pipeline.ValueKit
public import Idealize.ShloMosaic.Lib.Pointwise

/-!
What one grid point of the projections computes from its blocks, at an index.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen Cert.ProjMath

variable (h : FVec Ideal S256x1024 .bf16) (w wr : Vec Ideal S1024x256 .bf16) (g b : Vec Ideal S1x256 .f32) (r : Fin 256) (j : Fin 256)

/-- The normed rows. -/
theorem head_at (x : Vec Ideal S256x1024 .f32) (g : Vec Ideal S1x1024 .f32) (k : Fin 1024) :
    k0_pay5 x g (ix2 r k) = MergeMath.rmsRow (fun j => x (ix2 r j)) (fun j => g (ix2 0 j)) k := by
  pointwise [k0_pay5, MergeMath.rmsRow]

/-- Rows times 256 columns of the weights. -/
theorem pay17_at : k0_pay17 h w (ix2 r j) = ∑ k : Fin 1024, h (ix2 r k) * w (ix2 k j) := by
  pointwise [k0_pay17]

/-- The normed latent rows. -/
theorem pay20_at : k0_pay20 (k0_pay17 h w) (k0_pay18 g) (k0_pay19 h w) (ix2 r j)
    = latRow (fun i => ∑ k : Fin 1024, h (ix2 r k) * w (ix2 k i)) (fun i => g (ix2 0 i)) j := by
  pointwise [k0_pay20, k0_pay18, k0_pay19, latRow]
  simp only [pay17_at]

/-- The normed latent rows, transposed. -/
theorem pay21_at : k0_pay21 (k0_pay17 h w) (k0_pay18 g) (k0_pay19 h w) (ix3 0 j r)
    = k0_pay20 (k0_pay17 h w) (k0_pay18 g) (k0_pay19 h w) (ix2 r j) := by
  pointwise [k0_pay21]

/-- The normed latent rows that the queries come from. -/
theorem pay6_at (x : Vec Ideal S256x1024 .f32) (gx : Vec Ideal S1x1024 .f32) : k0_pay6 x gx w g (ix2 r j)
    = latRow (fun i => ∑ k : Fin 1024, k0_pay5 x gx (ix2 r k) * w (ix2 k i)) (fun i => g (ix2 0 i)) j := by
  pointwise [k0_pay6, latRow]

/-- The turned key row, padded. -/
theorem pay22_at (w wr : Vec Ideal S1024x128 .bf16) (cs sn : Vec Ideal S256x128 .f32) (j : Fin 128) : k0_pay22 h w cs wr sn (ix2 r j)
    = (∑ k : Fin 1024, h (ix2 r k) * w (ix2 k j)) * cs (ix2 r j) + (∑ k : Fin 1024, h (ix2 r k) * wr (ix2 k j)) * sn (ix2 r j) := by
  pointwise [k0_pay22]

theorem pay23_at (w wr : Vec Ideal S1024x128 .bf16) (cs sn : Vec Ideal S256x128 .f32) (j : Fin 128) : k0_pay23 h w cs wr sn (ix2 r j)
    = k0_pay22 h w cs wr sn (ix2 r j) := by
  pointwise [k0_pay23]

theorem pay24_at (w wr : Vec Ideal S1024x128 .bf16) (cs sn : Vec Ideal S256x128 .f32) (j : Fin 32) : k0_pay24 h w cs wr sn (ix2 r j)
    = k0_pay22 h w cs wr sn (ix2 r ⟨j.val, by omega⟩) := by
  pointwise [k0_pay24]

/-- The turned queries of the blocks. -/
theorem pay27_at (cs sn : Vec Ideal S256x512 .f32) : k0_pay27 h (k0_pay25 cs) (k0_pay26 sn) w wr (ix2 r j)
    = (∑ k : Fin 1024, h (ix2 r k) * w (ix2 k j)) * cs (ix2 r ⟨j.val, by omega⟩) + (∑ k : Fin 1024, h (ix2 r k) * wr (ix2 k j)) * sn (ix2 r ⟨j.val, by omega⟩) := by
  pointwise [k0_pay27, k0_pay25, k0_pay26]

/-- The turned keys of the blocks. -/
theorem pay28_at (cs sn : Vec Ideal S256x512 .f32) : k0_pay28 h (k0_pay25 cs) (k0_pay26 sn) w wr (ix2 r j)
    = (∑ k : Fin 1024, h (ix2 r k) * w (ix2 k j)) * cs (ix2 r ⟨256 + j.val, by omega⟩) + (∑ k : Fin 1024, h (ix2 r k) * wr (ix2 k j)) * sn (ix2 r ⟨256 + j.val, by omega⟩) := by
  pointwise [k0_pay28, k0_pay25, k0_pay26]

/-- The values of the blocks. -/
theorem pay29_at : k0_pay29 h w (ix2 r j) = ∑ k : Fin 1024, h (ix2 r k) * w (ix2 k j) := by
  pointwise [k0_pay29]

theorem pay30_at : k0_pay30 h w (ix3 0 j r) = k0_pay29 h w (ix2 r j) := by
  pointwise [k0_pay30]

/-- The first half of the mixing branch. -/
theorem pay31_at : k0_pay31 h w (ix2 r j) = gelu (∑ k : Fin 1024, h (ix2 r k) * w (ix2 k j)) := by
  pointwise [k0_pay31, gelu]

/-- The second half of the mixing branch, less its mean. -/
theorem pay32_at : k0_pay32 h w (ix2 r j) = centred (fun i => gelu (∑ k : Fin 1024, h (ix2 r k) * w (ix2 k i))) j := by
  pointwise [k0_pay32, gelu, centred]

/-- The second half of the mixing branch, normed. -/
theorem pay34_at : k0_pay34 (k0_pay32 h w) (k0_pay33 h w) (Scalar.ofBits .f32 0x358637BD#32) g b (ix2 r j)
    = lnRow (fun i => gelu (∑ k : Fin 1024, h (ix2 r k) * w (ix2 k i))) (fun i => g (ix2 0 i)) (fun i => b (ix2 0 i)) j := by
  pointwise [k0_pay34, k0_pay33, lnRow, latRow]
  simp only [pay32_at]

/-- The gates. -/
theorem pay2_at (w : Vec Ideal S1024x1024 .bf16) (j : Fin 1024) : k0_pay2 h w (ix2 r j) = Ideal.logistic (∑ k : Fin 1024, h (ix2 r k) * w (ix2 k j)) := by
  pointwise [k0_pay2]

theorem pay3_at (w : Vec Ideal S1024x1024 .bf16) (j : Fin 1024) : k0_pay3 h w (ix2 r j) = Ideal.logistic (∑ k : Fin 1024, h (ix2 r k) * w (ix2 k j)) := by
  pointwise [k0_pay3]

theorem pay4_at (w : Vec Ideal S1024x1024 .bf16) (j : Fin 1024) : k0_pay4 h w (ix2 r j) = Ideal.logistic (∑ k : Fin 1024, h (ix2 r k) * w (ix2 k j)) := by
  pointwise [k0_pay4]

section
variable (q : FVec Ideal S256x256 .bf16) (cs sn : Vec Ideal S256x256 .f32) (u ur : Vec Ideal S256x256 .bf16)

/-- One head's query, turned and scaled. -/
def turned : EReal := (∑ k : Fin 256, q (ix2 r k) * u (ix2 k j)) * cs (ix2 r j) + (∑ k : Fin 256, q (ix2 r k) * ur (ix2 k j)) * sn (ix2 r j)

theorem pay9_at : k0_pay9 q (k0_pay7 cs) (k0_pay8 sn) u ur (ix2 r j) = turned r j q cs sn u ur := by
  pointwise [k0_pay9, k0_pay7, k0_pay8, turned]
theorem pay10_at : k0_pay10 q (k0_pay7 cs) (k0_pay8 sn) u ur (ix2 r j) = turned r j q cs sn u ur := by
  pointwise [k0_pay10, k0_pay7, k0_pay8, turned]
theorem pay11_at : k0_pay11 q (k0_pay7 cs) (k0_pay8 sn) u ur (ix2 r j) = turned r j q cs sn u ur := by
  pointwise [k0_pay11, k0_pay7, k0_pay8, turned]
theorem pay12_at : k0_pay12 q (k0_pay7 cs) (k0_pay8 sn) u ur (ix2 r j) = turned r j q cs sn u ur := by
  pointwise [k0_pay12, k0_pay7, k0_pay8, turned]
theorem pay13_at : k0_pay13 q (k0_pay7 cs) (k0_pay8 sn) u ur (ix2 r j) = turned r j q cs sn u ur := by
  pointwise [k0_pay13, k0_pay7, k0_pay8, turned]
theorem pay14_at : k0_pay14 q (k0_pay7 cs) (k0_pay8 sn) u ur (ix2 r j) = turned r j q cs sn u ur := by
  pointwise [k0_pay14, k0_pay7, k0_pay8, turned]
theorem pay15_at : k0_pay15 q (k0_pay7 cs) (k0_pay8 sn) u ur (ix2 r j) = turned r j q cs sn u ur := by
  pointwise [k0_pay15, k0_pay7, k0_pay8, turned]
theorem pay16_at : k0_pay16 q (k0_pay7 cs) (k0_pay8 sn) u ur (ix2 r j) = turned r j q cs sn u ur := by
  pointwise [k0_pay16, k0_pay7, k0_pay8, turned]

end

end Cert.Kernel3Ideal.Proj

end
-- ==== Proof.ProjOut.lean ====
module

public import proofs.«01_k».proof.Proof.ProjTile
public import Idealize.ShloMosaic.Lib.Pipeline.ValueKit

/-!
What a grid point of the projections leaves in each window, and what it loads.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen Cert.ProjMath

variable (x0 : Vec Ideal S256x1024 .f32) (x1 : Vec Ideal S1x1024 .f32) (x2 : Vec Ideal S1024x5632 .bf16) (x3 : Vec Ideal S1x256 .f32) (x4 : Vec Ideal S256x2048 .bf16) (x5 : Vec Ideal S256x2048 .bf16) (x6 : Vec Ideal S1x256 .f32) (x7 : Vec Ideal S1x256 .f32) (x8 : Vec Ideal S1x256 .f32) (x9 : Vec Ideal S1x4x128x128 .f32) (x10 : Vec Ideal S1x128x256 .f32) (x11 : Vec Ideal S256x256 .f32) (x12 : Vec Ideal S256x256 .f32) (x13 : Vec Ideal S256x128 .f32) (x14 : Vec Ideal S256x128 .f32) (x15 : Vec Ideal S256x512 .f32) (x16 : Vec Ideal S256x512 .f32)

theorem ld_2 (k : Fin 1024) (j : Fin 256) : View.ld x2 r0_2 (ix2 k j) = x2 (ix2 k ⟨j.val, by omega⟩) := by
  pointwise []

theorem ld_13 (k : Fin 1024) (j : Fin 256) : View.ld x2 r0_13 (ix2 k j) = x2 (ix2 k ⟨256 + j.val, by omega⟩) := by
  pointwise []

theorem ld_15 (k : Fin 1024) (j : Fin 128) : View.ld x2 r0_15 (ix2 k j) = x2 (ix2 k ⟨512 + j.val, by omega⟩) := by
  pointwise []

theorem ld_17 (k : Fin 1024) (j : Fin 128) : View.ld x2 r0_17 (ix2 k j) = x2 (ix2 k ⟨640 + j.val, by omega⟩) := by
  pointwise []

theorem ld_20 (k : Fin 1024) (j : Fin 256) : View.ld x2 r0_20 (ix2 k j) = x2 (ix2 k ⟨768 + j.val, by omega⟩) := by
  pointwise []

theorem ld_21 (k : Fin 1024) (j : Fin 256) : View.ld x2 r0_21 (ix2 k j) = x2 (ix2 k ⟨1024 + j.val, by omega⟩) := by
  pointwise []

theorem ld_22 (k : Fin 1024) (j : Fin 256) : View.ld x2 r0_22 (ix2 k j) = x2 (ix2 k ⟨1280 + j.val, by omega⟩) := by
  pointwise []

theorem ld_23 (k : Fin 1024) (j : Fin 256) : View.ld x2 r0_23 (ix2 k j) = x2 (ix2 k ⟨1536 + j.val, by omega⟩) := by
  pointwise []

theorem ld_24 (k : Fin 1024) (j : Fin 256) : View.ld x2 r0_24 (ix2 k j) = x2 (ix2 k ⟨1792 + j.val, by omega⟩) := by
  pointwise []

theorem ld_26 (k : Fin 1024) (j : Fin 256) : View.ld x2 r0_26 (ix2 k j) = x2 (ix2 k ⟨2304 + j.val, by omega⟩) := by
  pointwise []

theorem ldx_0 (r : Fin 256) (j : Fin 1024) : View.ld x0 r0_0 (ix2 r j) = x0 (ix2 r j) := by
  pointwise []

theorem ldx_1 (r : Fin 1) (j : Fin 1024) : View.ld x1 r0_1 (ix2 r j) = x1 (ix2 r j) := by
  obtain rfl : r = 0 := Subsingleton.elim _ _
  pointwise []

theorem ldx_3 (r : Fin 1) (j : Fin 256) : View.ld x3 r0_3 (ix2 r j) = x3 (ix2 r j) := by
  obtain rfl : r = 0 := Subsingleton.elim _ _
  pointwise []

theorem ldx_6 (r : Fin 1) (j : Fin 256) : View.ld x6 r0_3 (ix2 r j) = x6 (ix2 r j) := by
  obtain rfl : r = 0 := Subsingleton.elim _ _
  pointwise []

theorem ldx_7 (r : Fin 1) (j : Fin 256) : View.ld x7 r0_3 (ix2 r j) = x7 (ix2 r j) := by
  obtain rfl : r = 0 := Subsingleton.elim _ _
  pointwise []

theorem ldx_8 (r : Fin 1) (j : Fin 256) : View.ld x8 r0_3 (ix2 r j) = x8 (ix2 r j) := by
  obtain rfl : r = 0 := Subsingleton.elim _ _
  pointwise []

theorem ldx_13 (r : Fin 256) (j : Fin 128) : View.ld x13 r0_16 (ix2 r j) = x13 (ix2 r j) := by
  pointwise []

theorem ldx_14 (r : Fin 256) (j : Fin 128) : View.ld x14 r0_16 (ix2 r j) = x14 (ix2 r j) := by
  pointwise []

theorem ldx_15 (r : Fin 256) (j : Fin 512) : View.ld x15 r0_19 (ix2 r j) = x15 (ix2 r j) := by
  pointwise []

theorem ldx_16 (r : Fin 256) (j : Fin 512) : View.ld x16 r0_19 (ix2 r j) = x16 (ix2 r j) := by
  pointwise []

theorem out_17 (y : S256x256.Idx) : out0_17 x0 x1 x2 x3 x4 x5 x6 x7 x8 x9 x10 x11 x12 x13 x14 x15 x16 y = k0_pay20 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) y := by
  unfold out0_17
  generalize k0_pay20 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) = v
  canon_tiles x hh
  case piece0 => exact congrArg _ (funext fun i => Fin.ext (by fin_cases i <;> simp_all))

theorem out_18 (y : S256x32.Idx) : out0_18 x0 x1 x2 x3 x4 x5 x6 x7 x8 x9 x10 x11 x12 x13 x14 x15 x16 y = k0_pay24 (k0_pay47 x0 x1 x2 x3 x4 x5 x6 x7 x8 x9 x10 x11 x12 x13 x14 x15 x16) (View.ld x2 r0_15) (View.ld x13 r0_16) (View.ld x2 r0_17) (View.ld x14 r0_16) y := by
  unfold out0_18
  generalize k0_pay24 (k0_pay47 x0 x1 x2 x3 x4 x5 x6 x7 x8 x9 x10 x11 x12 x13 x14 x15 x16) (View.ld x2 r0_15) (View.ld x13 r0_16) (View.ld x2 r0_17) (View.ld x14 r0_16) = v
  canon_tiles x hh
  case piece0 => exact congrArg _ (funext fun i => Fin.ext (by fin_cases i <;> simp_all))

theorem out_19 (y : S256x256.Idx) : out0_19 x0 x1 x2 x3 x4 x5 x6 x7 x8 x9 x10 x11 x12 x13 x14 x15 x16 y = k0_pay28 (k0_pay47 x0 x1 x2 x3 x4 x5 x6 x7 x8 x9 x10 x11 x12 x13 x14 x15 x16) (k0_pay54 x0 x1 x2 x3 x4 x5 x6 x7 x8 x9 x10 x11 x12 x13 x14 x15 x16) (k0_pay55 x0 x1 x2 x3 x4 x5 x6 x7 x8 x9 x10 x11 x12 x13 x14 x15 x16) (View.ld x2 r0_22) (View.ld x2 r0_23) y := by
  unfold out0_19
  generalize k0_pay28 (k0_pay47 x0 x1 x2 x3 x4 x5 x6 x7 x8 x9 x10 x11 x12 x13 x14 x15 x16) (k0_pay54 x0 x1 x2 x3 x4 x5 x6 x7 x8 x9 x10 x11 x12 x13 x14 x15 x16) (k0_pay55 x0 x1 x2 x3 x4 x5 x6 x7 x8 x9 x10 x11 x12 x13 x14 x15 x16) (View.ld x2 r0_22) (View.ld x2 r0_23) = v
  canon_tiles x hh
  case piece0 => exact congrArg _ (funext fun i => Fin.ext (by fin_cases i <;> simp_all))

theorem out_20 (y : S256x256.Idx) : out0_20 x0 x1 x2 x3 x4 x5 x6 x7 x8 x9 x10 x11 x12 x13 x14 x15 x16 y = k0_pay29 (k0_pay47 x0 x1 x2 x3 x4 x5 x6 x7 x8 x9 x10 x11 x12 x13 x14 x15 x16) (View.ld x2 r0_24) y := by
  unfold out0_20
  generalize k0_pay29 (k0_pay47 x0 x1 x2 x3 x4 x5 x6 x7 x8 x9 x10 x11 x12 x13 x14 x15 x16) (View.ld x2 r0_24) = v
  canon_tiles x hh
  case piece0 => exact congrArg _ (funext fun i => Fin.ext (by fin_cases i <;> simp_all))

theorem out_21 (y : S256x256.Idx) : out0_21 x0 x1 x2 x3 x4 x5 x6 x7 x8 x9 x10 x11 x12 x13 x14 x15 x16 y = k0_pay34 (k0_pay57 x0 x1 x2 x3 x4 x5 x6 x7 x8 x9 x10 x11 x12 x13 x14 x15 x16) (k0_pay58 x0 x1 x2 x3 x4 x5 x6 x7 x8 x9 x10 x11 x12 x13 x14 x15 x16) (Scalar.ofBits .f32 0x358637BD#32) (View.ld x7 r0_3) (View.ld x8 r0_3) y := by
  unfold out0_21
  generalize k0_pay34 (k0_pay57 x0 x1 x2 x3 x4 x5 x6 x7 x8 x9 x10 x11 x12 x13 x14 x15 x16) (k0_pay58 x0 x1 x2 x3 x4 x5 x6 x7 x8 x9 x10 x11 x12 x13 x14 x15 x16) (Scalar.ofBits .f32 0x358637BD#32) (View.ld x7 r0_3) (View.ld x8 r0_3) = v
  canon_tiles x hh
  case piece0 => exact congrArg _ (funext fun i => Fin.ext (by fin_cases i <;> simp_all))

theorem out_23 (y : S256x128.Idx) : out0_23 x0 x1 x2 x3 x4 x5 x6 x7 x8 x9 x10 x11 x12 x13 x14 x15 x16 y = k0_pay23 (k0_pay47 x0 x1 x2 x3 x4 x5 x6 x7 x8 x9 x10 x11 x12 x13 x14 x15 x16) (View.ld x2 r0_15) (View.ld x13 r0_16) (View.ld x2 r0_17) (View.ld x14 r0_16) y := by
  unfold out0_23
  generalize k0_pay23 (k0_pay47 x0 x1 x2 x3 x4 x5 x6 x7 x8 x9 x10 x11 x12 x13 x14 x15 x16) (View.ld x2 r0_15) (View.ld x13 r0_16) (View.ld x2 r0_17) (View.ld x14 r0_16) = v
  canon_tiles x hh
  case piece0 => exact congrArg _ (funext fun i => Fin.ext (by fin_cases i <;> simp_all))

theorem out_24 (y : S256x256.Idx) : out0_24 x0 x1 x2 x3 x4 x5 x6 x7 x8 x9 x10 x11 x12 x13 x14 x15 x16 y = k0_pay27 (k0_pay47 x0 x1 x2 x3 x4 x5 x6 x7 x8 x9 x10 x11 x12 x13 x14 x15 x16) (k0_pay54 x0 x1 x2 x3 x4 x5 x6 x7 x8 x9 x10 x11 x12 x13 x14 x15 x16) (k0_pay55 x0 x1 x2 x3 x4 x5 x6 x7 x8 x9 x10 x11 x12 x13 x14 x15 x16) (View.ld x2 r0_20) (View.ld x2 r0_21) y := by
  unfold out0_24
  generalize k0_pay27 (k0_pay47 x0 x1 x2 x3 x4 x5 x6 x7 x8 x9 x10 x11 x12 x13 x14 x15 x16) (k0_pay54 x0 x1 x2 x3 x4 x5 x6 x7 x8 x9 x10 x11 x12 x13 x14 x15 x16) (k0_pay55 x0 x1 x2 x3 x4 x5 x6 x7 x8 x9 x10 x11 x12 x13 x14 x15 x16) (View.ld x2 r0_20) (View.ld x2 r0_21) = v
  canon_tiles x hh
  case piece0 => exact congrArg _ (funext fun i => Fin.ext (by fin_cases i <;> simp_all))

theorem out_27 (y : S1x256x256.Idx) : out0_27 x0 x1 x2 x3 x4 x5 x6 x7 x8 x9 x10 x11 x12 x13 x14 x15 x16 y = k0_pay21 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) y := by
  unfold out0_27
  generalize k0_pay21 (k0_pay51 x0 x1 x2 x3 x4 x5 x6 x7 x8 x9 x10 x11 x12 x13 x14 x15 x16) (k0_pay52 x0 x1 x2 x3 x4 x5 x6 x7 x8 x9 x10 x11 x12 x13 x14 x15 x16) (k0_pay53 x0 x1 x2 x3 x4 x5 x6 x7 x8 x9 x10 x11 x12 x13 x14 x15 x16) = v
  canon_tiles x hh
  case piece0 => exact congrArg _ (funext fun i => Fin.ext (by fin_cases i <;> simp_all))

theorem out_28 (y : S1x256x256.Idx) : out0_28 x0 x1 x2 x3 x4 x5 x6 x7 x8 x9 x10 x11 x12 x13 x14 x15 x16 y = k0_pay30 (k0_pay47 x0 x1 x2 x3 x4 x5 x6 x7 x8 x9 x10 x11 x12 x13 x14 x15 x16) (View.ld x2 r0_24) y := by
  unfold out0_28
  generalize k0_pay30 (k0_pay47 x0 x1 x2 x3 x4 x5 x6 x7 x8 x9 x10 x11 x12 x13 x14 x15 x16) (View.ld x2 r0_24) = v
  canon_tiles x hh
  case piece0 => exact congrArg _ (funext fun i => Fin.ext (by fin_cases i <;> simp_all))

/-- The gates are stored in three parts. -/
theorem out_26 (y : S256x3072.Idx) (r : Fin 256) (j : Fin 3072) (hr : (y 0 : ℕ) = r) (hj : (y 1 : ℕ) = j) :
    out0_26 x0 x1 x2 x3 x4 x5 x6 x7 x8 x9 x10 x11 x12 x13 x14 x15 x16 y = Ideal.logistic (∑ k : Fin 1024, k0_pay47 x0 x1 x2 x3 x4 x5 x6 x7 x8 x9 x10 x11 x12 x13 x14 x15 x16 (ix2 r k) * x2 (ix2 k ⟨2560 + j.val, by omega⟩)) := by
  unfold out0_26
  generalize k0_pay47 x0 x1 x2 x3 x4 x5 x6 x7 x8 x9 x10 x11 x12 x13 x14 x15 x16 = v
  canon_tiles x hh
  all_goals (
    obtain ⟨r, hrr⟩ := r
    obtain ⟨j, hjj⟩ := j
    simp only at hr hj)
  case piece0 =>
    obtain rfl : r = (x 0).val := by omega
    obtain rfl : j = 2048 + (x 1).val := by omega
    pointwise [k0_pay4]
    exact congrArg Ideal.logistic (Finset.sum_congr rfl fun k _ => congrArg (fun i => v (ix2 (x 0) k) * x2 (ix2 k i)) (Fin.ext (by dsimp only <;> omega)))
  case piece1 =>
    obtain rfl : r = (x 0).val := by omega
    obtain rfl : j = 1024 + (x 1).val := by omega
    pointwise [k0_pay3]
    exact congrArg Ideal.logistic (Finset.sum_congr rfl fun k _ => congrArg (fun i => v (ix2 (x 0) k) * x2 (ix2 k i)) (Fin.ext (by dsimp only <;> omega)))
  case piece2 =>
    obtain rfl : r = (x 0).val := by omega
    obtain rfl : j = (x 1).val := by omega
    pointwise [k0_pay2]

/-- The heads' queries are stored head by head. -/
theorem out_22 (y : S256x2048.Idx) (r : Fin 256) (h : Fin 8) (z : Fin 256) (hr : (y 0 : ℕ) = r) (hj : (y 1 : ℕ) = h.val * 256 + z.val) :
    out0_22 x0 x1 x2 x3 x4 x5 x6 x7 x8 x9 x10 x11 x12 x13 x14 x15 x16 y = ((∑ l : Fin 256, k0_pay48 x0 x1 x2 x3 x4 x5 x6 x7 x8 x9 x10 x11 x12 x13 x14 x15 x16 (ix2 r l) * x4 (ix2 l ⟨h.val * 256 + z.val, by omega⟩)) * x11 (ix2 r z)
      + (∑ l : Fin 256, k0_pay48 x0 x1 x2 x3 x4 x5 x6 x7 x8 x9 x10 x11 x12 x13 x14 x15 x16 (ix2 r l) * x5 (ix2 l ⟨h.val * 256 + z.val, by omega⟩)) * x12 (ix2 r z) : EReal) := by
  unfold out0_22 k0_pay49 k0_pay50
  generalize k0_pay48 x0 x1 x2 x3 x4 x5 x6 x7 x8 x9 x10 x11 x12 x13 x14 x15 x16 = v
  canon_tiles x hh
  all_goals (
    obtain ⟨r, hrr⟩ := r
    obtain ⟨h, hjj⟩ := h
    obtain ⟨z, hzz⟩ := z
    simp only at hr hj)
  case piece0 =>
    obtain rfl : r = (x 0).val := by omega
    obtain rfl : h = 7 := by omega
    obtain rfl : z = (x 1).val := by omega
    pointwise [k0_pay16, k0_pay7, k0_pay8]
  case piece1 =>
    obtain rfl : r = (x 0).val := by omega
    obtain rfl : h = 6 := by omega
    obtain rfl : z = (x 1).val := by omega
    pointwise [k0_pay15, k0_pay7, k0_pay8]
  case piece2 =>
    obtain rfl : r = (x 0).val := by omega
    obtain rfl : h = 5 := by omega
    obtain rfl : z = (x 1).val := by omega
    pointwise [k0_pay14, k0_pay7, k0_pay8]
  case piece3 =>
    obtain rfl : r = (x 0).val := by omega
    obtain rfl : h = 4 := by omega
    obtain rfl : z = (x 1).val := by omega
    pointwise [k0_pay13, k0_pay7, k0_pay8]
  case piece4 =>
    obtain rfl : r = (x 0).val := by omega
    obtain rfl : h = 3 := by omega
    obtain rfl : z = (x 1).val := by omega
    pointwise [k0_pay12, k0_pay7, k0_pay8]
  case piece5 =>
    obtain rfl : r = (x 0).val := by omega
    obtain rfl : h = 2 := by omega
    obtain rfl : z = (x 1).val := by omega
    pointwise [k0_pay11, k0_pay7, k0_pay8]
  case piece6 =>
    obtain rfl : r = (x 0).val := by omega
    obtain rfl : h = 1 := by omega
    obtain rfl : z = (x 1).val := by omega
    pointwise [k0_pay10, k0_pay7, k0_pay8]
  case piece7 =>
    obtain rfl : r = (x 0).val := by omega
    obtain rfl : h = 0 := by omega
    obtain rfl : z = (x 1).val := by omega
    pointwise [k0_pay9, k0_pay7, k0_pay8]

end Cert.Kernel3Ideal.Proj

end
-- ==== Proof.ProjWindows.lean ====
module

public import proofs.«01_k».proof.Proof.ProjHost
public import Idealize.ShloMosaic.Lib.Pointwise

/-!
What a grid point's blocks of the projections hold, in terms of what the host code leaves.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen

variable (m : (ℓ : Loc nD τ sig) → Buf (Elt Ideal) ℓ) (c : Dev nD) (t : Fin cfg0.N)

/-- The blocks of the windows that move with the grid's one coordinate. -/
theorem idx_rows : ∀ t : Fin cfg0.N, win0_0.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0] ∧ t.val < 68 :=
  (by decide +kernel : ∀ t : Fin grid0.N, _)

/-- The blocks of the results. -/
theorem idx_out : ∀ t : Fin cfg0.N, win0_17.index t = ![t.val, 0] ∧ win0_18.index t = ![t.val, 0] ∧ win0_19.index t = ![t.val, 0]
    ∧ win0_20.index t = ![t.val, 0] ∧ win0_21.index t = ![t.val, 0] ∧ win0_22.index t = ![t.val, 0] ∧ win0_23.index t = ![t.val, 0]
    ∧ win0_24.index t = ![t.val, 0] ∧ win0_25.index t = ![t.val, 0] ∧ win0_26.index t = ![t.val, 0] ∧ win0_27.index t = ![t.val, 0, 0]
    ∧ win0_28.index t = ![t.val, 0, 0] ∧ t.val < 68 :=
  (by decide +kernel : ∀ t : Fin grid0.N, _)

/-- The blocks of the windows that hold a whole weight. -/
theorem idx_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The blocks of the mixing weights and of the biases: the first for the prompts' tokens, the second for the samples'. -/
theorem idx_kind : ∀ t : Fin cfg0.N, win0_9.index t = ![if 64 ≤ t.val then 1 else 0, 0, 0, 0] ∧ win0_10.index t = ![if 64 ≤ t.val then 1 else 0, 0, 0] :=
  (by decide +kernel : ∀ t : Fin grid0.N, _)

/-- A grid point's rows of x. -/
theorem x0_at (r : Fin 256) (j : Fin 1024) (T : Fin 17408) (hT : T.val = t.val * 256 + r.val) :
    (show FVec Ideal S256x1024 .f32 from iblk m c 0 t) (ix2 r j) = harg0 m c (ix2 T j) := by
  show iblk m c 0 t (ix2 r j) = V m c main_arg0 (ix2 T j)
  blk_ext [iblk, V, idx_rows t]

theorem x1_at (p : Fin 1) (j : Fin 1024) : (show FVec Ideal S1x1024 .f32 from iblk m c 1 t) (ix2 p j) = hv147 m c (ix2 p j) := by
  show iblk m c 1 t (ix2 p j) = V m c main_v147 (ix2 p j)
  unfold iblk
  refine congrArg (V m c main_v147) ?_
  blk_ext [idx_whole t]

theorem x2_at (p : Fin 1024) (j : Fin 5632) : (show FVec Ideal S1024x5632 .bf16 from iblk m c 2 t) (ix2 p j) = hv101 m c (ix2 p j) := by
  show iblk m c 2 t (ix2 p j) = V m c main_v101 (ix2 p j)
  unfold iblk
  refine congrArg (V m c main_v101) ?_
  blk_ext [idx_whole t]

theorem x3_at (p : Fin 1) (j : Fin 256) : (show FVec Ideal S1x256 .f32 from iblk m c 3 t) (ix2 p j) = hv148 m c (ix2 p j) := by
  show iblk m c 3 t (ix2 p j) = V m c main_v148 (ix2 p j)
  unfold iblk
  refine congrArg (V m c main_v148) ?_
  blk_ext [idx_whole t]

theorem x4_at (p : Fin 256) (j : Fin 2048) : (show FVec Ideal S256x2048 .bf16 from iblk m c 4 t) (ix2 p j) = hv116 m c (ix2 p j) := by
  show iblk m c 4 t (ix2 p j) = V m c main_v116 (ix2 p j)
  unfold iblk
  refine congrArg (V m c main_v116) ?_
  blk_ext [idx_whole t]

theorem x5_at (p : Fin 256) (j : Fin 2048) : (show FVec Ideal S256x2048 .bf16 from iblk m c 5 t) (ix2 p j) = hv117 m c (ix2 p j) := by
  show iblk m c 5 t (ix2 p j) = V m c main_v117 (ix2 p j)
  unfold iblk
  refine congrArg (V m c main_v117) ?_
  blk_ext [idx_whole t]

theorem x6_at (p : Fin 1) (j : Fin 256) : (show FVec Ideal S1x256 .f32 from iblk m c 6 t) (ix2 p j) = hv149 m c (ix2 p j) := by
  show iblk m c 6 t (ix2 p j) = V m c main_v149 (ix2 p j)
  unfold iblk
  refine congrArg (V m c main_v149) ?_
  blk_ext [idx_whole t]

theorem x7_at (p : Fin 1) (j : Fin 256) : (show FVec Ideal S1x256 .f32 from iblk m c 7 t) (ix2 p j) = hv150 m c (ix2 p j) := by
  show iblk m c 7 t (ix2 p j) = V m c main_v150 (ix2 p j)
  unfold iblk
  refine congrArg (V m c main_v150) ?_
  blk_ext [idx_whole t]

theorem x8_at (p : Fin 1) (j : Fin 256) : (show FVec Ideal S1x256 .f32 from iblk m c 8 t) (ix2 p j) = hv151 m c (ix2 p j) := by
  show iblk m c 8 t (ix2 p j) = V m c main_v151 (ix2 p j)
  unfold iblk
  refine congrArg (V m c main_v151) ?_
  blk_ext [idx_whole t]

theorem x11_at (r : Fin 256) (j : Fin 256) (T : Fin 17408) (hT : T.val = t.val * 256 + r.val) :
    (show FVec Ideal S256x256 .f32 from iblk m c 11 t) (ix2 r j) = hv54 m c (ix2 T j) := by
  show iblk m c 11 t (ix2 r j) = V m c main_v54 (ix2 T j)
  unfold iblk
  refine congrArg (V m c main_v54) ?_
  blk_ext [idx_rows t]

theorem x12_at (r : Fin 256) (j : Fin 256) (T : Fin 17408) (hT : T.val = t.val * 256 + r.val) :
    (show FVec Ideal S256x256 .f32 from iblk m c 12 t) (ix2 r j) = hv57 m c (ix2 T j) := by
  show iblk m c 12 t (ix2 r j) = V m c main_v57 (ix2 T j)
  unfold iblk
  refine congrArg (V m c main_v57) ?_
  blk_ext [idx_rows t]

theorem x13_at (r : Fin 256) (j : Fin 128) (T : Fin 17408) (hT : T.val = t.val * 256 + r.val) :
    (show FVec Ideal S256x128 .f32 from iblk m c 13 t) (ix2 r j) = hv58 m c (ix2 T j) := by
  show iblk m c 13 t (ix2 r j) = V m c main_v58 (ix2 T j)
  unfold iblk
  refine congrArg (V m c main_v58) ?_
  blk_ext [idx_rows t]

theorem x14_at (r : Fin 256) (j : Fin 128) (T : Fin 17408) (hT : T.val = t.val * 256 + r.val) :
    (show FVec Ideal S256x128 .f32 from iblk m c 14 t) (ix2 r j) = hv59 m c (ix2 T j) := by
  show iblk m c 14 t (ix2 r j) = V m c main_v59 (ix2 T j)
  unfold iblk
  refine congrArg (V m c main_v59) ?_
  blk_ext [idx_rows t]

theorem x15_at (r : Fin 256) (j : Fin 512) (T : Fin 17408) (hT : T.val = t.val * 256 + r.val) :
    (show FVec Ideal S256x512 .f32 from iblk m c 15 t) (ix2 r j) = hv68 m c (ix2 T j) := by
  show iblk m c 15 t (ix2 r j) = V m c main_v68 (ix2 T j)
  unfold iblk
  refine congrArg (V m c main_v68) ?_
  blk_ext [idx_rows t]

theorem x16_at (r : Fin 256) (j : Fin 512) (T : Fin 17408) (hT : T.val = t.val * 256 + r.val) :
    (show FVec Ideal S256x512 .f32 from iblk m c 16 t) (ix2 r j) = hv71 m c (ix2 T j) := by
  show iblk m c 16 t (ix2 r j) = V m c main_v71 (ix2 T j)
  unfold iblk
  refine congrArg (V m c main_v71) ?_
  blk_ext [idx_rows t]

/-- The mixing weights of a grid point's tokens. -/
theorem x9_at (g : Fin 4) (p s : Fin 128) (d : Fin 2) (hd : d.val = if 64 ≤ t.val then 1 else 0) :
    (show FVec Ideal S1x4x128x128 .f32 from iblk m c 9 t) (ix4 0 g p s) = hv133 m c (ix4 d g p s) := by
  show iblk m c 9 t (ix4 0 g p s) = V m c main_v133 (ix4 d g p s)
  unfold iblk
  refine congrArg (V m c main_v133) ?_
  blk_ext [idx_kind t]

/-- The biases of a grid point's tokens. -/
theorem x10_at (p : Fin 128) (j : Fin 256) (d : Fin 2) (hd : d.val = if 64 ≤ t.val then 1 else 0) :
    (show FVec Ideal S1x128x256 .f32 from iblk m c 10 t) (ix3 0 p j) = hv146 m c (ix3 d p j) := by
  show iblk m c 10 t (ix3 0 p j) = V m c main_v146 (ix3 d p j)
  unfold iblk
  refine congrArg (V m c main_v146) ?_
  blk_ext [idx_kind t]

end Cert.Kernel3Ideal.Proj

end
-- ==== Proof.ProjHostMix.lean ====
module

public import proofs.«01_k».proof.Proof.ProjHost

/-!
  The host code that arranges the mixing weights and the scales: which operation wrote each buffer, and from which others.
-/

@[expose] public section

set_option maxHeartbeats 4000000
set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen

variable (m : (ℓ : Loc nD τ sig) → Buf (Elt Ideal) ℓ) (c : Dev nD)

theorem hv118_eq : hv118 m c = extractStridedSlice S4x8x8 ![0, 0, 0] (harg8 m c) slices_S4x128x128_S4x8x8_0_0_0 :=
  (V_at m c 138 rfl (by decide +kernel)).trans ((StableHlo.unary_result' ..).trans (congrArg (fun v : FVec Ideal S4x128x128 .f32 => extractStridedSlice S4x8x8 ![0, 0, 0] v slices_S4x128x128_S4x8x8_0_0_0) (upto_V m c (by decide +kernel))))

theorem hv119_eq : hv119 m c = iotaInDim S16x16 32 0 :=
  (V_at m c 139 rfl (by decide +kernel)).trans (StableHlo.nullary_result' ..)

theorem hv120_eq : hv120 m c = iotaInDim S16x16 32 1 :=
  (V_at m c 140 rfl (by decide +kernel)).trans (StableHlo.nullary_result' ..)

theorem hc_18_eq : hc_18 m c = constantI S_ 32 0#32 :=
  (V_at m c 141 rfl (by decide +kernel)).trans (StableHlo.nullary_result' ..)

theorem hv121_eq : hv121 m c = (broadcastInDim S16x16 ![] bcast_S_S16x16) (hc_18 m c) :=
  (V_at m c 142 rfl (by decide +kernel)).trans ((StableHlo.unary_result' ..).trans (congrArg _ (upto_V m c (by decide +kernel))))

theorem hv122_eq : hv122 m c = (addi) (hv119 m c) (hv121 m c) :=
  (V_at m c 143 rfl (by decide +kernel)).trans ((StableHlo.binary_result' ..).trans (congrArg₂ _ (upto_V m c (by decide +kernel)) (upto_V m c (by decide +kernel))))

theorem hv123_eq : hv123 m c = (cmpi .eq) (hv122 m c) (hv120 m c) :=
  (V_at m c 144 rfl (by decide +kernel)).trans ((StableHlo.binary_result' ..).trans (congrArg₂ _ (upto_V m c (by decide +kernel)) (upto_V m c (by decide +kernel))))

theorem hv124_eq : hv124 m c = (uitofp .f32) (hv123 m c) :=
  (V_at m c 145 rfl (by decide +kernel)).trans ((StableHlo.unary_result' ..).trans (congrArg _ (upto_V m c (by decide +kernel))))

theorem hv125_eq : hv125 m c = (broadcastInDim S1x16x1x16x1 ![1, 3] bcast_S16x16_S1x16x1x16x1_1_3) (hv124 m c) :=
  (V_at m c 146 rfl (by decide +kernel)).trans ((StableHlo.unary_result' ..).trans (congrArg _ (upto_V m c (by decide +kernel))))

theorem hv126_eq : hv126 m c = (broadcastInDim S4x1x8x1x8 ![0, 2, 4] bcast_S4x8x8_S4x1x8x1x8_0_2_4) (hv118 m c) :=
  (V_at m c 147 rfl (by decide +kernel)).trans ((StableHlo.unary_result' ..).trans (congrArg _ (upto_V m c (by decide +kernel))))

theorem hv127_eq : hv127 m c = (broadcastInDim S4x16x8x16x8 ![0, 1, 2, 3, 4] bcast_S1x16x1x16x1_S4x16x8x16x8_0_1_2_3_4) (hv125 m c) :=
  (V_at m c 148 rfl (by decide +kernel)).trans ((StableHlo.unary_result' ..).trans (congrArg _ (upto_V m c (by decide +kernel))))

theorem hv128_eq : hv128 m c = (broadcastInDim S4x16x8x16x8 ![0, 1, 2, 3, 4] bcast_S4x1x8x1x8_S4x16x8x16x8_0_1_2_3_4) (hv126 m c) :=
  (V_at m c 149 rfl (by decide +kernel)).trans ((StableHlo.unary_result' ..).trans (congrArg _ (upto_V m c (by decide +kernel))))

theorem hv129_eq : hv129 m c = (mulf) (hv127 m c) (hv128 m c) :=
  (V_at m c 150 rfl (by decide +kernel)).trans ((StableHlo.binary_result' ..).trans (congrArg₂ _ (upto_V m c (by decide +kernel)) (upto_V m c (by decide +kernel))))

theorem hv130_eq : hv130 m c = shapeCast S4x128x128 (hv129 m c) shapeCasts_S4x16x8x16x8_S4x128x128 :=
  (V_at m c 151 rfl (by decide +kernel)).trans ((StableHlo.reshape_result' ..).trans (congrArg (fun v : FVec Ideal S4x16x8x16x8 .f32 => shapeCast S4x128x128 v shapeCasts_S4x16x8x16x8_S4x128x128) (upto_V m c (by decide +kernel))))

theorem hv131_eq : hv131 m c = (broadcastInDim S1x4x128x128 ![1, 2, 3] bcast_S4x128x128_S1x4x128x128_1_2_3) (harg8 m c) :=
  (V_at m c 152 rfl (by decide +kernel)).trans ((StableHlo.unary_result' ..).trans (congrArg _ (upto_V m c (by decide +kernel))))

theorem hv132_eq : hv132 m c = (broadcastInDim S1x4x128x128 ![1, 2, 3] bcast_S4x128x128_S1x4x128x128_1_2_3) (hv130 m c) :=
  (V_at m c 153 rfl (by decide +kernel)).trans ((StableHlo.unary_result' ..).trans (congrArg _ (upto_V m c (by decide +kernel))))

theorem hv133_eq : hv133 m c = concatenate S2x4x128x128 0 [⟨S1x4x128x128, hv131 m c⟩, ⟨S1x4x128x128, hv132 m c⟩] concatenates_S1x4x128x128_S1x4x128x128_S2x4x128x128_d0 :=
  (V_at m c 154 rfl (by decide +kernel)).trans ((StableHlo.binary_result' ..).trans (congrArg₂ (fun (a : FVec Ideal S1x4x128x128 .f32) (b : FVec Ideal S1x4x128x128 .f32) => concatenate S2x4x128x128 0 [⟨S1x4x128x128, a⟩, ⟨S1x4x128x128, b⟩] concatenates_S1x4x128x128_S1x4x128x128_S2x4x128x128_d0) (upto_V m c (by decide +kernel)) (upto_V m c (by decide +kernel))))

theorem hv134_eq : hv134 m c = transpose S128x4 [1, 0] (harg9 m c) transposes_S4x128_S128x4_1_0 :=
  (V_at m c 155 rfl (by decide +kernel)).trans ((StableHlo.unary_result' ..).trans (congrArg (fun v : FVec Ideal S4x128 .f32 => transpose S128x4 [1, 0] v transposes_S4x128_S128x4_1_0) (upto_V m c (by decide +kernel))))

theorem hv135_eq : hv135 m c = (broadcastInDim S128x4x64 ![0, 1] bcast_S128x4_S128x4x64_0_1) (hv134 m c) :=
  (V_at m c 156 rfl (by decide +kernel)).trans ((StableHlo.unary_result' ..).trans (congrArg _ (upto_V m c (by decide +kernel))))

theorem hv136_eq : hv136 m c = shapeCast S128x256 (hv135 m c) shapeCasts_S128x4x64_S128x256 :=
  (V_at m c 157 rfl (by decide +kernel)).trans ((StableHlo.reshape_result' ..).trans (congrArg (fun v : FVec Ideal S128x4x64 .f32 => shapeCast S128x256 v shapeCasts_S128x4x64_S128x256) (upto_V m c (by decide +kernel))))

theorem hv137_eq : hv137 m c = extractStridedSlice S4x8 ![0, 0] (harg9 m c) slices_S4x128_S4x8_0_0 :=
  (V_at m c 158 rfl (by decide +kernel)).trans ((StableHlo.unary_result' ..).trans (congrArg (fun v : FVec Ideal S4x128 .f32 => extractStridedSlice S4x8 ![0, 0] v slices_S4x128_S4x8_0_0) (upto_V m c (by decide +kernel))))

theorem hv138_eq : hv138 m c = transpose S8x4 [1, 0] (hv137 m c) transposes_S4x8_S8x4_1_0 :=
  (V_at m c 159 rfl (by decide +kernel)).trans ((StableHlo.unary_result' ..).trans (congrArg (fun v : FVec Ideal S4x8 .f32 => transpose S8x4 [1, 0] v transposes_S4x8_S8x4_1_0) (upto_V m c (by decide +kernel))))

theorem hv139_eq : hv139 m c = (broadcastInDim S8x4x64 ![0, 1] bcast_S8x4_S8x4x64_0_1) (hv138 m c) :=
  (V_at m c 160 rfl (by decide +kernel)).trans ((StableHlo.unary_result' ..).trans (congrArg _ (upto_V m c (by decide +kernel))))

theorem hv140_eq : hv140 m c = shapeCast S8x256 (hv139 m c) shapeCasts_S8x4x64_S8x256 :=
  (V_at m c 161 rfl (by decide +kernel)).trans ((StableHlo.reshape_result' ..).trans (congrArg (fun v : FVec Ideal S8x4x64 .f32 => shapeCast S8x256 v shapeCasts_S8x4x64_S8x256) (upto_V m c (by decide +kernel))))

theorem hv141_eq : hv141 m c = shapeCast S1x8x1x256 (hv140 m c) shapeCasts_S8x256_S1x8x1x256 :=
  (V_at m c 162 rfl (by decide +kernel)).trans ((StableHlo.reshape_result' ..).trans (congrArg (fun v : FVec Ideal S8x256 .f32 => shapeCast S1x8x1x256 v shapeCasts_S8x256_S1x8x1x256) (upto_V m c (by decide +kernel))))

theorem hv142_eq : hv142 m c = (broadcastInDim S16x8x1x256 ![0, 1, 2, 3] bcast_S1x8x1x256_S16x8x1x256_0_1_2_3) (hv141 m c) :=
  (V_at m c 163 rfl (by decide +kernel)).trans ((StableHlo.unary_result' ..).trans (congrArg _ (upto_V m c (by decide +kernel))))

theorem hv143_eq : hv143 m c = shapeCast S128x256 (hv142 m c) shapeCasts_S16x8x1x256_S128x256 :=
  (V_at m c 164 rfl (by decide +kernel)).trans ((StableHlo.reshape_result' ..).trans (congrArg (fun v : FVec Ideal S16x8x1x256 .f32 => shapeCast S128x256 v shapeCasts_S16x8x1x256_S128x256) (upto_V m c (by decide +kernel))))

theorem hv144_eq : hv144 m c = (broadcastInDim S1x128x256 ![1, 2] bcast_S128x256_S1x128x256_1_2) (hv136 m c) :=
  (V_at m c 165 rfl (by decide +kernel)).trans ((StableHlo.unary_result' ..).trans (congrArg _ (upto_V m c (by decide +kernel))))

theorem hv145_eq : hv145 m c = (broadcastInDim S1x128x256 ![1, 2] bcast_S128x256_S1x128x256_1_2) (hv143 m c) :=
  (V_at m c 166 rfl (by decide +kernel)).trans ((StableHlo.unary_result' ..).trans (congrArg _ (upto_V m c (by decide +kernel))))

theorem hv146_eq : hv146 m c = concatenate S2x128x256 0 [⟨S1x128x256, hv144 m c⟩, ⟨S1x128x256, hv145 m c⟩] concatenates_S1x128x256_S1x128x256_S2x128x256_d0 :=
  (V_at m c 167 rfl (by decide +kernel)).trans ((StableHlo.binary_result' ..).trans (congrArg₂ (fun (a : FVec Ideal S1x128x256 .f32) (b : FVec Ideal S1x128x256 .f32) => concatenate S2x128x256 0 [⟨S1x128x256, a⟩, ⟨S1x128x256, b⟩] concatenates_S1x128x256_S1x128x256_S2x128x256_d0) (upto_V m c (by decide +kernel)) (upto_V m c (by decide +kernel))))

theorem hv147_eq : hv147 m c = shapeCast S1x1024 (harg1 m c) shapeCasts_S1024_S1x1024 :=
  (V_at m c 168 rfl (by decide +kernel)).trans ((StableHlo.reshape_result' ..).trans (congrArg (fun v : FVec Ideal S1024 .f32 => shapeCast S1x1024 v shapeCasts_S1024_S1x1024) (upto_V m c (by decide +kernel))))

theorem hv148_eq : hv148 m c = shapeCast S1x256 (harg3 m c) shapeCasts_S256_S1x256 :=
  (V_at m c 169 rfl (by decide +kernel)).trans ((StableHlo.reshape_result' ..).trans (congrArg (fun v : FVec Ideal S256 .f32 => shapeCast S1x256 v shapeCasts_S256_S1x256) (upto_V m c (by decide +kernel))))

theorem hv149_eq : hv149 m c = shapeCast S1x256 (harg5 m c) shapeCasts_S256_S1x256 :=
  (V_at m c 170 rfl (by decide +kernel)).trans ((StableHlo.reshape_result' ..).trans (congrArg (fun v : FVec Ideal S256 .f32 => shapeCast S1x256 v shapeCasts_S256_S1x256) (upto_V m c (by decide +kernel))))

theorem hv150_eq : hv150 m c = shapeCast S1x256 (harg6 m c) shapeCasts_S256_S1x256 :=
  (V_at m c 171 rfl (by decide +kernel)).trans ((StableHlo.reshape_result' ..).trans (congrArg (fun v : FVec Ideal S256 .f32 => shapeCast S1x256 v shapeCasts_S256_S1x256) (upto_V m c (by decide +kernel))))

theorem hv151_eq : hv151 m c = shapeCast S1x256 (harg7 m c) shapeCasts_S256_S1x256 :=
  (V_at m c 172 rfl (by decide +kernel)).trans ((StableHlo.reshape_result' ..).trans (congrArg (fun v : FVec Ideal S256 .f32 => shapeCast S1x256 v shapeCasts_S256_S1x256) (upto_V m c (by decide +kernel))))

end Cert.Kernel3Ideal.Proj
-- ==== Proof.ProjSpec.lean ====
module

public import proofs.«01_k».proof.Proof.ProjMath

/-!
What the projections of one token compute, in terms of its row and of the weights.
-/

@[expose] public section

noncomputable section

open Idealize.ShloMosaic

namespace Cert.ProjMath

/-- A token's position: within its prompt, or after the past. -/
def posOf (T : Fin 17408) : BitVec 32 :=
  if T.val < 16384 then BitVec.ofNat 32 (T.val % 4096) else IntOp.addi 8192#32 (BitVec.ofNat 32 ((T.val - 16384) % 8))

/-- The frequency of pair `i` of a vector of width `d`. -/
def freq (d : EReal) (i : ℕ) : EReal :=
  Ideal.pow (Ideal.ofBits .f32 0x461C4000#32) (Ideal.div (-(Ideal.ofBits .f32 0x40000000#32 * (FloatOps.sitofp (F := Ideal) .f32 (BitVec.ofNat 32 i) : EReal))) d)

/-- The angle that pair `i` of a vector of width `d` is turned by. -/
def angle (d : EReal) (T : Fin 17408) (i : ℕ) : EReal := (FloatOps.sitofp (F := Ideal) .f32 (posOf T) : EReal) * freq d i

def cos32 (T : Fin 17408) (i : ℕ) : EReal := Ideal.cos (angle (Ideal.ofBits .f32 0x42000000#32) T i)
def sin32 (T : Fin 17408) (i : ℕ) : EReal := Ideal.sin (angle (Ideal.ofBits .f32 0x42000000#32) T i)
def cos64 (T : Fin 17408) (i : ℕ) : EReal := Ideal.cos (angle (Ideal.ofBits .f32 0x42800000#32) T i)
def sin64 (T : Fin 17408) (i : ℕ) : EReal := Ideal.sin (angle (Ideal.ofBits .f32 0x42800000#32) T i)

/-- A token's row, normed, times the weights. -/
def zrow (x g : Fin 1024 → EReal) (W : Fin 1024 → Fin 4896 → EReal) (j : Fin 4896) : EReal := ∑ k : Fin 1024, MergeMath.rmsRow x g k * W k j

/-- The heads' queries before they are turned. -/
def qrow (z : Fin 4896 → EReal) (g : Fin 256 → EReal) (U : Fin 256 → Fin 768 → EReal) (j : Fin 768) : EReal :=
  ∑ l : Fin 256, latRow (fun i => z ⟨i.val, by omega⟩) g l * U l j

end Cert.ProjMath

end
-- ==== Proof.ProjValue.lean ====
module

public import proofs.«01_k».proof.Proof.ProjOut
public import proofs.«01_k».proof.Proof.ProjWindows
public import proofs.«01_k».proof.Proof.ProjHostMix
public import proofs.«01_k».proof.Proof.ProjSpec

/-!
What the projections' kernel leaves in its results, from the arguments and from the tables and weights the host code builds.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen Cert.ProjMath

variable (m : (ℓ : Loc nD τ sig) → Buf (Elt Ideal) ℓ) (c : Dev nD)

theorem g_mix_at (p : Fin 1) (j : Fin 1024) : hv147 m c (ix2 p j) = harg1 m c (ix1 j) := by
  rw [hv147_eq]
  pointwise []

theorem g_q_at (p : Fin 1) (j : Fin 256) : hv148 m c (ix2 p j) = harg3 m c (ix1 j) := by
  rw [hv148_eq]
  pointwise []

theorem g_kv_at (p : Fin 1) (j : Fin 256) : hv149 m c (ix2 p j) = harg5 m c (ix1 j) := by
  rw [hv149_eq]
  pointwise []

theorem g_v_at (p : Fin 1) (j : Fin 256) : hv150 m c (ix2 p j) = harg6 m c (ix1 j) := by
  rw [hv150_eq]
  pointwise []

theorem b_v_at (p : Fin 1) (j : Fin 256) : hv151 m c (ix2 p j) = harg7 m c (ix1 j) := by
  rw [hv151_eq]
  pointwise []

/-- A token's normed row. -/
def hrow (T : Fin 17408) : Fin 1024 → EReal := MergeMath.rmsRow (fun j => harg0 m c (ix2 T j)) (fun j => harg1 m c (ix1 j))

/-- A token's normed row times a column of the kernel's weights. -/
def kz (T : Fin 17408) (j : Fin 5632) : EReal := ∑ k : Fin 1024, hrow m c T k * hv101 m c (ix2 k j)

/-- A token's normed latent row. -/
def latent (T : Fin 17408) (j : Fin 256) : EReal := latRow (fun i => kz m c T ⟨256 + i.val, by omega⟩) (fun i => harg5 m c (ix1 i)) j

/-- A token's turned key row, padded. -/
def keyRow (T : Fin 17408) (j : Fin 128) : EReal :=
  kz m c T ⟨512 + j.val, by omega⟩ * hv58 m c (ix2 T j) + kz m c T ⟨640 + j.val, by omega⟩ * hv59 m c (ix2 T j)

/-- A token's turned key row. -/
def keyTurned (T : Fin 17408) (j : Fin 32) : EReal := keyRow m c T ⟨j.val, by omega⟩

/-- A token's turned key of the blocks. -/
def mkRow (T : Fin 17408) (j : Fin 256) : EReal :=
  kz m c T ⟨1280 + j.val, by omega⟩ * hv68 m c (ix2 T ⟨256 + j.val, by omega⟩) + kz m c T ⟨1536 + j.val, by omega⟩ * hv71 m c (ix2 T ⟨256 + j.val, by omega⟩)

/-- A token's turned query of the blocks. -/
def mqRow (T : Fin 17408) (j : Fin 256) : EReal :=
  kz m c T ⟨768 + j.val, by omega⟩ * hv68 m c (ix2 T ⟨j.val, by omega⟩) + kz m c T ⟨1024 + j.val, by omega⟩ * hv71 m c (ix2 T ⟨j.val, by omega⟩)

/-- A token's value of the blocks. -/
def mvRow (T : Fin 17408) (j : Fin 256) : EReal := kz m c T ⟨1792 + j.val, by omega⟩

/-- A token's row of the mixing branch. -/
def gvRow (T : Fin 17408) (j : Fin 256) : EReal :=
  lnRow (fun i => gelu (kz m c T ⟨2304 + i.val, by omega⟩)) (fun i => harg6 m c (ix1 i)) (fun i => harg7 m c (ix1 i)) j

/-- A token's gates. -/
def gateRow (T : Fin 17408) (j : Fin 3072) : EReal := Ideal.logistic (kz m c T ⟨2560 + j.val, by omega⟩)

/-- A token's normed latent row that its queries come from. -/
def qlat (T : Fin 17408) (l : Fin 256) : EReal := latRow (fun i => kz m c T ⟨i.val, by omega⟩) (fun i => harg3 m c (ix1 i)) l

/-- A token's queries, head by head. -/
def headRow (T : Fin 17408) (h : Fin 8) (z : Fin 256) : EReal :=
  (∑ l : Fin 256, qlat m c T l * hv116 m c (ix2 l ⟨h.val * 256 + z.val, by omega⟩)) * hv54 m c (ix2 T z)
    + (∑ l : Fin 256, qlat m c T l * hv117 m c (ix2 l ⟨h.val * 256 + z.val, by omega⟩)) * hv57 m c (ix2 T z)

variable (t : Fin cfg0.N)

/-- A grid point's normed rows. -/
abbrev ptH : FVec Ideal S256x1024 .bf16 := k0_pay47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

theorem ptH_at (r : Fin 256) (k : Fin 1024) (T : Fin 17408) (hT : T.val = t.val * 256 + r.val) : ptH m c t (ix2 r k) = hrow m c T k := by
  unfold ptH k0_pay47 hrow
  rw [head_at]
  refine congrArg₂ (fun u g => MergeMath.rmsRow u g k) (funext fun j => ?_) (funext fun j => ?_)
  · exact (ldx_0 (iblk m c 0 t) r j).trans (x0_at m c t r j T hT)
  · exact (ldx_1 (iblk m c 1 t) 0 j).trans ((x1_at m c t 0 j).trans (g_mix_at m c 0 j))

theorem dot_2 (r : Fin 256) (j : Fin 256) (T : Fin 17408) (hT : T.val = t.val * 256 + r.val) :
    (∑ k : Fin 1024, ptH m c t (ix2 r k) * (show FVec Ideal S1024x256 .bf16 from View.ld (iblk m c 2 t) r0_2) (ix2 k j) : EReal) = kz m c T ⟨j.val, by omega⟩ :=
  Finset.sum_congr rfl fun k _ => congrArg₂ (· * ·) (ptH_at m c t r k T hT) ((ld_2 (iblk m c 2 t) k j).trans (x2_at m c t k _))

theorem dot_13 (r : Fin 256) (j : Fin 256) (T : Fin 17408) (hT : T.val = t.val * 256 + r.val) :
    (∑ k : Fin 1024, ptH m c t (ix2 r k) * (show FVec Ideal S1024x256 .bf16 from View.ld (iblk m c 2 t) r0_13) (ix2 k j) : EReal) = kz m c T ⟨256 + j.val, by omega⟩ :=
  Finset.sum_congr rfl fun k _ => congrArg₂ (· * ·) (ptH_at m c t r k T hT) ((ld_13 (iblk m c 2 t) k j).trans (x2_at m c t k _))

theorem dot_15 (r : Fin 256) (j : Fin 128) (T : Fin 17408) (hT : T.val = t.val * 256 + r.val) :
    (∑ k : Fin 1024, ptH m c t (ix2 r k) * (show FVec Ideal S1024x128 .bf16 from View.ld (iblk m c 2 t) r0_15) (ix2 k j) : EReal) = kz m c T ⟨512 + j.val, by omega⟩ :=
  Finset.sum_congr rfl fun k _ => congrArg₂ (· * ·) (ptH_at m c t r k T hT) ((ld_15 (iblk m c 2 t) k j).trans (x2_at m c t k _))

theorem dot_17 (r : Fin 256) (j : Fin 128) (T : Fin 17408) (hT : T.val = t.val * 256 + r.val) :
    (∑ k : Fin 1024, ptH m c t (ix2 r k) * (show FVec Ideal S1024x128 .bf16 from View.ld (iblk m c 2 t) r0_17) (ix2 k j) : EReal) = kz m c T ⟨640 + j.val, by omega⟩ :=
  Finset.sum_congr rfl fun k _ => congrArg₂ (· * ·) (ptH_at m c t r k T hT) ((ld_17 (iblk m c 2 t) k j).trans (x2_at m c t k _))

theorem dot_20 (r : Fin 256) (j : Fin 256) (T : Fin 17408) (hT : T.val = t.val * 256 + r.val) :
    (∑ k : Fin 1024, ptH m c t (ix2 r k) * (show FVec Ideal S1024x256 .bf16 from View.ld (iblk m c 2 t) r0_20) (ix2 k j) : EReal) = kz m c T ⟨768 + j.val, by omega⟩ :=
  Finset.sum_congr rfl fun k _ => congrArg₂ (· * ·) (ptH_at m c t r k T hT) ((ld_20 (iblk m c 2 t) k j).trans (x2_at m c t k _))

theorem dot_21 (r : Fin 256) (j : Fin 256) (T : Fin 17408) (hT : T.val = t.val * 256 + r.val) :
    (∑ k : Fin 1024, ptH m c t (ix2 r k) * (show FVec Ideal S1024x256 .bf16 from View.ld (iblk m c 2 t) r0_21) (ix2 k j) : EReal) = kz m c T ⟨1024 + j.val, by omega⟩ :=
  Finset.sum_congr rfl fun k _ => congrArg₂ (· * ·) (ptH_at m c t r k T hT) ((ld_21 (iblk m c 2 t) k j).trans (x2_at m c t k _))

theorem dot_22 (r : Fin 256) (j : Fin 256) (T : Fin 17408) (hT : T.val = t.val * 256 + r.val) :
    (∑ k : Fin 1024, ptH m c t (ix2 r k) * (show FVec Ideal S1024x256 .bf16 from View.ld (iblk m c 2 t) r0_22) (ix2 k j) : EReal) = kz m c T ⟨1280 + j.val, by omega⟩ :=
  Finset.sum_congr rfl fun k _ => congrArg₂ (· * ·) (ptH_at m c t r k T hT) ((ld_22 (iblk m c 2 t) k j).trans (x2_at m c t k _))

theorem dot_23 (r : Fin 256) (j : Fin 256) (T : Fin 17408) (hT : T.val = t.val * 256 + r.val) :
    (∑ k : Fin 1024, ptH m c t (ix2 r k) * (show FVec Ideal S1024x256 .bf16 from View.ld (iblk m c 2 t) r0_23) (ix2 k j) : EReal) = kz m c T ⟨1536 + j.val, by omega⟩ :=
  Finset.sum_congr rfl fun k _ => congrArg₂ (· * ·) (ptH_at m c t r k T hT) ((ld_23 (iblk m c 2 t) k j).trans (x2_at m c t k _))

theorem dot_24 (r : Fin 256) (j : Fin 256) (T : Fin 17408) (hT : T.val = t.val * 256 + r.val) :
    (∑ k : Fin 1024, ptH m c t (ix2 r k) * (show FVec Ideal S1024x256 .bf16 from View.ld (iblk m c 2 t) r0_24) (ix2 k j) : EReal) = kz m c T ⟨1792 + j.val, by omega⟩ :=
  Finset.sum_congr rfl fun k _ => congrArg₂ (· * ·) (ptH_at m c t r k T hT) ((ld_24 (iblk m c 2 t) k j).trans (x2_at m c t k _))

theorem dot_26 (r : Fin 256) (j : Fin 256) (T : Fin 17408) (hT : T.val = t.val * 256 + r.val) :
    (∑ k : Fin 1024, ptH m c t (ix2 r k) * (show FVec Ideal S1024x256 .bf16 from View.ld (iblk m c 2 t) r0_26) (ix2 k j) : EReal) = kz m c T ⟨2304 + j.val, by omega⟩ :=
  Finset.sum_congr rfl fun k _ => congrArg₂ (· * ·) (ptH_at m c t r k T hT) ((ld_26 (iblk m c 2 t) k j).trans (x2_at m c t k _))

/-- What a grid point leaves in window 17. -/
abbrev pt17 : FVec Ideal S256x256 .f32 := out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 18. -/
abbrev pt18 : FVec Ideal S256x32 .f32 := out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 19. -/
abbrev pt19 : FVec Ideal S256x256 .f32 := out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 20. -/
abbrev pt20 : FVec Ideal S256x256 .f32 := out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 21. -/
abbrev pt21 : FVec Ideal S256x256 .f32 := out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 22. -/
abbrev pt22 : FVec Ideal S256x2048 .bf16 := out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 23. -/
abbrev pt23 : FVec Ideal S256x128 .bf16 := out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 24. -/
abbrev pt24 : FVec Ideal S256x256 .f32 := out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 26. -/
abbrev pt26 : FVec Ideal S256x3072 .bf16 := out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 27. -/
abbrev pt27 : FVec Ideal S1x256x256 .bf16 := out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- What a grid point leaves in window 28. -/
abbrev pt28 : FVec Ideal S1x256x256 .bf16 := out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

theorem pt17_at (r j : Fin 256) (T : Fin 17408) (hT : T.val = t.val * 256 + r.val) : pt17 m c t (ix2 r j) = latent m c T j := by
  unfold pt17 latent
  rw [out_17]
  unfold k0_pay51 k0_pay52 k0_pay53
  rw [pay20_at]
  refine congrArg₂ (fun u g => latRow u g j) (funext fun i => dot_13 m c t r i T hT) (funext fun i => ?_)
  exact (ldx_6 (iblk m c 6 t) 0 i).trans ((x6_at m c t 0 i).trans (g_kv_at m c 0 i))

theorem pt27_at (r j : Fin 256) (T : Fin 17408) (hT : T.val = t.val * 256 + r.val) : pt27 m c t (ix3 0 j r) = latent m c T j := by
  unfold pt27 latent
  rw [out_27]
  unfold k0_pay51 k0_pay52 k0_pay53
  rw [pay21_at, pay20_at]
  refine congrArg₂ (fun u g => latRow u g j) (funext fun i => dot_13 m c t r i T hT) (funext fun i => ?_)
  exact (ldx_6 (iblk m c 6 t) 0 i).trans ((x6_at m c t 0 i).trans (g_kv_at m c 0 i))

theorem pt20_at (r j : Fin 256) (T : Fin 17408) (hT : T.val = t.val * 256 + r.val) : pt20 m c t (ix2 r j) = mvRow m c T j := by
  unfold pt20 mvRow
  rw [out_20, pay29_at]
  exact dot_24 m c t r j T hT

theorem pt28_at (r j : Fin 256) (T : Fin 17408) (hT : T.val = t.val * 256 + r.val) : pt28 m c t (ix3 0 j r) = mvRow m c T j := by
  unfold pt28 mvRow
  rw [out_28, pay30_at, pay29_at]
  exact dot_24 m c t r j T hT

theorem pt23_at (r : Fin 256) (j : Fin 128) (T : Fin 17408) (hT : T.val = t.val * 256 + r.val) : pt23 m c t (ix2 r j) = keyRow m c T j := by
  unfold pt23 keyRow
  rw [out_23, pay23_at, pay22_at]
  refine congrArg₂ (· + ·) (congrArg₂ (· * ·) (dot_15 m c t r j T hT) ?_) (congrArg₂ (· * ·) (dot_17 m c t r j T hT) ?_)
  · exact (ldx_13 (iblk m c 13 t) r j).trans (x13_at m c t r j T hT)
  · exact (ldx_14 (iblk m c 14 t) r j).trans (x14_at m c t r j T hT)

theorem pt18_at (r : Fin 256) (j : Fin 32) (T : Fin 17408) (hT : T.val = t.val * 256 + r.val) : pt18 m c t (ix2 r j) = keyTurned m c T j := by
  unfold pt18 keyTurned keyRow
  rw [out_18, pay24_at, pay22_at]
  refine congrArg₂ (· + ·) (congrArg₂ (· * ·) (dot_15 m c t r ⟨j.val, by omega⟩ T hT) ?_) (congrArg₂ (· * ·) (dot_17 m c t r ⟨j.val, by omega⟩ T hT) ?_)
  · exact (ldx_13 (iblk m c 13 t) r ⟨j.val, by omega⟩).trans (x13_at m c t r _ T hT)
  · exact (ldx_14 (iblk m c 14 t) r ⟨j.val, by omega⟩).trans (x14_at m c t r _ T hT)

theorem pt19_at (r j : Fin 256) (T : Fin 17408) (hT : T.val = t.val * 256 + r.val) : pt19 m c t (ix2 r j) = mkRow m c T j := by
  unfold pt19 mkRow
  rw [out_19]
  unfold k0_pay54 k0_pay55
  rw [pay28_at]
  refine congrArg₂ (· + ·) (congrArg₂ (· * ·) (dot_22 m c t r j T hT) ?_) (congrArg₂ (· * ·) (dot_23 m c t r j T hT) ?_)
  · exact (ldx_15 (iblk m c 15 t) r _).trans (x15_at m c t r _ T hT)
  · exact (ldx_16 (iblk m c 16 t) r _).trans (x16_at m c t r _ T hT)

theorem pt24_at (r j : Fin 256) (T : Fin 17408) (hT : T.val = t.val * 256 + r.val) : pt24 m c t (ix2 r j) = mqRow m c T j := by
  unfold pt24 mqRow
  rw [out_24]
  unfold k0_pay54 k0_pay55
  rw [pay27_at]
  refine congrArg₂ (· + ·) (congrArg₂ (· * ·) (dot_20 m c t r j T hT) ?_) (congrArg₂ (· * ·) (dot_21 m c t r j T hT) ?_)
  · exact (ldx_15 (iblk m c 15 t) r _).trans (x15_at m c t r _ T hT)
  · exact (ldx_16 (iblk m c 16 t) r _).trans (x16_at m c t r _ T hT)

theorem pt21_at (r j : Fin 256) (T : Fin 17408) (hT : T.val = t.val * 256 + r.val) : pt21 m c t (ix2 r j) = gvRow m c T j := by
  unfold pt21 gvRow
  rw [out_21]
  unfold k0_pay57 k0_pay58
  rw [pay34_at]
  have e1 : (fun i : Fin 256 => gelu (∑ k : Fin 1024, ptH m c t (ix2 r k) * (show FVec Ideal S1024x256 .bf16 from View.ld (iblk m c 2 t) r0_26) (ix2 k i))) = fun i => gelu (kz m c T ⟨2304 + i.val, by omega⟩) :=
    funext fun i => congrArg gelu (dot_26 m c t r i T hT)
  have e2 : (fun i : Fin 256 => (show FVec Ideal S1x256 .f32 from View.ld (iblk m c 7 t) r0_3) (ix2 0 i)) = fun i => harg6 m c (ix1 i) :=
    funext fun i => (ldx_7 (iblk m c 7 t) 0 i).trans ((x7_at m c t 0 i).trans (g_v_at m c 0 i))
  have e3 : (fun i : Fin 256 => (show FVec Ideal S1x256 .f32 from View.ld (iblk m c 8 t) r0_3) (ix2 0 i)) = fun i => harg7 m c (ix1 i) :=
    funext fun i => (ldx_8 (iblk m c 8 t) 0 i).trans ((x8_at m c t 0 i).trans (b_v_at m c 0 i))
  exact (congrArg (fun u => lnRow u _ _ j) e1).trans ((congrArg (fun g => lnRow _ g _ j) e2).trans (congrArg (fun b => lnRow _ _ b j) e3))

theorem pt26_at (r : Fin 256) (j : Fin 3072) (T : Fin 17408) (hT : T.val = t.val * 256 + r.val) : pt26 m c t (ix2 r j) = gateRow m c T j := by
  unfold pt26 gateRow
  rw [out_26 _ _ _ _ _ _ _ _ _ _ _ _ _ _ _ _ _ (ix2 r j) r j rfl rfl]
  exact congrArg Ideal.logistic (Finset.sum_congr rfl fun k _ => congrArg₂ (· * ·) (ptH_at m c t r k T hT) (x2_at m c t k _))

theorem ptQ_at (r l : Fin 256) (T : Fin 17408) (hT : T.val = t.val * 256 + r.val) : k0_pay48 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r l) = qlat m c T l := by
  unfold k0_pay48 qlat
  rw [pay6_at]
  refine congrArg₂ (fun u g => latRow u g l) (funext fun i => dot_2 m c t r i T hT) (funext fun i => ?_)
  exact (ldx_3 (iblk m c 3 t) 0 i).trans ((x3_at m c t 0 i).trans (g_q_at m c 0 i))

theorem pt22_at (y : S256x2048.Idx) (r : Fin 256) (h : Fin 8) (z : Fin 256) (hr : (y 0 : ℕ) = r) (hj : (y 1 : ℕ) = h.val * 256 + z.val) (T : Fin 17408) (hT : T.val = t.val * 256 + r.val) :
    pt22 m c t y = headRow m c T h z := by
  unfold pt22 headRow
  rw [out_22 _ _ _ _ _ _ _ _ _ _ _ _ _ _ _ _ _ y r h z hr hj]
  exact congrArg₂ (· + ·)
    (congrArg₂ (· * ·) (Finset.sum_congr rfl fun l _ => congrArg₂ (· * ·) (ptQ_at m c t r l T hT) (x4_at m c t l _)) (x11_at m c t r z T hT))
    (congrArg₂ (· * ·) (Finset.sum_congr rfl fun l _ => congrArg₂ (· * ·) (ptQ_at m c t r l T hT) (x5_at m c t l _)) (x12_at m c t r z T hT))

end Cert.Kernel3Ideal.Proj

end
-- ==== Proof.ProjFinal.lean ====
module

public import proofs.«01_k».proof.Proof.ProjValue

/-!
The arrays the projections' kernel leaves.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen Cert.ProjMath

attribute [local irreducible] latent keyRow keyTurned mkRow mvRow gvRow mqRow gateRow headRow

variable (m : (ℓ : Loc nD τ sig) → Buf (Elt Ideal) ℓ) (c : Dev nD)

theorem final_17 : (dats m 0 c).arrAt 17 cfg0.N = fun j : S17408x256.Idx => latent m c (j 0) (j 1) := by
  refine (dats m 0 c).arrAt_eq_of_covers 17 _ (by decide +kernel) fun t _ y => ?_
  blk_simp
  rw [after0_17]
  have hy : y = ix2 (y 0) (y 1) := funext fun i => by fin_cases i <;> rfl
  have key : ∀ (T : Fin 17408) (j : Fin 256), T.val = t.val * 256 + (y 0).val → j.val = (y 1).val → pt17 m c t y = latent m c T j := by
    intro T j hT hj
    rw [hy, show j = y 1 from Fin.ext hj]
    exact pt17_at m c t (y 0) (y 1) T hT
  refine key _ _ ?_ ?_
  · blk_simp [idx_out t]
  · blk_simp [idx_out t]

theorem final_18 : (dats m 0 c).arrAt 18 cfg0.N = fun j : S17408x32.Idx => keyTurned m c (j 0) (j 1) := by
  refine (dats m 0 c).arrAt_eq_of_covers 18 _ (by decide +kernel) fun t _ y => ?_
  blk_simp
  rw [after0_18]
  have hy : y = ix2 (y 0) (y 1) := funext fun i => by fin_cases i <;> rfl
  have key : ∀ (T : Fin 17408) (j : Fin 32), T.val = t.val * 256 + (y 0).val → j.val = (y 1).val → pt18 m c t y = keyTurned m c T j := by
    intro T j hT hj
    rw [hy, show j = y 1 from Fin.ext hj]
    exact pt18_at m c t (y 0) (y 1) T hT
  refine key _ _ ?_ ?_
  · blk_simp [idx_out t]
  · blk_simp [idx_out t]

theorem final_19 : (dats m 0 c).arrAt 19 cfg0.N = fun j : S17408x256.Idx => mkRow m c (j 0) (j 1) := by
  refine (dats m 0 c).arrAt_eq_of_covers 19 _ (by decide +kernel) fun t _ y => ?_
  blk_simp
  rw [after0_19]
  have hy : y = ix2 (y 0) (y 1) := funext fun i => by fin_cases i <;> rfl
  have key : ∀ (T : Fin 17408) (j : Fin 256), T.val = t.val * 256 + (y 0).val → j.val = (y 1).val → pt19 m c t y = mkRow m c T j := by
    intro T j hT hj
    rw [hy, show j = y 1 from Fin.ext hj]
    exact pt19_at m c t (y 0) (y 1) T hT
  refine key _ _ ?_ ?_
  · blk_simp [idx_out t]
  · blk_simp [idx_out t]

theorem final_20 : (dats m 0 c).arrAt 20 cfg0.N = fun j : S17408x256.Idx => mvRow m c (j 0) (j 1) := by
  refine (dats m 0 c).arrAt_eq_of_covers 20 _ (by decide +kernel) fun t _ y => ?_
  blk_simp
  rw [after0_20]
  have hy : y = ix2 (y 0) (y 1) := funext fun i => by fin_cases i <;> rfl
  have key : ∀ (T : Fin 17408) (j : Fin 256), T.val = t.val * 256 + (y 0).val → j.val = (y 1).val → pt20 m c t y = mvRow m c T j := by
    intro T j hT hj
    rw [hy, show j = y 1 from Fin.ext hj]
    exact pt20_at m c t (y 0) (y 1) T hT
  refine key _ _ ?_ ?_
  · blk_simp [idx_out t]
  · blk_simp [idx_out t]

theorem final_21 : (dats m 0 c).arrAt 21 cfg0.N = fun j : S17408x256.Idx => gvRow m c (j 0) (j 1) := by
  refine (dats m 0 c).arrAt_eq_of_covers 21 _ (by decide +kernel) fun t _ y => ?_
  blk_simp
  rw [after0_21]
  have hy : y = ix2 (y 0) (y 1) := funext fun i => by fin_cases i <;> rfl
  have key : ∀ (T : Fin 17408) (j : Fin 256), T.val = t.val * 256 + (y 0).val → j.val = (y 1).val → pt21 m c t y = gvRow m c T j := by
    intro T j hT hj
    rw [hy, show j = y 1 from Fin.ext hj]
    exact pt21_at m c t (y 0) (y 1) T hT
  refine key _ _ ?_ ?_
  · blk_simp [idx_out t]
  · blk_simp [idx_out t]

theorem final_23 : (dats m 0 c).arrAt 23 cfg0.N = fun j : S17408x128.Idx => keyRow m c (j 0) (j 1) := by
  refine (dats m 0 c).arrAt_eq_of_covers 23 _ (by decide +kernel) fun t _ y => ?_
  blk_simp
  rw [after0_23]
  have hy : y = ix2 (y 0) (y 1) := funext fun i => by fin_cases i <;> rfl
  have key : ∀ (T : Fin 17408) (j : Fin 128), T.val = t.val * 256 + (y 0).val → j.val = (y 1).val → pt23 m c t y = keyRow m c T j := by
    intro T j hT hj
    rw [hy, show j = y 1 from Fin.ext hj]
    exact pt23_at m c t (y 0) (y 1) T hT
  refine key _ _ ?_ ?_
  · blk_simp [idx_out t]
  · blk_simp [idx_out t]

theorem final_24 : (dats m 0 c).arrAt 24 cfg0.N = fun j : S17408x256.Idx => mqRow m c (j 0) (j 1) := by
  refine (dats m 0 c).arrAt_eq_of_covers 24 _ (by decide +kernel) fun t _ y => ?_
  blk_simp
  rw [after0_24]
  have hy : y = ix2 (y 0) (y 1) := funext fun i => by fin_cases i <;> rfl
  have key : ∀ (T : Fin 17408) (j : Fin 256), T.val = t.val * 256 + (y 0).val → j.val = (y 1).val → pt24 m c t y = mqRow m c T j := by
    intro T j hT hj
    rw [hy, show j = y 1 from Fin.ext hj]
    exact pt24_at m c t (y 0) (y 1) T hT
  refine key _ _ ?_ ?_
  · blk_simp [idx_out t]
  · blk_simp [idx_out t]

theorem final_26 : (dats m 0 c).arrAt 26 cfg0.N = fun j : S17408x3072.Idx => gateRow m c (j 0) (j 1) := by
  refine (dats m 0 c).arrAt_eq_of_covers 26 _ (by decide +kernel) fun t _ y => ?_
  blk_simp
  rw [after0_26]
  have hy : y = ix2 (y 0) (y 1) := funext fun i => by fin_cases i <;> rfl
  have key : ∀ (T : Fin 17408) (j : Fin 3072), T.val = t.val * 256 + (y 0).val → j.val = (y 1).val → pt26 m c t y = gateRow m c T j := by
    intro T j hT hj
    rw [hy, show j = y 1 from Fin.ext hj]
    exact pt26_at m c t (y 0) (y 1) T hT
  refine key _ _ ?_ ?_
  · blk_simp [idx_out t]
  · blk_simp [idx_out t]

theorem final_27 : (dats m 0 c).arrAt 27 cfg0.N = fun j : S68x256x256.Idx => latent m c ⟨(j 0).val * 256 + (j 2).val, by
    have h0 : (j 0).val < 68 := (j 0).isLt
    have h2 : (j 2).val < 256 := (j 2).isLt
    omega⟩ (j 1) := by
  refine (dats m 0 c).arrAt_eq_of_covers 27 _ (by decide +kernel) fun t _ y => ?_
  blk_simp
  rw [after0_27]
  have h0 : (y 0).val < 1 := (y 0).isLt
  have hy : y = ix3 0 (y 1) (y 2) := funext fun i => by
    fin_cases i
    · exact Fin.ext (show (y 0).val = 0 by omega)
    · rfl
    · rfl
  have key : ∀ (T : Fin 17408) (j : Fin 256), T.val = t.val * 256 + (y 2).val → j.val = (y 1).val → pt27 m c t y = latent m c T j := by
    intro T j hT hj
    rw [hy, show j = y 1 from Fin.ext hj]
    exact pt27_at m c t (y 2) (y 1) T hT
  refine key _ _ ?_ ?_
  · blk_simp [idx_out t]
    try omega
  · blk_simp [idx_out t]

theorem final_28 : (dats m 0 c).arrAt 28 cfg0.N = fun j : S68x256x256.Idx => mvRow m c ⟨(j 0).val * 256 + (j 2).val, by
    have h0 : (j 0).val < 68 := (j 0).isLt
    have h2 : (j 2).val < 256 := (j 2).isLt
    omega⟩ (j 1) := by
  refine (dats m 0 c).arrAt_eq_of_covers 28 _ (by decide +kernel) fun t _ y => ?_
  blk_simp
  rw [after0_28]
  have h0 : (y 0).val < 1 := (y 0).isLt
  have hy : y = ix3 0 (y 1) (y 2) := funext fun i => by
    fin_cases i
    · exact Fin.ext (show (y 0).val = 0 by omega)
    · rfl
    · rfl
  have key : ∀ (T : Fin 17408) (j : Fin 256), T.val = t.val * 256 + (y 2).val → j.val = (y 1).val → pt28 m c t y = mvRow m c T j := by
    intro T j hT hj
    rw [hy, show j = y 1 from Fin.ext hj]
    exact pt28_at m c t (y 2) (y 1) T hT
  refine key _ _ ?_ ?_
  · blk_simp [idx_out t]
    try omega
  · blk_simp [idx_out t]

theorem final_22 : (dats m 0 c).arrAt 22 cfg0.N = fun j : S17408x2048.Idx => headRow m c (j 0) ⟨(j 1).val / 256, by
    have h1 : (j 1).val < 2048 := (j 1).isLt
    omega⟩ ⟨(j 1).val % 256, by omega⟩ := by
  refine (dats m 0 c).arrAt_eq_of_covers 22 _ (by decide +kernel) fun t _ y => ?_
  blk_simp
  rw [after0_22]
  have key : ∀ (T : Fin 17408) (h : Fin 8) (z : Fin 256), T.val = t.val * 256 + (y 0).val → (y 1).val = h.val * 256 + z.val → pt22 m c t y = headRow m c T h z := by
    intro T h z hT hj
    exact pt22_at m c t y (y 0) h z rfl hj T hT
  refine key _ _ _ ?_ ?_
  · blk_simp [idx_out t]
  · blk_simp [idx_out t]
    show (y 1).val = (y 1).val / 256 * 256 + (y 1).val % 256
    omega

end Cert.Kernel3Ideal.Proj

end
-- ==== Proof.ProjHostTables.lean ====
module

public import proofs.«01_k».proof.Proof.ProjHost

/-!
  The host code that computes the tables of cosines and sines: which operation wrote each buffer, and from which others.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen

variable (m : (ℓ : Loc nD τ sig) → Buf (Elt Ideal) ℓ) (c : Dev nD)

theorem hv0_eq : hv0 m c = iotaInDim S4096 32 0 :=
  (V_at m c 0 rfl (by decide +kernel)).trans (StableHlo.nullary_result' ..)

theorem hv1_eq : hv1 m c = shapeCast S1x4096 (hv0 m c) shapeCasts_S4096_S1x4096 :=
  (V_at m c 1 rfl (by decide +kernel)).trans ((StableHlo.reshape_result' ..).trans (congrArg (fun v : IVec S4096 32 => shapeCast S1x4096 v shapeCasts_S4096_S1x4096) (upto_V m c (by decide +kernel))))

theorem hv2_eq : hv2 m c = (broadcastInDim S4x4096 ![0, 1] bcast_S1x4096_S4x4096_0_1) (hv1 m c) :=
  (V_at m c 2 rfl (by decide +kernel)).trans ((StableHlo.unary_result' ..).trans (congrArg _ (upto_V m c (by decide +kernel))))

theorem hv3_eq : hv3 m c = shapeCast S16384 (hv2 m c) shapeCasts_S4x4096_S16384 :=
  (V_at m c 3 rfl (by decide +kernel)).trans ((StableHlo.reshape_result' ..).trans (congrArg (fun v : IVec S4x4096 32 => shapeCast S16384 v shapeCasts_S4x4096_S16384) (upto_V m c (by decide +kernel))))

theorem hv4_eq : hv4 m c = iotaInDim S8 32 0 :=
  (V_at m c 4 rfl (by decide +kernel)).trans (StableHlo.nullary_result' ..)

theorem hc_eq : hc m c = constantI S_ 32 8192#32 :=
  (V_at m c 5 rfl (by decide +kernel)).trans (StableHlo.nullary_result' ..)

theorem hv5_eq : hv5 m c = (broadcastInDim S8 ![] bcast_S_S8) (hc m c) :=
  (V_at m c 6 rfl (by decide +kernel)).trans ((StableHlo.unary_result' ..).trans (congrArg _ (upto_V m c (by decide +kernel))))

theorem hv6_eq : hv6 m c = (addi) (hv5 m c) (hv4 m c) :=
  (V_at m c 7 rfl (by decide +kernel)).trans ((StableHlo.binary_result' ..).trans (congrArg₂ _ (upto_V m c (by decide +kernel)) (upto_V m c (by decide +kernel))))

theorem hv7_eq : hv7 m c = shapeCast S1x8 (hv6 m c) shapeCasts_S8_S1x8 :=
  (V_at m c 8 rfl (by decide +kernel)).trans ((StableHlo.reshape_result' ..).trans (congrArg (fun v : IVec S8 32 => shapeCast S1x8 v shapeCasts_S8_S1x8) (upto_V m c (by decide +kernel))))

theorem hv8_eq : hv8 m c = (broadcastInDim S128x8 ![0, 1] bcast_S1x8_S128x8_0_1) (hv7 m c) :=
  (V_at m c 9 rfl (by decide +kernel)).trans ((StableHlo.unary_result' ..).trans (congrArg _ (upto_V m c (by decide +kernel))))

theorem hv9_eq : hv9 m c = shapeCast S1024 (hv8 m c) shapeCasts_S128x8_S1024 :=
  (V_at m c 10 rfl (by decide +kernel)).trans ((StableHlo.reshape_result' ..).trans (congrArg (fun v : IVec S128x8 32 => shapeCast S1024 v shapeCasts_S128x8_S1024) (upto_V m c (by decide +kernel))))

theorem hv10_eq : hv10 m c = concatenate S17408 0 [⟨S16384, hv3 m c⟩, ⟨S1024, hv9 m c⟩] concatenates_S16384_S1024_S17408_d0 :=
  (V_at m c 11 rfl (by decide +kernel)).trans ((StableHlo.binary_result' ..).trans (congrArg₂ (fun (a : IVec S16384 32) (b : IVec S1024 32) => concatenate S17408 0 [⟨S16384, a⟩, ⟨S1024, b⟩] concatenates_S16384_S1024_S17408_d0) (upto_V m c (by decide +kernel)) (upto_V m c (by decide +kernel))))

theorem hv11_eq : hv11 m c = (sitofp .f32) (hv10 m c) :=
  (V_at m c 12 rfl (by decide +kernel)).trans ((StableHlo.unary_result' ..).trans (congrArg _ (upto_V m c (by decide +kernel))))

theorem hv12_eq : hv12 m c = (broadcastInDim S17408x1 ![0] bcast_S17408_S17408x1_0) (hv11 m c) :=
  (V_at m c 13 rfl (by decide +kernel)).trans ((StableHlo.unary_result' ..).trans (congrArg _ (upto_V m c (by decide +kernel))))

theorem hv13_eq : hv13 m c = sitofp .f32 (iotaInDim S16 32 0) :=
  (V_at m c 14 rfl (by decide +kernel)).trans (StableHlo.nullary_result' ..)

theorem hcst_eq : hcst m c = constant S_ .f32 0x40000000#32 :=
  (V_at m c 15 rfl (by decide +kernel)).trans (StableHlo.nullary_result' ..)

theorem hv14_eq : hv14 m c = (broadcastInDim S16 ![] bcast_S_S16) (hcst m c) :=
  (V_at m c 16 rfl (by decide +kernel)).trans ((StableHlo.unary_result' ..).trans (congrArg _ (upto_V m c (by decide +kernel))))

theorem hv15_eq : hv15 m c = (mulf) (hv14 m c) (hv13 m c) :=
  (V_at m c 17 rfl (by decide +kernel)).trans ((StableHlo.binary_result' ..).trans (congrArg₂ _ (upto_V m c (by decide +kernel)) (upto_V m c (by decide +kernel))))

theorem hcst_0_eq : hcst_0 m c = constant S_ .f32 0x00000000#32 :=
  (V_at m c 18 rfl (by decide +kernel)).trans (StableHlo.nullary_result' ..)

theorem hv16_eq : hv16 m c = (broadcastInDim S16 ![] bcast_S_S16) (hcst_0 m c) :=
  (V_at m c 19 rfl (by decide +kernel)).trans ((StableHlo.unary_result' ..).trans (congrArg _ (upto_V m c (by decide +kernel))))

theorem hv17_eq : hv17 m c = (addf) (hv16 m c) (hv15 m c) :=
  (V_at m c 20 rfl (by decide +kernel)).trans ((StableHlo.binary_result' ..).trans (congrArg₂ _ (upto_V m c (by decide +kernel)) (upto_V m c (by decide +kernel))))

theorem hv18_eq : hv18 m c = (Host.negf) (hv17 m c) :=
  (V_at m c 21 rfl (by decide +kernel)).trans ((StableHlo.unary_result' ..).trans (congrArg _ (upto_V m c (by decide +kernel))))

theorem hcst_1_eq : hcst_1 m c = constant S_ .f32 0x42000000#32 :=
  (V_at m c 22 rfl (by decide +kernel)).trans (StableHlo.nullary_result' ..)

theorem hv19_eq : hv19 m c = (broadcastInDim S16 ![] bcast_S_S16) (hcst_1 m c) :=
  (V_at m c 23 rfl (by decide +kernel)).trans ((StableHlo.unary_result' ..).trans (congrArg _ (upto_V m c (by decide +kernel))))

theorem hv20_eq : hv20 m c = (Host.divf) (hv18 m c) (hv19 m c) :=
  (V_at m c 24 rfl (by decide +kernel)).trans ((StableHlo.binary_result' ..).trans (congrArg₂ _ (upto_V m c (by decide +kernel)) (upto_V m c (by decide +kernel))))

theorem hcst_2_eq : hcst_2 m c = constant S_ .f32 0x461C4000#32 :=
  (V_at m c 25 rfl (by decide +kernel)).trans (StableHlo.nullary_result' ..)

theorem hv21_eq : hv21 m c = (broadcastInDim S16 ![] bcast_S_S16) (hcst_2 m c) :=
  (V_at m c 26 rfl (by decide +kernel)).trans ((StableHlo.unary_result' ..).trans (congrArg _ (upto_V m c (by decide +kernel))))

theorem hv22_eq : hv22 m c = (Host.powf) (hv21 m c) (hv20 m c) :=
  (V_at m c 27 rfl (by decide +kernel)).trans ((StableHlo.binary_result' ..).trans (congrArg₂ _ (upto_V m c (by decide +kernel)) (upto_V m c (by decide +kernel))))

theorem hv23_eq : hv23 m c = (broadcastInDim S1x16 ![1] bcast_S16_S1x16_1) (hv22 m c) :=
  (V_at m c 28 rfl (by decide +kernel)).trans ((StableHlo.unary_result' ..).trans (congrArg _ (upto_V m c (by decide +kernel))))

theorem hv24_eq : hv24 m c = (broadcastInDim S17408x16 ![0, 1] bcast_S17408x1_S17408x16_0_1) (hv12 m c) :=
  (V_at m c 29 rfl (by decide +kernel)).trans ((StableHlo.unary_result' ..).trans (congrArg _ (upto_V m c (by decide +kernel))))

theorem hv25_eq : hv25 m c = (broadcastInDim S17408x16 ![0, 1] bcast_S1x16_S17408x16_0_1) (hv23 m c) :=
  (V_at m c 30 rfl (by decide +kernel)).trans ((StableHlo.unary_result' ..).trans (congrArg _ (upto_V m c (by decide +kernel))))

theorem hv26_eq : hv26 m c = (mulf) (hv24 m c) (hv25 m c) :=
  (V_at m c 31 rfl (by decide +kernel)).trans ((StableHlo.binary_result' ..).trans (congrArg₂ _ (upto_V m c (by decide +kernel)) (upto_V m c (by decide +kernel))))

theorem hv27_eq : hv27 m c = (Host.cos) (hv26 m c) :=
  (V_at m c 32 rfl (by decide +kernel)).trans ((StableHlo.unary_result' ..).trans (congrArg _ (upto_V m c (by decide +kernel))))

theorem hv28_eq : hv28 m c = concatenate S17408x32 1 [⟨S17408x16, hv27 m c⟩, ⟨S17408x16, hv27 m c⟩] concatenates_S17408x16_S17408x16_S17408x32_d1 :=
  (V_at m c 33 rfl (by decide +kernel)).trans ((StableHlo.binary_result' ..).trans (congrArg₂ (fun (a : FVec Ideal S17408x16 .f32) (b : FVec Ideal S17408x16 .f32) => concatenate S17408x32 1 [⟨S17408x16, a⟩, ⟨S17408x16, b⟩] concatenates_S17408x16_S17408x16_S17408x32_d1) (upto_V m c (by decide +kernel)) (upto_V m c (by decide +kernel))))

theorem hv29_eq : hv29 m c = (Host.sin) (hv26 m c) :=
  (V_at m c 34 rfl (by decide +kernel)).trans ((StableHlo.unary_result' ..).trans (congrArg _ (upto_V m c (by decide +kernel))))

theorem hv30_eq : hv30 m c = concatenate S17408x32 1 [⟨S17408x16, hv29 m c⟩, ⟨S17408x16, hv29 m c⟩] concatenates_S17408x16_S17408x16_S17408x32_d1 :=
  (V_at m c 35 rfl (by decide +kernel)).trans ((StableHlo.binary_result' ..).trans (congrArg₂ (fun (a : FVec Ideal S17408x16 .f32) (b : FVec Ideal S17408x16 .f32) => concatenate S17408x32 1 [⟨S17408x16, a⟩, ⟨S17408x16, b⟩] concatenates_S17408x16_S17408x16_S17408x32_d1) (upto_V m c (by decide +kernel)) (upto_V m c (by decide +kernel))))

theorem hv31_eq : hv31 m c = sitofp .f32 (iotaInDim S32 32 0) :=
  (V_at m c 36 rfl (by decide +kernel)).trans (StableHlo.nullary_result' ..)

theorem hcst_3_eq : hcst_3 m c = constant S_ .f32 0x40000000#32 :=
  (V_at m c 37 rfl (by decide +kernel)).trans (StableHlo.nullary_result' ..)

theorem hv32_eq : hv32 m c = (broadcastInDim S32 ![] bcast_S_S32) (hcst_3 m c) :=
  (V_at m c 38 rfl (by decide +kernel)).trans ((StableHlo.unary_result' ..).trans (congrArg _ (upto_V m c (by decide +kernel))))

theorem hv33_eq : hv33 m c = (mulf) (hv32 m c) (hv31 m c) :=
  (V_at m c 39 rfl (by decide +kernel)).trans ((StableHlo.binary_result' ..).trans (congrArg₂ _ (upto_V m c (by decide +kernel)) (upto_V m c (by decide +kernel))))

theorem hcst_4_eq : hcst_4 m c = constant S_ .f32 0x00000000#32 :=
  (V_at m c 40 rfl (by decide +kernel)).trans (StableHlo.nullary_result' ..)

theorem hv34_eq : hv34 m c = (broadcastInDim S32 ![] bcast_S_S32) (hcst_4 m c) :=
  (V_at m c 41 rfl (by decide +kernel)).trans ((StableHlo.unary_result' ..).trans (congrArg _ (upto_V m c (by decide +kernel))))

theorem hv35_eq : hv35 m c = (addf) (hv34 m c) (hv33 m c) :=
  (V_at m c 42 rfl (by decide +kernel)).trans ((StableHlo.binary_result' ..).trans (congrArg₂ _ (upto_V m c (by decide +kernel)) (upto_V m c (by decide +kernel))))

theorem hv36_eq : hv36 m c = (Host.negf) (hv35 m c) :=
  (V_at m c 43 rfl (by decide +kernel)).trans ((StableHlo.unary_result' ..).trans (congrArg _ (upto_V m c (by decide +kernel))))

theorem hcst_5_eq : hcst_5 m c = constant S_ .f32 0x42800000#32 :=
  (V_at m c 44 rfl (by decide +kernel)).trans (StableHlo.nullary_result' ..)

theorem hv37_eq : hv37 m c = (broadcastInDim S32 ![] bcast_S_S32) (hcst_5 m c) :=
  (V_at m c 45 rfl (by decide +kernel)).trans ((StableHlo.unary_result' ..).trans (congrArg _ (upto_V m c (by decide +kernel))))

theorem hv38_eq : hv38 m c = (Host.divf) (hv36 m c) (hv37 m c) :=
  (V_at m c 46 rfl (by decide +kernel)).trans ((StableHlo.binary_result' ..).trans (congrArg₂ _ (upto_V m c (by decide +kernel)) (upto_V m c (by decide +kernel))))

theorem hcst_6_eq : hcst_6 m c = constant S_ .f32 0x461C4000#32 :=
  (V_at m c 47 rfl (by decide +kernel)).trans (StableHlo.nullary_result' ..)

theorem hv39_eq : hv39 m c = (broadcastInDim S32 ![] bcast_S_S32) (hcst_6 m c) :=
  (V_at m c 48 rfl (by decide +kernel)).trans ((StableHlo.unary_result' ..).trans (congrArg _ (upto_V m c (by decide +kernel))))

theorem hv40_eq : hv40 m c = (Host.powf) (hv39 m c) (hv38 m c) :=
  (V_at m c 49 rfl (by decide +kernel)).trans ((StableHlo.binary_result' ..).trans (congrArg₂ _ (upto_V m c (by decide +kernel)) (upto_V m c (by decide +kernel))))

theorem hv41_eq : hv41 m c = (broadcastInDim S1x32 ![1] bcast_S32_S1x32_1) (hv40 m c) :=
  (V_at m c 50 rfl (by decide +kernel)).trans ((StableHlo.unary_result' ..).trans (congrArg _ (upto_V m c (by decide +kernel))))

theorem hv42_eq : hv42 m c = (broadcastInDim S17408x32 ![0, 1] bcast_S17408x1_S17408x32_0_1) (hv12 m c) :=
  (V_at m c 51 rfl (by decide +kernel)).trans ((StableHlo.unary_result' ..).trans (congrArg _ (upto_V m c (by decide +kernel))))

theorem hv43_eq : hv43 m c = (broadcastInDim S17408x32 ![0, 1] bcast_S1x32_S17408x32_0_1) (hv41 m c) :=
  (V_at m c 52 rfl (by decide +kernel)).trans ((StableHlo.unary_result' ..).trans (congrArg _ (upto_V m c (by decide +kernel))))

theorem hv44_eq : hv44 m c = (mulf) (hv42 m c) (hv43 m c) :=
  (V_at m c 53 rfl (by decide +kernel)).trans ((StableHlo.binary_result' ..).trans (congrArg₂ _ (upto_V m c (by decide +kernel)) (upto_V m c (by decide +kernel))))

theorem hv45_eq : hv45 m c = (Host.cos) (hv44 m c) :=
  (V_at m c 54 rfl (by decide +kernel)).trans ((StableHlo.unary_result' ..).trans (congrArg _ (upto_V m c (by decide +kernel))))

theorem hv46_eq : hv46 m c = concatenate S17408x64 1 [⟨S17408x32, hv45 m c⟩, ⟨S17408x32, hv45 m c⟩] concatenates_S17408x32_S17408x32_S17408x64_d1 :=
  (V_at m c 55 rfl (by decide +kernel)).trans ((StableHlo.binary_result' ..).trans (congrArg₂ (fun (a : FVec Ideal S17408x32 .f32) (b : FVec Ideal S17408x32 .f32) => concatenate S17408x64 1 [⟨S17408x32, a⟩, ⟨S17408x32, b⟩] concatenates_S17408x32_S17408x32_S17408x64_d1) (upto_V m c (by decide +kernel)) (upto_V m c (by decide +kernel))))

theorem hv47_eq : hv47 m c = (Host.sin) (hv44 m c) :=
  (V_at m c 56 rfl (by decide +kernel)).trans ((StableHlo.unary_result' ..).trans (congrArg _ (upto_V m c (by decide +kernel))))

theorem hv48_eq : hv48 m c = concatenate S17408x64 1 [⟨S17408x32, hv47 m c⟩, ⟨S17408x32, hv47 m c⟩] concatenates_S17408x32_S17408x32_S17408x64_d1 :=
  (V_at m c 57 rfl (by decide +kernel)).trans ((StableHlo.binary_result' ..).trans (congrArg₂ (fun (a : FVec Ideal S17408x32 .f32) (b : FVec Ideal S17408x32 .f32) => concatenate S17408x64 1 [⟨S17408x32, a⟩, ⟨S17408x32, b⟩] concatenates_S17408x32_S17408x32_S17408x64_d1) (upto_V m c (by decide +kernel)) (upto_V m c (by decide +kernel))))

theorem hcst_7_eq : hcst_7 m c = constant S_ .f32 0x3F800000#32 :=
  (V_at m c 58 rfl (by decide +kernel)).trans (StableHlo.nullary_result' ..)

theorem hv49_eq : hv49 m c = (broadcastInDim S17408x128 ![] bcast_S_S17408x128) (hcst_7 m c) :=
  (V_at m c 59 rfl (by decide +kernel)).trans ((StableHlo.unary_result' ..).trans (congrArg _ (upto_V m c (by decide +kernel))))

theorem hcst_8_eq : hcst_8 m c = constant S_ .f32 0x00000000#32 :=
  (V_at m c 60 rfl (by decide +kernel)).trans (StableHlo.nullary_result' ..)

theorem hv50_eq : hv50 m c = (broadcastInDim S17408x128 ![] bcast_S_S17408x128) (hcst_8 m c) :=
  (V_at m c 61 rfl (by decide +kernel)).trans ((StableHlo.unary_result' ..).trans (congrArg _ (upto_V m c (by decide +kernel))))

theorem hcst_9_eq : hcst_9 m c = constant S_ .f32 0x00000000#32 :=
  (V_at m c 62 rfl (by decide +kernel)).trans (StableHlo.nullary_result' ..)

theorem hv51_eq : hv51 m c = (broadcastInDim S17408x96 ![] bcast_S_S17408x96) (hcst_9 m c) :=
  (V_at m c 63 rfl (by decide +kernel)).trans ((StableHlo.unary_result' ..).trans (congrArg _ (upto_V m c (by decide +kernel))))

theorem hv52_eq : hv52 m c = concatenate S17408x256 1 [⟨S17408x128, hv49 m c⟩, ⟨S17408x32, hv28 m c⟩, ⟨S17408x96, hv51 m c⟩] concatenates_S17408x128_S17408x32_S17408x96_S17408x256_d1 :=
  (V_at m c 64 rfl (by decide +kernel)).trans ((StableHlo.nary_result' ..).trans (congrArg (fun u : (k : Fin 3) → ((![main_v49, main_v28, main_v51] : Fin 3 → Ref sig .tc) k).ty.Contents (Elt Ideal) => concatenate S17408x256 1 [⟨S17408x128, (show FVec Ideal S17408x128 .f32 from u 0)⟩, ⟨S17408x32, (show FVec Ideal S17408x32 .f32 from u 1)⟩, ⟨S17408x96, (show FVec Ideal S17408x96 .f32 from u 2)⟩] concatenates_S17408x128_S17408x32_S17408x96_S17408x256_d1) (funext fun k => upto_V m c ((by decide +kernel : ∀ k : Fin 3, (![main_v49, main_v28, main_v51] : Fin 3 → Ref sig .tc) k ∉ written.drop 64) k))))

theorem hcst_10_eq : hcst_10 m c = constant S_ .f32 0x3DD105EC#32 :=
  (V_at m c 65 rfl (by decide +kernel)).trans (StableHlo.nullary_result' ..)

theorem hv53_eq : hv53 m c = (broadcastInDim S17408x256 ![] bcast_S_S17408x256) (hcst_10 m c) :=
  (V_at m c 66 rfl (by decide +kernel)).trans ((StableHlo.unary_result' ..).trans (congrArg _ (upto_V m c (by decide +kernel))))

theorem hv54_eq : hv54 m c = (mulf) (hv52 m c) (hv53 m c) :=
  (V_at m c 67 rfl (by decide +kernel)).trans ((StableHlo.binary_result' ..).trans (congrArg₂ _ (upto_V m c (by decide +kernel)) (upto_V m c (by decide +kernel))))

theorem hv55_eq : hv55 m c = concatenate S17408x256 1 [⟨S17408x128, hv50 m c⟩, ⟨S17408x32, hv30 m c⟩, ⟨S17408x96, hv51 m c⟩] concatenates_S17408x128_S17408x32_S17408x96_S17408x256_d1 :=
  (V_at m c 68 rfl (by decide +kernel)).trans ((StableHlo.nary_result' ..).trans (congrArg (fun u : (k : Fin 3) → ((![main_v50, main_v30, main_v51] : Fin 3 → Ref sig .tc) k).ty.Contents (Elt Ideal) => concatenate S17408x256 1 [⟨S17408x128, (show FVec Ideal S17408x128 .f32 from u 0)⟩, ⟨S17408x32, (show FVec Ideal S17408x32 .f32 from u 1)⟩, ⟨S17408x96, (show FVec Ideal S17408x96 .f32 from u 2)⟩] concatenates_S17408x128_S17408x32_S17408x96_S17408x256_d1) (funext fun k => upto_V m c ((by decide +kernel : ∀ k : Fin 3, (![main_v50, main_v30, main_v51] : Fin 3 → Ref sig .tc) k ∉ written.drop 68) k))))

theorem hcst_11_eq : hcst_11 m c = constant S_ .f32 0x3DD105EC#32 :=
  (V_at m c 69 rfl (by decide +kernel)).trans (StableHlo.nullary_result' ..)

theorem hv56_eq : hv56 m c = (broadcastInDim S17408x256 ![] bcast_S_S17408x256) (hcst_11 m c) :=
  (V_at m c 70 rfl (by decide +kernel)).trans ((StableHlo.unary_result' ..).trans (congrArg _ (upto_V m c (by decide +kernel))))

theorem hv57_eq : hv57 m c = (mulf) (hv55 m c) (hv56 m c) :=
  (V_at m c 71 rfl (by decide +kernel)).trans ((StableHlo.binary_result' ..).trans (congrArg₂ _ (upto_V m c (by decide +kernel)) (upto_V m c (by decide +kernel))))

theorem hv58_eq : hv58 m c = concatenate S17408x128 1 [⟨S17408x32, hv28 m c⟩, ⟨S17408x96, hv51 m c⟩] concatenates_S17408x32_S17408x96_S17408x128_d1 :=
  (V_at m c 72 rfl (by decide +kernel)).trans ((StableHlo.binary_result' ..).trans (congrArg₂ (fun (a : FVec Ideal S17408x32 .f32) (b : FVec Ideal S17408x96 .f32) => concatenate S17408x128 1 [⟨S17408x32, a⟩, ⟨S17408x96, b⟩] concatenates_S17408x32_S17408x96_S17408x128_d1) (upto_V m c (by decide +kernel)) (upto_V m c (by decide +kernel))))

theorem hv59_eq : hv59 m c = concatenate S17408x128 1 [⟨S17408x32, hv30 m c⟩, ⟨S17408x96, hv51 m c⟩] concatenates_S17408x32_S17408x96_S17408x128_d1 :=
  (V_at m c 73 rfl (by decide +kernel)).trans ((StableHlo.binary_result' ..).trans (congrArg₂ (fun (a : FVec Ideal S17408x32 .f32) (b : FVec Ideal S17408x96 .f32) => concatenate S17408x128 1 [⟨S17408x32, a⟩, ⟨S17408x96, b⟩] concatenates_S17408x32_S17408x96_S17408x128_d1) (upto_V m c (by decide +kernel)) (upto_V m c (by decide +kernel))))

theorem hv60_eq : hv60 m c = shapeCast S1x17408x1x64 (hv46 m c) shapeCasts_S17408x64_S1x17408x1x64 :=
  (V_at m c 74 rfl (by decide +kernel)).trans ((StableHlo.reshape_result' ..).trans (congrArg (fun v : FVec Ideal S17408x64 .f32 => shapeCast S1x17408x1x64 v shapeCasts_S17408x64_S1x17408x1x64) (upto_V m c (by decide +kernel))))

theorem hv61_eq : hv61 m c = (broadcastInDim S1x17408x4x64 ![0, 1, 2, 3] bcast_S1x17408x1x64_S1x17408x4x64_0_1_2_3) (hv60 m c) :=
  (V_at m c 75 rfl (by decide +kernel)).trans ((StableHlo.unary_result' ..).trans (congrArg _ (upto_V m c (by decide +kernel))))

theorem hv62_eq : hv62 m c = shapeCast S17408x256 (hv61 m c) shapeCasts_S1x17408x4x64_S17408x256 :=
  (V_at m c 76 rfl (by decide +kernel)).trans ((StableHlo.reshape_result' ..).trans (congrArg (fun v : FVec Ideal S1x17408x4x64 .f32 => shapeCast S17408x256 v shapeCasts_S1x17408x4x64_S17408x256) (upto_V m c (by decide +kernel))))

theorem hv63_eq : hv63 m c = shapeCast S1x17408x1x64 (hv48 m c) shapeCasts_S17408x64_S1x17408x1x64 :=
  (V_at m c 77 rfl (by decide +kernel)).trans ((StableHlo.reshape_result' ..).trans (congrArg (fun v : FVec Ideal S17408x64 .f32 => shapeCast S1x17408x1x64 v shapeCasts_S17408x64_S1x17408x1x64) (upto_V m c (by decide +kernel))))

theorem hv64_eq : hv64 m c = (broadcastInDim S1x17408x4x64 ![0, 1, 2, 3] bcast_S1x17408x1x64_S1x17408x4x64_0_1_2_3) (hv63 m c) :=
  (V_at m c 78 rfl (by decide +kernel)).trans ((StableHlo.unary_result' ..).trans (congrArg _ (upto_V m c (by decide +kernel))))

theorem hv65_eq : hv65 m c = shapeCast S17408x256 (hv64 m c) shapeCasts_S1x17408x4x64_S17408x256 :=
  (V_at m c 79 rfl (by decide +kernel)).trans ((StableHlo.reshape_result' ..).trans (congrArg (fun v : FVec Ideal S1x17408x4x64 .f32 => shapeCast S17408x256 v shapeCasts_S1x17408x4x64_S17408x256) (upto_V m c (by decide +kernel))))

theorem hcst_12_eq : hcst_12 m c = constant S_ .f32 0x3E000000#32 :=
  (V_at m c 80 rfl (by decide +kernel)).trans (StableHlo.nullary_result' ..)

theorem hv66_eq : hv66 m c = (broadcastInDim S17408x256 ![] bcast_S_S17408x256) (hcst_12 m c) :=
  (V_at m c 81 rfl (by decide +kernel)).trans ((StableHlo.unary_result' ..).trans (congrArg _ (upto_V m c (by decide +kernel))))

theorem hv67_eq : hv67 m c = (mulf) (hv62 m c) (hv66 m c) :=
  (V_at m c 82 rfl (by decide +kernel)).trans ((StableHlo.binary_result' ..).trans (congrArg₂ _ (upto_V m c (by decide +kernel)) (upto_V m c (by decide +kernel))))

theorem hv68_eq : hv68 m c = concatenate S17408x512 1 [⟨S17408x256, hv67 m c⟩, ⟨S17408x256, hv62 m c⟩] concatenates_S17408x256_S17408x256_S17408x512_d1 :=
  (V_at m c 83 rfl (by decide +kernel)).trans ((StableHlo.binary_result' ..).trans (congrArg₂ (fun (a : FVec Ideal S17408x256 .f32) (b : FVec Ideal S17408x256 .f32) => concatenate S17408x512 1 [⟨S17408x256, a⟩, ⟨S17408x256, b⟩] concatenates_S17408x256_S17408x256_S17408x512_d1) (upto_V m c (by decide +kernel)) (upto_V m c (by decide +kernel))))

theorem hcst_13_eq : hcst_13 m c = constant S_ .f32 0x3E000000#32 :=
  (V_at m c 84 rfl (by decide +kernel)).trans (StableHlo.nullary_result' ..)

theorem hv69_eq : hv69 m c = (broadcastInDim S17408x256 ![] bcast_S_S17408x256) (hcst_13 m c) :=
  (V_at m c 85 rfl (by decide +kernel)).trans ((StableHlo.unary_result' ..).trans (congrArg _ (upto_V m c (by decide +kernel))))

theorem hv70_eq : hv70 m c = (mulf) (hv65 m c) (hv69 m c) :=
  (V_at m c 86 rfl (by decide +kernel)).trans ((StableHlo.binary_result' ..).trans (congrArg₂ _ (upto_V m c (by decide +kernel)) (upto_V m c (by decide +kernel))))

theorem hv71_eq : hv71 m c = concatenate S17408x512 1 [⟨S17408x256, hv70 m c⟩, ⟨S17408x256, hv65 m c⟩] concatenates_S17408x256_S17408x256_S17408x512_d1 :=
  (V_at m c 87 rfl (by decide +kernel)).trans ((StableHlo.binary_result' ..).trans (congrArg₂ (fun (a : FVec Ideal S17408x256 .f32) (b : FVec Ideal S17408x256 .f32) => concatenate S17408x512 1 [⟨S17408x256, a⟩, ⟨S17408x256, b⟩] concatenates_S17408x256_S17408x256_S17408x512_d1) (upto_V m c (by decide +kernel)) (upto_V m c (by decide +kernel))))

end Cert.Kernel3Ideal.Proj
-- ==== Proof.ProjTables.lean ====
module

public import proofs.«01_k».proof.Proof.ProjHostTables
public import Idealize.ShloMosaic.Lib.Pointwise

/-!
The tables that rotate a position's vectors, at an index: the cosines and sines of a position's angles, padded with
ones and zeros, and scaled.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen

variable (m : (ℓ : Loc nD τ sig) → Buf (Elt Ideal) ℓ) (c : Dev nD)

theorem hv58_lo (T : Fin 17408) (i : Fin 16) : hv58 m c (ix2 T ⟨i.val, by omega⟩) = hv27 m c (ix2 T i) := by
  rw [hv58_eq, hv28_eq]
  pointwise []
  exact dif_pos (by omega)

theorem hv58_hi (T : Fin 17408) (i : Fin 16) : hv58 m c (ix2 T ⟨16 + i.val, by omega⟩) = hv27 m c (ix2 T i) := by
  rw [hv58_eq, hv28_eq]
  pointwise []
  exact dif_pos (by omega)

theorem hv58_pad (T : Fin 17408) (i : Fin 96) : hv58 m c (ix2 T ⟨32 + i.val, by omega⟩) = Ideal.ofBits .f32 0x00000000#32 := by
  rw [hv58_eq, hv28_eq, hv51_eq, hcst_9_eq]
  pointwise []
  all_goals (repeat' split)
  all_goals first | (exfalso; omega) | rfl

theorem hv59_lo (T : Fin 17408) (i : Fin 16) : hv59 m c (ix2 T ⟨i.val, by omega⟩) = hv29 m c (ix2 T i) := by
  rw [hv59_eq, hv30_eq]
  pointwise []
  exact dif_pos (by omega)

theorem hv59_hi (T : Fin 17408) (i : Fin 16) : hv59 m c (ix2 T ⟨16 + i.val, by omega⟩) = hv29 m c (ix2 T i) := by
  rw [hv59_eq, hv30_eq]
  pointwise []
  exact dif_pos (by omega)

theorem hv59_pad (T : Fin 17408) (i : Fin 96) : hv59 m c (ix2 T ⟨32 + i.val, by omega⟩) = Ideal.ofBits .f32 0x00000000#32 := by
  rw [hv59_eq, hv30_eq, hv51_eq, hcst_9_eq]
  pointwise []
  all_goals (repeat' split)
  all_goals first | (exfalso; omega) | rfl

theorem hv54_nope (T : Fin 17408) (i : Fin 128) : hv54 m c (ix2 T ⟨i.val, by omega⟩) = Ideal.ofBits .f32 0x3F800000#32 * Ideal.ofBits .f32 0x3DD105EC#32 := by
  rw [hv54_eq, hv52_eq, hv49_eq, hcst_7_eq, hv53_eq, hcst_10_eq]
  pointwise []
  all_goals (repeat' split)
  all_goals first | (exfalso; omega) | rfl

theorem hv54_lo (T : Fin 17408) (i : Fin 16) : hv54 m c (ix2 T ⟨128 + i.val, by omega⟩) = hv27 m c (ix2 T i) * Ideal.ofBits .f32 0x3DD105EC#32 := by
  rw [hv54_eq, hv52_eq, hv28_eq, hv53_eq, hcst_10_eq]
  pointwise []
  all_goals (repeat' split)
  all_goals first | (exfalso; omega) | exact congrArg (fun z => hv27 m c (ix2 T z) * Ideal.ofBits .f32 0x3DD105EC#32) (Fin.ext (by dsimp only <;> omega))

theorem hv54_hi (T : Fin 17408) (i : Fin 16) : hv54 m c (ix2 T ⟨144 + i.val, by omega⟩) = hv27 m c (ix2 T i) * Ideal.ofBits .f32 0x3DD105EC#32 := by
  rw [hv54_eq, hv52_eq, hv28_eq, hv53_eq, hcst_10_eq]
  pointwise []
  all_goals (repeat' split)
  all_goals first | (exfalso; omega) | exact congrArg (fun z => hv27 m c (ix2 T z) * Ideal.ofBits .f32 0x3DD105EC#32) (Fin.ext (by dsimp only <;> omega))

theorem hv54_pad (T : Fin 17408) (i : Fin 96) : hv54 m c (ix2 T ⟨160 + i.val, by omega⟩) = Ideal.ofBits .f32 0x00000000#32 * Ideal.ofBits .f32 0x3DD105EC#32 := by
  rw [hv54_eq, hv52_eq, hv51_eq, hcst_9_eq, hv53_eq, hcst_10_eq]
  pointwise []
  all_goals (repeat' split)
  all_goals first | (exfalso; omega) | rfl

theorem hv57_nope (T : Fin 17408) (i : Fin 128) : hv57 m c (ix2 T ⟨i.val, by omega⟩) = Ideal.ofBits .f32 0x00000000#32 * Ideal.ofBits .f32 0x3DD105EC#32 := by
  rw [hv57_eq, hv55_eq, hv50_eq, hcst_8_eq, hv56_eq, hcst_11_eq]
  pointwise []
  all_goals (repeat' split)
  all_goals first | (exfalso; omega) | rfl

theorem hv57_lo (T : Fin 17408) (i : Fin 16) : hv57 m c (ix2 T ⟨128 + i.val, by omega⟩) = hv29 m c (ix2 T i) * Ideal.ofBits .f32 0x3DD105EC#32 := by
  rw [hv57_eq, hv55_eq, hv30_eq, hv56_eq, hcst_11_eq]
  pointwise []
  all_goals (repeat' split)
  all_goals first | (exfalso; omega) | exact congrArg (fun z => hv29 m c (ix2 T z) * Ideal.ofBits .f32 0x3DD105EC#32) (Fin.ext (by dsimp only <;> omega))

theorem hv57_hi (T : Fin 17408) (i : Fin 16) : hv57 m c (ix2 T ⟨144 + i.val, by omega⟩) = hv29 m c (ix2 T i) * Ideal.ofBits .f32 0x3DD105EC#32 := by
  rw [hv57_eq, hv55_eq, hv30_eq, hv56_eq, hcst_11_eq]
  pointwise []
  all_goals (repeat' split)
  all_goals first | (exfalso; omega) | exact congrArg (fun z => hv29 m c (ix2 T z) * Ideal.ofBits .f32 0x3DD105EC#32) (Fin.ext (by dsimp only <;> omega))

theorem hv57_pad (T : Fin 17408) (i : Fin 96) : hv57 m c (ix2 T ⟨160 + i.val, by omega⟩) = Ideal.ofBits .f32 0x00000000#32 * Ideal.ofBits .f32 0x3DD105EC#32 := by
  rw [hv57_eq, hv55_eq, hv51_eq, hcst_9_eq, hv56_eq, hcst_11_eq]
  pointwise []
  all_goals (repeat' split)
  all_goals first | (exfalso; omega) | rfl

theorem hv68_q_lo (T : Fin 17408) (g : Fin 4) (i : Fin 32) : hv68 m c (ix2 T ⟨(g.val * 64 + i.val), by omega⟩) = hv45 m c (ix2 T i) * Ideal.ofBits .f32 0x3E000000#32 := by
  rw [hv68_eq, hv67_eq, hv62_eq, hv61_eq, hv60_eq, hv46_eq, hv66_eq, hcst_12_eq]
  pointwise []
  all_goals (repeat' split)
  all_goals first | (exfalso; omega) | exact congrArg (fun z => hv45 m c (ix2 T z) * Ideal.ofBits .f32 0x3E000000#32) (Fin.ext (by dsimp only <;> omega))

theorem hv68_q_hi (T : Fin 17408) (g : Fin 4) (i : Fin 32) : hv68 m c (ix2 T ⟨(g.val * 64 + 32 + i.val), by omega⟩) = hv45 m c (ix2 T i) * Ideal.ofBits .f32 0x3E000000#32 := by
  rw [hv68_eq, hv67_eq, hv62_eq, hv61_eq, hv60_eq, hv46_eq, hv66_eq, hcst_12_eq]
  pointwise []
  all_goals (repeat' split)
  all_goals first | (exfalso; omega) | exact congrArg (fun z => hv45 m c (ix2 T z) * Ideal.ofBits .f32 0x3E000000#32) (Fin.ext (by dsimp only <;> omega))

theorem hv68_k_lo (T : Fin 17408) (g : Fin 4) (i : Fin 32) : hv68 m c (ix2 T ⟨256 + (g.val * 64 + i.val), by omega⟩) = hv45 m c (ix2 T i) := by
  rw [hv68_eq, hv62_eq, hv61_eq, hv60_eq, hv46_eq]
  pointwise []
  all_goals (repeat' split)
  all_goals first | (exfalso; omega) | exact congrArg (fun z => hv45 m c (ix2 T z)) (Fin.ext (by dsimp only <;> omega))

theorem hv68_k_hi (T : Fin 17408) (g : Fin 4) (i : Fin 32) : hv68 m c (ix2 T ⟨256 + (g.val * 64 + 32 + i.val), by omega⟩) = hv45 m c (ix2 T i) := by
  rw [hv68_eq, hv62_eq, hv61_eq, hv60_eq, hv46_eq]
  pointwise []
  all_goals (repeat' split)
  all_goals first | (exfalso; omega) | exact congrArg (fun z => hv45 m c (ix2 T z)) (Fin.ext (by dsimp only <;> omega))

theorem hv71_q_lo (T : Fin 17408) (g : Fin 4) (i : Fin 32) : hv71 m c (ix2 T ⟨(g.val * 64 + i.val), by omega⟩) = hv47 m c (ix2 T i) * Ideal.ofBits .f32 0x3E000000#32 := by
  rw [hv71_eq, hv70_eq, hv65_eq, hv64_eq, hv63_eq, hv48_eq, hv69_eq, hcst_13_eq]
  pointwise []
  all_goals (repeat' split)
  all_goals first | (exfalso; omega) | exact congrArg (fun z => hv47 m c (ix2 T z) * Ideal.ofBits .f32 0x3E000000#32) (Fin.ext (by dsimp only <;> omega))

theorem hv71_q_hi (T : Fin 17408) (g : Fin 4) (i : Fin 32) : hv71 m c (ix2 T ⟨(g.val * 64 + 32 + i.val), by omega⟩) = hv47 m c (ix2 T i) * Ideal.ofBits .f32 0x3E000000#32 := by
  rw [hv71_eq, hv70_eq, hv65_eq, hv64_eq, hv63_eq, hv48_eq, hv69_eq, hcst_13_eq]
  pointwise []
  all_goals (repeat' split)
  all_goals first | (exfalso; omega) | exact congrArg (fun z => hv47 m c (ix2 T z) * Ideal.ofBits .f32 0x3E000000#32) (Fin.ext (by dsimp only <;> omega))

theorem hv71_k_lo (T : Fin 17408) (g : Fin 4) (i : Fin 32) : hv71 m c (ix2 T ⟨256 + (g.val * 64 + i.val), by omega⟩) = hv47 m c (ix2 T i) := by
  rw [hv71_eq, hv65_eq, hv64_eq, hv63_eq, hv48_eq]
  pointwise []
  all_goals (repeat' split)
  all_goals first | (exfalso; omega) | exact congrArg (fun z => hv47 m c (ix2 T z)) (Fin.ext (by dsimp only <;> omega))

theorem hv71_k_hi (T : Fin 17408) (g : Fin 4) (i : Fin 32) : hv71 m c (ix2 T ⟨256 + (g.val * 64 + 32 + i.val), by omega⟩) = hv47 m c (ix2 T i) := by
  rw [hv71_eq, hv65_eq, hv64_eq, hv63_eq, hv48_eq]
  pointwise []
  all_goals (repeat' split)
  all_goals first | (exfalso; omega) | exact congrArg (fun z => hv47 m c (ix2 T z)) (Fin.ext (by dsimp only <;> omega))

set_option maxRecDepth 200000 in
theorem hv10_at (T : Fin 17408) : hv10 m c (ix1 T)
    = if T.val < 16384 then BitVec.ofNat 32 (T.val % 4096) else IntOp.addi 8192#32 (BitVec.ofNat 32 ((T.val - 16384) % 8)) := by
  rw [hv10_eq, hv9_eq, hv8_eq, hv7_eq, hv6_eq, hv5_eq, hc_eq, hv4_eq, hv3_eq, hv2_eq, hv1_eq, hv0_eq]
  pointwise []
  (repeat' split) <;> first | rfl | (exfalso; omega)

theorem hv22_at (i : Fin 16) : hv22 m c (ix1 i) = Ideal.pow (Ideal.ofBits .f32 0x461C4000#32)
    (Ideal.div (-(Ideal.ofBits .f32 0x40000000#32 * (FloatOps.sitofp (F := Ideal) .f32 (BitVec.ofNat 32 i.val) : EReal))) (Ideal.ofBits .f32 0x42000000#32)) := by
  rw [hv22_eq, hv21_eq, hcst_2_eq, hv20_eq, hv19_eq, hcst_1_eq, hv18_eq, hv17_eq, hv16_eq, hcst_0_eq, hv15_eq, hv14_eq, hcst_eq, hv13_eq]
  pointwise []

theorem hv40_at (i : Fin 32) : hv40 m c (ix1 i) = Ideal.pow (Ideal.ofBits .f32 0x461C4000#32)
    (Ideal.div (-(Ideal.ofBits .f32 0x40000000#32 * (FloatOps.sitofp (F := Ideal) .f32 (BitVec.ofNat 32 i.val) : EReal))) (Ideal.ofBits .f32 0x42800000#32)) := by
  rw [hv40_eq, hv39_eq, hcst_6_eq, hv38_eq, hv37_eq, hcst_5_eq, hv36_eq, hv35_eq, hv34_eq, hcst_4_eq, hv33_eq, hv32_eq, hcst_3_eq, hv31_eq]
  pointwise []

theorem hv26_at (T : Fin 17408) (i : Fin 16) : hv26 m c (ix2 T i) = FloatOps.sitofp .f32 (hv10 m c (ix1 T)) * hv22 m c (ix1 i) := by
  rw [hv26_eq, hv24_eq, hv12_eq, hv11_eq, hv25_eq, hv23_eq]
  pointwise []

theorem hv44_at (T : Fin 17408) (i : Fin 32) : hv44 m c (ix2 T i) = FloatOps.sitofp .f32 (hv10 m c (ix1 T)) * hv40 m c (ix1 i) := by
  rw [hv44_eq, hv42_eq, hv12_eq, hv11_eq, hv43_eq, hv41_eq]
  pointwise []

end Cert.Kernel3Ideal.Proj

end
-- ==== Proof.ProjHostWeights.lean ====
module

public import proofs.«01_k».proof.Proof.ProjHost

/-!
  The host code that arranges the weights: which operation wrote each buffer, and from which others.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen

variable (m : (ℓ : Loc nD τ sig) → Buf (Elt Ideal) ℓ) (c : Dev nD)

/-- A function of 3 arguments has equal values at equal arguments. -/
theorem congr3 {A0 A1 A2 D : Type} (f : A0 → A1 → A2 → D) {x0 y0 : A0} {x1 y1 : A1} {x2 y2 : A2} (h0 : x0 = y0) (h1 : x1 = y1) (h2 : x2 = y2) :
    f x0 x1 x2 = f y0 y1 y2 := by
  subst h0 h1 h2
  rfl

/-- A function of 4 arguments has equal values at equal arguments. -/
theorem congr4 {A0 A1 A2 A3 D : Type} (f : A0 → A1 → A2 → A3 → D) {x0 y0 : A0} {x1 y1 : A1} {x2 y2 : A2} {x3 y3 : A3} (h0 : x0 = y0) (h1 : x1 = y1) (h2 : x2 = y2) (h3 : x3 = y3) :
    f x0 x1 x2 x3 = f y0 y1 y2 y3 := by
  subst h0 h1 h2 h3
  rfl

/-- A function of 14 arguments has equal values at equal arguments. -/
theorem congr14 {A0 A1 A2 A3 A4 A5 A6 A7 A8 A9 A10 A11 A12 A13 D : Type} (f : A0 → A1 → A2 → A3 → A4 → A5 → A6 → A7 → A8 → A9 → A10 → A11 → A12 → A13 → D) {x0 y0 : A0} {x1 y1 : A1} {x2 y2 : A2} {x3 y3 : A3} {x4 y4 : A4} {x5 y5 : A5} {x6 y6 : A6} {x7 y7 : A7} {x8 y8 : A8} {x9 y9 : A9} {x10 y10 : A10} {x11 y11 : A11} {x12 y12 : A12} {x13 y13 : A13} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    f x0 x1 x2 x3 x4 x5 x6 x7 x8 x9 x10 x11 x12 x13 = f y0 y1 y2 y3 y4 y5 y6 y7 y8 y9 y10 y11 y12 y13 := by
  subst h0 h1 h2 h3 h4 h5 h6 h7 h8 h9 h10 h11 h12 h13
  rfl

theorem hv72_eq : hv72 m c = extractStridedSlice S1024x256 ![0, 0] (harg2 m c) slices_S1024x4896_S1024x256_0_0 :=
  (V_at m c 88 rfl (by decide +kernel)).trans ((StableHlo.unary_result' ..).trans (congrArg (fun v : FVec Ideal S1024x4896 .f32 => extractStridedSlice S1024x256 ![0, 0] v slices_S1024x4896_S1024x256_0_0) (upto_V m c (by decide +kernel))))

theorem hv73_eq : hv73 m c = extractStridedSlice S1024x256 ![0, 256] (harg2 m c) slices_S1024x4896_S1024x256_0_256 :=
  (V_at m c 89 rfl (by decide +kernel)).trans ((StableHlo.unary_result' ..).trans (congrArg (fun v : FVec Ideal S1024x4896 .f32 => extractStridedSlice S1024x256 ![0, 256] v slices_S1024x4896_S1024x256_0_256) (upto_V m c (by decide +kernel))))

theorem hv74_eq : hv74 m c = extractStridedSlice S1024x32 ![0, 512] (harg2 m c) slices_S1024x4896_S1024x32_0_512 :=
  (V_at m c 90 rfl (by decide +kernel)).trans ((StableHlo.unary_result' ..).trans (congrArg (fun v : FVec Ideal S1024x4896 .f32 => extractStridedSlice S1024x32 ![0, 512] v slices_S1024x4896_S1024x32_0_512) (upto_V m c (by decide +kernel))))

theorem hv75_eq : hv75 m c = extractStridedSlice S1024x256 ![0, 544] (harg2 m c) slices_S1024x4896_S1024x256_0_544 :=
  (V_at m c 91 rfl (by decide +kernel)).trans ((StableHlo.unary_result' ..).trans (congrArg (fun v : FVec Ideal S1024x4896 .f32 => extractStridedSlice S1024x256 ![0, 544] v slices_S1024x4896_S1024x256_0_544) (upto_V m c (by decide +kernel))))

theorem hv76_eq : hv76 m c = extractStridedSlice S1024x256 ![0, 800] (harg2 m c) slices_S1024x4896_S1024x256_0_800 :=
  (V_at m c 92 rfl (by decide +kernel)).trans ((StableHlo.unary_result' ..).trans (congrArg (fun v : FVec Ideal S1024x4896 .f32 => extractStridedSlice S1024x256 ![0, 800] v slices_S1024x4896_S1024x256_0_800) (upto_V m c (by decide +kernel))))

theorem hv77_eq : hv77 m c = extractStridedSlice S1024x256 ![0, 1056] (harg2 m c) slices_S1024x4896_S1024x256_0_1056 :=
  (V_at m c 93 rfl (by decide +kernel)).trans ((StableHlo.unary_result' ..).trans (congrArg (fun v : FVec Ideal S1024x4896 .f32 => extractStridedSlice S1024x256 ![0, 1056] v slices_S1024x4896_S1024x256_0_1056) (upto_V m c (by decide +kernel))))

theorem hv78_eq : hv78 m c = extractStridedSlice S1024x256 ![0, 1312] (harg2 m c) slices_S1024x4896_S1024x256_0_1312 :=
  (V_at m c 94 rfl (by decide +kernel)).trans ((StableHlo.unary_result' ..).trans (congrArg (fun v : FVec Ideal S1024x4896 .f32 => extractStridedSlice S1024x256 ![0, 1312] v slices_S1024x4896_S1024x256_0_1312) (upto_V m c (by decide +kernel))))

theorem hv79_eq : hv79 m c = extractStridedSlice S1024x256 ![0, 1568] (harg2 m c) slices_S1024x4896_S1024x256_0_1568 :=
  (V_at m c 95 rfl (by decide +kernel)).trans ((StableHlo.unary_result' ..).trans (congrArg (fun v : FVec Ideal S1024x4896 .f32 => extractStridedSlice S1024x256 ![0, 1568] v slices_S1024x4896_S1024x256_0_1568) (upto_V m c (by decide +kernel))))

theorem hv80_eq : hv80 m c = extractStridedSlice S1024x3072 ![0, 1824] (harg2 m c) slices_S1024x4896_S1024x3072_0_1824 :=
  (V_at m c 96 rfl (by decide +kernel)).trans ((StableHlo.unary_result' ..).trans (congrArg (fun v : FVec Ideal S1024x4896 .f32 => extractStridedSlice S1024x3072 ![0, 1824] v slices_S1024x4896_S1024x3072_0_1824) (upto_V m c (by decide +kernel))))

theorem hcst_14_eq : hcst_14 m c = constant S_ .f32 0x00000000#32 :=
  (V_at m c 97 rfl (by decide +kernel)).trans (StableHlo.nullary_result' ..)

theorem hv81_eq : hv81 m c = (broadcastInDim S1024x96 ![] bcast_S_S1024x96) (hcst_14 m c) :=
  (V_at m c 98 rfl (by decide +kernel)).trans ((StableHlo.unary_result' ..).trans (congrArg _ (upto_V m c (by decide +kernel))))

theorem hv82_eq : hv82 m c = shapeCast S1024x1x32 (hv74 m c) shapeCasts_S1024x32_S1024x1x32 :=
  (V_at m c 99 rfl (by decide +kernel)).trans ((StableHlo.reshape_result' ..).trans (congrArg (fun v : FVec Ideal S1024x32 .f32 => shapeCast S1024x1x32 v shapeCasts_S1024x32_S1024x1x32) (upto_V m c (by decide +kernel))))

theorem hv83_eq : hv83 m c = extractStridedSlice S1024x1x16 ![0, 0, 16] (hv82 m c) slices_S1024x1x32_S1024x1x16_0_0_16 :=
  (V_at m c 100 rfl (by decide +kernel)).trans ((StableHlo.unary_result' ..).trans (congrArg (fun v : FVec Ideal S1024x1x32 .f32 => extractStridedSlice S1024x1x16 ![0, 0, 16] v slices_S1024x1x32_S1024x1x16_0_0_16) (upto_V m c (by decide +kernel))))

theorem hv84_eq : hv84 m c = (Host.negf) (hv83 m c) :=
  (V_at m c 101 rfl (by decide +kernel)).trans ((StableHlo.unary_result' ..).trans (congrArg _ (upto_V m c (by decide +kernel))))

theorem hv85_eq : hv85 m c = extractStridedSlice S1024x1x16 ![0, 0, 0] (hv82 m c) slices_S1024x1x32_S1024x1x16_0_0_0 :=
  (V_at m c 102 rfl (by decide +kernel)).trans ((StableHlo.unary_result' ..).trans (congrArg (fun v : FVec Ideal S1024x1x32 .f32 => extractStridedSlice S1024x1x16 ![0, 0, 0] v slices_S1024x1x32_S1024x1x16_0_0_0) (upto_V m c (by decide +kernel))))

theorem hv86_eq : hv86 m c = concatenate S1024x1x32 2 [⟨S1024x1x16, hv84 m c⟩, ⟨S1024x1x16, hv85 m c⟩] concatenates_S1024x1x16_S1024x1x16_S1024x1x32_d2 :=
  (V_at m c 103 rfl (by decide +kernel)).trans ((StableHlo.binary_result' ..).trans (congrArg₂ (fun (a : FVec Ideal S1024x1x16 .f32) (b : FVec Ideal S1024x1x16 .f32) => concatenate S1024x1x32 2 [⟨S1024x1x16, a⟩, ⟨S1024x1x16, b⟩] concatenates_S1024x1x16_S1024x1x16_S1024x1x32_d2) (upto_V m c (by decide +kernel)) (upto_V m c (by decide +kernel))))

theorem hv87_eq : hv87 m c = shapeCast S1024x32 (hv86 m c) shapeCasts_S1024x1x32_S1024x32 :=
  (V_at m c 104 rfl (by decide +kernel)).trans ((StableHlo.reshape_result' ..).trans (congrArg (fun v : FVec Ideal S1024x1x32 .f32 => shapeCast S1024x32 v shapeCasts_S1024x1x32_S1024x32) (upto_V m c (by decide +kernel))))

theorem hv88_eq : hv88 m c = shapeCast S1024x4x64 (hv75 m c) shapeCasts_S1024x256_S1024x4x64 :=
  (V_at m c 105 rfl (by decide +kernel)).trans ((StableHlo.reshape_result' ..).trans (congrArg (fun v : FVec Ideal S1024x256 .f32 => shapeCast S1024x4x64 v shapeCasts_S1024x256_S1024x4x64) (upto_V m c (by decide +kernel))))

theorem hv89_eq : hv89 m c = extractStridedSlice S1024x4x32 ![0, 0, 32] (hv88 m c) slices_S1024x4x64_S1024x4x32_0_0_32 :=
  (V_at m c 106 rfl (by decide +kernel)).trans ((StableHlo.unary_result' ..).trans (congrArg (fun v : FVec Ideal S1024x4x64 .f32 => extractStridedSlice S1024x4x32 ![0, 0, 32] v slices_S1024x4x64_S1024x4x32_0_0_32) (upto_V m c (by decide +kernel))))

theorem hv90_eq : hv90 m c = (Host.negf) (hv89 m c) :=
  (V_at m c 107 rfl (by decide +kernel)).trans ((StableHlo.unary_result' ..).trans (congrArg _ (upto_V m c (by decide +kernel))))

theorem hv91_eq : hv91 m c = extractStridedSlice S1024x4x32 ![0, 0, 0] (hv88 m c) slices_S1024x4x64_S1024x4x32_0_0_0 :=
  (V_at m c 108 rfl (by decide +kernel)).trans ((StableHlo.unary_result' ..).trans (congrArg (fun v : FVec Ideal S1024x4x64 .f32 => extractStridedSlice S1024x4x32 ![0, 0, 0] v slices_S1024x4x64_S1024x4x32_0_0_0) (upto_V m c (by decide +kernel))))

theorem hv92_eq : hv92 m c = concatenate S1024x4x64 2 [⟨S1024x4x32, hv90 m c⟩, ⟨S1024x4x32, hv91 m c⟩] concatenates_S1024x4x32_S1024x4x32_S1024x4x64_d2 :=
  (V_at m c 109 rfl (by decide +kernel)).trans ((StableHlo.binary_result' ..).trans (congrArg₂ (fun (a : FVec Ideal S1024x4x32 .f32) (b : FVec Ideal S1024x4x32 .f32) => concatenate S1024x4x64 2 [⟨S1024x4x32, a⟩, ⟨S1024x4x32, b⟩] concatenates_S1024x4x32_S1024x4x32_S1024x4x64_d2) (upto_V m c (by decide +kernel)) (upto_V m c (by decide +kernel))))

theorem hv93_eq : hv93 m c = shapeCast S1024x256 (hv92 m c) shapeCasts_S1024x4x64_S1024x256 :=
  (V_at m c 110 rfl (by decide +kernel)).trans ((StableHlo.reshape_result' ..).trans (congrArg (fun v : FVec Ideal S1024x4x64 .f32 => shapeCast S1024x256 v shapeCasts_S1024x4x64_S1024x256) (upto_V m c (by decide +kernel))))

theorem hv94_eq : hv94 m c = shapeCast S1024x4x64 (hv76 m c) shapeCasts_S1024x256_S1024x4x64 :=
  (V_at m c 111 rfl (by decide +kernel)).trans ((StableHlo.reshape_result' ..).trans (congrArg (fun v : FVec Ideal S1024x256 .f32 => shapeCast S1024x4x64 v shapeCasts_S1024x256_S1024x4x64) (upto_V m c (by decide +kernel))))

theorem hv95_eq : hv95 m c = extractStridedSlice S1024x4x32 ![0, 0, 32] (hv94 m c) slices_S1024x4x64_S1024x4x32_0_0_32 :=
  (V_at m c 112 rfl (by decide +kernel)).trans ((StableHlo.unary_result' ..).trans (congrArg (fun v : FVec Ideal S1024x4x64 .f32 => extractStridedSlice S1024x4x32 ![0, 0, 32] v slices_S1024x4x64_S1024x4x32_0_0_32) (upto_V m c (by decide +kernel))))

theorem hv96_eq : hv96 m c = (Host.negf) (hv95 m c) :=
  (V_at m c 113 rfl (by decide +kernel)).trans ((StableHlo.unary_result' ..).trans (congrArg _ (upto_V m c (by decide +kernel))))

theorem hv97_eq : hv97 m c = extractStridedSlice S1024x4x32 ![0, 0, 0] (hv94 m c) slices_S1024x4x64_S1024x4x32_0_0_0 :=
  (V_at m c 114 rfl (by decide +kernel)).trans ((StableHlo.unary_result' ..).trans (congrArg (fun v : FVec Ideal S1024x4x64 .f32 => extractStridedSlice S1024x4x32 ![0, 0, 0] v slices_S1024x4x64_S1024x4x32_0_0_0) (upto_V m c (by decide +kernel))))

theorem hv98_eq : hv98 m c = concatenate S1024x4x64 2 [⟨S1024x4x32, hv96 m c⟩, ⟨S1024x4x32, hv97 m c⟩] concatenates_S1024x4x32_S1024x4x32_S1024x4x64_d2 :=
  (V_at m c 115 rfl (by decide +kernel)).trans ((StableHlo.binary_result' ..).trans (congrArg₂ (fun (a : FVec Ideal S1024x4x32 .f32) (b : FVec Ideal S1024x4x32 .f32) => concatenate S1024x4x64 2 [⟨S1024x4x32, a⟩, ⟨S1024x4x32, b⟩] concatenates_S1024x4x32_S1024x4x32_S1024x4x64_d2) (upto_V m c (by decide +kernel)) (upto_V m c (by decide +kernel))))

theorem hv99_eq : hv99 m c = shapeCast S1024x256 (hv98 m c) shapeCasts_S1024x4x64_S1024x256 :=
  (V_at m c 116 rfl (by decide +kernel)).trans ((StableHlo.reshape_result' ..).trans (congrArg (fun v : FVec Ideal S1024x4x64 .f32 => shapeCast S1024x256 v shapeCasts_S1024x4x64_S1024x256) (upto_V m c (by decide +kernel))))

theorem hv100_eq : hv100 m c = concatenate S1024x5632 1 [⟨S1024x256, hv72 m c⟩, ⟨S1024x256, hv73 m c⟩, ⟨S1024x32, hv74 m c⟩, ⟨S1024x96, hv81 m c⟩, ⟨S1024x32, hv87 m c⟩, ⟨S1024x96, hv81 m c⟩, ⟨S1024x256, hv75 m c⟩, ⟨S1024x256, hv93 m c⟩, ⟨S1024x256, hv76 m c⟩, ⟨S1024x256, hv99 m c⟩, ⟨S1024x256, hv77 m c⟩, ⟨S1024x256, hv78 m c⟩, ⟨S1024x256, hv79 m c⟩, ⟨S1024x3072, hv80 m c⟩] concatenates_S1024x256_S1024x256_S1024x32_S1024x96_S1024x32_S1024x96_S1024x256_S1024x256_S1024x256_S1024x256_S1024x256_S1024x256_S1024x256_S1024x3072_S1024x5632_d1 :=
  (V_at m c 117 rfl (by decide +kernel)).trans ((StableHlo.nary_result' ..).trans (congr14 (fun (a0 : FVec Ideal S1024x256 .f32) (a1 : FVec Ideal S1024x256 .f32) (a2 : FVec Ideal S1024x32 .f32) (a3 : FVec Ideal S1024x96 .f32) (a4 : FVec Ideal S1024x32 .f32) (a5 : FVec Ideal S1024x96 .f32) (a6 : FVec Ideal S1024x256 .f32) (a7 : FVec Ideal S1024x256 .f32) (a8 : FVec Ideal S1024x256 .f32) (a9 : FVec Ideal S1024x256 .f32) (a10 : FVec Ideal S1024x256 .f32) (a11 : FVec Ideal S1024x256 .f32) (a12 : FVec Ideal S1024x256 .f32) (a13 : FVec Ideal S1024x3072 .f32) => concatenate S1024x5632 1 [⟨S1024x256, a0⟩, ⟨S1024x256, a1⟩, ⟨S1024x32, a2⟩, ⟨S1024x96, a3⟩, ⟨S1024x32, a4⟩, ⟨S1024x96, a5⟩, ⟨S1024x256, a6⟩, ⟨S1024x256, a7⟩, ⟨S1024x256, a8⟩, ⟨S1024x256, a9⟩, ⟨S1024x256, a10⟩, ⟨S1024x256, a11⟩, ⟨S1024x256, a12⟩, ⟨S1024x3072, a13⟩] concatenates_S1024x256_S1024x256_S1024x32_S1024x96_S1024x32_S1024x96_S1024x256_S1024x256_S1024x256_S1024x256_S1024x256_S1024x256_S1024x256_S1024x3072_S1024x5632_d1) (upto_V m c (i := 117) (r := main_v72) (by decide +kernel)) (upto_V m c (i := 117) (r := main_v73) (by decide +kernel)) (upto_V m c (i := 117) (r := main_v74) (by decide +kernel)) (upto_V m c (i := 117) (r := main_v81) (by decide +kernel)) (upto_V m c (i := 117) (r := main_v87) (by decide +kernel)) (upto_V m c (i := 117) (r := main_v81) (by decide +kernel)) (upto_V m c (i := 117) (r := main_v75) (by decide +kernel)) (upto_V m c (i := 117) (r := main_v93) (by decide +kernel)) (upto_V m c (i := 117) (r := main_v76) (by decide +kernel)) (upto_V m c (i := 117) (r := main_v99) (by decide +kernel)) (upto_V m c (i := 117) (r := main_v77) (by decide +kernel)) (upto_V m c (i := 117) (r := main_v78) (by decide +kernel)) (upto_V m c (i := 117) (r := main_v79) (by decide +kernel)) (upto_V m c (i := 117) (r := main_v80) (by decide +kernel))))

theorem hv101_eq : hv101 m c = truncf .bf16 (hv100 m c) bitsLt_bf16_f32 :=
  (V_at m c 118 rfl (by decide +kernel)).trans ((StableHlo.unary_result' ..).trans (congrArg (fun v : FVec Ideal S1024x5632 .f32 => truncf .bf16 v bitsLt_bf16_f32) (upto_V m c (by decide +kernel))))

theorem hv102_eq : hv102 m c = shapeCast S256x8x96 (harg4 m c) shapeCasts_S256x768_S256x8x96 :=
  (V_at m c 119 rfl (by decide +kernel)).trans ((StableHlo.reshape_result' ..).trans (congrArg (fun v : FVec Ideal S256x768 .f32 => shapeCast S256x8x96 v shapeCasts_S256x768_S256x8x96) (upto_V m c (by decide +kernel))))

theorem hv103_eq : hv103 m c = extractStridedSlice S256x8x64 ![0, 0, 0] (hv102 m c) slices_S256x8x96_S256x8x64_0_0_0 :=
  (V_at m c 120 rfl (by decide +kernel)).trans ((StableHlo.unary_result' ..).trans (congrArg (fun v : FVec Ideal S256x8x96 .f32 => extractStridedSlice S256x8x64 ![0, 0, 0] v slices_S256x8x96_S256x8x64_0_0_0) (upto_V m c (by decide +kernel))))

theorem hv104_eq : hv104 m c = extractStridedSlice S256x8x32 ![0, 0, 64] (hv102 m c) slices_S256x8x96_S256x8x32_0_0_64 :=
  (V_at m c 121 rfl (by decide +kernel)).trans ((StableHlo.unary_result' ..).trans (congrArg (fun v : FVec Ideal S256x8x96 .f32 => extractStridedSlice S256x8x32 ![0, 0, 64] v slices_S256x8x96_S256x8x32_0_0_64) (upto_V m c (by decide +kernel))))

theorem hcst_15_eq : hcst_15 m c = constant S_ .f32 0x00000000#32 :=
  (V_at m c 122 rfl (by decide +kernel)).trans (StableHlo.nullary_result' ..)

theorem hv105_eq : hv105 m c = (broadcastInDim S256x8x64 ![] bcast_S_S256x8x64) (hcst_15 m c) :=
  (V_at m c 123 rfl (by decide +kernel)).trans ((StableHlo.unary_result' ..).trans (congrArg _ (upto_V m c (by decide +kernel))))

theorem hcst_16_eq : hcst_16 m c = constant S_ .f32 0x00000000#32 :=
  (V_at m c 124 rfl (by decide +kernel)).trans (StableHlo.nullary_result' ..)

theorem hv106_eq : hv106 m c = (broadcastInDim S256x8x96 ![] bcast_S_S256x8x96) (hcst_16 m c) :=
  (V_at m c 125 rfl (by decide +kernel)).trans ((StableHlo.unary_result' ..).trans (congrArg _ (upto_V m c (by decide +kernel))))

theorem hcst_17_eq : hcst_17 m c = constant S_ .f32 0x00000000#32 :=
  (V_at m c 126 rfl (by decide +kernel)).trans (StableHlo.nullary_result' ..)

theorem hv107_eq : hv107 m c = (broadcastInDim S256x8x128 ![] bcast_S_S256x8x128) (hcst_17 m c) :=
  (V_at m c 127 rfl (by decide +kernel)).trans ((StableHlo.unary_result' ..).trans (congrArg _ (upto_V m c (by decide +kernel))))

theorem hv108_eq : hv108 m c = extractStridedSlice S256x8x16 ![0, 0, 16] (hv104 m c) slices_S256x8x32_S256x8x16_0_0_16 :=
  (V_at m c 128 rfl (by decide +kernel)).trans ((StableHlo.unary_result' ..).trans (congrArg (fun v : FVec Ideal S256x8x32 .f32 => extractStridedSlice S256x8x16 ![0, 0, 16] v slices_S256x8x32_S256x8x16_0_0_16) (upto_V m c (by decide +kernel))))

theorem hv109_eq : hv109 m c = (Host.negf) (hv108 m c) :=
  (V_at m c 129 rfl (by decide +kernel)).trans ((StableHlo.unary_result' ..).trans (congrArg _ (upto_V m c (by decide +kernel))))

theorem hv110_eq : hv110 m c = extractStridedSlice S256x8x16 ![0, 0, 0] (hv104 m c) slices_S256x8x32_S256x8x16_0_0_0 :=
  (V_at m c 130 rfl (by decide +kernel)).trans ((StableHlo.unary_result' ..).trans (congrArg (fun v : FVec Ideal S256x8x32 .f32 => extractStridedSlice S256x8x16 ![0, 0, 0] v slices_S256x8x32_S256x8x16_0_0_0) (upto_V m c (by decide +kernel))))

theorem hv111_eq : hv111 m c = concatenate S256x8x32 2 [⟨S256x8x16, hv109 m c⟩, ⟨S256x8x16, hv110 m c⟩] concatenates_S256x8x16_S256x8x16_S256x8x32_d2 :=
  (V_at m c 131 rfl (by decide +kernel)).trans ((StableHlo.binary_result' ..).trans (congrArg₂ (fun (a : FVec Ideal S256x8x16 .f32) (b : FVec Ideal S256x8x16 .f32) => concatenate S256x8x32 2 [⟨S256x8x16, a⟩, ⟨S256x8x16, b⟩] concatenates_S256x8x16_S256x8x16_S256x8x32_d2) (upto_V m c (by decide +kernel)) (upto_V m c (by decide +kernel))))

theorem hv112_eq : hv112 m c = concatenate S256x8x256 2 [⟨S256x8x64, hv103 m c⟩, ⟨S256x8x64, hv105 m c⟩, ⟨S256x8x32, hv104 m c⟩, ⟨S256x8x96, hv106 m c⟩] concatenates_S256x8x64_S256x8x64_S256x8x32_S256x8x96_S256x8x256_d2 :=
  (V_at m c 132 rfl (by decide +kernel)).trans ((StableHlo.nary_result' ..).trans (congr4 (fun (a0 : FVec Ideal S256x8x64 .f32) (a1 : FVec Ideal S256x8x64 .f32) (a2 : FVec Ideal S256x8x32 .f32) (a3 : FVec Ideal S256x8x96 .f32) => concatenate S256x8x256 2 [⟨S256x8x64, a0⟩, ⟨S256x8x64, a1⟩, ⟨S256x8x32, a2⟩, ⟨S256x8x96, a3⟩] concatenates_S256x8x64_S256x8x64_S256x8x32_S256x8x96_S256x8x256_d2) (upto_V m c (i := 132) (r := main_v103) (by decide +kernel)) (upto_V m c (i := 132) (r := main_v105) (by decide +kernel)) (upto_V m c (i := 132) (r := main_v104) (by decide +kernel)) (upto_V m c (i := 132) (r := main_v106) (by decide +kernel))))

theorem hv113_eq : hv113 m c = shapeCast S256x2048 (hv112 m c) shapeCasts_S256x8x256_S256x2048 :=
  (V_at m c 133 rfl (by decide +kernel)).trans ((StableHlo.reshape_result' ..).trans (congrArg (fun v : FVec Ideal S256x8x256 .f32 => shapeCast S256x2048 v shapeCasts_S256x8x256_S256x2048) (upto_V m c (by decide +kernel))))

theorem hv114_eq : hv114 m c = concatenate S256x8x256 2 [⟨S256x8x128, hv107 m c⟩, ⟨S256x8x32, hv111 m c⟩, ⟨S256x8x96, hv106 m c⟩] concatenates_S256x8x128_S256x8x32_S256x8x96_S256x8x256_d2 :=
  (V_at m c 134 rfl (by decide +kernel)).trans ((StableHlo.nary_result' ..).trans (congr3 (fun (a0 : FVec Ideal S256x8x128 .f32) (a1 : FVec Ideal S256x8x32 .f32) (a2 : FVec Ideal S256x8x96 .f32) => concatenate S256x8x256 2 [⟨S256x8x128, a0⟩, ⟨S256x8x32, a1⟩, ⟨S256x8x96, a2⟩] concatenates_S256x8x128_S256x8x32_S256x8x96_S256x8x256_d2) (upto_V m c (i := 134) (r := main_v107) (by decide +kernel)) (upto_V m c (i := 134) (r := main_v111) (by decide +kernel)) (upto_V m c (i := 134) (r := main_v106) (by decide +kernel))))

theorem hv115_eq : hv115 m c = shapeCast S256x2048 (hv114 m c) shapeCasts_S256x8x256_S256x2048 :=
  (V_at m c 135 rfl (by decide +kernel)).trans ((StableHlo.reshape_result' ..).trans (congrArg (fun v : FVec Ideal S256x8x256 .f32 => shapeCast S256x2048 v shapeCasts_S256x8x256_S256x2048) (upto_V m c (by decide +kernel))))

theorem hv116_eq : hv116 m c = truncf .bf16 (hv113 m c) bitsLt_bf16_f32 :=
  (V_at m c 136 rfl (by decide +kernel)).trans ((StableHlo.unary_result' ..).trans (congrArg (fun v : FVec Ideal S256x2048 .f32 => truncf .bf16 v bitsLt_bf16_f32) (upto_V m c (by decide +kernel))))

theorem hv117_eq : hv117 m c = truncf .bf16 (hv115 m c) bitsLt_bf16_f32 :=
  (V_at m c 137 rfl (by decide +kernel)).trans ((StableHlo.unary_result' ..).trans (congrArg (fun v : FVec Ideal S256x2048 .f32 => truncf .bf16 v bitsLt_bf16_f32) (upto_V m c (by decide +kernel))))

end Cert.Kernel3Ideal.Proj
-- ==== Proof.ProjWeights.lean ====
module

public import proofs.«01_k».proof.Proof.ProjHostWeights
public import Idealize.ShloMosaic.Lib.Pointwise

/-!
The columns of the weights that the projections' kernel is handed, in terms of the arguments: the input weights with the columns that
get turned repeated, halves swapped and one half negated, and the queries' weights laid out by heads.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen

variable (m : (ℓ : Loc nD τ sig) → Buf (Elt Ideal) ℓ) (c : Dev nD)

/-- A concatenation read at an index is its pieces read at the axis coordinate. -/
theorem cat_start {α : Type} (t : Shape) (a : Fin t.rank) (xs : List ((s : Shape) × (s.Idx → α))) (h : Shape.Concatenates (xs.map (·.1)) t a)
    (j : t.Idx) (n : ℕ) (hn : (j a).val = n) : concatenate t a xs h j = concatenateAt t a j xs h.2.1 n (by rw [h.2.2, ← hn]; exact (j a).isLt) := by
  subst hn
  exact concatenate_apply t a xs h j

/-- A coordinate past the first piece falls in the others. -/
theorem cat_skip {α : Type} {t s : Shape} (a : Fin t.rank) (j : t.Idx) (x : s.Idx → α) (q : (s : Shape) × (s.Idx → α)) (xs : List ((s : Shape) × (s.Idx → α)))
    (hs : ∀ s' ∈ (⟨s, x⟩ :: q :: xs : List ((s : Shape) × (s.Idx → α))).map (·.1), s'.FitsOff t a) (c : ℕ) (hc : c < (axisSizes t a (⟨s, x⟩ :: q :: xs)).sum)
    (n c' : ℕ) (hn : s.size (a.cast (hs s List.mem_cons_self).rank_eq.symm) = n) (h : c = n + c') :
    concatenateAt t a j (⟨s, x⟩ :: q :: xs) hs c hc = concatenateAt t a j (q :: xs) (fun s' h => hs s' (List.mem_cons_of_mem _ h)) c'
      (by rw [axisSizes_cons t a ⟨s, x⟩ (q :: xs) (hs s List.mem_cons_self), List.sum_cons] at hc; dsimp only at hc; omega) := by
  subst h
  rw [concatenateAt_cons, dif_neg (by omega)]
  have e : n + c' - s.size (a.cast (hs s List.mem_cons_self).rank_eq.symm) = c' := by omega
  simp only [e]

/-- A coordinate within the first piece reads it. -/
theorem cat_hit {α : Type} {t s : Shape} (a : Fin t.rank) (j : t.Idx) (x : s.Idx → α) (q : (s : Shape) × (s.Idx → α)) (xs : List ((s : Shape) × (s.Idx → α)))
    (hs : ∀ s' ∈ (⟨s, x⟩ :: q :: xs : List ((s : Shape) × (s.Idx → α))).map (·.1), s'.FitsOff t a) (c : ℕ) (hc : c < (axisSizes t a (⟨s, x⟩ :: q :: xs)).sum)
    (i : s.Idx) (hi : ∀ b : Fin s.rank, (i b).val = if b.val = a.val then c else (j (b.cast (hs s List.mem_cons_self).rank_eq)).val)
    (h : c < s.size (a.cast (hs s List.mem_cons_self).rank_eq.symm)) :
    concatenateAt t a j (⟨s, x⟩ :: q :: xs) hs c hc = x i := by
  rw [concatenateAt_cons, dif_pos h]
  exact congrArg x (funext fun b => Fin.ext (hi b).symm)

/-- The last piece. -/
theorem cat_last {α : Type} {t s : Shape} (a : Fin t.rank) (j : t.Idx) (x : s.Idx → α)
    (hs : ∀ s' ∈ ([⟨s, x⟩] : List ((s : Shape) × (s.Idx → α))).map (·.1), s'.FitsOff t a) (c : ℕ) (hc : c < (axisSizes t a [⟨s, x⟩]).sum)
    (i : s.Idx) (hi : ∀ b : Fin s.rank, (i b).val = if b.val = a.val then c else (j (b.cast (hs s List.mem_cons_self).rank_eq)).val) :
    concatenateAt t a j [⟨s, x⟩] hs c hc = x i := by
  rw [concatenateAt_singleton]
  exact congrArg x (funext fun b => Fin.ext (hi b).symm)

theorem piece0 (k : Fin 1024) (i : Fin 256) : hv101 m c (ix2 k ⟨ i.val, by omega⟩) = hv72 m c (ix2 k i) := by
  rw [hv101_eq]
  refine Eq.trans (b := hv100 m c (ix2 k ⟨ i.val, by omega⟩)) rfl ?_
  rw [hv100_eq]
  refine (cat_start _ 1 _ _ _ ( i.val) rfl).trans ?_
  exact cat_hit 1 _ _ _ _ _ _ _ (ix2 k i) (fun b => by fin_cases b; exacts [rfl, rfl]) i.isLt

theorem piece1 (k : Fin 1024) (i : Fin 256) : hv101 m c (ix2 k ⟨256 + i.val, by omega⟩) = hv73 m c (ix2 k i) := by
  rw [hv101_eq]
  refine Eq.trans (b := hv100 m c (ix2 k ⟨256 + i.val, by omega⟩)) rfl ?_
  rw [hv100_eq]
  refine (cat_start _ 1 _ _ _ (256 + i.val) rfl).trans ?_
  refine (cat_skip 1 _ _ _ _ _ _ _ 256 ( i.val) rfl (by omega)).trans ?_
  exact cat_hit 1 _ _ _ _ _ _ _ (ix2 k i) (fun b => by fin_cases b; exacts [rfl, rfl]) i.isLt

theorem piece2 (k : Fin 1024) (i : Fin 32) : hv101 m c (ix2 k ⟨512 + i.val, by omega⟩) = hv74 m c (ix2 k i) := by
  rw [hv101_eq]
  refine Eq.trans (b := hv100 m c (ix2 k ⟨512 + i.val, by omega⟩)) rfl ?_
  rw [hv100_eq]
  refine (cat_start _ 1 _ _ _ (512 + i.val) rfl).trans ?_
  refine (cat_skip 1 _ _ _ _ _ _ _ 256 (256 + i.val) rfl (by omega)).trans ?_
  refine (cat_skip 1 _ _ _ _ _ _ _ 256 ( i.val) rfl (by omega)).trans ?_
  exact cat_hit 1 _ _ _ _ _ _ _ (ix2 k i) (fun b => by fin_cases b; exacts [rfl, rfl]) i.isLt

theorem piece3 (k : Fin 1024) (i : Fin 96) : hv101 m c (ix2 k ⟨544 + i.val, by omega⟩) = hv81 m c (ix2 k i) := by
  rw [hv101_eq]
  refine Eq.trans (b := hv100 m c (ix2 k ⟨544 + i.val, by omega⟩)) rfl ?_
  rw [hv100_eq]
  refine (cat_start _ 1 _ _ _ (544 + i.val) rfl).trans ?_
  refine (cat_skip 1 _ _ _ _ _ _ _ 256 (288 + i.val) rfl (by omega)).trans ?_
  refine (cat_skip 1 _ _ _ _ _ _ _ 256 (32 + i.val) rfl (by omega)).trans ?_
  refine (cat_skip 1 _ _ _ _ _ _ _ 32 ( i.val) rfl (by omega)).trans ?_
  exact cat_hit 1 _ _ _ _ _ _ _ (ix2 k i) (fun b => by fin_cases b; exacts [rfl, rfl]) i.isLt

theorem piece4 (k : Fin 1024) (i : Fin 32) : hv101 m c (ix2 k ⟨640 + i.val, by omega⟩) = hv87 m c (ix2 k i) := by
  rw [hv101_eq]
  refine Eq.trans (b := hv100 m c (ix2 k ⟨640 + i.val, by omega⟩)) rfl ?_
  rw [hv100_eq]
  refine (cat_start _ 1 _ _ _ (640 + i.val) rfl).trans ?_
  refine (cat_skip 1 _ _ _ _ _ _ _ 256 (384 + i.val) rfl (by omega)).trans ?_
  refine (cat_skip 1 _ _ _ _ _ _ _ 256 (128 + i.val) rfl (by omega)).trans ?_
  refine (cat_skip 1 _ _ _ _ _ _ _ 32 (96 + i.val) rfl (by omega)).trans ?_
  refine (cat_skip 1 _ _ _ _ _ _ _ 96 ( i.val) rfl (by omega)).trans ?_
  exact cat_hit 1 _ _ _ _ _ _ _ (ix2 k i) (fun b => by fin_cases b; exacts [rfl, rfl]) i.isLt

theorem piece5 (k : Fin 1024) (i : Fin 96) : hv101 m c (ix2 k ⟨672 + i.val, by omega⟩) = hv81 m c (ix2 k i) := by
  rw [hv101_eq]
  refine Eq.trans (b := hv100 m c (ix2 k ⟨672 + i.val, by omega⟩)) rfl ?_
  rw [hv100_eq]
  refine (cat_start _ 1 _ _ _ (672 + i.val) rfl).trans ?_
  refine (cat_skip 1 _ _ _ _ _ _ _ 256 (416 + i.val) rfl (by omega)).trans ?_
  refine (cat_skip 1 _ _ _ _ _ _ _ 256 (160 + i.val) rfl (by omega)).trans ?_
  refine (cat_skip 1 _ _ _ _ _ _ _ 32 (128 + i.val) rfl (by omega)).trans ?_
  refine (cat_skip 1 _ _ _ _ _ _ _ 96 (32 + i.val) rfl (by omega)).trans ?_
  refine (cat_skip 1 _ _ _ _ _ _ _ 32 ( i.val) rfl (by omega)).trans ?_
  exact cat_hit 1 _ _ _ _ _ _ _ (ix2 k i) (fun b => by fin_cases b; exacts [rfl, rfl]) i.isLt

theorem piece6 (k : Fin 1024) (i : Fin 256) : hv101 m c (ix2 k ⟨768 + i.val, by omega⟩) = hv75 m c (ix2 k i) := by
  rw [hv101_eq]
  refine Eq.trans (b := hv100 m c (ix2 k ⟨768 + i.val, by omega⟩)) rfl ?_
  rw [hv100_eq]
  refine (cat_start _ 1 _ _ _ (768 + i.val) rfl).trans ?_
  refine (cat_skip 1 _ _ _ _ _ _ _ 256 (512 + i.val) rfl (by omega)).trans ?_
  refine (cat_skip 1 _ _ _ _ _ _ _ 256 (256 + i.val) rfl (by omega)).trans ?_
  refine (cat_skip 1 _ _ _ _ _ _ _ 32 (224 + i.val) rfl (by omega)).trans ?_
  refine (cat_skip 1 _ _ _ _ _ _ _ 96 (128 + i.val) rfl (by omega)).trans ?_
  refine (cat_skip 1 _ _ _ _ _ _ _ 32 (96 + i.val) rfl (by omega)).trans ?_
  refine (cat_skip 1 _ _ _ _ _ _ _ 96 ( i.val) rfl (by omega)).trans ?_
  exact cat_hit 1 _ _ _ _ _ _ _ (ix2 k i) (fun b => by fin_cases b; exacts [rfl, rfl]) i.isLt

theorem piece7 (k : Fin 1024) (i : Fin 256) : hv101 m c (ix2 k ⟨1024 + i.val, by omega⟩) = hv93 m c (ix2 k i) := by
  rw [hv101_eq]
  refine Eq.trans (b := hv100 m c (ix2 k ⟨1024 + i.val, by omega⟩)) rfl ?_
  rw [hv100_eq]
  refine (cat_start _ 1 _ _ _ (1024 + i.val) rfl).trans ?_
  refine (cat_skip 1 _ _ _ _ _ _ _ 256 (768 + i.val) rfl (by omega)).trans ?_
  refine (cat_skip 1 _ _ _ _ _ _ _ 256 (512 + i.val) rfl (by omega)).trans ?_
  refine (cat_skip 1 _ _ _ _ _ _ _ 32 (480 + i.val) rfl (by omega)).trans ?_
  refine (cat_skip 1 _ _ _ _ _ _ _ 96 (384 + i.val) rfl (by omega)).trans ?_
  refine (cat_skip 1 _ _ _ _ _ _ _ 32 (352 + i.val) rfl (by omega)).trans ?_
  refine (cat_skip 1 _ _ _ _ _ _ _ 96 (256 + i.val) rfl (by omega)).trans ?_
  refine (cat_skip 1 _ _ _ _ _ _ _ 256 ( i.val) rfl (by omega)).trans ?_
  exact cat_hit 1 _ _ _ _ _ _ _ (ix2 k i) (fun b => by fin_cases b; exacts [rfl, rfl]) i.isLt

theorem piece8 (k : Fin 1024) (i : Fin 256) : hv101 m c (ix2 k ⟨1280 + i.val, by omega⟩) = hv76 m c (ix2 k i) := by
  rw [hv101_eq]
  refine Eq.trans (b := hv100 m c (ix2 k ⟨1280 + i.val, by omega⟩)) rfl ?_
  rw [hv100_eq]
  refine (cat_start _ 1 _ _ _ (1280 + i.val) rfl).trans ?_
  refine (cat_skip 1 _ _ _ _ _ _ _ 256 (1024 + i.val) rfl (by omega)).trans ?_
  refine (cat_skip 1 _ _ _ _ _ _ _ 256 (768 + i.val) rfl (by omega)).trans ?_
  refine (cat_skip 1 _ _ _ _ _ _ _ 32 (736 + i.val) rfl (by omega)).trans ?_
  refine (cat_skip 1 _ _ _ _ _ _ _ 96 (640 + i.val) rfl (by omega)).trans ?_
  refine (cat_skip 1 _ _ _ _ _ _ _ 32 (608 + i.val) rfl (by omega)).trans ?_
  refine (cat_skip 1 _ _ _ _ _ _ _ 96 (512 + i.val) rfl (by omega)).trans ?_
  refine (cat_skip 1 _ _ _ _ _ _ _ 256 (256 + i.val) rfl (by omega)).trans ?_
  refine (cat_skip 1 _ _ _ _ _ _ _ 256 ( i.val) rfl (by omega)).trans ?_
  exact cat_hit 1 _ _ _ _ _ _ _ (ix2 k i) (fun b => by fin_cases b; exacts [rfl, rfl]) i.isLt

theorem piece9 (k : Fin 1024) (i : Fin 256) : hv101 m c (ix2 k ⟨1536 + i.val, by omega⟩) = hv99 m c (ix2 k i) := by
  rw [hv101_eq]
  refine Eq.trans (b := hv100 m c (ix2 k ⟨1536 + i.val, by omega⟩)) rfl ?_
  rw [hv100_eq]
  refine (cat_start _ 1 _ _ _ (1536 + i.val) rfl).trans ?_
  refine (cat_skip 1 _ _ _ _ _ _ _ 256 (1280 + i.val) rfl (by omega)).trans ?_
  refine (cat_skip 1 _ _ _ _ _ _ _ 256 (1024 + i.val) rfl (by omega)).trans ?_
  refine (cat_skip 1 _ _ _ _ _ _ _ 32 (992 + i.val) rfl (by omega)).trans ?_
  refine (cat_skip 1 _ _ _ _ _ _ _ 96 (896 + i.val) rfl (by omega)).trans ?_
  refine (cat_skip 1 _ _ _ _ _ _ _ 32 (864 + i.val) rfl (by omega)).trans ?_
  refine (cat_skip 1 _ _ _ _ _ _ _ 96 (768 + i.val) rfl (by omega)).trans ?_
  refine (cat_skip 1 _ _ _ _ _ _ _ 256 (512 + i.val) rfl (by omega)).trans ?_
  refine (cat_skip 1 _ _ _ _ _ _ _ 256 (256 + i.val) rfl (by omega)).trans ?_
  refine (cat_skip 1 _ _ _ _ _ _ _ 256 ( i.val) rfl (by omega)).trans ?_
  exact cat_hit 1 _ _ _ _ _ _ _ (ix2 k i) (fun b => by fin_cases b; exacts [rfl, rfl]) i.isLt

theorem piece10 (k : Fin 1024) (i : Fin 256) : hv101 m c (ix2 k ⟨1792 + i.val, by omega⟩) = hv77 m c (ix2 k i) := by
  rw [hv101_eq]
  refine Eq.trans (b := hv100 m c (ix2 k ⟨1792 + i.val, by omega⟩)) rfl ?_
  rw [hv100_eq]
  refine (cat_start _ 1 _ _ _ (1792 + i.val) rfl).trans ?_
  refine (cat_skip 1 _ _ _ _ _ _ _ 256 (1536 + i.val) rfl (by omega)).trans ?_
  refine (cat_skip 1 _ _ _ _ _ _ _ 256 (1280 + i.val) rfl (by omega)).trans ?_
  refine (cat_skip 1 _ _ _ _ _ _ _ 32 (1248 + i.val) rfl (by omega)).trans ?_
  refine (cat_skip 1 _ _ _ _ _ _ _ 96 (1152 + i.val) rfl (by omega)).trans ?_
  refine (cat_skip 1 _ _ _ _ _ _ _ 32 (1120 + i.val) rfl (by omega)).trans ?_
  refine (cat_skip 1 _ _ _ _ _ _ _ 96 (1024 + i.val) rfl (by omega)).trans ?_
  refine (cat_skip 1 _ _ _ _ _ _ _ 256 (768 + i.val) rfl (by omega)).trans ?_
  refine (cat_skip 1 _ _ _ _ _ _ _ 256 (512 + i.val) rfl (by omega)).trans ?_
  refine (cat_skip 1 _ _ _ _ _ _ _ 256 (256 + i.val) rfl (by omega)).trans ?_
  refine (cat_skip 1 _ _ _ _ _ _ _ 256 ( i.val) rfl (by omega)).trans ?_
  exact cat_hit 1 _ _ _ _ _ _ _ (ix2 k i) (fun b => by fin_cases b; exacts [rfl, rfl]) i.isLt

theorem piece11 (k : Fin 1024) (i : Fin 256) : hv101 m c (ix2 k ⟨2048 + i.val, by omega⟩) = hv78 m c (ix2 k i) := by
  rw [hv101_eq]
  refine Eq.trans (b := hv100 m c (ix2 k ⟨2048 + i.val, by omega⟩)) rfl ?_
  rw [hv100_eq]
  refine (cat_start _ 1 _ _ _ (2048 + i.val) rfl).trans ?_
  refine (cat_skip 1 _ _ _ _ _ _ _ 256 (1792 + i.val) rfl (by omega)).trans ?_
  refine (cat_skip 1 _ _ _ _ _ _ _ 256 (1536 + i.val) rfl (by omega)).trans ?_
  refine (cat_skip 1 _ _ _ _ _ _ _ 32 (1504 + i.val) rfl (by omega)).trans ?_
  refine (cat_skip 1 _ _ _ _ _ _ _ 96 (1408 + i.val) rfl (by omega)).trans ?_
  refine (cat_skip 1 _ _ _ _ _ _ _ 32 (1376 + i.val) rfl (by omega)).trans ?_
  refine (cat_skip 1 _ _ _ _ _ _ _ 96 (1280 + i.val) rfl (by omega)).trans ?_
  refine (cat_skip 1 _ _ _ _ _ _ _ 256 (1024 + i.val) rfl (by omega)).trans ?_
  refine (cat_skip 1 _ _ _ _ _ _ _ 256 (768 + i.val) rfl (by omega)).trans ?_
  refine (cat_skip 1 _ _ _ _ _ _ _ 256 (512 + i.val) rfl (by omega)).trans ?_
  refine (cat_skip 1 _ _ _ _ _ _ _ 256 (256 + i.val) rfl (by omega)).trans ?_
  refine (cat_skip 1 _ _ _ _ _ _ _ 256 ( i.val) rfl (by omega)).trans ?_
  exact cat_hit 1 _ _ _ _ _ _ _ (ix2 k i) (fun b => by fin_cases b; exacts [rfl, rfl]) i.isLt

theorem piece12 (k : Fin 1024) (i : Fin 256) : hv101 m c (ix2 k ⟨2304 + i.val, by omega⟩) = hv79 m c (ix2 k i) := by
  rw [hv101_eq]
  refine Eq.trans (b := hv100 m c (ix2 k ⟨2304 + i.val, by omega⟩)) rfl ?_
  rw [hv100_eq]
  refine (cat_start _ 1 _ _ _ (2304 + i.val) rfl).trans ?_
  refine (cat_skip 1 _ _ _ _ _ _ _ 256 (2048 + i.val) rfl (by omega)).trans ?_
  refine (cat_skip 1 _ _ _ _ _ _ _ 256 (1792 + i.val) rfl (by omega)).trans ?_
  refine (cat_skip 1 _ _ _ _ _ _ _ 32 (1760 + i.val) rfl (by omega)).trans ?_
  refine (cat_skip 1 _ _ _ _ _ _ _ 96 (1664 + i.val) rfl (by omega)).trans ?_
  refine (cat_skip 1 _ _ _ _ _ _ _ 32 (1632 + i.val) rfl (by omega)).trans ?_
  refine (cat_skip 1 _ _ _ _ _ _ _ 96 (1536 + i.val) rfl (by omega)).trans ?_
  refine (cat_skip 1 _ _ _ _ _ _ _ 256 (1280 + i.val) rfl (by omega)).trans ?_
  refine (cat_skip 1 _ _ _ _ _ _ _ 256 (1024 + i.val) rfl (by omega)).trans ?_
  refine (cat_skip 1 _ _ _ _ _ _ _ 256 (768 + i.val) rfl (by omega)).trans ?_
  refine (cat_skip 1 _ _ _ _ _ _ _ 256 (512 + i.val) rfl (by omega)).trans ?_
  refine (cat_skip 1 _ _ _ _ _ _ _ 256 (256 + i.val) rfl (by omega)).trans ?_
  refine (cat_skip 1 _ _ _ _ _ _ _ 256 ( i.val) rfl (by omega)).trans ?_
  exact cat_hit 1 _ _ _ _ _ _ _ (ix2 k i) (fun b => by fin_cases b; exacts [rfl, rfl]) i.isLt

theorem piece13 (k : Fin 1024) (i : Fin 3072) : hv101 m c (ix2 k ⟨2560 + i.val, by omega⟩) = hv80 m c (ix2 k i) := by
  rw [hv101_eq]
  refine Eq.trans (b := hv100 m c (ix2 k ⟨2560 + i.val, by omega⟩)) rfl ?_
  rw [hv100_eq]
  refine (cat_start _ 1 _ _ _ (2560 + i.val) rfl).trans ?_
  refine (cat_skip 1 _ _ _ _ _ _ _ 256 (2304 + i.val) rfl (by omega)).trans ?_
  refine (cat_skip 1 _ _ _ _ _ _ _ 256 (2048 + i.val) rfl (by omega)).trans ?_
  refine (cat_skip 1 _ _ _ _ _ _ _ 32 (2016 + i.val) rfl (by omega)).trans ?_
  refine (cat_skip 1 _ _ _ _ _ _ _ 96 (1920 + i.val) rfl (by omega)).trans ?_
  refine (cat_skip 1 _ _ _ _ _ _ _ 32 (1888 + i.val) rfl (by omega)).trans ?_
  refine (cat_skip 1 _ _ _ _ _ _ _ 96 (1792 + i.val) rfl (by omega)).trans ?_
  refine (cat_skip 1 _ _ _ _ _ _ _ 256 (1536 + i.val) rfl (by omega)).trans ?_
  refine (cat_skip 1 _ _ _ _ _ _ _ 256 (1280 + i.val) rfl (by omega)).trans ?_
  refine (cat_skip 1 _ _ _ _ _ _ _ 256 (1024 + i.val) rfl (by omega)).trans ?_
  refine (cat_skip 1 _ _ _ _ _ _ _ 256 (768 + i.val) rfl (by omega)).trans ?_
  refine (cat_skip 1 _ _ _ _ _ _ _ 256 (512 + i.val) rfl (by omega)).trans ?_
  refine (cat_skip 1 _ _ _ _ _ _ _ 256 (256 + i.val) rfl (by omega)).trans ?_
  refine (cat_skip 1 _ _ _ _ _ _ _ 256 ( i.val) rfl (by omega)).trans ?_
  exact cat_last 1 _ _ _ _ _ (ix2 k i) (fun b => by fin_cases b; exacts [rfl, rfl])

theorem w_q (k : Fin 1024) (j : Fin 256) : hv101 m c (ix2 k ⟨j.val, by omega⟩) = harg2 m c (ix2 k ⟨j.val, by omega⟩) := by
  refine (piece0 m c k ⟨j.val, by omega⟩).trans ?_
  rw [hv72_eq]
  pointwise []
  all_goals (repeat' split)
  all_goals first | (exfalso; omega) | exact congrArg (fun z => harg2 m c (ix2 k z)) (Fin.ext (by dsimp only <;> omega))

theorem w_kv (k : Fin 1024) (j : Fin 256) : hv101 m c (ix2 k ⟨256 + j.val, by omega⟩) = harg2 m c (ix2 k ⟨256 + j.val, by omega⟩) := by
  refine (piece1 m c k ⟨j.val, by omega⟩).trans ?_
  rw [hv73_eq]
  pointwise []
  all_goals (repeat' split)
  all_goals first | (exfalso; omega) | exact congrArg (fun z => harg2 m c (ix2 k z)) (Fin.ext (by dsimp only <;> omega))

theorem w_key (k : Fin 1024) (j : Fin 32) : hv101 m c (ix2 k ⟨512 + j.val, by omega⟩) = harg2 m c (ix2 k ⟨512 + j.val, by omega⟩) := by
  refine (piece2 m c k ⟨j.val, by omega⟩).trans ?_
  rw [hv74_eq]
  pointwise []
  all_goals (repeat' split)
  all_goals first | (exfalso; omega) | exact congrArg (fun z => harg2 m c (ix2 k z)) (Fin.ext (by dsimp only <;> omega))

theorem w_gap (k : Fin 1024) (i : Fin 96) : hv101 m c (ix2 k ⟨544 + i.val, by omega⟩) = Ideal.ofBits .f32 0x00000000#32 := by
  refine (piece3 m c k ⟨i.val, by omega⟩).trans ?_
  rw [hv81_eq, hcst_14_eq]
  pointwise []
  all_goals (repeat' split)
  all_goals first | (exfalso; omega) | rfl

theorem w_key_lo (k : Fin 1024) (i : Fin 16) : hv101 m c (ix2 k ⟨640 + i.val, by omega⟩) = -harg2 m c (ix2 k ⟨512 + (16 + i.val), by omega⟩) := by
  refine (piece4 m c k ⟨i.val, by omega⟩).trans ?_
  rw [hv87_eq, hv86_eq, hv84_eq, hv83_eq, hv82_eq, hv74_eq]
  pointwise []
  all_goals (repeat' split)
  all_goals first | (exfalso; omega) | exact congrArg (fun z => -harg2 m c (ix2 k z)) (Fin.ext (by dsimp only <;> omega))

theorem w_key_hi (k : Fin 1024) (i : Fin 16) : hv101 m c (ix2 k ⟨640 + (16 + i.val), by omega⟩) = harg2 m c (ix2 k ⟨512 + i.val, by omega⟩) := by
  refine (piece4 m c k ⟨16 + i.val, by omega⟩).trans ?_
  rw [hv87_eq, hv86_eq, hv85_eq, hv82_eq, hv74_eq]
  pointwise []
  all_goals (repeat' split)
  all_goals first | (exfalso; omega) | exact congrArg (fun z => harg2 m c (ix2 k z)) (Fin.ext (by dsimp only <;> omega))

theorem w_gap2 (k : Fin 1024) (i : Fin 96) : hv101 m c (ix2 k ⟨672 + i.val, by omega⟩) = Ideal.ofBits .f32 0x00000000#32 := by
  refine (piece5 m c k ⟨i.val, by omega⟩).trans ?_
  rw [hv81_eq, hcst_14_eq]
  pointwise []
  all_goals (repeat' split)
  all_goals first | (exfalso; omega) | rfl

theorem w_mq (k : Fin 1024) (j : Fin 256) : hv101 m c (ix2 k ⟨768 + j.val, by omega⟩) = harg2 m c (ix2 k ⟨544 + j.val, by omega⟩) := by
  refine (piece6 m c k ⟨j.val, by omega⟩).trans ?_
  rw [hv75_eq]
  pointwise []
  all_goals (repeat' split)
  all_goals first | (exfalso; omega) | exact congrArg (fun z => harg2 m c (ix2 k z)) (Fin.ext (by dsimp only <;> omega))

theorem w_mk (k : Fin 1024) (j : Fin 256) : hv101 m c (ix2 k ⟨1280 + j.val, by omega⟩) = harg2 m c (ix2 k ⟨800 + j.val, by omega⟩) := by
  refine (piece8 m c k ⟨j.val, by omega⟩).trans ?_
  rw [hv76_eq]
  pointwise []
  all_goals (repeat' split)
  all_goals first | (exfalso; omega) | exact congrArg (fun z => harg2 m c (ix2 k z)) (Fin.ext (by dsimp only <;> omega))

theorem w_mq_lo (k : Fin 1024) (g : Fin 4) (i : Fin 32) : hv101 m c (ix2 k ⟨1024 + (g.val * 64 + i.val), by omega⟩) = -harg2 m c (ix2 k ⟨544 + (g.val * 64 + (32 + i.val)), by omega⟩) := by
  refine (piece7 m c k ⟨g.val * 64 + i.val, by omega⟩).trans ?_
  rw [hv93_eq, hv92_eq, hv90_eq, hv89_eq, hv88_eq, hv75_eq]
  pointwise []
  all_goals (repeat' split)
  all_goals first | (exfalso; omega) | exact congrArg (fun z => -harg2 m c (ix2 k z)) (Fin.ext (by dsimp only <;> omega))

theorem w_mq_hi (k : Fin 1024) (g : Fin 4) (i : Fin 32) : hv101 m c (ix2 k ⟨1024 + (g.val * 64 + 32 + i.val), by omega⟩) = harg2 m c (ix2 k ⟨544 + (g.val * 64 + i.val), by omega⟩) := by
  refine (piece7 m c k ⟨g.val * 64 + 32 + i.val, by omega⟩).trans ?_
  rw [hv93_eq, hv92_eq, hv91_eq, hv88_eq, hv75_eq]
  pointwise []
  all_goals (repeat' split)
  all_goals first | (exfalso; omega) | exact congrArg (fun z => harg2 m c (ix2 k z)) (Fin.ext (by dsimp only <;> omega))

theorem w_mk_lo (k : Fin 1024) (g : Fin 4) (i : Fin 32) : hv101 m c (ix2 k ⟨1536 + (g.val * 64 + i.val), by omega⟩) = -harg2 m c (ix2 k ⟨800 + (g.val * 64 + (32 + i.val)), by omega⟩) := by
  refine (piece9 m c k ⟨g.val * 64 + i.val, by omega⟩).trans ?_
  rw [hv99_eq, hv98_eq, hv96_eq, hv95_eq, hv94_eq, hv76_eq]
  pointwise []
  all_goals (repeat' split)
  all_goals first | (exfalso; omega) | exact congrArg (fun z => -harg2 m c (ix2 k z)) (Fin.ext (by dsimp only <;> omega))

theorem w_mk_hi (k : Fin 1024) (g : Fin 4) (i : Fin 32) : hv101 m c (ix2 k ⟨1536 + (g.val * 64 + 32 + i.val), by omega⟩) = harg2 m c (ix2 k ⟨800 + (g.val * 64 + i.val), by omega⟩) := by
  refine (piece9 m c k ⟨g.val * 64 + 32 + i.val, by omega⟩).trans ?_
  rw [hv99_eq, hv98_eq, hv97_eq, hv94_eq, hv76_eq]
  pointwise []
  all_goals (repeat' split)
  all_goals first | (exfalso; omega) | exact congrArg (fun z => harg2 m c (ix2 k z)) (Fin.ext (by dsimp only <;> omega))

theorem w_mv (k : Fin 1024) (j : Fin 256) : hv101 m c (ix2 k ⟨1792 + j.val, by omega⟩) = harg2 m c (ix2 k ⟨1056 + j.val, by omega⟩) := by
  refine (piece10 m c k ⟨j.val, by omega⟩).trans ?_
  rw [hv77_eq]
  pointwise []
  all_goals (repeat' split)
  all_goals first | (exfalso; omega) | exact congrArg (fun z => harg2 m c (ix2 k z)) (Fin.ext (by dsimp only <;> omega))

theorem w_v (k : Fin 1024) (j : Fin 256) : hv101 m c (ix2 k ⟨2304 + j.val, by omega⟩) = harg2 m c (ix2 k ⟨1568 + j.val, by omega⟩) := by
  refine (piece12 m c k ⟨j.val, by omega⟩).trans ?_
  rw [hv79_eq]
  pointwise []
  all_goals (repeat' split)
  all_goals first | (exfalso; omega) | exact congrArg (fun z => harg2 m c (ix2 k z)) (Fin.ext (by dsimp only <;> omega))

theorem w_gate (k : Fin 1024) (j : Fin 3072) : hv101 m c (ix2 k ⟨2560 + j.val, by omega⟩) = harg2 m c (ix2 k ⟨1824 + j.val, by omega⟩) := by
  refine (piece13 m c k ⟨j.val, by omega⟩).trans ?_
  rw [hv80_eq]
  pointwise []
  all_goals (repeat' split)
  all_goals first | (exfalso; omega) | exact congrArg (fun z => harg2 m c (ix2 k z)) (Fin.ext (by dsimp only <;> omega))

theorem u_nope (k : Fin 256) (h : Fin 8) (i : Fin 64) : hv116 m c (ix2 k ⟨h.val * 256 + i.val, by omega⟩) = harg4 m c (ix2 k ⟨h.val * 96 + i.val, by omega⟩) := by
  rw [hv116_eq, hv113_eq, hv112_eq, hv103_eq, hv102_eq]
  pointwise []
  all_goals (repeat' split)
  all_goals first | (exfalso; omega) | exact congrArg (fun z => harg4 m c (ix2 k z)) (Fin.ext (by dsimp only <;> omega))

theorem u_gap (k : Fin 256) (h : Fin 8) (i : Fin 64) : hv116 m c (ix2 k ⟨h.val * 256 + 64 + i.val, by omega⟩) = Ideal.ofBits .f32 0x00000000#32 := by
  rw [hv116_eq, hv113_eq, hv112_eq, hv105_eq, hcst_15_eq]
  pointwise []
  all_goals (repeat' split)
  all_goals first | (exfalso; omega) | rfl

theorem u_pe (k : Fin 256) (h : Fin 8) (i : Fin 32) : hv116 m c (ix2 k ⟨h.val * 256 + 128 + i.val, by omega⟩) = harg4 m c (ix2 k ⟨h.val * 96 + (64 + i.val), by omega⟩) := by
  rw [hv116_eq, hv113_eq, hv112_eq, hv104_eq, hv102_eq]
  pointwise []
  all_goals (repeat' split)
  all_goals first | (exfalso; omega) | exact congrArg (fun z => harg4 m c (ix2 k z)) (Fin.ext (by dsimp only <;> omega))

theorem u_pad (k : Fin 256) (h : Fin 8) (i : Fin 96) : hv116 m c (ix2 k ⟨h.val * 256 + 160 + i.val, by omega⟩) = Ideal.ofBits .f32 0x00000000#32 := by
  rw [hv116_eq, hv113_eq, hv112_eq, hv106_eq, hcst_16_eq]
  pointwise []
  all_goals (repeat' split)
  all_goals first | (exfalso; omega) | rfl

theorem v_front (k : Fin 256) (h : Fin 8) (i : Fin 128) : hv117 m c (ix2 k ⟨h.val * 256 + i.val, by omega⟩) = Ideal.ofBits .f32 0x00000000#32 := by
  rw [hv117_eq, hv115_eq, hv114_eq, hv107_eq, hcst_17_eq]
  pointwise []
  all_goals (repeat' split)
  all_goals first | (exfalso; omega) | rfl

theorem v_lo (k : Fin 256) (h : Fin 8) (i : Fin 16) : hv117 m c (ix2 k ⟨h.val * 256 + 128 + i.val, by omega⟩) = -harg4 m c (ix2 k ⟨h.val * 96 + (64 + (16 + i.val)), by omega⟩) := by
  rw [hv117_eq, hv115_eq, hv114_eq, hv111_eq, hv109_eq, hv108_eq, hv104_eq, hv102_eq]
  pointwise []
  all_goals (repeat' split)
  all_goals first | (exfalso; omega) | exact congrArg (fun z => -harg4 m c (ix2 k z)) (Fin.ext (by dsimp only <;> omega))

theorem v_hi (k : Fin 256) (h : Fin 8) (i : Fin 16) : hv117 m c (ix2 k ⟨h.val * 256 + 144 + i.val, by omega⟩) = harg4 m c (ix2 k ⟨h.val * 96 + (64 + i.val), by omega⟩) := by
  rw [hv117_eq, hv115_eq, hv114_eq, hv111_eq, hv110_eq, hv104_eq, hv102_eq]
  pointwise []
  all_goals (repeat' split)
  all_goals first | (exfalso; omega) | exact congrArg (fun z => harg4 m c (ix2 k z)) (Fin.ext (by dsimp only <;> omega))

theorem v_pad (k : Fin 256) (h : Fin 8) (i : Fin 96) : hv117 m c (ix2 k ⟨h.val * 256 + 160 + i.val, by omega⟩) = Ideal.ofBits .f32 0x00000000#32 := by
  rw [hv117_eq, hv115_eq, hv114_eq, hv106_eq, hcst_16_eq]
  pointwise []
  all_goals (repeat' split)
  all_goals first | (exfalso; omega) | rfl

end Cert.Kernel3Ideal.Proj

end
-- ==== Proof.ProjMatch.lean ====
module

public import proofs.«01_k».proof.Proof.ProjValue
public import proofs.«01_k».proof.Proof.ProjTables
public import proofs.«01_k».proof.Proof.ProjWeights

/-!
The rows that the projections' kernel leaves, from its arguments alone: the weights and tables that the host code builds are read out.
-/

@[expose] public section

set_option maxRecDepth 16384

noncomputable section

open Idealize.ShloMosaic Idealize.ShloMosaic.TcCoe Idealize.ShloMosaic.Tactic Idealize.SL.Sem

namespace Cert.Kernel3Ideal.Proj

open Cert.Kernel3Ideal Cert.Kernel3Ideal.Gen Cert.ProjMath

attribute [local irreducible] hv10 hv22 hv26 hv27 hv29 hv40 hv44 hv45 hv47 hv54 hv57 hv58 hv59 hv68 hv71 hv101 hv116 hv117 harg0 harg1 harg2 harg3 harg4 harg5 harg6 harg7

theorem turn_lo (a b u s : EReal) : a * u + -b * s = a * u - b * s := by
  rw [EReal.neg_mul, sub_eq_add_neg]

theorem turn_lo_scaled (a b u s : EReal) {d : EReal} (hd : ∃ r : ℝ, 0 < r ∧ d = (r : EReal)) : a * (u * d) + -b * (s * d) = (a * u - b * s) * d := by
  rw [sub_eq_add_neg, add_mul_scale _ _ hd, EReal.neg_mul, EReal.neg_mul, mul_assoc, mul_assoc]

theorem turn_hi_scaled (a b u s : EReal) {d : EReal} (hd : ∃ r : ℝ, 0 < r ∧ d = (r : EReal)) : b * (u * d) + a * (s * d) = (a * s + b * u) * d := by
  rw [add_mul_scale _ _ hd, mul_assoc, mul_assoc, add_comm]

variable (m : (ℓ : Loc nD τ sig) → Buf (Elt Ideal) ℓ) (c : Dev nD)

/-- The arguments that the precondition speaks of are reals. -/
structure Reals : Prop where
  x : ∀ i, IsReal (harg0 m c i)
  g : ∀ i, IsReal (harg1 m c i)
  w : ∀ i, IsReal (harg2 m c i)
  gq : ∀ i, IsReal (harg3 m c i)
  u : ∀ i, IsReal (harg4 m c i)

/-- A token's normed row times the weights. -/
def zK (T : Fin 17408) : Fin 4896 → EReal :=
  zrow (fun k => harg0 m c (ix2 T k)) (fun k => harg1 m c (ix1 k)) (fun k j => harg2 m c (ix2 k j))

/-- A token's queries before they are turned. -/
def qK (T : Fin 17408) : Fin 768 → EReal :=
  qrow (zK m c T) (fun k => harg3 m c (ix1 k)) (fun k j => harg4 m c (ix2 k j))

theorem cos_at (T : Fin 17408) (i : Fin 16) : hv27 m c (ix2 T i) = cos32 T i.val := by
  rw [hv27_eq]
  show Ideal.cos (hv26 m c (ix2 T i)) = _
  rw [hv26_at, hv10_at, hv22_at]
  rfl

theorem sin_at (T : Fin 17408) (i : Fin 16) : hv29 m c (ix2 T i) = sin32 T i.val := by
  rw [hv29_eq]
  show Ideal.sin (hv26 m c (ix2 T i)) = _
  rw [hv26_at, hv10_at, hv22_at]
  rfl

theorem cos_at' (T : Fin 17408) (i : Fin 32) : hv45 m c (ix2 T i) = cos64 T i.val := by
  rw [hv45_eq]
  show Ideal.cos (hv44 m c (ix2 T i)) = _
  rw [hv44_at, hv10_at, hv40_at]
  rfl

theorem sin_at' (T : Fin 17408) (i : Fin 32) : hv47 m c (ix2 T i) = sin64 T i.val := by
  rw [hv47_eq]
  show Ideal.sin (hv44 m c (ix2 T i)) = _
  rw [hv44_at, hv10_at, hv40_at]
  rfl

theorem hrow_real (hr : Reals m c) (T : Fin 17408) (k : Fin 1024) : IsReal (hrow m c T k) :=
  rmsRow_real (fun j => hr.x (ix2 T j)) (fun j => hr.g (ix1 j)) k

theorem zK_real (hr : Reals m c) (T : Fin 17408) (j : Fin 4896) : IsReal (zK m c T j) :=
  IsReal.sum fun k => (hrow_real m c hr T k).mul (hr.w (ix2 k j))

theorem kz_of (T : Fin 17408) (j : Fin 5632) (i : Fin 4896) (h : ∀ k, hv101 m c (ix2 k j) = harg2 m c (ix2 k i)) : kz m c T j = zK m c T i :=
  Finset.sum_congr rfl fun k _ => congrArg (hrow m c T k * ·) (h k)

theorem kz_neg (hr : Reals m c) (T : Fin 17408) (j : Fin 5632) (i : Fin 4896) (h : ∀ k, hv101 m c (ix2 k j) = -harg2 m c (ix2 k i)) : kz m c T j = -zK m c T i :=
  (Finset.sum_congr rfl fun k _ => congrArg (hrow m c T k * ·) (h k)).trans (sum_mul_neg (hrow_real m c hr T) fun k => hr.w (ix2 k i))

theorem kz_zero (T : Fin 17408) (j : Fin 5632) (h : ∀ k, hv101 m c (ix2 k j) = Ideal.ofBits .f32 0x00000000#32) : kz m c T j = 0 :=
  Finset.sum_eq_zero fun k _ => (congrArg (hrow m c T k * ·) ((h k).trans zero_bits)).trans (mul_zero _)

theorem latent_eq (T : Fin 17408) (j : Fin 256) : latent m c T j = latRow (fun i => zK m c T ⟨256 + i.val, by omega⟩) (fun i => harg5 m c (ix1 i)) j :=
  congrArg (fun u => latRow u _ j) (funext fun i => kz_of m c T _ _ fun k => w_kv m c k i)

theorem mvRow_eq (T : Fin 17408) (j : Fin 256) : mvRow m c T j = zK m c T ⟨1056 + j.val, by omega⟩ := kz_of m c T _ _ fun k => w_mv m c k j

theorem gateRow_eq (T : Fin 17408) (j : Fin 3072) : gateRow m c T j = Ideal.logistic (zK m c T ⟨1824 + j.val, by omega⟩) :=
  congrArg Ideal.logistic (kz_of m c T _ _ fun k => w_gate m c k j)

theorem gvRow_eq (T : Fin 17408) (j : Fin 256) : gvRow m c T j
    = lnRow (fun i => gelu (zK m c T ⟨1568 + i.val, by omega⟩)) (fun i => harg6 m c (ix1 i)) (fun i => harg7 m c (ix1 i)) j :=
  congrArg (fun u => lnRow u _ _ j) (funext fun i => congrArg gelu (kz_of m c T _ _ fun k => w_v m c k i))

theorem qlat_eq (T : Fin 17408) (l : Fin 256) : qlat m c T l = latRow (fun i => zK m c T ⟨i.val, by omega⟩) (fun i => harg3 m c (ix1 i)) l :=
  congrArg (fun u => latRow u _ l) (funext fun i => kz_of m c T _ _ fun k => w_q m c k i)

theorem qlat_real (hr : Reals m c) (T : Fin 17408) (l : Fin 256) : IsReal (qlat m c T l) := by
  rw [qlat_eq]
  exact latRow_real (fun i => zK_real m c hr T _) (fun i => hr.gq (ix1 i)) l

/-! The turned keys. -/

theorem key_lo (hr : Reals m c) (T : Fin 17408) (i : Fin 16) : keyRow m c T ⟨i.val, by omega⟩
    = zK m c T ⟨512 + i.val, by omega⟩ * cos32 T i.val - zK m c T ⟨512 + (16 + i.val), by omega⟩ * sin32 T i.val :=
  (congrArg₂ (· + ·)
    (congrArg₂ (· * ·) (kz_of m c T _ _ fun k => w_key m c k ⟨i.val, by omega⟩) ((hv58_lo m c T i).trans (cos_at m c T i)))
    (congrArg₂ (· * ·) (kz_neg m c hr T _ _ fun k => w_key_lo m c k i) ((hv59_lo m c T i).trans (sin_at m c T i)))).trans (turn_lo _ _ _ _)

theorem key_hi (T : Fin 17408) (i : Fin 16) : keyRow m c T ⟨16 + i.val, by omega⟩
    = zK m c T ⟨512 + i.val, by omega⟩ * sin32 T i.val + zK m c T ⟨512 + (16 + i.val), by omega⟩ * cos32 T i.val :=
  (congrArg₂ (· + ·)
    (congrArg₂ (· * ·) (kz_of m c T _ _ fun k => w_key m c k ⟨16 + i.val, by omega⟩) ((hv58_hi m c T i).trans (cos_at m c T i)))
    (congrArg₂ (· * ·) (kz_of m c T _ _ fun k => w_key_hi m c k i) ((hv59_hi m c T i).trans (sin_at m c T i)))).trans (add_comm _ _)

theorem key_pad (T : Fin 17408) (i : Fin 96) : keyRow m c T ⟨32 + i.val, by omega⟩ = Ideal.ofBits .f32 0x00000000#32 := by
  have e1 : kz m c T ⟨512 + (32 + i.val), by omega⟩ = 0 := kz_zero m c T _ fun k =>
    (congrArg (fun z => hv101 m c (ix2 k z)) (Fin.ext (by dsimp only <;> omega))).trans (w_gap m c k i)
  have e2 : kz m c T ⟨640 + (32 + i.val), by omega⟩ = 0 := kz_zero m c T _ fun k =>
    (congrArg (fun z => hv101 m c (ix2 k z)) (Fin.ext (by dsimp only <;> omega))).trans (w_gap2 m c k i)
  refine (congrArg₂ (· + ·) (congrArg (· * _) e1) (congrArg (· * _) e2)).trans ?_
  rw [zero_mul, zero_mul, add_zero, zero_bits]

/-! The blocks' keys and queries. -/

theorem mk_lo (hr : Reals m c) (T : Fin 17408) (g : Fin 4) (i : Fin 32) : mkRow m c T ⟨g.val * 64 + i.val, by omega⟩
    = zK m c T ⟨800 + (g.val * 64 + i.val), by omega⟩ * cos64 T i.val - zK m c T ⟨800 + (g.val * 64 + (32 + i.val)), by omega⟩ * sin64 T i.val :=
  (congrArg₂ (· + ·)
    (congrArg₂ (· * ·) (kz_of m c T _ _ fun k => w_mk m c k ⟨g.val * 64 + i.val, by omega⟩) ((hv68_k_lo m c T g i).trans (cos_at' m c T i)))
    (congrArg₂ (· * ·) (kz_neg m c hr T _ _ fun k => w_mk_lo m c k g i) ((hv71_k_lo m c T g i).trans (sin_at' m c T i)))).trans (turn_lo _ _ _ _)

theorem mk_hi (T : Fin 17408) (g : Fin 4) (i : Fin 32) : mkRow m c T ⟨g.val * 64 + 32 + i.val, by omega⟩
    = zK m c T ⟨800 + (g.val * 64 + i.val), by omega⟩ * sin64 T i.val + zK m c T ⟨800 + (g.val * 64 + (32 + i.val)), by omega⟩ * cos64 T i.val :=
  (congrArg₂ (· + ·)
    (congrArg₂ (· * ·) (kz_of m c T _ ⟨800 + (g.val * 64 + (32 + i.val)), by omega⟩ fun k => (w_mk m c k ⟨g.val * 64 + 32 + i.val, by omega⟩).trans
      (congrArg (fun z => harg2 m c (ix2 k z)) (Fin.ext (by dsimp only <;> omega)))) ((hv68_k_hi m c T g i).trans (cos_at' m c T i)))
    (congrArg₂ (· * ·) (kz_of m c T _ _ fun k => w_mk_hi m c k g i) ((hv71_k_hi m c T g i).trans (sin_at' m c T i)))).trans (add_comm _ _)

theorem mq_lo (hr : Reals m c) (T : Fin 17408) (g : Fin 4) (i : Fin 32) : mqRow m c T ⟨g.val * 64 + i.val, by omega⟩
    = (zK m c T ⟨544 + (g.val * 64 + i.val), by omega⟩ * cos64 T i.val - zK m c T ⟨544 + (g.val * 64 + (32 + i.val)), by omega⟩ * sin64 T i.val) * Ideal.ofBits .f32 0x3E000000#32 :=
  (congrArg₂ (· + ·)
    (congrArg₂ (· * ·) (kz_of m c T _ _ fun k => w_mq m c k ⟨g.val * 64 + i.val, by omega⟩) ((hv68_q_lo m c T g i).trans (congrArg (· * _) (cos_at' m c T i))))
    (congrArg₂ (· * ·) (kz_neg m c hr T _ _ fun k => w_mq_lo m c k g i) ((hv71_q_lo m c T g i).trans (congrArg (· * _) (sin_at' m c T i))))).trans (turn_lo_scaled _ _ _ _ scale64)

theorem mq_hi (T : Fin 17408) (g : Fin 4) (i : Fin 32) : mqRow m c T ⟨g.val * 64 + 32 + i.val, by omega⟩
    = (zK m c T ⟨544 + (g.val * 64 + i.val), by omega⟩ * sin64 T i.val + zK m c T ⟨544 + (g.val * 64 + (32 + i.val)), by omega⟩ * cos64 T i.val) * Ideal.ofBits .f32 0x3E000000#32 :=
  (congrArg₂ (· + ·)
    (congrArg₂ (· * ·) (kz_of m c T _ ⟨544 + (g.val * 64 + (32 + i.val)), by omega⟩ fun k => (w_mq m c k ⟨g.val * 64 + 32 + i.val, by omega⟩).trans
      (congrArg (fun z => harg2 m c (ix2 k z)) (Fin.ext (by dsimp only <;> omega)))) ((hv68_q_hi m c T g i).trans (congrArg (· * _) (cos_at' m c T i))))
    (congrArg₂ (· * ·) (kz_of m c T _ _ fun k => w_mq_hi m c k g i) ((hv71_q_hi m c T g i).trans (congrArg (· * _) (sin_at' m c T i))))).trans (turn_hi_scaled _ _ _ _ scale64)

/-! The heads' queries. -/

theorem qs_of (T : Fin 17408) (w : FVec Ideal S256x2048 .bf16) (j : Fin 2048) (i : Fin 768) (h : ∀ l, w (ix2 l j) = harg4 m c (ix2 l i)) :
    (∑ l : Fin 256, qlat m c T l * w (ix2 l j)) = qK m c T i :=
  Finset.sum_congr rfl fun l _ => congrArg₂ (· * ·) (qlat_eq m c T l) (h l)

theorem qs_neg (hr : Reals m c) (T : Fin 17408) (w : FVec Ideal S256x2048 .bf16) (j : Fin 2048) (i : Fin 768) (h : ∀ l, w (ix2 l j) = -harg4 m c (ix2 l i)) :
    (∑ l : Fin 256, qlat m c T l * w (ix2 l j)) = -qK m c T i :=
  (Finset.sum_congr rfl fun l _ => congrArg (qlat m c T l * ·) (h l)).trans
    ((sum_mul_neg (qlat_real m c hr T) fun l => hr.u (ix2 l i)).trans (congrArg (- ·) (Finset.sum_congr rfl fun l _ => congrArg (· * _) (qlat_eq m c T l))))

theorem qs_zero (T : Fin 17408) (w : FVec Ideal S256x2048 .bf16) (j : Fin 2048) (h : ∀ l, w (ix2 l j) = Ideal.ofBits .f32 0x00000000#32) :
    (∑ l : Fin 256, qlat m c T l * w (ix2 l j)) = 0 :=
  Finset.sum_eq_zero fun l _ => (congrArg (qlat m c T l * ·) ((h l).trans zero_bits)).trans (mul_zero _)

theorem head_nope (T : Fin 17408) (h : Fin 8) (i : Fin 64) : headRow m c T h ⟨i.val, by omega⟩
    = qK m c T ⟨h.val * 96 + i.val, by omega⟩ * Ideal.ofBits .f32 0x3DD105EC#32 :=
  (congrArg₂ (· + ·)
    (congrArg₂ (· * ·) (qs_of m c T (hv116 m c) _ ⟨h.val * 96 + i.val, by omega⟩ fun l => (congrArg (fun q => hv116 m c (ix2 l q)) (Fin.ext (by dsimp only <;> omega))).trans (u_nope m c l h i)) (hv54_nope m c T ⟨i.val, by omega⟩))
    (congrArg₂ (· * ·) (qs_zero m c T (hv117 m c) _ fun l => (congrArg (fun q => hv117 m c (ix2 l q)) (Fin.ext (by dsimp only <;> omega))).trans (v_front m c l h ⟨i.val, by omega⟩)) (hv57_nope m c T ⟨i.val, by omega⟩))).trans (by
    rw [one_bits, one_mul, zero_mul, add_zero])

theorem head_gap (T : Fin 17408) (h : Fin 8) (i : Fin 64) : headRow m c T h ⟨64 + i.val, by omega⟩
    = Ideal.ofBits .f32 0x00000000#32 :=
  (congrArg₂ (· + ·)
    (congrArg₂ (· * ·) (qs_zero m c T (hv116 m c) _ fun l => (congrArg (fun q => hv116 m c (ix2 l q)) (Fin.ext (by dsimp only <;> omega))).trans (u_gap m c l h i)) (hv54_nope m c T ⟨64 + i.val, by omega⟩))
    (congrArg₂ (· * ·) (qs_zero m c T (hv117 m c) _ fun l => (congrArg (fun q => hv117 m c (ix2 l q)) (Fin.ext (by dsimp only <;> omega))).trans (v_front m c l h ⟨64 + i.val, by omega⟩)) (hv57_nope m c T ⟨64 + i.val, by omega⟩))).trans (by
    rw [zero_mul, zero_mul, add_zero, zero_bits])

theorem head_lo (hr : Reals m c) (T : Fin 17408) (h : Fin 8) (i : Fin 16) : headRow m c T h ⟨128 + i.val, by omega⟩
    = (qK m c T ⟨h.val * 96 + (64 + i.val), by omega⟩ * cos32 T i.val - qK m c T ⟨h.val * 96 + (64 + (16 + i.val)), by omega⟩ * sin32 T i.val) * Ideal.ofBits .f32 0x3DD105EC#32 :=
  (congrArg₂ (· + ·)
    (congrArg₂ (· * ·) (qs_of m c T (hv116 m c) _ ⟨h.val * 96 + (64 + i.val), by omega⟩ fun l => (congrArg (fun q => hv116 m c (ix2 l q)) (Fin.ext (by dsimp only <;> omega))).trans (u_pe m c l h ⟨i.val, by omega⟩)) ((hv54_lo m c T i).trans (congrArg (· * _) (cos_at m c T i))))
    (congrArg₂ (· * ·) (qs_neg m c hr T (hv117 m c) _ ⟨h.val * 96 + (64 + (16 + i.val)), by omega⟩ fun l => (congrArg (fun q => hv117 m c (ix2 l q)) (Fin.ext (by dsimp only <;> omega))).trans (v_lo m c l h i)) ((hv57_lo m c T i).trans (congrArg (· * _) (sin_at m c T i))))).trans (turn_lo_scaled _ _ _ _ scale96)

theorem head_hi (T : Fin 17408) (h : Fin 8) (i : Fin 16) : headRow m c T h ⟨144 + i.val, by omega⟩
    = (qK m c T ⟨h.val * 96 + (64 + i.val), by omega⟩ * sin32 T i.val + qK m c T ⟨h.val * 96 + (64 + (16 + i.val)), by omega⟩ * cos32 T i.val) * Ideal.ofBits .f32 0x3DD105EC#32 :=
  (congrArg₂ (· + ·)
    (congrArg₂ (· * ·) (qs_of m c T (hv116 m c) _ ⟨h.val * 96 + (64 + (16 + i.val)), by omega⟩ fun l => (congrArg (fun q => hv116 m c (ix2 l q)) (Fin.ext (by dsimp only <;> omega))).trans (u_pe m c l h ⟨16 + i.val, by omega⟩)) ((hv54_hi m c T i).trans (congrArg (· * _) (cos_at m c T i))))
    (congrArg₂ (· * ·) (qs_of m c T (hv117 m c) _ ⟨h.val * 96 + (64 + i.val), by omega⟩ fun l => (congrArg (fun q => hv117 m c (ix2 l q)) (Fin.ext (by dsimp only <;> omega))).trans (v_hi m c l h i)) ((hv57_hi m c T i).trans (congrArg (· * _) (sin_at m c T i))))).trans (turn_hi_scaled _ _ _ _ scale96)

theorem head_pad (T : Fin 17408) (h : Fin 8) (i : Fin 96) : headRow m c T h ⟨160 + i.val, by omega⟩
    = Ideal.ofBits .f32 0x00000000#32 :=
  (congrArg₂ (· + ·)
    (congrArg₂ (· * ·) (qs_zero m c T (hv116 m c) _ fun l => (congrArg (fun q => hv116 m c (ix2 l q)) (Fin.ext (by dsimp only <;> omega))).trans (u_pad m c l h i)) (hv54_pad m c T i))
    (congrArg₂ (· * ·) (qs_zero m c T (hv117 m c) _ fun l => (congrArg (fun q => hv117 m c (ix2 l q)) (Fin.ext (by dsimp only <;> omega))).trans (v_pad m c l h i)) (hv57_pad m c T i))).trans (by
    rw [zero_mul, add_zero, zero_bits])

end Cert.Kernel3Ideal.Proj

end
-- ==== Proof.ProjReference.lean ====
module

public import proofs.«01_k».proof.Proof.Gen.Reference3Ideal.Run
public import proofs.«01_k».proof.Proof.ProjSpec
public import Idealize.ShloMosaic.Lib.Pointwise

/-!
The projections' reference at an index, in terms of its arguments.
-/

@[expose] public section

set_option maxRecDepth 16384
set_option maxHeartbeats 1000000

noncomputable section

open Idealize.ShloMosaic Idealize.ShloMosaic.TcCoe Idealize.ShloMosaic.Tactic Idealize.SL.Sem

namespace Cert.Reference3Ideal.Proj

open Cert.Reference3Ideal Cert.Reference3Ideal.Gen Cert.Reference3Ideal.Value Cert.ProjMath

variable (V0 : Valuation τ sig (Elt Ideal))

def ax : FVec Ideal S17408x1024 .f32 := V0 (Proc.devRef .tc main_arg0)
def agm : FVec Ideal S1024 .f32 := V0 (Proc.devRef .tc main_arg1)
def aW : FVec Ideal S1024x4896 .f32 := V0 (Proc.devRef .tc main_arg2)
def agq : FVec Ideal S256 .f32 := V0 (Proc.devRef .tc main_arg3)
def aU : FVec Ideal S256x768 .f32 := V0 (Proc.devRef .tc main_arg4)
def agk : FVec Ideal S256 .f32 := V0 (Proc.devRef .tc main_arg5)
def agv : FVec Ideal S256 .f32 := V0 (Proc.devRef .tc main_arg6)
def abv : FVec Ideal S256 .f32 := V0 (Proc.devRef .tc main_arg7)

/-- A result of the reference. -/
def rv96 : FVec Ideal S17408x256 .f32 := mulf (mulf (res_main_v24 V0) (broadcastInDim S17408x256 ![0, 1] bcast_S17408x1_S17408x256_0_1 (Host.rsqrt (addf (Host.divf (broadcastInDim S17408x1 ![0] bcast_S17408_S17408x1_0 (Host.reduceAdd (mulf (res_main_v24 V0) (res_main_v24 V0)) (constant S_ .f32 0x00000000#32) reducesTo_S17408x256_S17408_d1 h_S_)) (broadcastInDim S17408x1 ![] bcast_S_S17408x1 (constant S_ .f32 0x43800000#32))) (broadcastInDim S17408x1 ![] bcast_S_S17408x1 (constant S_ .f32 0x358637BD#32)))))) (broadcastInDim S17408x256 ![0, 1] bcast_S1x256_S17408x256_0_1 (broadcastInDim S1x256 ![1] bcast_S256_S1x256_1 (V0 (Proc.devRef .tc main_arg5))))

/-- A result of the reference. -/
def rv126 : FVec Ideal S17408x32 .f32 := shapeCast _ (concatenate S17408x1x32 2 [⟨S17408x1x16, (subf (mulf (res_main_v117 V0) (res_main_v115 V0)) (mulf (res_main_v118 V0) (res_main_v116 V0)))⟩, ⟨S17408x1x16, (addf (mulf (res_main_v117 V0) (res_main_v116 V0)) (mulf (res_main_v118 V0) (res_main_v115 V0)))⟩] concatenates_S17408x1x16_S17408x1x16_S17408x1x32_d2) shapeCasts_S17408x1x32_S17408x32

/-- A result of the reference. -/
def rv196 : FVec Ideal S17408x256 .f32 := shapeCast _ (concatenate S17408x4x64 2 [⟨S17408x4x32, (subf (mulf (res_main_v183 V0) (broadcastInDim S17408x4x32 ![0, 1, 2] bcast_S17408x1x32_S17408x4x32_0_1_2 (res_main_v181 V0))) (mulf (res_main_v184 V0) (broadcastInDim S17408x4x32 ![0, 1, 2] bcast_S17408x1x32_S17408x4x32_0_1_2 (res_main_v182 V0))))⟩, ⟨S17408x4x32, (addf (mulf (res_main_v183 V0) (broadcastInDim S17408x4x32 ![0, 1, 2] bcast_S17408x1x32_S17408x4x32_0_1_2 (res_main_v182 V0))) (mulf (res_main_v184 V0) (broadcastInDim S17408x4x32 ![0, 1, 2] bcast_S17408x1x32_S17408x4x32_0_1_2 (res_main_v181 V0))))⟩] concatenates_S17408x4x32_S17408x4x32_S17408x4x64_d2) shapeCasts_S17408x4x64_S17408x256

/-- A result of the reference. -/
def rv28 : FVec Ideal S17408x256 .f32 := extractStridedSlice S17408x256 ![0, 1056] (res_main_v22 V0) slices_S17408x4896_S17408x256_0_1056

/-- A result of the reference. -/
def rv231 : FVec Ideal S17408x256 .f32 := addf (mulf (mulf (res_main_v215 V0) (broadcastInDim S17408x256 ![0, 1] bcast_S17408x1_S17408x256_0_1 (Host.rsqrt (addf (Host.divf (broadcastInDim S17408x1 ![0] bcast_S17408_S17408x1_0 (Host.reduceAdd (mulf (res_main_v215 V0) (res_main_v215 V0)) (constant S_ .f32 0x00000000#32) reducesTo_S17408x256_S17408_d1 h_S_)) (broadcastInDim S17408x1 ![] bcast_S_S17408x1 (constant S_ .f32 0x43800000#32))) (broadcastInDim S17408x1 ![] bcast_S_S17408x1 (constant S_ .f32 0x358637BD#32)))))) (broadcastInDim S17408x256 ![0, 1] bcast_S1x256_S17408x256_0_1 (broadcastInDim S1x256 ![1] bcast_S256_S1x256_1 (V0 (Proc.devRef .tc main_arg6))))) (broadcastInDim S17408x256 ![0, 1] bcast_S1x256_S17408x256_0_1 (broadcastInDim S1x256 ![1] bcast_S256_S1x256_1 (V0 (Proc.devRef .tc main_arg7))))

/-- A result of the reference. -/
def rv238 : FVec Ideal S17408x2048 .bf16 := truncf .bf16 (shapeCast _ ((concatenate S17408x8x256 2 [⟨S17408x8x64, ((mulf (extractStridedSlice S17408x8x64 ![0, 0, 0] (res_main_v45 V0) slices_S17408x8x96_S17408x8x64_0_0_0) (broadcastInDim S17408x8x64 ![] bcast_S_S17408x8x64 (constant S_ .f32 0x3DD105EC#32))) : FVec Ideal S17408x8x64 .f32)⟩, ⟨S17408x8x64, ((broadcastInDim S17408x8x64 ![] bcast_S_S17408x8x64 (constant S_ .f32 0x00000000#32)) : FVec Ideal S17408x8x64 .f32)⟩, ⟨S17408x8x32, ((mulf (concatenate S17408x8x32 2 [⟨S17408x8x16, (subf (mulf (res_main_v69 V0) (broadcastInDim S17408x8x16 ![0, 1, 2] bcast_S17408x1x16_S17408x8x16_0_1_2 (res_main_v67 V0))) (mulf (res_main_v70 V0) (broadcastInDim S17408x8x16 ![0, 1, 2] bcast_S17408x1x16_S17408x8x16_0_1_2 (res_main_v68 V0))))⟩, ⟨S17408x8x16, (addf (mulf (res_main_v69 V0) (broadcastInDim S17408x8x16 ![0, 1, 2] bcast_S17408x1x16_S17408x8x16_0_1_2 (res_main_v68 V0))) (mulf (res_main_v70 V0) (broadcastInDim S17408x8x16 ![0, 1, 2] bcast_S17408x1x16_S17408x8x16_0_1_2 (res_main_v67 V0))))⟩] concatenates_S17408x8x16_S17408x8x16_S17408x8x32_d2) (broadcastInDim S17408x8x32 ![] bcast_S_S17408x8x32 (constant S_ .f32 0x3DD105EC#32))) : FVec Ideal S17408x8x32 .f32)⟩, ⟨S17408x8x96, ((broadcastInDim S17408x8x96 ![] bcast_S_S17408x8x96 (constant S_ .f32 0x00000000#32)) : FVec Ideal S17408x8x96 .f32)⟩] concatenates_S17408x8x64_S17408x8x64_S17408x8x32_S17408x8x96_S17408x8x256_d2 : FVec Ideal S17408x8x256 .f32)) shapeCasts_S17408x8x256_S17408x2048) bitsLt_bf16_f32

/-- A result of the reference. -/
def rv239 : FVec Ideal S17408x128 .bf16 := truncf .bf16 (concatenate S17408x128 1 [⟨S17408x32, (shapeCast _ (concatenate S17408x1x32 2 [⟨S17408x1x16, (subf (mulf (res_main_v117 V0) (res_main_v115 V0)) (mulf (res_main_v118 V0) (res_main_v116 V0)))⟩, ⟨S17408x1x16, (addf (mulf (res_main_v117 V0) (res_main_v116 V0)) (mulf (res_main_v118 V0) (res_main_v115 V0)))⟩] concatenates_S17408x1x16_S17408x1x16_S17408x1x32_d2) shapeCasts_S17408x1x32_S17408x32)⟩, ⟨S17408x96, (broadcastInDim S17408x96 ![] bcast_S_S17408x96 (constant S_ .f32 0x00000000#32))⟩] concatenates_S17408x32_S17408x96_S17408x128_d1) bitsLt_bf16_f32

/-- A result of the reference. -/
def rv162 : FVec Ideal S17408x256 .f32 := mulf (shapeCast _ (concatenate S17408x4x64 2 [⟨S17408x4x32, (subf (mulf (res_main_v147 V0) (broadcastInDim S17408x4x32 ![0, 1, 2] bcast_S17408x1x32_S17408x4x32_0_1_2 (res_main_v145 V0))) (mulf (res_main_v148 V0) (broadcastInDim S17408x4x32 ![0, 1, 2] bcast_S17408x1x32_S17408x4x32_0_1_2 (res_main_v146 V0))))⟩, ⟨S17408x4x32, (addf (mulf (res_main_v147 V0) (broadcastInDim S17408x4x32 ![0, 1, 2] bcast_S17408x1x32_S17408x4x32_0_1_2 (res_main_v146 V0))) (mulf (res_main_v148 V0) (broadcastInDim S17408x4x32 ![0, 1, 2] bcast_S17408x1x32_S17408x4x32_0_1_2 (res_main_v145 V0))))⟩] concatenates_S17408x4x32_S17408x4x32_S17408x4x64_d2) shapeCasts_S17408x4x64_S17408x256) (broadcastInDim S17408x256 ![] bcast_S_S17408x256 (constant S_ .f32 0x3E000000#32))

/-- A result of the reference. -/
def rv246 : FVec Ideal S17408x3072 .bf16 := truncf .bf16 (Host.divf (broadcastInDim S17408x3072 ![] bcast_S_S17408x3072 (constant S_ .f32 0x3F800000#32)) (addf (broadcastInDim S17408x3072 ![] bcast_S_S17408x3072 (constant S_ .f32 0x3F800000#32)) (Host.exp (Host.negf (extractStridedSlice S17408x3072 ![0, 1824] (res_main_v22 V0) slices_S17408x4896_S17408x3072_0_1824))))) bitsLt_bf16_f32

/-- A result of the reference. -/
def rv249 : FVec Ideal S68x256x256 .bf16 := truncf .bf16 (transpose S68x256x256 [0, 2, 1] (shapeCast _ (mulf (mulf (res_main_v24 V0) (broadcastInDim S17408x256 ![0, 1] bcast_S17408x1_S17408x256_0_1 (Host.rsqrt (addf (Host.divf (broadcastInDim S17408x1 ![0] bcast_S17408_S17408x1_0 (Host.reduceAdd (mulf (res_main_v24 V0) (res_main_v24 V0)) (constant S_ .f32 0x00000000#32) reducesTo_S17408x256_S17408_d1 h_S_)) (broadcastInDim S17408x1 ![] bcast_S_S17408x1 (constant S_ .f32 0x43800000#32))) (broadcastInDim S17408x1 ![] bcast_S_S17408x1 (constant S_ .f32 0x358637BD#32)))))) (broadcastInDim S17408x256 ![0, 1] bcast_S1x256_S17408x256_0_1 (broadcastInDim S1x256 ![1] bcast_S256_S1x256_1 (V0 (Proc.devRef .tc main_arg5))))) shapeCasts_S17408x256_S68x256x256) transposes_S68x256x256_S68x256x256_0_2_1) bitsLt_bf16_f32

/-- A result of the reference. -/
def rv252 : FVec Ideal S68x256x256 .bf16 := truncf .bf16 (transpose S68x256x256 [0, 2, 1] (shapeCast _ (extractStridedSlice S17408x256 ![0, 1056] (res_main_v22 V0) slices_S17408x4896_S17408x256_0_1056) shapeCasts_S17408x256_S68x256x256) transposes_S68x256x256_S68x256x256_0_2_1) bitsLt_bf16_f32

def sv8 : IVec S17408 32 := res_main_v8 V0
def sv22 : FVec Ideal S17408x4896 .f32 := res_main_v22 V0
def sv23 : FVec Ideal S17408x256 .f32 := res_main_v23 V0
def sv24 : FVec Ideal S17408x256 .f32 := res_main_v24 V0
def sv29 : FVec Ideal S17408x256 .f32 := res_main_v29 V0
def sv45 : FVec Ideal S17408x8x96 .f32 := res_main_v45 V0
def sv49 : FVec Ideal S17408x8x32 .f32 := res_main_v49 V0
def sv66 : FVec Ideal S17408x1x16 .f32 := res_main_v66 V0
def sv67 : FVec Ideal S17408x1x16 .f32 := res_main_v67 V0
def sv68 : FVec Ideal S17408x1x16 .f32 := res_main_v68 V0
def sv69 : FVec Ideal S17408x8x16 .f32 := res_main_v69 V0
def sv70 : FVec Ideal S17408x8x16 .f32 := res_main_v70 V0
def sv97 : FVec Ideal S17408x1x32 .f32 := res_main_v97 V0
def sv114 : FVec Ideal S17408x1x16 .f32 := res_main_v114 V0
def sv115 : FVec Ideal S17408x1x16 .f32 := res_main_v115 V0
def sv116 : FVec Ideal S17408x1x16 .f32 := res_main_v116 V0
def sv117 : FVec Ideal S17408x1x16 .f32 := res_main_v117 V0
def sv118 : FVec Ideal S17408x1x16 .f32 := res_main_v118 V0
def sv127 : FVec Ideal S17408x4x64 .f32 := res_main_v127 V0
def sv144 : FVec Ideal S17408x1x32 .f32 := res_main_v144 V0
def sv145 : FVec Ideal S17408x1x32 .f32 := res_main_v145 V0
def sv146 : FVec Ideal S17408x1x32 .f32 := res_main_v146 V0
def sv147 : FVec Ideal S17408x4x32 .f32 := res_main_v147 V0
def sv148 : FVec Ideal S17408x4x32 .f32 := res_main_v148 V0
def sv163 : FVec Ideal S17408x4x64 .f32 := res_main_v163 V0
def sv180 : FVec Ideal S17408x1x32 .f32 := res_main_v180 V0
def sv181 : FVec Ideal S17408x1x32 .f32 := res_main_v181 V0
def sv182 : FVec Ideal S17408x1x32 .f32 := res_main_v182 V0
def sv183 : FVec Ideal S17408x4x32 .f32 := res_main_v183 V0
def sv184 : FVec Ideal S17408x4x32 .f32 := res_main_v184 V0
def sv209 : FVec Ideal S17408x256 .f32 := res_main_v209 V0
def sv215 : FVec Ideal S17408x256 .f32 := res_main_v215 V0

/-- A token's projected row. -/
def zed (T : Fin 17408) : Fin 4896 → EReal := zrow (fun k => ax V0 (ix2 T k)) (fun k => agm V0 (ix1 k)) (fun k j => aW V0 (ix2 k j))

/-- A token's queries. -/
def qed (T : Fin 17408) : Fin 768 → EReal := qrow (zed V0 T) (fun k => agq V0 (ix1 k)) (fun k j => aU V0 (ix2 k j))

theorem sv22_at (T : Fin 17408) (j : Fin 4896) : sv22 V0 (ix2 T j) = zed V0 T j := by
  unfold sv22 res_main_v22 zed zrow
  pointwise [ax, agm, aW, MergeMath.rmsRow]

theorem sv45_at (T : Fin 17408) (h : Fin 8) (k : Fin 96) : sv45 V0 (ix3 T h k) = qed V0 T ⟨h.val * 96 + k.val, by omega⟩ := by
  have e : ∀ j, res_main_v22 V0 (ix2 T j) = zed V0 T j := sv22_at V0 T
  unfold sv45 res_main_v45 qed qrow
  pointwise [res_main_v23, latRow, agq, aU, e]

theorem rv96_at (T : Fin 17408) (j : Fin 256) : rv96 V0 (ix2 T j) = latRow (fun i => zed V0 T ⟨256 + i.val, by omega⟩) (fun i => agk V0 (ix1 i)) j := by
  have e : ∀ j, res_main_v22 V0 (ix2 T j) = zed V0 T j := sv22_at V0 T
  unfold rv96
  pointwise [res_main_v24, latRow, agk, e]

set_option maxRecDepth 200000 in
theorem sv8_at (T : Fin 17408) : sv8 V0 (ix1 T) = posOf T := by
  unfold sv8 res_main_v8 posOf
  pointwise []
  (repeat' split) <;> first | rfl | (exfalso; omega)

theorem sv66_at (T : Fin 17408) (i : Fin 16) : sv66 V0 (ix3 T 0 i) = angle (Ideal.ofBits .f32 0x42000000#32) T i.val := by
  have e : res_main_v8 V0 (ix1 T) = posOf T := sv8_at V0 T
  unfold sv66 res_main_v66
  pointwise [angle, freq, e]

theorem sv114_at (T : Fin 17408) (i : Fin 16) : sv114 V0 (ix3 T 0 i) = angle (Ideal.ofBits .f32 0x42000000#32) T i.val := by
  have e : res_main_v8 V0 (ix1 T) = posOf T := sv8_at V0 T
  unfold sv114 res_main_v114
  pointwise [angle, freq, e]

theorem sv144_at (T : Fin 17408) (i : Fin 32) : sv144 V0 (ix3 T 0 i) = angle (Ideal.ofBits .f32 0x42800000#32) T i.val := by
  have e : res_main_v8 V0 (ix1 T) = posOf T := sv8_at V0 T
  unfold sv144 res_main_v144
  pointwise [angle, freq, e]

theorem sv180_at (T : Fin 17408) (i : Fin 32) : sv180 V0 (ix3 T 0 i) = angle (Ideal.ofBits .f32 0x42800000#32) T i.val := by
  have e : res_main_v8 V0 (ix1 T) = posOf T := sv8_at V0 T
  unfold sv180 res_main_v180
  pointwise [angle, freq, e]

theorem sv67_at (T : Fin 17408) (i : Fin 16) : sv67 V0 (ix3 T 0 i) = cos32 T i.val := by
  have e : ∀ i, res_main_v66 V0 (ix3 T 0 i) = angle _ T i.val := sv66_at V0 T
  unfold sv67 res_main_v67
  pointwise [cos32, e]

theorem sv68_at (T : Fin 17408) (i : Fin 16) : sv68 V0 (ix3 T 0 i) = sin32 T i.val := by
  have e : ∀ i, res_main_v66 V0 (ix3 T 0 i) = angle _ T i.val := sv66_at V0 T
  unfold sv68 res_main_v68
  pointwise [sin32, e]

theorem sv115_at (T : Fin 17408) (i : Fin 16) : sv115 V0 (ix3 T 0 i) = cos32 T i.val := by
  have e : ∀ i, res_main_v114 V0 (ix3 T 0 i) = angle _ T i.val := sv114_at V0 T
  unfold sv115 res_main_v115
  pointwise [cos32, e]

theorem sv116_at (T : Fin 17408) (i : Fin 16) : sv116 V0 (ix3 T 0 i) = sin32 T i.val := by
  have e : ∀ i, res_main_v114 V0 (ix3 T 0 i) = angle _ T i.val := sv114_at V0 T
  unfold sv116 res_main_v116
  pointwise [sin32, e]

theorem sv145_at (T : Fin 17408) (i : Fin 32) : sv145 V0 (ix3 T 0 i) = cos64 T i.val := by
  have e : ∀ i, res_main_v144 V0 (ix3 T 0 i) = angle _ T i.val := sv144_at V0 T
  unfold sv145 res_main_v145
  pointwise [cos64, e]

theorem sv146_at (T : Fin 17408) (i : Fin 32) : sv146 V0 (ix3 T 0 i) = sin64 T i.val := by
  have e : ∀ i, res_main_v144 V0 (ix3 T 0 i) = angle _ T i.val := sv144_at V0 T
  unfold sv146 res_main_v146
  pointwise [sin64, e]

theorem sv181_at (T : Fin 17408) (i : Fin 32) : sv181 V0 (ix3 T 0 i) = cos64 T i.val := by
  have e : ∀ i, res_main_v180 V0 (ix3 T 0 i) = angle _ T i.val := sv180_at V0 T
  unfold sv181 res_main_v181
  pointwise [cos64, e]

theorem sv182_at (T : Fin 17408) (i : Fin 32) : sv182 V0 (ix3 T 0 i) = sin64 T i.val := by
  have e : ∀ i, res_main_v180 V0 (ix3 T 0 i) = angle _ T i.val := sv180_at V0 T
  unfold sv182 res_main_v182
  pointwise [sin64, e]

theorem rv126_lo (T : Fin 17408) (i : Fin 16) : rv126 V0 (ix2 T ⟨i.val, by omega⟩)
    = zed V0 T ⟨512 + i.val, by omega⟩ * cos32 T i.val - zed V0 T ⟨512 + (16 + i.val), by omega⟩ * sin32 T i.val := by
  have e : ∀ j, res_main_v22 V0 (ix2 T j) = zed V0 T j := sv22_at V0 T
  have ec : ∀ i, res_main_v115 V0 (ix3 T 0 i) = cos32 T i.val := sv115_at V0 T
  have es : ∀ i, res_main_v116 V0 (ix3 T 0 i) = sin32 T i.val := sv116_at V0 T
  unfold rv126
  pointwise [e, ec, es, res_main_v117, res_main_v118, res_main_v97]

theorem rv126_hi (T : Fin 17408) (i : Fin 16) : rv126 V0 (ix2 T ⟨16 + i.val, by omega⟩)
    = zed V0 T ⟨512 + i.val, by omega⟩ * sin32 T i.val + zed V0 T ⟨512 + (16 + i.val), by omega⟩ * cos32 T i.val := by
  have e : ∀ j, res_main_v22 V0 (ix2 T j) = zed V0 T j := sv22_at V0 T
  have ec : ∀ i, res_main_v115 V0 (ix3 T 0 i) = cos32 T i.val := sv115_at V0 T
  have es : ∀ i, res_main_v116 V0 (ix3 T 0 i) = sin32 T i.val := sv116_at V0 T
  unfold rv126
  pointwise [e, ec, es, res_main_v117, res_main_v118, res_main_v97]

theorem rv239_lo (T : Fin 17408) (i : Fin 16) : rv239 V0 (ix2 T ⟨i.val, by omega⟩)
    = zed V0 T ⟨512 + i.val, by omega⟩ * cos32 T i.val - zed V0 T ⟨512 + (16 + i.val), by omega⟩ * sin32 T i.val := by
  have e : ∀ j, res_main_v22 V0 (ix2 T j) = zed V0 T j := sv22_at V0 T
  have ec : ∀ i, res_main_v115 V0 (ix3 T 0 i) = cos32 T i.val := sv115_at V0 T
  have es : ∀ i, res_main_v116 V0 (ix3 T 0 i) = sin32 T i.val := sv116_at V0 T
  unfold rv239
  pointwise [e, ec, es, res_main_v117, res_main_v118, res_main_v97]
  exact dif_pos (by omega)

theorem rv239_hi (T : Fin 17408) (i : Fin 16) : rv239 V0 (ix2 T ⟨16 + i.val, by omega⟩)
    = zed V0 T ⟨512 + i.val, by omega⟩ * sin32 T i.val + zed V0 T ⟨512 + (16 + i.val), by omega⟩ * cos32 T i.val := by
  have e : ∀ j, res_main_v22 V0 (ix2 T j) = zed V0 T j := sv22_at V0 T
  have ec : ∀ i, res_main_v115 V0 (ix3 T 0 i) = cos32 T i.val := sv115_at V0 T
  have es : ∀ i, res_main_v116 V0 (ix3 T 0 i) = sin32 T i.val := sv116_at V0 T
  unfold rv239
  pointwise [e, ec, es, res_main_v117, res_main_v118, res_main_v97]
  exact dif_pos (by omega)

theorem rv239_pad (T : Fin 17408) (i : Fin 96) : rv239 V0 (ix2 T ⟨32 + i.val, by omega⟩)
    = Ideal.ofBits .f32 0x00000000#32 := by
  have e : ∀ j, res_main_v22 V0 (ix2 T j) = zed V0 T j := sv22_at V0 T
  have ec : ∀ i, res_main_v115 V0 (ix3 T 0 i) = cos32 T i.val := sv115_at V0 T
  have es : ∀ i, res_main_v116 V0 (ix3 T 0 i) = sin32 T i.val := sv116_at V0 T
  unfold rv239
  pointwise [e, ec, es, res_main_v117, res_main_v118, res_main_v97]

theorem rv196_lo (T : Fin 17408) (g : Fin 4) (i : Fin 32) : rv196 V0 (ix2 T ⟨g.val * 64 + i.val, by omega⟩)
    = zed V0 T ⟨800 + (g.val * 64 + i.val), by omega⟩ * cos64 T i.val - zed V0 T ⟨800 + (g.val * 64 + (32 + i.val)), by omega⟩ * sin64 T i.val := by
  have e : ∀ j, res_main_v22 V0 (ix2 T j) = zed V0 T j := sv22_at V0 T
  have ec : ∀ i, res_main_v181 V0 (ix3 T 0 i) = cos64 T i.val := sv181_at V0 T
  have es : ∀ i, res_main_v182 V0 (ix3 T 0 i) = sin64 T i.val := sv182_at V0 T
  unfold rv196
  pointwise [e, ec, es, res_main_v183, res_main_v184, res_main_v163]
  rw [dif_pos (by omega)]
  simp only [show (g.val * 64 + i.val) % 64 = i.val by omega]

theorem rv196_hi (T : Fin 17408) (g : Fin 4) (i : Fin 32) : rv196 V0 (ix2 T ⟨g.val * 64 + 32 + i.val, by omega⟩)
    = zed V0 T ⟨800 + (g.val * 64 + i.val), by omega⟩ * sin64 T i.val + zed V0 T ⟨800 + (g.val * 64 + (32 + i.val)), by omega⟩ * cos64 T i.val := by
  have e : ∀ j, res_main_v22 V0 (ix2 T j) = zed V0 T j := sv22_at V0 T
  have ec : ∀ i, res_main_v181 V0 (ix3 T 0 i) = cos64 T i.val := sv181_at V0 T
  have es : ∀ i, res_main_v182 V0 (ix3 T 0 i) = sin64 T i.val := sv182_at V0 T
  unfold rv196
  pointwise [e, ec, es, res_main_v183, res_main_v184, res_main_v163]
  rw [dif_neg (by omega)]
  simp only [show (g.val * 64 + 32 + i.val) % 64 - 32 = i.val by omega]

theorem rv162_lo (T : Fin 17408) (g : Fin 4) (i : Fin 32) : rv162 V0 (ix2 T ⟨g.val * 64 + i.val, by omega⟩)
    = (zed V0 T ⟨544 + (g.val * 64 + i.val), by omega⟩ * cos64 T i.val - zed V0 T ⟨544 + (g.val * 64 + (32 + i.val)), by omega⟩ * sin64 T i.val) * Ideal.ofBits .f32 0x3E000000#32 := by
  have e : ∀ j, res_main_v22 V0 (ix2 T j) = zed V0 T j := sv22_at V0 T
  have ec : ∀ i, res_main_v145 V0 (ix3 T 0 i) = cos64 T i.val := sv145_at V0 T
  have es : ∀ i, res_main_v146 V0 (ix3 T 0 i) = sin64 T i.val := sv146_at V0 T
  unfold rv162
  pointwise [e, ec, es, res_main_v147, res_main_v148, res_main_v127]
  rw [dif_pos (by omega)]
  simp only [show (g.val * 64 + i.val) % 64 = i.val by omega]

theorem rv162_hi (T : Fin 17408) (g : Fin 4) (i : Fin 32) : rv162 V0 (ix2 T ⟨g.val * 64 + 32 + i.val, by omega⟩)
    = (zed V0 T ⟨544 + (g.val * 64 + i.val), by omega⟩ * sin64 T i.val + zed V0 T ⟨544 + (g.val * 64 + (32 + i.val)), by omega⟩ * cos64 T i.val) * Ideal.ofBits .f32 0x3E000000#32 := by
  have e : ∀ j, res_main_v22 V0 (ix2 T j) = zed V0 T j := sv22_at V0 T
  have ec : ∀ i, res_main_v145 V0 (ix3 T 0 i) = cos64 T i.val := sv145_at V0 T
  have es : ∀ i, res_main_v146 V0 (ix3 T 0 i) = sin64 T i.val := sv146_at V0 T
  unfold rv162
  pointwise [e, ec, es, res_main_v147, res_main_v148, res_main_v127]
  rw [dif_neg (by omega)]
  simp only [show (g.val * 64 + 32 + i.val) % 64 - 32 = i.val by omega]

theorem rv28_at (T : Fin 17408) (j : Fin 256) : rv28 V0 (ix2 T j)
    = zed V0 T ⟨1056 + j.val, by omega⟩ := by
  have e : ∀ j, res_main_v22 V0 (ix2 T j) = zed V0 T j := sv22_at V0 T
  unfold rv28
  pointwise [e]

theorem sv209_at (T : Fin 17408) (j : Fin 256) : sv209 V0 (ix2 T j)
    = gelu (zed V0 T ⟨1568 + j.val, by omega⟩) := by
  have e : ∀ j, res_main_v22 V0 (ix2 T j) = zed V0 T j := sv22_at V0 T
  unfold sv209 res_main_v209
  pointwise [e, res_main_v29, gelu]
  rw [mul_comm (zed V0 T ⟨1568 + j.val, by omega⟩ * zed V0 T ⟨1568 + j.val, by omega⟩) (zed V0 T ⟨1568 + j.val, by omega⟩)]

theorem sv215_at (T : Fin 17408) (j : Fin 256) : sv215 V0 (ix2 T j) = centred (fun i => gelu (zed V0 T ⟨1568 + i.val, by omega⟩)) j := by
  have e : ∀ j, res_main_v209 V0 (ix2 T j) = gelu (zed V0 T ⟨1568 + j.val, by omega⟩) := sv209_at V0 T
  unfold sv215 res_main_v215
  pointwise [centred, e]

theorem rv231_at (T : Fin 17408) (j : Fin 256) : rv231 V0 (ix2 T j)
    = lnRow (fun i => gelu (zed V0 T ⟨1568 + i.val, by omega⟩)) (fun i => agv V0 (ix1 i)) (fun i => abv V0 (ix1 i)) j := by
  have e : ∀ j, res_main_v215 V0 (ix2 T j) = centred (fun i => gelu (zed V0 T ⟨1568 + i.val, by omega⟩)) j := sv215_at V0 T
  unfold rv231
  pointwise [lnRow, latRow, agv, abv, e]

theorem rv238_nope (T : Fin 17408) (h : Fin 8) (i : Fin 64) : rv238 V0 (ix2 T ⟨h.val * 256 + i.val, by omega⟩)
    = qed V0 T ⟨h.val * 96 + i.val, by omega⟩ * Ideal.ofBits .f32 0x3DD105EC#32 := by
  have e : ∀ h k, res_main_v45 V0 (ix3 T h k) = qed V0 T ⟨h.val * 96 + k.val, by omega⟩ := sv45_at V0 T
  have ec : ∀ i, res_main_v67 V0 (ix3 T 0 i) = cos32 T i.val := sv67_at V0 T
  have es : ∀ i, res_main_v68 V0 (ix3 T 0 i) = sin32 T i.val := sv68_at V0 T
  unfold rv238
  pointwise [e, ec, es, res_main_v69, res_main_v70, res_main_v49]
  rw [dif_pos (by omega)]
  simp only [show (h.val * 256 + i.val) % 256 = i.val by omega]

theorem rv238_gap (T : Fin 17408) (h : Fin 8) (i : Fin 64) : rv238 V0 (ix2 T ⟨h.val * 256 + 64 + i.val, by omega⟩)
    = Ideal.ofBits .f32 0x00000000#32 := by
  have e : ∀ h k, res_main_v45 V0 (ix3 T h k) = qed V0 T ⟨h.val * 96 + k.val, by omega⟩ := sv45_at V0 T
  have ec : ∀ i, res_main_v67 V0 (ix3 T 0 i) = cos32 T i.val := sv67_at V0 T
  have es : ∀ i, res_main_v68 V0 (ix3 T 0 i) = sin32 T i.val := sv68_at V0 T
  unfold rv238
  pointwise [e, ec, es, res_main_v69, res_main_v70, res_main_v49]
  rw [dif_neg (by omega), dif_pos (by omega)]

theorem rv238_lo (T : Fin 17408) (h : Fin 8) (i : Fin 16) : rv238 V0 (ix2 T ⟨h.val * 256 + 128 + i.val, by omega⟩)
    = (qed V0 T ⟨h.val * 96 + (64 + i.val), by omega⟩ * cos32 T i.val - qed V0 T ⟨h.val * 96 + (64 + (16 + i.val)), by omega⟩ * sin32 T i.val) * Ideal.ofBits .f32 0x3DD105EC#32 := by
  have e : ∀ h k, res_main_v45 V0 (ix3 T h k) = qed V0 T ⟨h.val * 96 + k.val, by omega⟩ := sv45_at V0 T
  have ec : ∀ i, res_main_v67 V0 (ix3 T 0 i) = cos32 T i.val := sv67_at V0 T
  have es : ∀ i, res_main_v68 V0 (ix3 T 0 i) = sin32 T i.val := sv68_at V0 T
  unfold rv238
  pointwise [e, ec, es, res_main_v69, res_main_v70, res_main_v49]
  rw [dif_neg (by omega), dif_neg (by omega), dif_pos (by omega), dif_pos (by omega)]
  simp only [show (h.val * 256 + 128 + i.val) % 256 - 64 - 64 = i.val by omega]

theorem rv238_hi (T : Fin 17408) (h : Fin 8) (i : Fin 16) : rv238 V0 (ix2 T ⟨h.val * 256 + 144 + i.val, by omega⟩)
    = (qed V0 T ⟨h.val * 96 + (64 + i.val), by omega⟩ * sin32 T i.val + qed V0 T ⟨h.val * 96 + (64 + (16 + i.val)), by omega⟩ * cos32 T i.val) * Ideal.ofBits .f32 0x3DD105EC#32 := by
  have e : ∀ h k, res_main_v45 V0 (ix3 T h k) = qed V0 T ⟨h.val * 96 + k.val, by omega⟩ := sv45_at V0 T
  have ec : ∀ i, res_main_v67 V0 (ix3 T 0 i) = cos32 T i.val := sv67_at V0 T
  have es : ∀ i, res_main_v68 V0 (ix3 T 0 i) = sin32 T i.val := sv68_at V0 T
  unfold rv238
  pointwise [e, ec, es, res_main_v69, res_main_v70, res_main_v49]
  rw [dif_neg (by omega), dif_neg (by omega), dif_pos (by omega), dif_neg (by omega)]
  simp only [show (h.val * 256 + 144 + i.val) % 256 - 64 - 64 - 16 = i.val by omega]

theorem rv238_pad (T : Fin 17408) (h : Fin 8) (i : Fin 96) : rv238 V0 (ix2 T ⟨h.val * 256 + 160 + i.val, by omega⟩)
    = Ideal.ofBits .f32 0x00000000#32 := by
  have e : ∀ h k, res_main_v45 V0 (ix3 T h k) = qed V0 T ⟨h.val * 96 + k.val, by omega⟩ := sv45_at V0 T
  have ec : ∀ i, res_main_v67 V0 (ix3 T 0 i) = cos32 T i.val := sv67_at V0 T
  have es : ∀ i, res_main_v68 V0 (ix3 T 0 i) = sin32 T i.val := sv68_at V0 T
  unfold rv238
  pointwise [e, ec, es, res_main_v69, res_main_v70, res_main_v49]
  rw [dif_neg (by omega), dif_neg (by omega), dif_neg (by omega)]

theorem rv246_at (T : Fin 17408) (j : Fin 3072) : rv246 V0 (ix2 T j)
    = Ideal.logistic (zed V0 T ⟨1824 + j.val, by omega⟩) := by
  have e : ∀ j, res_main_v22 V0 (ix2 T j) = zed V0 T j := sv22_at V0 T
  unfold rv246
  pointwise [e, Ideal.logistic, one_bits]

theorem rv249_at (t : Fin 68) (j r : Fin 256) : rv249 V0 (ix3 t j r) = rv96 V0 (ix2 ⟨t.val * 256 + r.val, by omega⟩ j) := by
  unfold rv249 rv96
  pointwise []

theorem rv252_at (t : Fin 68) (j r : Fin 256) : rv252 V0 (ix3 t j r) = rv28 V0 (ix2 ⟨t.val * 256 + r.val, by omega⟩ j) := by
  unfold rv252 rv28
  pointwise []

end Cert.Reference3Ideal.Proj

end
-- ==== Proof.ProjEqual.lean ====
module

public import proofs.«01_k».proof.Proof.ProjMatch
public import proofs.«01_k».proof.Proof.ProjReference

/-!
The kernel's rows and the reference's results are equal at every index, when their arguments are.
-/

@[expose] public section

set_option maxRecDepth 16384

noncomputable section

open Idealize.ShloMosaic Idealize.ShloMosaic.TcCoe Idealize.ShloMosaic.Tactic Idealize.SL.Sem

namespace Cert.Proof.ProjEqual

open Cert.ProjMath Cert.Kernel3Ideal.Proj Cert.Reference3Ideal.Proj

attribute [local irreducible] latent keyRow keyTurned mkRow mvRow gvRow mqRow gateRow headRow zK qK zed qed
  rv96 rv126 rv196 rv28 rv231 rv238 rv239 rv162 rv246 rv249 rv252

variable (m : (ℓ : Loc Cert.Kernel3Ideal.nD Cert.Kernel3Ideal.τ Cert.Kernel3Ideal.sig) → Buf (Elt Ideal) ℓ) (c : Dev Cert.Kernel3Ideal.nD)
variable (V0 : Valuation Cert.Reference3Ideal.τ Cert.Reference3Ideal.sig (Elt Ideal))

theorem zed_eq (h0 : ax V0 = harg0 m c) (h1 : agm V0 = harg1 m c) (h2 : aW V0 = harg2 m c) (T : Fin 17408) : zed V0 T = zK m c T := by
  unfold zed zK
  rw [h0, h1, h2]

theorem qed_eq (hz : ∀ T, zed V0 T = zK m c T) (h3 : agq V0 = harg3 m c) (h4 : aU V0 = harg4 m c) (T : Fin 17408) : qed V0 T = qK m c T := by
  unfold qed qK
  rw [hz T, h3, h4]

variable (hz : ∀ T, zed V0 T = zK m c T)
include hz

theorem latent_at (h5 : agk V0 = harg5 m c) (T : Fin 17408) (j : Fin 256) : rv96 V0 (ix2 T j) = latent m c T j := by
  rw [rv96_at, latent_eq, hz, h5]

theorem latentT_at (h5 : agk V0 = harg5 m c) (t : Fin 68) (j r : Fin 256) : rv249 V0 (ix3 t j r) = latent m c ⟨t.val * 256 + r.val, by omega⟩ j := by
  rw [rv249_at]
  exact latent_at m c V0 hz h5 _ j

theorem value_at (T : Fin 17408) (j : Fin 256) : rv28 V0 (ix2 T j) = mvRow m c T j := by
  rw [rv28_at, mvRow_eq, hz]

theorem valueT_at (t : Fin 68) (j r : Fin 256) : rv252 V0 (ix3 t j r) = mvRow m c ⟨t.val * 256 + r.val, by omega⟩ j := by
  rw [rv252_at]
  exact value_at m c V0 hz _ j

theorem gate_at (T : Fin 17408) (j : Fin 3072) : rv246 V0 (ix2 T j) = gateRow m c T j := by
  rw [rv246_at, gateRow_eq, hz]

theorem mixing_at (h6 : agv V0 = harg6 m c) (h7 : abv V0 = harg7 m c) (T : Fin 17408) (j : Fin 256) : rv231 V0 (ix2 T j) = gvRow m c T j := by
  rw [rv231_at, gvRow_eq, hz, h6, h7]

theorem key_at (hr : Reals m c) (T : Fin 17408) (j : Fin 32) : rv126 V0 (ix2 T j) = keyTurned m c T j := by
  unfold keyTurned
  by_cases hj : j.val < 16
  · obtain ⟨i, hi⟩ : ∃ i : Fin 16, i.val = j.val := ⟨⟨j.val, hj⟩, rfl⟩
    rw [show j = ⟨i.val, by omega⟩ from Fin.ext (by dsimp only; omega)]
    rw [rv126_lo, hz]
    exact (key_lo m c hr T i).symm
  · obtain ⟨i, hi⟩ : ∃ i : Fin 16, i.val = j.val - 16 := ⟨⟨j.val - 16, by omega⟩, rfl⟩
    rw [show j = ⟨16 + i.val, by omega⟩ from Fin.ext (by dsimp only; omega)]
    rw [rv126_hi, hz]
    exact (key_hi m c T i).symm

theorem keyPad_at (hr : Reals m c) (T : Fin 17408) (j : Fin 128) : rv239 V0 (ix2 T j) = keyRow m c T j := by
  by_cases hj : j.val < 16
  · obtain ⟨i, hi⟩ : ∃ i : Fin 16, i.val = j.val := ⟨⟨j.val, hj⟩, rfl⟩
    rw [show j = ⟨i.val, by omega⟩ from Fin.ext (by dsimp only; omega)]
    rw [rv239_lo, hz]
    exact (key_lo m c hr T i).symm
  by_cases hj' : j.val < 32
  · obtain ⟨i, hi⟩ : ∃ i : Fin 16, i.val = j.val - 16 := ⟨⟨j.val - 16, by omega⟩, rfl⟩
    rw [show j = ⟨16 + i.val, by omega⟩ from Fin.ext (by dsimp only; omega)]
    rw [rv239_hi, hz]
    exact (key_hi m c T i).symm
  · obtain ⟨i, hi⟩ : ∃ i : Fin 96, i.val = j.val - 32 := ⟨⟨j.val - 32, by omega⟩, rfl⟩
    rw [show j = ⟨32 + i.val, by omega⟩ from Fin.ext (by dsimp only; omega)]
    rw [rv239_pad]
    exact (key_pad m c T i).symm

theorem blockKey_at (hr : Reals m c) (T : Fin 17408) (j : Fin 256) : rv196 V0 (ix2 T j) = mkRow m c T j := by
  obtain ⟨g, hg⟩ : ∃ g : Fin 4, g.val = j.val / 64 := ⟨⟨j.val / 64, by omega⟩, rfl⟩
  by_cases hj : j.val % 64 < 32
  · obtain ⟨i, hi⟩ : ∃ i : Fin 32, i.val = j.val % 64 := ⟨⟨j.val % 64, hj⟩, rfl⟩
    rw [show j = ⟨g.val * 64 + i.val, by omega⟩ from Fin.ext (by dsimp only; omega), rv196_lo, hz]
    exact (mk_lo m c hr T g i).symm
  · obtain ⟨i, hi⟩ : ∃ i : Fin 32, i.val = j.val % 64 - 32 := ⟨⟨j.val % 64 - 32, by omega⟩, rfl⟩
    rw [show j = ⟨g.val * 64 + 32 + i.val, by omega⟩ from Fin.ext (by dsimp only; omega), rv196_hi, hz]
    exact (mk_hi m c T g i).symm

theorem blockQuery_at (hr : Reals m c) (T : Fin 17408) (j : Fin 256) : rv162 V0 (ix2 T j) = mqRow m c T j := by
  obtain ⟨g, hg⟩ : ∃ g : Fin 4, g.val = j.val / 64 := ⟨⟨j.val / 64, by omega⟩, rfl⟩
  by_cases hj : j.val % 64 < 32
  · obtain ⟨i, hi⟩ : ∃ i : Fin 32, i.val = j.val % 64 := ⟨⟨j.val % 64, hj⟩, rfl⟩
    rw [show j = ⟨g.val * 64 + i.val, by omega⟩ from Fin.ext (by dsimp only; omega), rv162_lo, hz]
    exact (mq_lo m c hr T g i).symm
  · obtain ⟨i, hi⟩ : ∃ i : Fin 32, i.val = j.val % 64 - 32 := ⟨⟨j.val % 64 - 32, by omega⟩, rfl⟩
    rw [show j = ⟨g.val * 64 + 32 + i.val, by omega⟩ from Fin.ext (by dsimp only; omega), rv162_hi, hz]
    exact (mq_hi m c T g i).symm

theorem head_at (hq : ∀ T, qed V0 T = qK m c T) (hr : Reals m c) (T : Fin 17408) (h : Fin 8) (z : Fin 256) :
    rv238 V0 (ix2 T ⟨h.val * 256 + z.val, by omega⟩) = headRow m c T h z := by
  by_cases h64 : z.val < 64
  · obtain ⟨i, hi⟩ : ∃ i : Fin 64, i.val = z.val - 0 := ⟨⟨z.val - 0, by omega⟩, rfl⟩
    rw [show (⟨h.val * 256 + z.val, by omega⟩ : Fin 2048) = ⟨h.val * 256 + i.val, by omega⟩ from Fin.ext (by dsimp only; omega), rv238_nope, hq]
    exact (head_nope m c T h i).symm.trans (congrArg (headRow m c T h) (Fin.ext (by dsimp only; omega)))
  by_cases h128 : z.val < 128
  · obtain ⟨i, hi⟩ : ∃ i : Fin 64, i.val = z.val - 64 := ⟨⟨z.val - 64, by omega⟩, rfl⟩
    rw [show (⟨h.val * 256 + z.val, by omega⟩ : Fin 2048) = ⟨h.val * 256 + 64 + i.val, by omega⟩ from Fin.ext (by dsimp only; omega), rv238_gap]
    exact (head_gap m c T h i).symm.trans (congrArg (headRow m c T h) (Fin.ext (by dsimp only; omega)))
  by_cases h144 : z.val < 144
  · obtain ⟨i, hi⟩ : ∃ i : Fin 16, i.val = z.val - 128 := ⟨⟨z.val - 128, by omega⟩, rfl⟩
    rw [show (⟨h.val * 256 + z.val, by omega⟩ : Fin 2048) = ⟨h.val * 256 + 128 + i.val, by omega⟩ from Fin.ext (by dsimp only; omega), rv238_lo, hq]
    exact (head_lo m c hr T h i).symm.trans (congrArg (headRow m c T h) (Fin.ext (by dsimp only; omega)))
  by_cases h160 : z.val < 160
  · obtain ⟨i, hi⟩ : ∃ i : Fin 16, i.val = z.val - 144 := ⟨⟨z.val - 144, by omega⟩, rfl⟩
    rw [show (⟨h.val * 256 + z.val, by omega⟩ : Fin 2048) = ⟨h.val * 256 + 144 + i.val, by omega⟩ from Fin.ext (by dsimp only; omega), rv238_hi, hq]
    exact (head_hi m c T h i).symm.trans (congrArg (headRow m c T h) (Fin.ext (by dsimp only; omega)))
  · obtain ⟨i, hi⟩ : ∃ i : Fin 96, i.val = z.val - 160 := ⟨⟨z.val - 160, by omega⟩, rfl⟩
    rw [show (⟨h.val * 256 + z.val, by omega⟩ : Fin 2048) = ⟨h.val * 256 + 160 + i.val, by omega⟩ from Fin.ext (by dsimp only; omega), rv238_pad]
    exact (head_pad m c T h i).symm.trans (congrArg (headRow m c T h) (Fin.ext (by dsimp only; omega)))

end Cert.Proof.ProjEqual

end
-- ==== Proof.ProjFinite.lean ====
module

public import proofs.«01_k».proof.Proof.Gen.Pre_finite3
public import proofs.«01_k».proof.Proof.MlaFinite
public import proofs.«01_k».proof.Proof.ProjMath
public import Idealize.ShloMosaic.Lib.ReduceAll

/-!
The precondition of the projections read back: every element of the first five arguments is a real.
-/

@[expose] public section

set_option maxRecDepth 16384

noncomputable section

open Idealize.ShloMosaic Idealize.ShloMosaic.Tactic

namespace Cert.Pre_finite3.Read

open Cert.Pre_finite3 Cert.Pre_finite3.Gen Cert.ProjMath

theorem isReal (x : EReal) (h : FloatOps.cmpf (F := Ideal) (φ := .f32) .olt (FloatOps.hostAbsf (F := Ideal) (φ := .f32) x) (FloatOps.ofBits (F := Ideal) .f32 0x7F800000#32) = 1#1) : IsReal x :=
  ⟨_, Cert.Pre_finite.Read.real_of_lt x h⟩

/-- The precondition, argument by argument and element by element. -/
theorem reals (a0 : FVec Ideal S17408x1024 .f32) (a1 : FVec Ideal S1024 .f32) (a2 : FVec Ideal S1024x4896 .f32) (a3 : FVec Ideal S256 .f32) (a4 : FVec Ideal S256x768 .f32) (a5 : FVec Ideal S256 .f32) (a6 : FVec Ideal S256 .f32) (a7 : FVec Ideal S256 .f32) (a8 : FVec Ideal S4x128x128 .f32) (a9 : FVec Ideal S4x128 .f32)
    (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i)) := by
  haveI : Subsingleton S_.Idx := ⟨fun a b => funext fun k => k.elim0⟩
  have h0 := congrFun h (fun k => k.elim0)
  dsimp only [fn, fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => isReal _ (Host.reduce_andi_all _ _ _ _ _ e0 i), fun i => isReal _ (Host.reduce_andi_all _ _ _ _ _ e1 i),
    fun i => isReal _ (Host.reduce_andi_all _ _ _ _ _ e2 i), fun i => isReal _ (Host.reduce_andi_all _ _ _ _ _ e3 i),
    fun i => isReal _ (Host.reduce_andi_all _ _ _ _ _ e4 i)⟩

end Cert.Pre_finite3.Read

end
-- ==== Proof.ProjClaims.lean ====
module

public import proofs.«01_k».proof.Defs
public import proofs.«01_k».proof.Proof.ProjFrame
public import proofs.«01_k».proof.Proof.ProjRun
public import proofs.«01_k».proof.Proof.ProjFinal
public import proofs.«01_k».proof.Proof.ProjEqual
public import proofs.«01_k».proof.Proof.ProjFinite
public import Idealize.ShloMosaic.Lib.Quiescent

/-!
The claims about the projections.
-/

@[expose] public section

set_option maxRecDepth 16384

noncomputable section

open Idealize.ShloMosaic Idealize.ShloMosaic.TcCoe Idealize.SL.Sem

namespace Cert.Proof.ProjClaims

open Cert.Kernel3Ideal.Proj Cert.Reference3Ideal.Proj Cert.Proof.ProjEqual

/-- The kernel runs. -/
theorem frame_p : Cert.quiescent_Kernel3 := fun m ρ _ => Cert.Kernel3.Gen.frame m ρ

/-- The idealized kernel runs. -/
theorem frame_pi : Cert.quiescent_Kernel3Ideal := fun m ρ _ => Cert.Kernel3Ideal.Gen.frame m ρ

/-- The idealized kernel runs on finite arguments. -/
theorem frame_pi_finite : Cert.quiescent_Kernel3Ideal_pre_finite3 := fun m ρ _ => Cert.Kernel3Ideal.Gen.frame m ρ

/-- The reference runs. -/
theorem frame_ri : Cert.quiescent_Reference3Ideal := fun m ρ _ =>
  (θ_run Cert.Reference3Ideal.defs _ _).mono (fun r h => ⟨fun c => (h c).2.2.2.2.2.2.2.2.2.2.2, sem_eq_zero_of_no_sems (by decide) r.2⟩)
    (Cert.Reference3Ideal.Value.run (F := Ideal) m ρ)

/-- The reference runs on finite arguments. -/
theorem frame_ri_finite : Cert.quiescent_Reference3Ideal_pre_finite3 := fun m ρ _ => frame_ri m ρ trivial

/-- Nothing was rewritten. -/
theorem preserves : Cert.preserves_Kernel3_Kernel3Ideal := trivial

theorem real_of_eq {ι : Type} {a b : ι → EReal} (h : a = b) (hb : ∀ i, Cert.ProjMath.IsReal (b i)) (i : ι) : Cert.ProjMath.IsReal (a i) := by
  rw [h]
  exact hb i

/-- The precondition in terms of what the call is launched with. -/
theorem reals (m : (ℓ : Loc Cert.Kernel3Ideal.nD Cert.Kernel3Ideal.τ Cert.Kernel3Ideal.sig) → Buf (Elt Ideal) ℓ) (h : Cert.Pre_Kernel3Ideal_finite3 m)
    (c : Dev Cert.Kernel3Ideal.nD) : Reals m c := by
  obtain ⟨r0, r1, r2, r3, r4⟩ := Cert.Pre_finite3.Read.reals _ _ _ _ _ _ _ _ _ _ (h c)
  exact ⟨fun i => real_of_eq (Cert.Kernel3Ideal.Gen.V_main_arg0 m c) r0 i, fun i => real_of_eq (Cert.Kernel3Ideal.Gen.V_main_arg1 m c) r1 i,
    fun i => real_of_eq (Cert.Kernel3Ideal.Gen.V_main_arg2 m c) r2 i, fun i => real_of_eq (Cert.Kernel3Ideal.Gen.V_main_arg3 m c) r3 i,
    fun i => real_of_eq (Cert.Kernel3Ideal.Gen.V_main_arg4 m c) r4 i⟩

variable (m : (ℓ : Loc Cert.Kernel3Ideal.nD Cert.Kernel3Ideal.τ Cert.Kernel3Ideal.sig) → Buf (Elt Ideal) ℓ) (c : Dev Cert.Kernel3Ideal.nD)
    (V0 : Valuation Cert.Reference3Ideal.τ Cert.Reference3Ideal.sig (Elt Ideal)) (hr : Reals m c)
    (h0 : ax V0 = harg0 m c) (h1 : agm V0 = harg1 m c) (h2 : aW V0 = harg2 m c) (h3 : agq V0 = harg3 m c)
    (h4 : aU V0 = harg4 m c) (h5 : agk V0 = harg5 m c) (h6 : agv V0 = harg6 m c) (h7 : abv V0 = harg7 m c)

include hr h0 h1 h2 h3 h4 h5 h6 h7 in
theorem result17 : rv96 V0 = (Cert.Kernel3Ideal.Gen.dats m 0 c).arrAt 17 Cert.Kernel3Ideal.cfg0.N := by
  have hz := zed_eq m c V0 h0 h1 h2
  rw [Cert.Kernel3Ideal.Proj.final_17]
  funext j
  have hj : j = ix2 (j 0) (j 1) := funext fun i => by fin_cases i <;> rfl
  exact (congrArg (rv96 V0) hj).trans (latent_at m c V0 hz h5 (j 0) (j 1))

include hr h0 h1 h2 h3 h4 h5 h6 h7 in
theorem result18 : rv126 V0 = (Cert.Kernel3Ideal.Gen.dats m 0 c).arrAt 18 Cert.Kernel3Ideal.cfg0.N := by
  have hz := zed_eq m c V0 h0 h1 h2
  rw [Cert.Kernel3Ideal.Proj.final_18]
  funext j
  have hj : j = ix2 (j 0) (j 1) := funext fun i => by fin_cases i <;> rfl
  exact (congrArg (rv126 V0) hj).trans (key_at m c V0 hz hr (j 0) (j 1))

include hr h0 h1 h2 h3 h4 h5 h6 h7 in
theorem result19 : rv196 V0 = (Cert.Kernel3Ideal.Gen.dats m 0 c).arrAt 19 Cert.Kernel3Ideal.cfg0.N := by
  have hz := zed_eq m c V0 h0 h1 h2
  rw [Cert.Kernel3Ideal.Proj.final_19]
  funext j
  have hj : j = ix2 (j 0) (j 1) := funext fun i => by fin_cases i <;> rfl
  exact (congrArg (rv196 V0) hj).trans (blockKey_at m c V0 hz hr (j 0) (j 1))

include hr h0 h1 h2 h3 h4 h5 h6 h7 in
theorem result20 : rv28 V0 = (Cert.Kernel3Ideal.Gen.dats m 0 c).arrAt 20 Cert.Kernel3Ideal.cfg0.N := by
  have hz := zed_eq m c V0 h0 h1 h2
  rw [Cert.Kernel3Ideal.Proj.final_20]
  funext j
  have hj : j = ix2 (j 0) (j 1) := funext fun i => by fin_cases i <;> rfl
  exact (congrArg (rv28 V0) hj).trans (value_at m c V0 hz (j 0) (j 1))

include hr h0 h1 h2 h3 h4 h5 h6 h7 in
theorem result21 : rv231 V0 = (Cert.Kernel3Ideal.Gen.dats m 0 c).arrAt 21 Cert.Kernel3Ideal.cfg0.N := by
  have hz := zed_eq m c V0 h0 h1 h2
  rw [Cert.Kernel3Ideal.Proj.final_21]
  funext j
  have hj : j = ix2 (j 0) (j 1) := funext fun i => by fin_cases i <;> rfl
  exact (congrArg (rv231 V0) hj).trans (mixing_at m c V0 hz h6 h7 (j 0) (j 1))

include hr h0 h1 h2 h3 h4 h5 h6 h7 in
theorem result22 : rv238 V0 = (Cert.Kernel3Ideal.Gen.dats m 0 c).arrAt 22 Cert.Kernel3Ideal.cfg0.N := by
  have hz := zed_eq m c V0 h0 h1 h2
  rw [Cert.Kernel3Ideal.Proj.final_22]
  funext j
  have h1 : (j 1).val < 2048 := (j 1).isLt
  have hj : j = ix2 (j 0) ⟨(j 1).val / 256 * 256 + (j 1).val % 256, by omega⟩ := funext fun i => by
    fin_cases i
    · rfl
    · exact Fin.ext (show (j 1).val = (j 1).val / 256 * 256 + (j 1).val % 256 by omega)
  exact (congrArg (rv238 V0) hj).trans (head_at m c V0 hz (qed_eq m c V0 hz h3 h4) hr (j 0) ⟨(j 1).val / 256, by omega⟩ ⟨(j 1).val % 256, by omega⟩)

include hr h0 h1 h2 h3 h4 h5 h6 h7 in
theorem result23 : rv239 V0 = (Cert.Kernel3Ideal.Gen.dats m 0 c).arrAt 23 Cert.Kernel3Ideal.cfg0.N := by
  have hz := zed_eq m c V0 h0 h1 h2
  rw [Cert.Kernel3Ideal.Proj.final_23]
  funext j
  have hj : j = ix2 (j 0) (j 1) := funext fun i => by fin_cases i <;> rfl
  exact (congrArg (rv239 V0) hj).trans (keyPad_at m c V0 hz hr (j 0) (j 1))

include hr h0 h1 h2 h3 h4 h5 h6 h7 in
theorem result24 : rv162 V0 = (Cert.Kernel3Ideal.Gen.dats m 0 c).arrAt 24 Cert.Kernel3Ideal.cfg0.N := by
  have hz := zed_eq m c V0 h0 h1 h2
  rw [Cert.Kernel3Ideal.Proj.final_24]
  funext j
  have hj : j = ix2 (j 0) (j 1) := funext fun i => by fin_cases i <;> rfl
  exact (congrArg (rv162 V0) hj).trans (blockQuery_at m c V0 hz hr (j 0) (j 1))

include hr h0 h1 h2 h3 h4 h5 h6 h7 in
theorem result26 : rv246 V0 = (Cert.Kernel3Ideal.Gen.dats m 0 c).arrAt 26 Cert.Kernel3Ideal.cfg0.N := by
  have hz := zed_eq m c V0 h0 h1 h2
  rw [Cert.Kernel3Ideal.Proj.final_26]
  funext j
  have hj : j = ix2 (j 0) (j 1) := funext fun i => by fin_cases i <;> rfl
  exact (congrArg (rv246 V0) hj).trans (gate_at m c V0 hz (j 0) (j 1))

include hr h0 h1 h2 h3 h4 h5 h6 h7 in
theorem result27 : rv249 V0 = (Cert.Kernel3Ideal.Gen.dats m 0 c).arrAt 27 Cert.Kernel3Ideal.cfg0.N := by
  have hz := zed_eq m c V0 h0 h1 h2
  rw [Cert.Kernel3Ideal.Proj.final_27]
  funext j
  have hj : j = ix3 (j 0) (j 1) (j 2) := funext fun i => by fin_cases i <;> rfl
  exact (congrArg (rv249 V0) hj).trans (latentT_at m c V0 hz h5 (j 0) (j 1) (j 2))

include hr h0 h1 h2 h3 h4 h5 h6 h7 in
theorem result28 : rv252 V0 = (Cert.Kernel3Ideal.Gen.dats m 0 c).arrAt 28 Cert.Kernel3Ideal.cfg0.N := by
  have hz := zed_eq m c V0 h0 h1 h2
  rw [Cert.Kernel3Ideal.Proj.final_28]
  funext j
  have hj : j = ix3 (j 0) (j 1) (j 2) := funext fun i => by fin_cases i <;> rfl
  exact (congrArg (rv252 V0) hj).trans (valueT_at m c V0 hz (j 0) (j 1) (j 2))

/-- The kernel and the reference end with equal results. -/
theorem algebraic : Cert.algebraic_Kernel3Ideal_Reference3Ideal_pre_finite3 := by
  intro m ρ m' ρ' hpre hagree
  refine ⟨fun c => (Cert.Kernel3Ideal.Gen.dats m 0 c).arrAt 17 Cert.Kernel3Ideal.cfg0.N, fun c => (Cert.Kernel3Ideal.Gen.dats m 0 c).arrAt 18 Cert.Kernel3Ideal.cfg0.N, fun c => (Cert.Kernel3Ideal.Gen.dats m 0 c).arrAt 19 Cert.Kernel3Ideal.cfg0.N, fun c => (Cert.Kernel3Ideal.Gen.dats m 0 c).arrAt 20 Cert.Kernel3Ideal.cfg0.N, fun c => (Cert.Kernel3Ideal.Gen.dats m 0 c).arrAt 21 Cert.Kernel3Ideal.cfg0.N, fun c => (Cert.Kernel3Ideal.Gen.dats m 0 c).arrAt 22 Cert.Kernel3Ideal.cfg0.N, fun c => (Cert.Kernel3Ideal.Gen.dats m 0 c).arrAt 23 Cert.Kernel3Ideal.cfg0.N, fun c => (Cert.Kernel3Ideal.Gen.dats m 0 c).arrAt 24 Cert.Kernel3Ideal.cfg0.N, fun c => (Cert.Kernel3Ideal.Gen.dats m 0 c).arrAt 26 Cert.Kernel3Ideal.cfg0.N, fun c => (Cert.Kernel3Ideal.Gen.dats m 0 c).arrAt 27 Cert.Kernel3Ideal.cfg0.N, fun c => (Cert.Kernel3Ideal.Gen.dats m 0 c).arrAt 28 Cert.Kernel3Ideal.cfg0.N,
    run_results m ρ, ?_⟩
  have hk : ∀ c, Reals m c := reals m hpre
  refine (θ_run Cert.Reference3Ideal.defs _ _).mono (fun _ h c => ?_) (Cert.Reference3Ideal.Value.run (F := Ideal) m' ρ')
  obtain ⟨a0, a1, a2, a3, a4, a5, a6, a7, a8, a9⟩ := hagree c
  have h0 : ax (StableHlo.launchContents m' c) = harg0 m c := a0.trans (Cert.Kernel3Ideal.Gen.V_main_arg0 m c).symm
  have h1 : agm (StableHlo.launchContents m' c) = harg1 m c := a1.trans (Cert.Kernel3Ideal.Gen.V_main_arg1 m c).symm
  have h2 : aW (StableHlo.launchContents m' c) = harg2 m c := a2.trans (Cert.Kernel3Ideal.Gen.V_main_arg2 m c).symm
  have h3 : agq (StableHlo.launchContents m' c) = harg3 m c := a3.trans (Cert.Kernel3Ideal.Gen.V_main_arg3 m c).symm
  have h4 : aU (StableHlo.launchContents m' c) = harg4 m c := a4.trans (Cert.Kernel3Ideal.Gen.V_main_arg4 m c).symm
  have h5 : agk (StableHlo.launchContents m' c) = harg5 m c := a5.trans (Cert.Kernel3Ideal.Gen.V_main_arg5 m c).symm
  have h6 : agv (StableHlo.launchContents m' c) = harg6 m c := a6.trans (Cert.Kernel3Ideal.Gen.V_main_arg6 m c).symm
  have h7 : abv (StableHlo.launchContents m' c) = harg7 m c := a7.trans (Cert.Kernel3Ideal.Gen.V_main_arg7 m c).symm
  exact ⟨(h c).1.trans (result17 m c _ (hk c) h0 h1 h2 h3 h4 h5 h6 h7),
    (h c).2.1.trans (result18 m c _ (hk c) h0 h1 h2 h3 h4 h5 h6 h7),
    (h c).2.2.1.trans (result19 m c _ (hk c) h0 h1 h2 h3 h4 h5 h6 h7),
    (h c).2.2.2.1.trans (result20 m c _ (hk c) h0 h1 h2 h3 h4 h5 h6 h7),
    (h c).2.2.2.2.1.trans (result21 m c _ (hk c) h0 h1 h2 h3 h4 h5 h6 h7),
    (h c).2.2.2.2.2.1.trans (result22 m c _ (hk c) h0 h1 h2 h3 h4 h5 h6 h7),
    (h c).2.2.2.2.2.2.1.trans (result23 m c _ (hk c) h0 h1 h2 h3 h4 h5 h6 h7),
    (h c).2.2.2.2.2.2.2.1.trans (result24 m c _ (hk c) h0 h1 h2 h3 h4 h5 h6 h7),
    (h c).2.2.2.2.2.2.2.2.1.trans (result26 m c _ (hk c) h0 h1 h2 h3 h4 h5 h6 h7),
    (h c).2.2.2.2.2.2.2.2.2.1.trans (result27 m c _ (hk c) h0 h1 h2 h3 h4 h5 h6 h7),
    (h c).2.2.2.2.2.2.2.2.2.2.1.trans (result28 m c _ (hk c) h0 h1 h2 h3 h4 h5 h6 h7),
    (h c).2.2.2.2.2.2.2.2.2.2.2⟩

end Cert.Proof.ProjClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Reference3Ideal
public import proofs.«01_k».proof.Proof.Gen.Reference3Ideal.Run
public import proofs.«01_k».proof.Proof.Gen.Pre_finite3
public import proofs.«01_k».proof.Proof.MlaClaims
public import proofs.«01_k».proof.Proof.MergeClaims
public import proofs.«01_k».proof.Proof.ProjClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.Gen.facts, Cert.Pre_finite3.Gen.facts,
    MlaClaims.frame_p, MlaClaims.frame_pi, MlaClaims.frame_pi_finite, MlaClaims.frame_ri, MlaClaims.frame_ri_finite,
    MergeClaims.frame_p, MergeClaims.frame_pi, MergeClaims.frame_ri,
    ProjClaims.frame_p, ProjClaims.frame_pi, ProjClaims.frame_pi_finite, ProjClaims.frame_ri, ProjClaims.frame_ri_finite,
    MlaClaims.preserves, MlaClaims.algebraic, MergeClaims.preserves, MergeClaims.algebraic,
    ProjClaims.preserves, ProjClaims.algebraic⟩

end Cert.Proof

end
